-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2 = (fun _ => 1#1)

def Pre_Moe [hPre_experts_named : Cert.Pre_experts_named.Facts] (m : (ℓ : Loc Cert.Moe.nD Cert.Moe.τ Cert.Moe.sig) → Buf (Elt Bits) ℓ) : Prop :=
  ∀ c : Dev Cert.Moe.nD,
    (Cert.Pre_experts_named.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))) = (fun _ => 1#1)

def Pre_MoeIdeal [hPre_experts_named : Cert.Pre_experts_named.Facts] (m : (ℓ : Loc Cert.MoeIdeal.nD Cert.MoeIdeal.τ Cert.MoeIdeal.sig) → Buf (Elt Ideal) ℓ) : Prop :=
  ∀ c : Dev Cert.MoeIdeal.nD,
    (Cert.Pre_experts_named.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_experts_named [hPre_experts_named : Cert.Pre_experts_named.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_experts_named.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))) = (fun _ => 1#1)

def Pre_RnnPre (m : (ℓ : Loc Cert.RnnPre.nD Cert.RnnPre.τ Cert.RnnPre.sig) → Buf (Elt Bits) ℓ) : Prop :=
  True

def Pre_RnnPreIdeal (m : (ℓ : Loc Cert.RnnPreIdeal.nD Cert.RnnPreIdeal.τ Cert.RnnPreIdeal.sig) → Buf (Elt Ideal) ℓ) : Prop :=
  True

def Pre_RnnPreRefIdeal (m : (ℓ : Loc Cert.RnnPreRefIdeal.nD Cert.RnnPreRefIdeal.τ Cert.RnnPreRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_bias_above [hPre_bias_above : Cert.Pre_bias_above.Facts] (m : (ℓ : Loc Cert.PostIdeal.nD Cert.PostIdeal.τ Cert.PostIdeal.sig) → Buf (Elt Ideal) ℓ) : Prop :=
  ∀ c : Dev Cert.PostIdeal.nD,
    (Cert.Pre_bias_above.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6))) = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_bias_above [hPre_bias_above : Cert.Pre_bias_above.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_bias_above.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6))) = (fun _ => 1#1)

def Pre_MlaPre (m : (ℓ : Loc Cert.MlaPre.nD Cert.MlaPre.τ Cert.MlaPre.sig) → Buf (Elt Bits) ℓ) : Prop :=
  True

def Pre_MlaPreIdeal (m : (ℓ : Loc Cert.MlaPreIdeal.nD Cert.MlaPreIdeal.τ Cert.MlaPreIdeal.sig) → Buf (Elt Ideal) ℓ) : Prop :=
  True

def Pre_MlaPreRefIdeal (m : (ℓ : Loc Cert.MlaPreRefIdeal.nD Cert.MlaPreRefIdeal.τ Cert.MlaPreRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Moe [hMoe : Cert.Moe.Facts] [hPre_experts_named : Cert.Pre_experts_named.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_experts_named : Cert.Pre_experts_named.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_MoeRefIdeal_pre_experts_named [hMoeRefIdeal : Cert.MoeRefIdeal.Facts] [hPre_experts_named : Cert.Pre_experts_named.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_experts_named m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_RnnPre [hRnnPre : Cert.RnnPre.Facts] : Prop :=
  ∀ (m : (ℓ : Loc Cert.RnnPre.nD Cert.RnnPre.τ Cert.RnnPre.sig) → Buf (Elt Bits) ℓ) (g : Dev Cert.RnnPre.nD → PrngReg), Pre_RnnPre m →
    θ_run (Cert.RnnPre.defs (F := Bits)) (onTc (τ := Cert.RnnPre.τ) (Cert.RnnPre.main (F := Bits))) ⟨m, fun _ => 0, g⟩ (fun r => (∀ c : Dev Cert.RnnPre.nD,
      r.2.mem ((c.tc : Thread Cert.RnnPre.nD Cert.RnnPre.τ).loc Cert.RnnPre.main_arg0) = m ((c.tc : Thread Cert.RnnPre.nD Cert.RnnPre.τ).loc Cert.RnnPre.main_arg0)
      ∧ r.2.mem ((c.tc : Thread Cert.RnnPre.nD Cert.RnnPre.τ).loc Cert.RnnPre.main_arg1) = m ((c.tc : Thread Cert.RnnPre.nD Cert.RnnPre.τ).loc Cert.RnnPre.main_arg1)
      ∧ r.2.mem ((c.tc : Thread Cert.RnnPre.nD Cert.RnnPre.τ).loc Cert.RnnPre.main_arg2) = m ((c.tc : Thread Cert.RnnPre.nD Cert.RnnPre.τ).loc Cert.RnnPre.main_arg2)
      ∧ r.2.mem ((c.tc : Thread Cert.RnnPre.nD Cert.RnnPre.τ).loc Cert.RnnPre.main_arg3) = m ((c.tc : Thread Cert.RnnPre.nD Cert.RnnPre.τ).loc Cert.RnnPre.main_arg3)
      ∧ r.2.mem ((c.tc : Thread Cert.RnnPre.nD Cert.RnnPre.τ).loc Cert.RnnPre.main_arg4) = m ((c.tc : Thread Cert.RnnPre.nD Cert.RnnPre.τ).loc Cert.RnnPre.main_arg4)
      ∧ r.2.mem ((c.tc : Thread Cert.RnnPre.nD Cert.RnnPre.τ).loc Cert.RnnPre.main_arg5) = m ((c.tc : Thread Cert.RnnPre.nD Cert.RnnPre.τ).loc Cert.RnnPre.main_arg5)
      ∧ r.2.mem ((c.tc : Thread Cert.RnnPre.nD Cert.RnnPre.τ).loc Cert.RnnPre.main_arg6) = m ((c.tc : Thread Cert.RnnPre.nD Cert.RnnPre.τ).loc Cert.RnnPre.main_arg6))
      ∧ r.2.sem = fun _ => 0)

def quiescent_RnnPreIdeal [hRnnPreIdeal : Cert.RnnPreIdeal.Facts] : Prop :=
  ∀ (m : (ℓ : Loc Cert.RnnPreIdeal.nD Cert.RnnPreIdeal.τ Cert.RnnPreIdeal.sig) → Buf (Elt Ideal) ℓ) (g : Dev Cert.RnnPreIdeal.nD → PrngReg), Pre_RnnPreIdeal m →
    θ_run (Cert.RnnPreIdeal.defs (F := Ideal)) (onTc (τ := Cert.RnnPreIdeal.τ) (Cert.RnnPreIdeal.main (F := Ideal))) ⟨m, fun _ => 0, g⟩ (fun r => (∀ c : Dev Cert.RnnPreIdeal.nD,
      r.2.mem ((c.tc : Thread Cert.RnnPreIdeal.nD Cert.RnnPreIdeal.τ).loc Cert.RnnPreIdeal.main_arg0) = m ((c.tc : Thread Cert.RnnPreIdeal.nD Cert.RnnPreIdeal.τ).loc Cert.RnnPreIdeal.main_arg0)
      ∧ r.2.mem ((c.tc : Thread Cert.RnnPreIdeal.nD Cert.RnnPreIdeal.τ).loc Cert.RnnPreIdeal.main_arg1) = m ((c.tc : Thread Cert.RnnPreIdeal.nD Cert.RnnPreIdeal.τ).loc Cert.RnnPreIdeal.main_arg1)
      ∧ r.2.mem ((c.tc : Thread Cert.RnnPreIdeal.nD Cert.RnnPreIdeal.τ).loc Cert.RnnPreIdeal.main_arg2) = m ((c.tc : Thread Cert.RnnPreIdeal.nD Cert.RnnPreIdeal.τ).loc Cert.RnnPreIdeal.main_arg2)
      ∧ r.2.mem ((c.tc : Thread Cert.RnnPreIdeal.nD Cert.RnnPreIdeal.τ).loc Cert.RnnPreIdeal.main_arg3) = m ((c.tc : Thread Cert.RnnPreIdeal.nD Cert.RnnPreIdeal.τ).loc Cert.RnnPreIdeal.main_arg3)
      ∧ r.2.mem ((c.tc : Thread Cert.RnnPreIdeal.nD Cert.RnnPreIdeal.τ).loc Cert.RnnPreIdeal.main_arg4) = m ((c.tc : Thread Cert.RnnPreIdeal.nD Cert.RnnPreIdeal.τ).loc Cert.RnnPreIdeal.main_arg4)
      ∧ r.2.mem ((c.tc : Thread Cert.RnnPreIdeal.nD Cert.RnnPreIdeal.τ).loc Cert.RnnPreIdeal.main_arg5) = m ((c.tc : Thread Cert.RnnPreIdeal.nD Cert.RnnPreIdeal.τ).loc Cert.RnnPreIdeal.main_arg5)
      ∧ r.2.mem ((c.tc : Thread Cert.RnnPreIdeal.nD Cert.RnnPreIdeal.τ).loc Cert.RnnPreIdeal.main_arg6) = m ((c.tc : Thread Cert.RnnPreIdeal.nD Cert.RnnPreIdeal.τ).loc Cert.RnnPreIdeal.main_arg6))
      ∧ r.2.sem = fun _ => 0)

def quiescent_RnnPreRefIdeal [hRnnPreRefIdeal : Cert.RnnPreRefIdeal.Facts] : Prop :=
  ∀ (m : (ℓ : Loc Cert.RnnPreRefIdeal.nD Cert.RnnPreRefIdeal.τ Cert.RnnPreRefIdeal.sig) → Buf (Elt Ideal) ℓ) (g : Dev Cert.RnnPreRefIdeal.nD → PrngReg), Pre_RnnPreRefIdeal m →
    θ_run (Cert.RnnPreRefIdeal.defs (F := Ideal)) (onTc (τ := Cert.RnnPreRefIdeal.τ) (Cert.RnnPreRefIdeal.main (F := Ideal))) ⟨m, fun _ => 0, g⟩ (fun r => (∀ c : Dev Cert.RnnPreRefIdeal.nD,
      r.2.mem ((c.tc : Thread Cert.RnnPreRefIdeal.nD Cert.RnnPreRefIdeal.τ).loc Cert.RnnPreRefIdeal.main_arg0) = m ((c.tc : Thread Cert.RnnPreRefIdeal.nD Cert.RnnPreRefIdeal.τ).loc Cert.RnnPreRefIdeal.main_arg0)
      ∧ r.2.mem ((c.tc : Thread Cert.RnnPreRefIdeal.nD Cert.RnnPreRefIdeal.τ).loc Cert.RnnPreRefIdeal.main_arg1) = m ((c.tc : Thread Cert.RnnPreRefIdeal.nD Cert.RnnPreRefIdeal.τ).loc Cert.RnnPreRefIdeal.main_arg1)
      ∧ r.2.mem ((c.tc : Thread Cert.RnnPreRefIdeal.nD Cert.RnnPreRefIdeal.τ).loc Cert.RnnPreRefIdeal.main_arg2) = m ((c.tc : Thread Cert.RnnPreRefIdeal.nD Cert.RnnPreRefIdeal.τ).loc Cert.RnnPreRefIdeal.main_arg2)
      ∧ r.2.mem ((c.tc : Thread Cert.RnnPreRefIdeal.nD Cert.RnnPreRefIdeal.τ).loc Cert.RnnPreRefIdeal.main_arg3) = m ((c.tc : Thread Cert.RnnPreRefIdeal.nD Cert.RnnPreRefIdeal.τ).loc Cert.RnnPreRefIdeal.main_arg3)
      ∧ r.2.mem ((c.tc : Thread Cert.RnnPreRefIdeal.nD Cert.RnnPreRefIdeal.τ).loc Cert.RnnPreRefIdeal.main_arg4) = m ((c.tc : Thread Cert.RnnPreRefIdeal.nD Cert.RnnPreRefIdeal.τ).loc Cert.RnnPreRefIdeal.main_arg4)
      ∧ r.2.mem ((c.tc : Thread Cert.RnnPreRefIdeal.nD Cert.RnnPreRefIdeal.τ).loc Cert.RnnPreRefIdeal.main_arg5) = m ((c.tc : Thread Cert.RnnPreRefIdeal.nD Cert.RnnPreRefIdeal.τ).loc Cert.RnnPreRefIdeal.main_arg5)
      ∧ r.2.mem ((c.tc : Thread Cert.RnnPreRefIdeal.nD Cert.RnnPreRefIdeal.τ).loc Cert.RnnPreRefIdeal.main_arg6) = m ((c.tc : Thread Cert.RnnPreRefIdeal.nD Cert.RnnPreRefIdeal.τ).loc Cert.RnnPreRefIdeal.main_arg6))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ r.2.sem = fun _ => 0)

def quiescent_PostIdeal_pre_bias_above [hPostIdeal : Cert.PostIdeal.Facts] [hPre_bias_above : Cert.Pre_bias_above.Facts] : Prop :=
  ∀ (m : (ℓ : Loc Cert.PostIdeal.nD Cert.PostIdeal.τ Cert.PostIdeal.sig) → Buf (Elt Ideal) ℓ) (g : Dev Cert.PostIdeal.nD → PrngReg), Pre_PostIdeal_bias_above m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6))
      ∧ r.2.sem = fun _ => 0)

def quiescent_PostRefIdeal_pre_bias_above [hPostRefIdeal : Cert.PostRefIdeal.Facts] [hPre_bias_above : Cert.Pre_bias_above.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_bias_above m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6))
      ∧ r.2.sem = fun _ => 0)

def quiescent_MlaPre [hMlaPre : Cert.MlaPre.Facts] : Prop :=
  ∀ (m : (ℓ : Loc Cert.MlaPre.nD Cert.MlaPre.τ Cert.MlaPre.sig) → Buf (Elt Bits) ℓ) (g : Dev Cert.MlaPre.nD → PrngReg), Pre_MlaPre m →
    θ_run (Cert.MlaPre.defs (F := Bits)) (onTc (τ := Cert.MlaPre.τ) (Cert.MlaPre.main (F := Bits))) ⟨m, fun _ => 0, g⟩ (fun r => (∀ c : Dev Cert.MlaPre.nD,
      r.2.mem ((c.tc : Thread Cert.MlaPre.nD Cert.MlaPre.τ).loc Cert.MlaPre.main_arg0) = m ((c.tc : Thread Cert.MlaPre.nD Cert.MlaPre.τ).loc Cert.MlaPre.main_arg0)
      ∧ r.2.mem ((c.tc : Thread Cert.MlaPre.nD Cert.MlaPre.τ).loc Cert.MlaPre.main_arg1) = m ((c.tc : Thread Cert.MlaPre.nD Cert.MlaPre.τ).loc Cert.MlaPre.main_arg1)
      ∧ r.2.mem ((c.tc : Thread Cert.MlaPre.nD Cert.MlaPre.τ).loc Cert.MlaPre.main_arg2) = m ((c.tc : Thread Cert.MlaPre.nD Cert.MlaPre.τ).loc Cert.MlaPre.main_arg2)
      ∧ r.2.mem ((c.tc : Thread Cert.MlaPre.nD Cert.MlaPre.τ).loc Cert.MlaPre.main_arg3) = m ((c.tc : Thread Cert.MlaPre.nD Cert.MlaPre.τ).loc Cert.MlaPre.main_arg3)
      ∧ r.2.mem ((c.tc : Thread Cert.MlaPre.nD Cert.MlaPre.τ).loc Cert.MlaPre.main_arg4) = m ((c.tc : Thread Cert.MlaPre.nD Cert.MlaPre.τ).loc Cert.MlaPre.main_arg4)
      ∧ r.2.mem ((c.tc : Thread Cert.MlaPre.nD Cert.MlaPre.τ).loc Cert.MlaPre.main_arg5) = m ((c.tc : Thread Cert.MlaPre.nD Cert.MlaPre.τ).loc Cert.MlaPre.main_arg5)
      ∧ r.2.mem ((c.tc : Thread Cert.MlaPre.nD Cert.MlaPre.τ).loc Cert.MlaPre.main_arg6) = m ((c.tc : Thread Cert.MlaPre.nD Cert.MlaPre.τ).loc Cert.MlaPre.main_arg6)
      ∧ r.2.mem ((c.tc : Thread Cert.MlaPre.nD Cert.MlaPre.τ).loc Cert.MlaPre.main_arg7) = m ((c.tc : Thread Cert.MlaPre.nD Cert.MlaPre.τ).loc Cert.MlaPre.main_arg7)
      ∧ r.2.mem ((c.tc : Thread Cert.MlaPre.nD Cert.MlaPre.τ).loc Cert.MlaPre.main_arg8) = m ((c.tc : Thread Cert.MlaPre.nD Cert.MlaPre.τ).loc Cert.MlaPre.main_arg8)
      ∧ r.2.mem ((c.tc : Thread Cert.MlaPre.nD Cert.MlaPre.τ).loc Cert.MlaPre.main_arg9) = m ((c.tc : Thread Cert.MlaPre.nD Cert.MlaPre.τ).loc Cert.MlaPre.main_arg9)
      ∧ r.2.mem ((c.tc : Thread Cert.MlaPre.nD Cert.MlaPre.τ).loc Cert.MlaPre.main_arg10) = m ((c.tc : Thread Cert.MlaPre.nD Cert.MlaPre.τ).loc Cert.MlaPre.main_arg10))
      ∧ r.2.sem = fun _ => 0)

def quiescent_MlaPreIdeal [hMlaPreIdeal : Cert.MlaPreIdeal.Facts] : Prop :=
  ∀ (m : (ℓ : Loc Cert.MlaPreIdeal.nD Cert.MlaPreIdeal.τ Cert.MlaPreIdeal.sig) → Buf (Elt Ideal) ℓ) (g : Dev Cert.MlaPreIdeal.nD → PrngReg), Pre_MlaPreIdeal m →
    θ_run (Cert.MlaPreIdeal.defs (F := Ideal)) (onTc (τ := Cert.MlaPreIdeal.τ) (Cert.MlaPreIdeal.main (F := Ideal))) ⟨m, fun _ => 0, g⟩ (fun r => (∀ c : Dev Cert.MlaPreIdeal.nD,
      r.2.mem ((c.tc : Thread Cert.MlaPreIdeal.nD Cert.MlaPreIdeal.τ).loc Cert.MlaPreIdeal.main_arg0) = m ((c.tc : Thread Cert.MlaPreIdeal.nD Cert.MlaPreIdeal.τ).loc Cert.MlaPreIdeal.main_arg0)
      ∧ r.2.mem ((c.tc : Thread Cert.MlaPreIdeal.nD Cert.MlaPreIdeal.τ).loc Cert.MlaPreIdeal.main_arg1) = m ((c.tc : Thread Cert.MlaPreIdeal.nD Cert.MlaPreIdeal.τ).loc Cert.MlaPreIdeal.main_arg1)
      ∧ r.2.mem ((c.tc : Thread Cert.MlaPreIdeal.nD Cert.MlaPreIdeal.τ).loc Cert.MlaPreIdeal.main_arg2) = m ((c.tc : Thread Cert.MlaPreIdeal.nD Cert.MlaPreIdeal.τ).loc Cert.MlaPreIdeal.main_arg2)
      ∧ r.2.mem ((c.tc : Thread Cert.MlaPreIdeal.nD Cert.MlaPreIdeal.τ).loc Cert.MlaPreIdeal.main_arg3) = m ((c.tc : Thread Cert.MlaPreIdeal.nD Cert.MlaPreIdeal.τ).loc Cert.MlaPreIdeal.main_arg3)
      ∧ r.2.mem ((c.tc : Thread Cert.MlaPreIdeal.nD Cert.MlaPreIdeal.τ).loc Cert.MlaPreIdeal.main_arg4) = m ((c.tc : Thread Cert.MlaPreIdeal.nD Cert.MlaPreIdeal.τ).loc Cert.MlaPreIdeal.main_arg4)
      ∧ r.2.mem ((c.tc : Thread Cert.MlaPreIdeal.nD Cert.MlaPreIdeal.τ).loc Cert.MlaPreIdeal.main_arg5) = m ((c.tc : Thread Cert.MlaPreIdeal.nD Cert.MlaPreIdeal.τ).loc Cert.MlaPreIdeal.main_arg5)
      ∧ r.2.mem ((c.tc : Thread Cert.MlaPreIdeal.nD Cert.MlaPreIdeal.τ).loc Cert.MlaPreIdeal.main_arg6) = m ((c.tc : Thread Cert.MlaPreIdeal.nD Cert.MlaPreIdeal.τ).loc Cert.MlaPreIdeal.main_arg6)
      ∧ r.2.mem ((c.tc : Thread Cert.MlaPreIdeal.nD Cert.MlaPreIdeal.τ).loc Cert.MlaPreIdeal.main_arg7) = m ((c.tc : Thread Cert.MlaPreIdeal.nD Cert.MlaPreIdeal.τ).loc Cert.MlaPreIdeal.main_arg7)
      ∧ r.2.mem ((c.tc : Thread Cert.MlaPreIdeal.nD Cert.MlaPreIdeal.τ).loc Cert.MlaPreIdeal.main_arg8) = m ((c.tc : Thread Cert.MlaPreIdeal.nD Cert.MlaPreIdeal.τ).loc Cert.MlaPreIdeal.main_arg8)
      ∧ r.2.mem ((c.tc : Thread Cert.MlaPreIdeal.nD Cert.MlaPreIdeal.τ).loc Cert.MlaPreIdeal.main_arg9) = m ((c.tc : Thread Cert.MlaPreIdeal.nD Cert.MlaPreIdeal.τ).loc Cert.MlaPreIdeal.main_arg9)
      ∧ r.2.mem ((c.tc : Thread Cert.MlaPreIdeal.nD Cert.MlaPreIdeal.τ).loc Cert.MlaPreIdeal.main_arg10) = m ((c.tc : Thread Cert.MlaPreIdeal.nD Cert.MlaPreIdeal.τ).loc Cert.MlaPreIdeal.main_arg10))
      ∧ r.2.sem = fun _ => 0)

def quiescent_MlaPreRefIdeal [hMlaPreRefIdeal : Cert.MlaPreRefIdeal.Facts] : Prop :=
  ∀ (m : (ℓ : Loc Cert.MlaPreRefIdeal.nD Cert.MlaPreRefIdeal.τ Cert.MlaPreRefIdeal.sig) → Buf (Elt Ideal) ℓ) (g : Dev Cert.MlaPreRefIdeal.nD → PrngReg), Pre_MlaPreRefIdeal m →
    θ_run (Cert.MlaPreRefIdeal.defs (F := Ideal)) (onTc (τ := Cert.MlaPreRefIdeal.τ) (Cert.MlaPreRefIdeal.main (F := Ideal))) ⟨m, fun _ => 0, g⟩ (fun r => (∀ c : Dev Cert.MlaPreRefIdeal.nD,
      r.2.mem ((c.tc : Thread Cert.MlaPreRefIdeal.nD Cert.MlaPreRefIdeal.τ).loc Cert.MlaPreRefIdeal.main_arg0) = m ((c.tc : Thread Cert.MlaPreRefIdeal.nD Cert.MlaPreRefIdeal.τ).loc Cert.MlaPreRefIdeal.main_arg0)
      ∧ r.2.mem ((c.tc : Thread Cert.MlaPreRefIdeal.nD Cert.MlaPreRefIdeal.τ).loc Cert.MlaPreRefIdeal.main_arg1) = m ((c.tc : Thread Cert.MlaPreRefIdeal.nD Cert.MlaPreRefIdeal.τ).loc Cert.MlaPreRefIdeal.main_arg1)
      ∧ r.2.mem ((c.tc : Thread Cert.MlaPreRefIdeal.nD Cert.MlaPreRefIdeal.τ).loc Cert.MlaPreRefIdeal.main_arg2) = m ((c.tc : Thread Cert.MlaPreRefIdeal.nD Cert.MlaPreRefIdeal.τ).loc Cert.MlaPreRefIdeal.main_arg2)
      ∧ r.2.mem ((c.tc : Thread Cert.MlaPreRefIdeal.nD Cert.MlaPreRefIdeal.τ).loc Cert.MlaPreRefIdeal.main_arg3) = m ((c.tc : Thread Cert.MlaPreRefIdeal.nD Cert.MlaPreRefIdeal.τ).loc Cert.MlaPreRefIdeal.main_arg3)
      ∧ r.2.mem ((c.tc : Thread Cert.MlaPreRefIdeal.nD Cert.MlaPreRefIdeal.τ).loc Cert.MlaPreRefIdeal.main_arg4) = m ((c.tc : Thread Cert.MlaPreRefIdeal.nD Cert.MlaPreRefIdeal.τ).loc Cert.MlaPreRefIdeal.main_arg4)
      ∧ r.2.mem ((c.tc : Thread Cert.MlaPreRefIdeal.nD Cert.MlaPreRefIdeal.τ).loc Cert.MlaPreRefIdeal.main_arg5) = m ((c.tc : Thread Cert.MlaPreRefIdeal.nD Cert.MlaPreRefIdeal.τ).loc Cert.MlaPreRefIdeal.main_arg5)
      ∧ r.2.mem ((c.tc : Thread Cert.MlaPreRefIdeal.nD Cert.MlaPreRefIdeal.τ).loc Cert.MlaPreRefIdeal.main_arg6) = m ((c.tc : Thread Cert.MlaPreRefIdeal.nD Cert.MlaPreRefIdeal.τ).loc Cert.MlaPreRefIdeal.main_arg6)
      ∧ r.2.mem ((c.tc : Thread Cert.MlaPreRefIdeal.nD Cert.MlaPreRefIdeal.τ).loc Cert.MlaPreRefIdeal.main_arg7) = m ((c.tc : Thread Cert.MlaPreRefIdeal.nD Cert.MlaPreRefIdeal.τ).loc Cert.MlaPreRefIdeal.main_arg7)
      ∧ r.2.mem ((c.tc : Thread Cert.MlaPreRefIdeal.nD Cert.MlaPreRefIdeal.τ).loc Cert.MlaPreRefIdeal.main_arg8) = m ((c.tc : Thread Cert.MlaPreRefIdeal.nD Cert.MlaPreRefIdeal.τ).loc Cert.MlaPreRefIdeal.main_arg8)
      ∧ r.2.mem ((c.tc : Thread Cert.MlaPreRefIdeal.nD Cert.MlaPreRefIdeal.τ).loc Cert.MlaPreRefIdeal.main_arg9) = m ((c.tc : Thread Cert.MlaPreRefIdeal.nD Cert.MlaPreRefIdeal.τ).loc Cert.MlaPreRefIdeal.main_arg9)
      ∧ r.2.mem ((c.tc : Thread Cert.MlaPreRefIdeal.nD Cert.MlaPreRefIdeal.τ).loc Cert.MlaPreRefIdeal.main_arg10) = m ((c.tc : Thread Cert.MlaPreRefIdeal.nD Cert.MlaPreRefIdeal.τ).loc Cert.MlaPreRefIdeal.main_arg10))
      ∧ r.2.sem = fun _ => 0)

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v21) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Moe_MoeIdeal : Prop :=
  True

def algebraic_MoeIdeal_MoeRefIdeal [hMoeIdeal : Cert.MoeIdeal.Facts] [hMoeRefIdeal : Cert.MoeRefIdeal.Facts] [hPre_experts_named : Cert.Pre_experts_named.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v32) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_RnnPre_RnnPreIdeal : Prop :=
  True

def algebraic_RnnPreIdeal_RnnPreRefIdeal [hRnnPreIdeal : Cert.RnnPreIdeal.Facts] [hRnnPreRefIdeal : Cert.RnnPreRefIdeal.Facts] : Prop :=
  ∀ (m : (ℓ : Loc Cert.RnnPreIdeal.nD Cert.RnnPreIdeal.τ Cert.RnnPreIdeal.sig) → Buf (Elt Ideal) ℓ) (g : Dev Cert.RnnPreIdeal.nD → PrngReg)
    (m' : (ℓ : Loc Cert.RnnPreRefIdeal.nD Cert.RnnPreRefIdeal.τ Cert.RnnPreRefIdeal.sig) → Buf (Elt Ideal) ℓ) (g' : Dev Cert.RnnPreRefIdeal.nD → PrngReg), Pre_RnnPreIdeal m →
    (∀ c : Dev Cert.RnnPreIdeal.nD,
      m' ((c.tc : Thread Cert.RnnPreRefIdeal.nD Cert.RnnPreRefIdeal.τ).loc Cert.RnnPreRefIdeal.main_arg0) = m ((c.tc : Thread Cert.RnnPreIdeal.nD Cert.RnnPreIdeal.τ).loc Cert.RnnPreIdeal.main_arg0)
      ∧ m' ((c.tc : Thread Cert.RnnPreRefIdeal.nD Cert.RnnPreRefIdeal.τ).loc Cert.RnnPreRefIdeal.main_arg1) = m ((c.tc : Thread Cert.RnnPreIdeal.nD Cert.RnnPreIdeal.τ).loc Cert.RnnPreIdeal.main_arg1)
      ∧ m' ((c.tc : Thread Cert.RnnPreRefIdeal.nD Cert.RnnPreRefIdeal.τ).loc Cert.RnnPreRefIdeal.main_arg2) = m ((c.tc : Thread Cert.RnnPreIdeal.nD Cert.RnnPreIdeal.τ).loc Cert.RnnPreIdeal.main_arg2)
      ∧ m' ((c.tc : Thread Cert.RnnPreRefIdeal.nD Cert.RnnPreRefIdeal.τ).loc Cert.RnnPreRefIdeal.main_arg3) = m ((c.tc : Thread Cert.RnnPreIdeal.nD Cert.RnnPreIdeal.τ).loc Cert.RnnPreIdeal.main_arg3)
      ∧ m' ((c.tc : Thread Cert.RnnPreRefIdeal.nD Cert.RnnPreRefIdeal.τ).loc Cert.RnnPreRefIdeal.main_arg4) = m ((c.tc : Thread Cert.RnnPreIdeal.nD Cert.RnnPreIdeal.τ).loc Cert.RnnPreIdeal.main_arg4)
      ∧ m' ((c.tc : Thread Cert.RnnPreRefIdeal.nD Cert.RnnPreRefIdeal.τ).loc Cert.RnnPreRefIdeal.main_arg5) = m ((c.tc : Thread Cert.RnnPreIdeal.nD Cert.RnnPreIdeal.τ).loc Cert.RnnPreIdeal.main_arg5)
      ∧ m' ((c.tc : Thread Cert.RnnPreRefIdeal.nD Cert.RnnPreRefIdeal.τ).loc Cert.RnnPreRefIdeal.main_arg6) = m ((c.tc : Thread Cert.RnnPreIdeal.nD Cert.RnnPreIdeal.τ).loc Cert.RnnPreIdeal.main_arg6)) →
    ∃ (v0 : (c : Dev Cert.RnnPreIdeal.nD) → Buf (Elt Ideal) ((c.tc : Thread Cert.RnnPreIdeal.nD Cert.RnnPreIdeal.τ).loc Cert.RnnPreIdeal.main_v0_0)) (v1 : (c : Dev Cert.RnnPreIdeal.nD) → Buf (Elt Ideal) ((c.tc : Thread Cert.RnnPreIdeal.nD Cert.RnnPreIdeal.τ).loc Cert.RnnPreIdeal.main_v0_1)) (v2 : (c : Dev Cert.RnnPreIdeal.nD) → Buf (Elt Ideal) ((c.tc : Thread Cert.RnnPreIdeal.nD Cert.RnnPreIdeal.τ).loc Cert.RnnPreIdeal.main_v0_2)),
      θ_run (Cert.RnnPreIdeal.defs (F := Ideal)) (onTc (τ := Cert.RnnPreIdeal.τ) (Cert.RnnPreIdeal.main (F := Ideal))) ⟨m, fun _ => 0, g⟩ (fun r => ∀ c : Dev Cert.RnnPreIdeal.nD,
          r.2.mem ((c.tc : Thread Cert.RnnPreIdeal.nD Cert.RnnPreIdeal.τ).loc Cert.RnnPreIdeal.main_v0_0) = v0 c
          ∧ r.2.mem ((c.tc : Thread Cert.RnnPreIdeal.nD Cert.RnnPreIdeal.τ).loc Cert.RnnPreIdeal.main_v0_1) = v1 c
          ∧ r.2.mem ((c.tc : Thread Cert.RnnPreIdeal.nD Cert.RnnPreIdeal.τ).loc Cert.RnnPreIdeal.main_v0_2) = v2 c
          ∧ r.2.mem ((c.tc : Thread Cert.RnnPreIdeal.nD Cert.RnnPreIdeal.τ).loc Cert.RnnPreIdeal.main_arg0) = m ((c.tc : Thread Cert.RnnPreIdeal.nD Cert.RnnPreIdeal.τ).loc Cert.RnnPreIdeal.main_arg0)
          ∧ r.2.mem ((c.tc : Thread Cert.RnnPreIdeal.nD Cert.RnnPreIdeal.τ).loc Cert.RnnPreIdeal.main_arg1) = m ((c.tc : Thread Cert.RnnPreIdeal.nD Cert.RnnPreIdeal.τ).loc Cert.RnnPreIdeal.main_arg1)
          ∧ r.2.mem ((c.tc : Thread Cert.RnnPreIdeal.nD Cert.RnnPreIdeal.τ).loc Cert.RnnPreIdeal.main_arg2) = m ((c.tc : Thread Cert.RnnPreIdeal.nD Cert.RnnPreIdeal.τ).loc Cert.RnnPreIdeal.main_arg2)
          ∧ r.2.mem ((c.tc : Thread Cert.RnnPreIdeal.nD Cert.RnnPreIdeal.τ).loc Cert.RnnPreIdeal.main_arg3) = m ((c.tc : Thread Cert.RnnPreIdeal.nD Cert.RnnPreIdeal.τ).loc Cert.RnnPreIdeal.main_arg3)
          ∧ r.2.mem ((c.tc : Thread Cert.RnnPreIdeal.nD Cert.RnnPreIdeal.τ).loc Cert.RnnPreIdeal.main_arg4) = m ((c.tc : Thread Cert.RnnPreIdeal.nD Cert.RnnPreIdeal.τ).loc Cert.RnnPreIdeal.main_arg4)
          ∧ r.2.mem ((c.tc : Thread Cert.RnnPreIdeal.nD Cert.RnnPreIdeal.τ).loc Cert.RnnPreIdeal.main_arg5) = m ((c.tc : Thread Cert.RnnPreIdeal.nD Cert.RnnPreIdeal.τ).loc Cert.RnnPreIdeal.main_arg5)
          ∧ r.2.mem ((c.tc : Thread Cert.RnnPreIdeal.nD Cert.RnnPreIdeal.τ).loc Cert.RnnPreIdeal.main_arg6) = m ((c.tc : Thread Cert.RnnPreIdeal.nD Cert.RnnPreIdeal.τ).loc Cert.RnnPreIdeal.main_arg6))
      ∧ θ_run (Cert.RnnPreRefIdeal.defs (F := Ideal)) (onTc (τ := Cert.RnnPreRefIdeal.τ) (Cert.RnnPreRefIdeal.main (F := Ideal))) ⟨m', fun _ => 0, g'⟩ (fun r => ∀ c : Dev Cert.RnnPreRefIdeal.nD,
          r.2.mem ((c.tc : Thread Cert.RnnPreRefIdeal.nD Cert.RnnPreRefIdeal.τ).loc Cert.RnnPreRefIdeal.main_v8) = v0 c
          ∧ r.2.mem ((c.tc : Thread Cert.RnnPreRefIdeal.nD Cert.RnnPreRefIdeal.τ).loc Cert.RnnPreRefIdeal.main_v52) = v1 c
          ∧ r.2.mem ((c.tc : Thread Cert.RnnPreRefIdeal.nD Cert.RnnPreRefIdeal.τ).loc Cert.RnnPreRefIdeal.main_v53) = v2 c
          ∧ r.2.mem ((c.tc : Thread Cert.RnnPreRefIdeal.nD Cert.RnnPreRefIdeal.τ).loc Cert.RnnPreRefIdeal.main_arg0) = m' ((c.tc : Thread Cert.RnnPreRefIdeal.nD Cert.RnnPreRefIdeal.τ).loc Cert.RnnPreRefIdeal.main_arg0)
          ∧ r.2.mem ((c.tc : Thread Cert.RnnPreRefIdeal.nD Cert.RnnPreRefIdeal.τ).loc Cert.RnnPreRefIdeal.main_arg1) = m' ((c.tc : Thread Cert.RnnPreRefIdeal.nD Cert.RnnPreRefIdeal.τ).loc Cert.RnnPreRefIdeal.main_arg1)
          ∧ r.2.mem ((c.tc : Thread Cert.RnnPreRefIdeal.nD Cert.RnnPreRefIdeal.τ).loc Cert.RnnPreRefIdeal.main_arg2) = m' ((c.tc : Thread Cert.RnnPreRefIdeal.nD Cert.RnnPreRefIdeal.τ).loc Cert.RnnPreRefIdeal.main_arg2)
          ∧ r.2.mem ((c.tc : Thread Cert.RnnPreRefIdeal.nD Cert.RnnPreRefIdeal.τ).loc Cert.RnnPreRefIdeal.main_arg3) = m' ((c.tc : Thread Cert.RnnPreRefIdeal.nD Cert.RnnPreRefIdeal.τ).loc Cert.RnnPreRefIdeal.main_arg3)
          ∧ r.2.mem ((c.tc : Thread Cert.RnnPreRefIdeal.nD Cert.RnnPreRefIdeal.τ).loc Cert.RnnPreRefIdeal.main_arg4) = m' ((c.tc : Thread Cert.RnnPreRefIdeal.nD Cert.RnnPreRefIdeal.τ).loc Cert.RnnPreRefIdeal.main_arg4)
          ∧ r.2.mem ((c.tc : Thread Cert.RnnPreRefIdeal.nD Cert.RnnPreRefIdeal.τ).loc Cert.RnnPreRefIdeal.main_arg5) = m' ((c.tc : Thread Cert.RnnPreRefIdeal.nD Cert.RnnPreRefIdeal.τ).loc Cert.RnnPreRefIdeal.main_arg5)
          ∧ r.2.mem ((c.tc : Thread Cert.RnnPreRefIdeal.nD Cert.RnnPreRefIdeal.τ).loc Cert.RnnPreRefIdeal.main_arg6) = m' ((c.tc : Thread Cert.RnnPreRefIdeal.nD Cert.RnnPreRefIdeal.τ).loc Cert.RnnPreRefIdeal.main_arg6))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v0)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v8) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Post_PostIdeal : Prop :=
  True

def algebraic_PostIdeal_PostRefIdeal_pre_bias_above [hPostIdeal : Cert.PostIdeal.Facts] [hPostRefIdeal : Cert.PostRefIdeal.Facts] [hPre_bias_above : Cert.Pre_bias_above.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_bias_above m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)) →
    ∃ (v0 : (c : Dev Cert.PostIdeal.nD) → Buf (Elt Ideal) ((c.tc : Thread Cert.PostIdeal.nD Cert.PostIdeal.τ).loc Cert.PostIdeal.main_v0_0)) (v1 : (c : Dev Cert.PostIdeal.nD) → Buf (Elt Ideal) ((c.tc : Thread Cert.PostIdeal.nD Cert.PostIdeal.τ).loc Cert.PostIdeal.main_v0_1)) (v2 : (c : Dev Cert.PostIdeal.nD) → Buf (Elt Ideal) ((c.tc : Thread Cert.PostIdeal.nD Cert.PostIdeal.τ).loc Cert.PostIdeal.main_v0_2)) (v3 : (c : Dev Cert.PostIdeal.nD) → Buf (Elt Ideal) ((c.tc : Thread Cert.PostIdeal.nD Cert.PostIdeal.τ).loc Cert.PostIdeal.main_v0_3)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0_0) = v0 c
          ∧ r.2.mem ((c.tc : Thread Cert.PostIdeal.nD Cert.PostIdeal.τ).loc Cert.PostIdeal.main_v0_1) = v1 c
          ∧ r.2.mem ((c.tc : Thread Cert.PostIdeal.nD Cert.PostIdeal.τ).loc Cert.PostIdeal.main_v0_2) = v2 c
          ∧ r.2.mem ((c.tc : Thread Cert.PostIdeal.nD Cert.PostIdeal.τ).loc Cert.PostIdeal.main_v0_3) = v3 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v8) = v0 c
          ∧ r.2.mem ((c.tc : Thread Cert.PostRefIdeal.nD Cert.PostRefIdeal.τ).loc Cert.PostRefIdeal.main_v68) = v1 c
          ∧ r.2.mem ((c.tc : Thread Cert.PostRefIdeal.nD Cert.PostRefIdeal.τ).loc Cert.PostRefIdeal.main_v70) = v2 c
          ∧ r.2.mem ((c.tc : Thread Cert.PostRefIdeal.nD Cert.PostRefIdeal.τ).loc Cert.PostRefIdeal.main_v72) = v3 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6))

def preserves_MlaPre_MlaPreIdeal : Prop :=
  IdealRules.named_const.Statement Cert.MlaPreIdeal.κ "inv_qk" .f32 0x3C2AAAAB#32 ((1 / 96 : ℝ) : EReal)

def algebraic_MlaPreIdeal_MlaPreRefIdeal [hMlaPreIdeal : Cert.MlaPreIdeal.Facts] [hMlaPreRefIdeal : Cert.MlaPreRefIdeal.Facts] : Prop :=
  ∀ (m : (ℓ : Loc Cert.MlaPreIdeal.nD Cert.MlaPreIdeal.τ Cert.MlaPreIdeal.sig) → Buf (Elt Ideal) ℓ) (g : Dev Cert.MlaPreIdeal.nD → PrngReg)
    (m' : (ℓ : Loc Cert.MlaPreRefIdeal.nD Cert.MlaPreRefIdeal.τ Cert.MlaPreRefIdeal.sig) → Buf (Elt Ideal) ℓ) (g' : Dev Cert.MlaPreRefIdeal.nD → PrngReg), Pre_MlaPreIdeal m →
    (∀ c : Dev Cert.MlaPreIdeal.nD,
      m' ((c.tc : Thread Cert.MlaPreRefIdeal.nD Cert.MlaPreRefIdeal.τ).loc Cert.MlaPreRefIdeal.main_arg0) = m ((c.tc : Thread Cert.MlaPreIdeal.nD Cert.MlaPreIdeal.τ).loc Cert.MlaPreIdeal.main_arg0)
      ∧ m' ((c.tc : Thread Cert.MlaPreRefIdeal.nD Cert.MlaPreRefIdeal.τ).loc Cert.MlaPreRefIdeal.main_arg1) = m ((c.tc : Thread Cert.MlaPreIdeal.nD Cert.MlaPreIdeal.τ).loc Cert.MlaPreIdeal.main_arg1)
      ∧ m' ((c.tc : Thread Cert.MlaPreRefIdeal.nD Cert.MlaPreRefIdeal.τ).loc Cert.MlaPreRefIdeal.main_arg2) = m ((c.tc : Thread Cert.MlaPreIdeal.nD Cert.MlaPreIdeal.τ).loc Cert.MlaPreIdeal.main_arg2)
      ∧ m' ((c.tc : Thread Cert.MlaPreRefIdeal.nD Cert.MlaPreRefIdeal.τ).loc Cert.MlaPreRefIdeal.main_arg3) = m ((c.tc : Thread Cert.MlaPreIdeal.nD Cert.MlaPreIdeal.τ).loc Cert.MlaPreIdeal.main_arg3)
      ∧ m' ((c.tc : Thread Cert.MlaPreRefIdeal.nD Cert.MlaPreRefIdeal.τ).loc Cert.MlaPreRefIdeal.main_arg4) = m ((c.tc : Thread Cert.MlaPreIdeal.nD Cert.MlaPreIdeal.τ).loc Cert.MlaPreIdeal.main_arg4)
      ∧ m' ((c.tc : Thread Cert.MlaPreRefIdeal.nD Cert.MlaPreRefIdeal.τ).loc Cert.MlaPreRefIdeal.main_arg5) = m ((c.tc : Thread Cert.MlaPreIdeal.nD Cert.MlaPreIdeal.τ).loc Cert.MlaPreIdeal.main_arg5)
      ∧ m' ((c.tc : Thread Cert.MlaPreRefIdeal.nD Cert.MlaPreRefIdeal.τ).loc Cert.MlaPreRefIdeal.main_arg6) = m ((c.tc : Thread Cert.MlaPreIdeal.nD Cert.MlaPreIdeal.τ).loc Cert.MlaPreIdeal.main_arg6)
      ∧ m' ((c.tc : Thread Cert.MlaPreRefIdeal.nD Cert.MlaPreRefIdeal.τ).loc Cert.MlaPreRefIdeal.main_arg7) = m ((c.tc : Thread Cert.MlaPreIdeal.nD Cert.MlaPreIdeal.τ).loc Cert.MlaPreIdeal.main_arg7)
      ∧ m' ((c.tc : Thread Cert.MlaPreRefIdeal.nD Cert.MlaPreRefIdeal.τ).loc Cert.MlaPreRefIdeal.main_arg8) = m ((c.tc : Thread Cert.MlaPreIdeal.nD Cert.MlaPreIdeal.τ).loc Cert.MlaPreIdeal.main_arg8)
      ∧ m' ((c.tc : Thread Cert.MlaPreRefIdeal.nD Cert.MlaPreRefIdeal.τ).loc Cert.MlaPreRefIdeal.main_arg9) = m ((c.tc : Thread Cert.MlaPreIdeal.nD Cert.MlaPreIdeal.τ).loc Cert.MlaPreIdeal.main_arg9)
      ∧ m' ((c.tc : Thread Cert.MlaPreRefIdeal.nD Cert.MlaPreRefIdeal.τ).loc Cert.MlaPreRefIdeal.main_arg10) = m ((c.tc : Thread Cert.MlaPreIdeal.nD Cert.MlaPreIdeal.τ).loc Cert.MlaPreIdeal.main_arg10)) →
    ∃ (v0 : (c : Dev Cert.MlaPreIdeal.nD) → Buf (Elt Ideal) ((c.tc : Thread Cert.MlaPreIdeal.nD Cert.MlaPreIdeal.τ).loc Cert.MlaPreIdeal.main_v43_0)) (v1 : (c : Dev Cert.MlaPreIdeal.nD) → Buf (Elt Ideal) ((c.tc : Thread Cert.MlaPreIdeal.nD Cert.MlaPreIdeal.τ).loc Cert.MlaPreIdeal.main_v43_1)) (v2 : (c : Dev Cert.MlaPreIdeal.nD) → Buf (Elt Ideal) ((c.tc : Thread Cert.MlaPreIdeal.nD Cert.MlaPreIdeal.τ).loc Cert.MlaPreIdeal.main_v43_2)),
      θ_run (Cert.MlaPreIdeal.defs (F := Ideal)) (onTc (τ := Cert.MlaPreIdeal.τ) (Cert.MlaPreIdeal.main (F := Ideal))) ⟨m, fun _ => 0, g⟩ (fun r => ∀ c : Dev Cert.MlaPreIdeal.nD,
          r.2.mem ((c.tc : Thread Cert.MlaPreIdeal.nD Cert.MlaPreIdeal.τ).loc Cert.MlaPreIdeal.main_v43_0) = v0 c
          ∧ r.2.mem ((c.tc : Thread Cert.MlaPreIdeal.nD Cert.MlaPreIdeal.τ).loc Cert.MlaPreIdeal.main_v43_1) = v1 c
          ∧ r.2.mem ((c.tc : Thread Cert.MlaPreIdeal.nD Cert.MlaPreIdeal.τ).loc Cert.MlaPreIdeal.main_v43_2) = v2 c
          ∧ r.2.mem ((c.tc : Thread Cert.MlaPreIdeal.nD Cert.MlaPreIdeal.τ).loc Cert.MlaPreIdeal.main_arg0) = m ((c.tc : Thread Cert.MlaPreIdeal.nD Cert.MlaPreIdeal.τ).loc Cert.MlaPreIdeal.main_arg0)
          ∧ r.2.mem ((c.tc : Thread Cert.MlaPreIdeal.nD Cert.MlaPreIdeal.τ).loc Cert.MlaPreIdeal.main_arg1) = m ((c.tc : Thread Cert.MlaPreIdeal.nD Cert.MlaPreIdeal.τ).loc Cert.MlaPreIdeal.main_arg1)
          ∧ r.2.mem ((c.tc : Thread Cert.MlaPreIdeal.nD Cert.MlaPreIdeal.τ).loc Cert.MlaPreIdeal.main_arg2) = m ((c.tc : Thread Cert.MlaPreIdeal.nD Cert.MlaPreIdeal.τ).loc Cert.MlaPreIdeal.main_arg2)
          ∧ r.2.mem ((c.tc : Thread Cert.MlaPreIdeal.nD Cert.MlaPreIdeal.τ).loc Cert.MlaPreIdeal.main_arg3) = m ((c.tc : Thread Cert.MlaPreIdeal.nD Cert.MlaPreIdeal.τ).loc Cert.MlaPreIdeal.main_arg3)
          ∧ r.2.mem ((c.tc : Thread Cert.MlaPreIdeal.nD Cert.MlaPreIdeal.τ).loc Cert.MlaPreIdeal.main_arg4) = m ((c.tc : Thread Cert.MlaPreIdeal.nD Cert.MlaPreIdeal.τ).loc Cert.MlaPreIdeal.main_arg4)
          ∧ r.2.mem ((c.tc : Thread Cert.MlaPreIdeal.nD Cert.MlaPreIdeal.τ).loc Cert.MlaPreIdeal.main_arg5) = m ((c.tc : Thread Cert.MlaPreIdeal.nD Cert.MlaPreIdeal.τ).loc Cert.MlaPreIdeal.main_arg5)
          ∧ r.2.mem ((c.tc : Thread Cert.MlaPreIdeal.nD Cert.MlaPreIdeal.τ).loc Cert.MlaPreIdeal.main_arg6) = m ((c.tc : Thread Cert.MlaPreIdeal.nD Cert.MlaPreIdeal.τ).loc Cert.MlaPreIdeal.main_arg6)
          ∧ r.2.mem ((c.tc : Thread Cert.MlaPreIdeal.nD Cert.MlaPreIdeal.τ).loc Cert.MlaPreIdeal.main_arg7) = m ((c.tc : Thread Cert.MlaPreIdeal.nD Cert.MlaPreIdeal.τ).loc Cert.MlaPreIdeal.main_arg7)
          ∧ r.2.mem ((c.tc : Thread Cert.MlaPreIdeal.nD Cert.MlaPreIdeal.τ).loc Cert.MlaPreIdeal.main_arg8) = m ((c.tc : Thread Cert.MlaPreIdeal.nD Cert.MlaPreIdeal.τ).loc Cert.MlaPreIdeal.main_arg8)
          ∧ r.2.mem ((c.tc : Thread Cert.MlaPreIdeal.nD Cert.MlaPreIdeal.τ).loc Cert.MlaPreIdeal.main_arg9) = m ((c.tc : Thread Cert.MlaPreIdeal.nD Cert.MlaPreIdeal.τ).loc Cert.MlaPreIdeal.main_arg9)
          ∧ r.2.mem ((c.tc : Thread Cert.MlaPreIdeal.nD Cert.MlaPreIdeal.τ).loc Cert.MlaPreIdeal.main_arg10) = m ((c.tc : Thread Cert.MlaPreIdeal.nD Cert.MlaPreIdeal.τ).loc Cert.MlaPreIdeal.main_arg10))
      ∧ θ_run (Cert.MlaPreRefIdeal.defs (F := Ideal)) (onTc (τ := Cert.MlaPreRefIdeal.τ) (Cert.MlaPreRefIdeal.main (F := Ideal))) ⟨m', fun _ => 0, g'⟩ (fun r => ∀ c : Dev Cert.MlaPreRefIdeal.nD,
          r.2.mem ((c.tc : Thread Cert.MlaPreRefIdeal.nD Cert.MlaPreRefIdeal.τ).loc Cert.MlaPreRefIdeal.main_v147) = v0 c
          ∧ r.2.mem ((c.tc : Thread Cert.MlaPreRefIdeal.nD Cert.MlaPreRefIdeal.τ).loc Cert.MlaPreRefIdeal.main_v150) = v1 c
          ∧ r.2.mem ((c.tc : Thread Cert.MlaPreRefIdeal.nD Cert.MlaPreRefIdeal.τ).loc Cert.MlaPreRefIdeal.main_v151) = v2 c
          ∧ r.2.mem ((c.tc : Thread Cert.MlaPreRefIdeal.nD Cert.MlaPreRefIdeal.τ).loc Cert.MlaPreRefIdeal.main_arg0) = m' ((c.tc : Thread Cert.MlaPreRefIdeal.nD Cert.MlaPreRefIdeal.τ).loc Cert.MlaPreRefIdeal.main_arg0)
          ∧ r.2.mem ((c.tc : Thread Cert.MlaPreRefIdeal.nD Cert.MlaPreRefIdeal.τ).loc Cert.MlaPreRefIdeal.main_arg1) = m' ((c.tc : Thread Cert.MlaPreRefIdeal.nD Cert.MlaPreRefIdeal.τ).loc Cert.MlaPreRefIdeal.main_arg1)
          ∧ r.2.mem ((c.tc : Thread Cert.MlaPreRefIdeal.nD Cert.MlaPreRefIdeal.τ).loc Cert.MlaPreRefIdeal.main_arg2) = m' ((c.tc : Thread Cert.MlaPreRefIdeal.nD Cert.MlaPreRefIdeal.τ).loc Cert.MlaPreRefIdeal.main_arg2)
          ∧ r.2.mem ((c.tc : Thread Cert.MlaPreRefIdeal.nD Cert.MlaPreRefIdeal.τ).loc Cert.MlaPreRefIdeal.main_arg3) = m' ((c.tc : Thread Cert.MlaPreRefIdeal.nD Cert.MlaPreRefIdeal.τ).loc Cert.MlaPreRefIdeal.main_arg3)
          ∧ r.2.mem ((c.tc : Thread Cert.MlaPreRefIdeal.nD Cert.MlaPreRefIdeal.τ).loc Cert.MlaPreRefIdeal.main_arg4) = m' ((c.tc : Thread Cert.MlaPreRefIdeal.nD Cert.MlaPreRefIdeal.τ).loc Cert.MlaPreRefIdeal.main_arg4)
          ∧ r.2.mem ((c.tc : Thread Cert.MlaPreRefIdeal.nD Cert.MlaPreRefIdeal.τ).loc Cert.MlaPreRefIdeal.main_arg5) = m' ((c.tc : Thread Cert.MlaPreRefIdeal.nD Cert.MlaPreRefIdeal.τ).loc Cert.MlaPreRefIdeal.main_arg5)
          ∧ r.2.mem ((c.tc : Thread Cert.MlaPreRefIdeal.nD Cert.MlaPreRefIdeal.τ).loc Cert.MlaPreRefIdeal.main_arg6) = m' ((c.tc : Thread Cert.MlaPreRefIdeal.nD Cert.MlaPreRefIdeal.τ).loc Cert.MlaPreRefIdeal.main_arg6)
          ∧ r.2.mem ((c.tc : Thread Cert.MlaPreRefIdeal.nD Cert.MlaPreRefIdeal.τ).loc Cert.MlaPreRefIdeal.main_arg7) = m' ((c.tc : Thread Cert.MlaPreRefIdeal.nD Cert.MlaPreRefIdeal.τ).loc Cert.MlaPreRefIdeal.main_arg7)
          ∧ r.2.mem ((c.tc : Thread Cert.MlaPreRefIdeal.nD Cert.MlaPreRefIdeal.τ).loc Cert.MlaPreRefIdeal.main_arg8) = m' ((c.tc : Thread Cert.MlaPreRefIdeal.nD Cert.MlaPreRefIdeal.τ).loc Cert.MlaPreRefIdeal.main_arg8)
          ∧ r.2.mem ((c.tc : Thread Cert.MlaPreRefIdeal.nD Cert.MlaPreRefIdeal.τ).loc Cert.MlaPreRefIdeal.main_arg9) = m' ((c.tc : Thread Cert.MlaPreRefIdeal.nD Cert.MlaPreRefIdeal.τ).loc Cert.MlaPreRefIdeal.main_arg9)
          ∧ r.2.mem ((c.tc : Thread Cert.MlaPreRefIdeal.nD Cert.MlaPreRefIdeal.τ).loc Cert.MlaPreRefIdeal.main_arg10) = m' ((c.tc : Thread Cert.MlaPreRefIdeal.nD Cert.MlaPreRefIdeal.τ).loc Cert.MlaPreRefIdeal.main_arg10))

def Claim : Prop :=
  ∃ (hAttn : Cert.Attn.Facts) (hAttnIdeal : Cert.AttnIdeal.Facts) (hAttnRefIdeal : Cert.AttnRefIdeal.Facts) (hMoe : Cert.Moe.Facts) (hMoeIdeal : Cert.MoeIdeal.Facts) (hMoeRefIdeal : Cert.MoeRefIdeal.Facts) (hRnnPre : Cert.RnnPre.Facts) (hRnnPreIdeal : Cert.RnnPreIdeal.Facts) (hRnnPreRefIdeal : Cert.RnnPreRefIdeal.Facts) (hFinal : Cert.Final.Facts) (hFinalIdeal : Cert.FinalIdeal.Facts) (hFinalRefIdeal : Cert.FinalRefIdeal.Facts) (hAda : Cert.Ada.Facts) (hAdaIdeal : Cert.AdaIdeal.Facts) (hAdaRefIdeal : Cert.AdaRefIdeal.Facts) (hPost : Cert.Post.Facts) (hPostIdeal : Cert.PostIdeal.Facts) (hPostRefIdeal : Cert.PostRefIdeal.Facts) (hMlaPre : Cert.MlaPre.Facts) (hMlaPreIdeal : Cert.MlaPreIdeal.Facts) (hMlaPreRefIdeal : Cert.MlaPreRefIdeal.Facts) (hPre_finite_scores : Cert.Pre_finite_scores.Facts) (hPre_experts_named : Cert.Pre_experts_named.Facts) (hPre_bias_above : Cert.Pre_bias_above.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Moe (hMoe := hMoe) (hPre_experts_named := hPre_experts_named)
    ∧ quiescent_MoeIdeal (hMoeIdeal := hMoeIdeal) (hPre_experts_named := hPre_experts_named)
    ∧ quiescent_MoeRefIdeal (hMoeRefIdeal := hMoeRefIdeal)
    ∧ quiescent_MoeRefIdeal_pre_experts_named (hMoeRefIdeal := hMoeRefIdeal) (hPre_experts_named := hPre_experts_named)
    ∧ quiescent_RnnPre (hRnnPre := hRnnPre)
    ∧ quiescent_RnnPreIdeal (hRnnPreIdeal := hRnnPreIdeal)
    ∧ quiescent_RnnPreRefIdeal (hRnnPreRefIdeal := hRnnPreRefIdeal)
    ∧ quiescent_Final (hFinal := hFinal)
    ∧ quiescent_FinalIdeal (hFinalIdeal := hFinalIdeal)
    ∧ quiescent_FinalRefIdeal (hFinalRefIdeal := hFinalRefIdeal)
    ∧ quiescent_Ada (hAda := hAda)
    ∧ quiescent_AdaIdeal (hAdaIdeal := hAdaIdeal)
    ∧ quiescent_AdaRefIdeal (hAdaRefIdeal := hAdaRefIdeal)
    ∧ quiescent_Post (hPost := hPost)
    ∧ quiescent_PostIdeal (hPostIdeal := hPostIdeal)
    ∧ quiescent_PostIdeal_pre_bias_above (hPostIdeal := hPostIdeal) (hPre_bias_above := hPre_bias_above)
    ∧ quiescent_PostRefIdeal (hPostRefIdeal := hPostRefIdeal)
    ∧ quiescent_PostRefIdeal_pre_bias_above (hPostRefIdeal := hPostRefIdeal) (hPre_bias_above := hPre_bias_above)
    ∧ quiescent_MlaPre (hMlaPre := hMlaPre)
    ∧ quiescent_MlaPreIdeal (hMlaPreIdeal := hMlaPreIdeal)
    ∧ quiescent_MlaPreRefIdeal (hMlaPreRefIdeal := hMlaPreRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Moe_MoeIdeal
    ∧ algebraic_MoeIdeal_MoeRefIdeal (hMoeIdeal := hMoeIdeal) (hMoeRefIdeal := hMoeRefIdeal) (hPre_experts_named := hPre_experts_named)
    ∧ preserves_RnnPre_RnnPreIdeal
    ∧ algebraic_RnnPreIdeal_RnnPreRefIdeal (hRnnPreIdeal := hRnnPreIdeal) (hRnnPreRefIdeal := hRnnPreRefIdeal)
    ∧ preserves_Final_FinalIdeal
    ∧ algebraic_FinalIdeal_FinalRefIdeal (hFinalIdeal := hFinalIdeal) (hFinalRefIdeal := hFinalRefIdeal)
    ∧ preserves_Ada_AdaIdeal
    ∧ algebraic_AdaIdeal_AdaRefIdeal (hAdaIdeal := hAdaIdeal) (hAdaRefIdeal := hAdaRefIdeal)
    ∧ preserves_Post_PostIdeal
    ∧ algebraic_PostIdeal_PostRefIdeal_pre_bias_above (hPostIdeal := hPostIdeal) (hPostRefIdeal := hPostRefIdeal) (hPre_bias_above := hPre_bias_above)
    ∧ preserves_MlaPre_MlaPreIdeal
    ∧ algebraic_MlaPreIdeal_MlaPreRefIdeal (hMlaPreIdeal := hMlaPreIdeal) (hMlaPreRefIdeal := hMlaPreRefIdeal)
-- ==== Pre_bias_above.lean ====
abbrev S16x2048x1024 : Shape := ⟨3, ![16, 2048, 1024]⟩
abbrev S1024x1024 : Shape := ⟨2, ![1024, 1024]⟩
abbrev S16x6x1024 : Shape := ⟨3, ![16, 6, 1024]⟩
abbrev S1x1024 : Shape := ⟨2, ![1, 1024]⟩
abbrev S32x1024 : Shape := ⟨2, ![32, 1024]⟩
abbrev S32x1 : Shape := ⟨2, ![32, 1]⟩
abbrev S_ : Shape := ⟨0, ![]⟩

class Facts : Prop where
  bcast_S_S32x1 : S_.BroadcastsInDim S32x1 (![] : Fin 0 → Fin S32x1.rank)

variable [Facts]

def fn {F : FTy → Type} [FloatOps F] (main_arg0 : FVec F S16x2048x1024 .bf16) (main_arg1 : FVec F S1024x1024 .bf16) (main_arg2 : FVec F S16x2048x1024 .f32) (main_arg3 : FVec F S16x6x1024 .f32) (main_arg4 : FVec F S1x1024 .f32) (main_arg5 : FVec F S32x1024 .f32) (main_arg6 : FVec F S32x1 .f32) : IVec S32x1 1 :=
  let main_cst : FVec F S_ .f32 := constant S_ .f32 0xFF800000#32
  let main_v0 : FVec F S32x1 .f32 := broadcastInDim S32x1 ![] bcast_S_S32x1 main_cst
  let main_v1 : IVec S32x1 1 := cmpf .ogt main_arg6 main_v0
  main_v1
-- ==== Pre_experts_named.lean ====
abbrev S288 : Shape := ⟨1, ![288]⟩
abbrev S1 : Shape := ⟨1, ![1]⟩
abbrev S73728x1024 : Shape := ⟨2, ![73728, 1024]⟩
abbrev S73728x1 : Shape := ⟨2, ![73728, 1]⟩
abbrev S32x1024x1024 : Shape := ⟨3, ![32, 1024, 1024]⟩
abbrev S32x512x1024 : Shape := ⟨3, ![32, 512, 1024]⟩
abbrev S_ : Shape := ⟨0, ![]⟩

class Facts : Prop where
  bcast_S_S288 : S_.BroadcastsInDim S288 (![] : Fin 0 → Fin S288.rank)

variable [Facts]

def fn {F : FTy → Type} [FloatOps F] (main_arg0 : IVec S288 32) (main_arg1 : IVec S1 32) (main_arg2 : FVec F S73728x1024 .bf16) (main_arg3 : FVec F S73728x1 .f32) (main_arg4 : FVec F S32x1024x1024 .f32) (main_arg5 : FVec F S32x512x1024 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  main_v4
-- ==== Pre_finite_scores.lean ====
abbrev S16x16x2048x128 : Shape := ⟨4, ![16, 16, 2048, 128]⟩
abbrev S16x8x2048x128 : Shape := ⟨4, ![16, 8, 2048, 128]⟩
abbrev S_ : Shape := ⟨0, ![]⟩

class Facts : Prop where
  bitsLt_bf16_f32 : FTy.bits .bf16 < FTy.bits .f32
  bcast_S_S16x16x2048x128 : S_.BroadcastsInDim S16x16x2048x128 (![] : Fin 0 → Fin S16x16x2048x128.rank)

variable [Facts]

def fn {F : FTy → Type} [FloatOps F] (main_arg0 : FVec F S16x16x2048x128 .bf16) (main_arg1 : FVec F S16x16x2048x128 .bf16) (main_arg2 : FVec F S16x8x2048x128 .bf16) : IVec S16x16x2048x128 1 × IVec S16x16x2048x128 1 :=
  let main_v0 : FVec F S16x16x2048x128 .f32 := (extf .f32 · bitsLt_bf16_f32) main_arg0
  let main_v1 : FVec F S16x16x2048x128 .f32 := Host.absf main_v0
  let main_cst : FVec F S_ .f32 := constant S_ .f32 0x7F800000#32
  let main_v2 : FVec F S16x16x2048x128 .f32 := broadcastInDim S16x16x2048x128 ![] bcast_S_S16x16x2048x128 main_cst
  let main_v3 : IVec S16x16x2048x128 1 := cmpf .olt main_v1 main_v2
  let main_v4 : FVec F S16x16x2048x128 .f32 := (extf .f32 · bitsLt_bf16_f32) main_arg1
  let main_v5 : FVec F S16x16x2048x128 .f32 := Host.absf main_v4
  let main_cst_0 : FVec F S_ .f32 := constant S_ .f32 0x7F800000#32
  let main_v6 : FVec F S16x16x2048x128 .f32 := broadcastInDim S16x16x2048x128 ![] bcast_S_S16x16x2048x128 main_cst_0
  let main_v7 : IVec S16x16x2048x128 1 := cmpf .olt main_v5 main_v6
  (main_v3, main_v7)
-- ==== Attn.lean ====
abbrev S16x16x2048x128 : Shape := ⟨4, ![16, 16, 2048, 128]⟩
abbrev S16x8x2048x128 : Shape := ⟨4, ![16, 8, 2048, 128]⟩
abbrev S16x2048x1024 : Shape := ⟨3, ![16, 2048, 1024]⟩
abbrev S1x2x512x128 : Shape := ⟨4, ![1, 2, 512, 128]⟩
abbrev S1x2x2048x128 : Shape := ⟨4, ![1, 2, 2048, 128]⟩
abbrev S1x1x2048x128 : Shape := ⟨4, ![1, 1, 2048, 128]⟩
abbrev S1x512x128 : Shape := ⟨3, ![1, 512, 128]⟩
abbrev S2048x128 : Shape := ⟨2, ![2048, 128]⟩
abbrev S1x1x512x128 : Shape := ⟨4, ![1, 1, 512, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x16x2048x128, .bf16⟩
  | .hbm, ⟨1, _⟩ => ⟨S16x16x2048x128, .bf16⟩
  | .hbm, ⟨2, _⟩ => ⟨S16x8x2048x128, .bf16⟩
  | .hbm, ⟨3, _⟩ => ⟨S16x2048x1024, .bf16⟩
  | .local _ .vmem, ⟨0, _⟩ => ⟨S1x2x512x128, .bf16⟩
  | .local _ .vmem, ⟨1, _⟩ => ⟨S1x2x512x128, .bf16⟩
  | .local _ .vmem, ⟨2, _⟩ => ⟨S1x2x2048x128, .bf16⟩
  | .local _ .vmem, ⟨3, _⟩ => ⟨S1x2x2048x128, .bf16⟩
  | .local _ .vmem, ⟨4, _⟩ => ⟨S1x1x2048x128, .bf16⟩
  | .local _ .vmem, ⟨5, _⟩ => ⟨S1x1x2048x128, .bf16⟩
  | .local _ .vmem, ⟨6, _⟩ => ⟨S1x512x128, .bf16⟩
  | .local _ .vmem, ⟨7, _⟩ => ⟨S1x512x128, .bf16⟩
  | _, _ => ⟨S16x16x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S16x16x2048x128 : Shape := ⟨4, ![16, 16, 2048, 128]⟩
abbrev S16x8x2048x128 : Shape := ⟨4, ![16, 8, 2048, 128]⟩
abbrev S16x8x2048x2x64 : Shape := ⟨5, ![16, 8, 2048, 2, 64]⟩
abbrev S16x8x2x2048x64 : Shape := ⟨5, ![16, 8, 2, 2048, 64]⟩
abbrev S16x16x2048x64 : Shape := ⟨4, ![16, 16, 2048, 64]⟩
abbrev S16x16x2048x2048 : Shape := ⟨4, ![16, 16, 2048, 2048]⟩
abbrev S_ : Shape := ⟨0, ![]⟩
abbrev S16x16x2048 : Shape := ⟨3, ![16, 16, 2048]⟩
abbrev S16x16x2048x1 : Shape := ⟨4, ![16, 16, 2048, 1]⟩
abbrev S16x16x64x2048 : Shape := ⟨4, ![16, 16, 64, 2048]⟩
abbrev S16x2048x16x64 : Shape := ⟨4, ![16, 2048, 16, 64]⟩
abbrev S16x2048x1024 : Shape := ⟨3, ![16, 2048, 1024]⟩

abbrev nBuf : Space → Nat
  | .hbm => 28
  | .vmem => 0
  | .smem => 0
  | _ => 0

abbrev bufTy : (tb : Table) → Fin (tcTables nBuf tb) → BufTy
  | .hbm, ⟨0, _⟩ => ⟨S16x16x2048x128, .bf16⟩
  | .hbm, ⟨1, _⟩ => ⟨S16x16x2048x128, .bf16⟩
  | .hbm, ⟨2, _⟩ => ⟨S16x8x2048x128, .bf16⟩
  | .hbm, ⟨3, _⟩ => ⟨S16x16x2048x128, .f32⟩
  | .hbm, ⟨4, _⟩ => ⟨S16x16x2048x128, .f32⟩
  | .hbm, ⟨5, _⟩ => ⟨S16x8x2048x128, .f32⟩
  | .hbm, ⟨6, _⟩ => ⟨S16x8x2048x2x64, .f32⟩
  | .hbm, ⟨7, _⟩ => ⟨S16x8x2x2048x64, .f32⟩
  | .hbm, ⟨8, _⟩ => ⟨S16x16x2048x64, .f32⟩
  | .hbm, ⟨9, _⟩ => ⟨S16x16x2048x2048, .f32⟩
  | .hbm, ⟨10, _⟩ => ⟨S_, .f32⟩
  | .hbm, ⟨11, _⟩ => ⟨S16x16x2048, .f32⟩
  | .hbm, ⟨12, _⟩ => ⟨S_, .f32⟩
  | .hbm, ⟨13, _⟩ => ⟨S16x16x2048, .f32⟩
  | .hbm, ⟨14, _⟩ => ⟨S16x16x2048, .f32⟩
  | .hbm, ⟨15, _⟩ => ⟨S16x16x2048x1, .f32⟩
  | .hbm, ⟨16, _⟩ => ⟨S16x16x2048x2048, .f32⟩
  | .hbm, ⟨17, _⟩ => ⟨S16x16x2048x2048, .f32⟩
  | .hbm, ⟨18, _⟩ => ⟨S16x16x2048x2048, .f32⟩
  | .hbm, ⟨19, _⟩ => ⟨S_, .f32⟩
  | .hbm, ⟨20, _⟩ => ⟨S16x16x2048, .f32⟩
  | .hbm, ⟨21, _⟩ => ⟨S16x16x2048x1, .f32⟩
  | .hbm, ⟨22, _⟩ => ⟨S16x16x2048x2048, .f32⟩
  | .hbm, ⟨23, _⟩ => ⟨S16x16x2048x2048, .f32⟩
  | .hbm, ⟨24, _⟩ => ⟨S16x16x64x2048, .f32⟩
  | .hbm, ⟨25, _⟩ => ⟨S16x2048x16x64, .f32⟩
  | .hbm, ⟨26, _⟩ => ⟨S16x2048x1024, .f32⟩
  | .hbm, ⟨27, _⟩ => ⟨S16x2048x1024, .bf16⟩
  | _, _ => ⟨S16x16x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Moe.lean ====
abbrev S288 : Shape := ⟨1, ![288]⟩
abbrev S1 : Shape := ⟨1, ![1]⟩
abbrev S73728x1024 : Shape := ⟨2, ![73728, 1024]⟩
abbrev S73728x1 : Shape := ⟨2, ![73728, 1]⟩
abbrev S32x1024x1024 : Shape := ⟨3, ![32, 1024, 1024]⟩
abbrev S32x512x1024 : Shape := ⟨3, ![32, 512, 1024]⟩
abbrev S256x1024 : Shape := ⟨2, ![256, 1024]⟩
abbrev S256x1 : Shape := ⟨2, ![256, 1]⟩
abbrev S1x1024x1024 : Shape := ⟨3, ![1, 1024, 1024]⟩
abbrev S1x512x1024 : Shape := ⟨3, ![1, 512, 1024]⟩
abbrev S1024x1024 : Shape := ⟨2, ![1024, 1024]⟩
abbrev S512x1024 : Shape := ⟨2, ![512, 1024]⟩
abbrev S256x512 : Shape := ⟨2, ![256, 512]⟩

abbrev nBuf : Space → Nat
  | .hbm => 5
  | .vmem => 12
  | .smem => 2
  | _ => 0

abbrev bufTy : (tb : Table) → Fin (tcTables nBuf tb) → BufTy
  | .hbm, ⟨0, _⟩ => ⟨S73728x1024, .bf16⟩
  | .hbm, ⟨1, _⟩ => ⟨S73728x1, .f32⟩
  | .hbm, ⟨2, _⟩ => ⟨S32x1024x1024, .f32⟩
  | .hbm, ⟨3, _⟩ => ⟨S32x512x1024, .f32⟩
  | .hbm, ⟨4, _⟩ => ⟨S73728x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1, .f32⟩
  | .local _ .vmem, ⟨3, _⟩ => ⟨S256x1, .f32⟩
  | .local _ .vmem, ⟨4, _⟩ => ⟨S1x1024x1024, .f32⟩
  | .local _ .vmem, ⟨5, _⟩ => ⟨S1x1024x1024, .f32⟩
  | .local _ .vmem, ⟨6, _⟩ => ⟨S1x512x1024, .f32⟩
  | .local _ .vmem, ⟨7, _⟩ => ⟨S1x512x1024, .f32⟩
  | .local _ .vmem, ⟨8, _⟩ => ⟨S256x1024, .bf16⟩
  | .local _ .vmem, ⟨9, _⟩ => ⟨S256x1024, .bf16⟩
  | .local _ .vmem, ⟨10, _⟩ => ⟨S1024x1024, .bf16⟩
  | .local _ .vmem, ⟨11, _⟩ => ⟨S512x1024, .bf16⟩
  | .local _ .smem, ⟨0, _⟩ => ⟨S288, .i32⟩
  | .local _ .smem, ⟨1, _⟩ => ⟨S1, .i32⟩
  | _, _ => ⟨S73728x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MoeRefIdeal.lean ====
abbrev S288 : Shape := ⟨1, ![288]⟩
abbrev S1 : Shape := ⟨1, ![1]⟩
abbrev S73728x1024 : Shape := ⟨2, ![73728, 1024]⟩
abbrev S73728x1 : Shape := ⟨2, ![73728, 1]⟩
abbrev S32x1024x1024 : Shape := ⟨3, ![32, 1024, 1024]⟩
abbrev S32x512x1024 : Shape := ⟨3, ![32, 512, 1024]⟩
abbrev S288x256x1024 : Shape := ⟨3, ![288, 256, 1024]⟩
abbrev S_ : Shape := ⟨0, ![]⟩
abbrev S288x1 : Shape := ⟨2, ![288, 1]⟩
abbrev S288x1024x1024 : Shape := ⟨3, ![288, 1024, 1024]⟩
abbrev S288x256x512 : Shape := ⟨3, ![288, 256, 512]⟩
abbrev S288x512x1024 : Shape := ⟨3, ![288, 512, 1024]⟩
abbrev S288x256x1 : Shape := ⟨3, ![288, 256, 1]⟩
abbrev S288x1x1 : Shape := ⟨3, ![288, 1, 1]⟩

abbrev nBuf : Space → Nat
  | .hbm => 55
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x1024, .bf16⟩
  | .hbm, ⟨3, _⟩ => ⟨S73728x1, .f32⟩
  | .hbm, ⟨4, _⟩ => ⟨S32x1024x1024, .f32⟩
  | .hbm, ⟨5, _⟩ => ⟨S32x512x1024, .f32⟩
  | .hbm, ⟨6, _⟩ => ⟨S73728x1024, .f32⟩
  | .hbm, ⟨7, _⟩ => ⟨S288x256x1024, .f32⟩
  | .hbm, ⟨8, _⟩ => ⟨S_, .i32⟩
  | .hbm, ⟨9, _⟩ => ⟨S288, .i32⟩
  | .hbm, ⟨10, _⟩ => ⟨S288, .i1⟩
  | .hbm, ⟨11, _⟩ => ⟨S_, .i32⟩
  | .hbm, ⟨12, _⟩ => ⟨S288, .i32⟩
  | .hbm, ⟨13, _⟩ => ⟨S288, .i32⟩
  | .hbm, ⟨14, _⟩ => ⟨S288, .i32⟩
  | .hbm, ⟨15, _⟩ => ⟨S288x1, .i32⟩
  | .hbm, ⟨16, _⟩ => ⟨S288x1024x1024, .f32⟩
  | .hbm, ⟨17, _⟩ => ⟨S288x256x1024, .f32⟩
  | .hbm, ⟨18, _⟩ => ⟨S288x256x512, .f32⟩
  | .hbm, ⟨19, _⟩ => ⟨S288x256x512, .f32⟩
  | .hbm, ⟨20, _⟩ => ⟨S288x256x512, .f32⟩
  | .hbm, ⟨21, _⟩ => ⟨S288x256x512, .f32⟩
  | .hbm, ⟨22, _⟩ => ⟨S_, .f32⟩
  | .hbm, ⟨23, _⟩ => ⟨S288x256x512, .f32⟩
  | .hbm, ⟨24, _⟩ => ⟨S288x256x512, .f32⟩
  | .hbm, ⟨25, _⟩ => ⟨S_, .f32⟩
  | .hbm, ⟨26, _⟩ => ⟨S288x256x512, .f32⟩
  | .hbm, ⟨27, _⟩ => ⟨S288x256x512, .f32⟩
  | .hbm, ⟨28, _⟩ => ⟨S288x256x512, .f32⟩
  | .hbm, ⟨29, _⟩ => ⟨S288x256x512, .f32⟩
  | .hbm, ⟨30, _⟩ => ⟨S_, .i32⟩
  | .hbm, ⟨31, _⟩ => ⟨S288, .i32⟩
  | .hbm, ⟨32, _⟩ => ⟨S288, .i1⟩
  | .hbm, ⟨33, _⟩ => ⟨S_, .i32⟩
  | .hbm, ⟨34, _⟩ => ⟨S288, .i32⟩
  | .hbm, ⟨35, _⟩ => ⟨S288, .i32⟩
  | .hbm, ⟨36, _⟩ => ⟨S288, .i32⟩
  | .hbm, ⟨37, _⟩ => ⟨S288x1, .i32⟩
  | .hbm, ⟨38, _⟩ => ⟨S288x512x1024, .f32⟩
  | .hbm, ⟨39, _⟩ => ⟨S288x256x1024, .f32⟩
  | .hbm, ⟨40, _⟩ => ⟨S288x256x1, .f32⟩
  | .hbm, ⟨41, _⟩ => ⟨S288x256x1024, .f32⟩
  | .hbm, ⟨42, _⟩ => ⟨S288x256x1024, .f32⟩
  | .hbm, ⟨43, _⟩ => ⟨S288, .i32⟩
  | .hbm, ⟨44, _⟩ => ⟨S288x1x1, .i32⟩
  | .hbm, ⟨45, _⟩ => ⟨S_, .i32⟩
  | .hbm, ⟨46, _⟩ => ⟨S288x1x1, .i32⟩
  | .hbm, ⟨47, _⟩ => ⟨S288x1x1, .i1⟩
  | .hbm, ⟨48, _⟩ => ⟨S_, .f32⟩
  | .hbm, ⟨49, _⟩ => ⟨S_, .f32⟩
  | .hbm, ⟨50, _⟩ => ⟨S288x256x1024, .i1⟩
  | .hbm, ⟨51, _⟩ => ⟨S288x256x1024, .f32⟩
  | .hbm, ⟨52, _⟩ => ⟨S288x256x1024, .f32⟩
  | .hbm, ⟨53, _⟩ => ⟨S73728x1024, .f32⟩
  | .hbm, ⟨54, _⟩ => ⟨S73728x1024, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩

abbrev nD : Nat := 1
abbrev τ : Topo := Topo.v7x

variable {F : FTy → Type} [FloatOps F]
-- ==== RnnPre.lean ====
abbrev S16x2048x1024 : Shape := ⟨3, ![16, 2048, 1024]⟩
abbrev S16x6x1024 : Shape := ⟨3, ![16, 6, 1024]⟩
abbrev S1x1024 : Shape := ⟨2, ![1, 1024]⟩
abbrev S1024x2048 : Shape := ⟨2, ![1024, 2048]⟩
abbrev S1x256x1024 : Shape := ⟨3, ![1, 256, 1024]⟩
abbrev S1x6x1024 : Shape := ⟨3, ![1, 6, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x2048 : Shape := ⟨2, ![256, 2048]⟩

abbrev nBuf : Space → Nat
  | .hbm => 10
  | .vmem => 18
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .bf16⟩
  | .hbm, ⟨2, _⟩ => ⟨S16x2048x1024, .bf16⟩
  | .hbm, ⟨3, _⟩ => ⟨S16x6x1024, .f32⟩
  | .hbm, ⟨4, _⟩ => ⟨S16x6x1024, .f32⟩
  | .hbm, ⟨5, _⟩ => ⟨S1x1024, .f32⟩
  | .hbm, ⟨6, _⟩ => ⟨S1024x2048, .bf16⟩
  | .hbm, ⟨7, _⟩ => ⟨S16x2048x1024, .f32⟩
  | .hbm, ⟨8, _⟩ => ⟨S16x2048x1024, .bf16⟩
  | .hbm, ⟨9, _⟩ => ⟨S16x2048x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x6x1024, .f32⟩
  | .local _ .vmem, ⟨7, _⟩ => ⟨S1x6x1024, .f32⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1024x2048, .bf16⟩
  | .local _ .vmem, ⟨12, _⟩ => ⟨S1x256x1024, .f32⟩
  | .local _ .vmem, ⟨13, _⟩ => ⟨S1x256x1024, .f32⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== RnnPreRefIdeal.lean ====
abbrev S16x2048x1024 : Shape := ⟨3, ![16, 2048, 1024]⟩
abbrev S16x6x1024 : Shape := ⟨3, ![16, 6, 1024]⟩
abbrev S1x1024 : Shape := ⟨2, ![1, 1024]⟩
abbrev S1024x2048 : Shape := ⟨2, ![1024, 2048]⟩
abbrev S16x1x1024 : Shape := ⟨3, ![16, 1, 1024]⟩
abbrev S16x1024 : Shape := ⟨2, ![16, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2048 : Shape := ⟨3, ![16, 2048, 2048]⟩

abbrev nBuf : Space → Nat
  | .hbm => 69
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .bf16⟩
  | .hbm, ⟨2, _⟩ => ⟨S16x2048x1024, .bf16⟩
  | .hbm, ⟨3, _⟩ => ⟨S16x6x1024, .f32⟩
  | .hbm, ⟨4, _⟩ => ⟨S16x6x1024, .f32⟩
  | .hbm, ⟨5, _⟩ => ⟨S1x1024, .f32⟩
  | .hbm, ⟨6, _⟩ => ⟨S1024x2048, .bf16⟩
  | .hbm, ⟨7, _⟩ => ⟨S16x1x1024, .f32⟩
  | .hbm, ⟨8, _⟩ => ⟨S16x1024, .f32⟩
  | .hbm, ⟨9, _⟩ => ⟨S16x1x1024, .f32⟩
  | .hbm, ⟨10, _⟩ => ⟨S16x2048x1024, .f32⟩
  | .hbm, ⟨11, _⟩ => ⟨S16x2048x1024, .f32⟩
  | .hbm, ⟨12, _⟩ => ⟨S16x2048x1024, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S1024, .f32⟩
  | .hbm, ⟨17, _⟩ => ⟨S16x1x1024, .f32⟩
  | .hbm, ⟨18, _⟩ => ⟨S16x1024, .f32⟩
  | .hbm, ⟨19, _⟩ => ⟨S16x1x1024, .f32⟩
  | .hbm, ⟨20, _⟩ => ⟨S16x1024, .f32⟩
  | .hbm, ⟨21, _⟩ => ⟨S16x2048x1024, .f32⟩
  | .hbm, ⟨22, _⟩ => ⟨S_, .f32⟩
  | .hbm, ⟨23, _⟩ => ⟨S16x2048, .f32⟩
  | .hbm, ⟨24, _⟩ => ⟨S16x2048x1, .f32⟩
  | .hbm, ⟨25, _⟩ => ⟨S_, .f32⟩
  | .hbm, ⟨26, _⟩ => ⟨S16x2048x1, .f32⟩
  | .hbm, ⟨27, _⟩ => ⟨S16x2048x1, .f32⟩
  | .hbm, ⟨28, _⟩ => ⟨S_, .f32⟩
  | .hbm, ⟨29, _⟩ => ⟨S16x2048x1, .f32⟩
  | .hbm, ⟨30, _⟩ => ⟨S16x2048x1, .f32⟩
  | .hbm, ⟨31, _⟩ => ⟨S16x2048x1, .f32⟩
  | .hbm, ⟨32, _⟩ => ⟨S16x2048x1024, .f32⟩
  | .hbm, ⟨33, _⟩ => ⟨S16x2048x1024, .f32⟩
  | .hbm, ⟨34, _⟩ => ⟨S1x1x1024, .f32⟩
  | .hbm, ⟨35, _⟩ => ⟨S16x2048x1024, .f32⟩
  | .hbm, ⟨36, _⟩ => ⟨S16x2048x1024, .f32⟩
  | .hbm, ⟨37, _⟩ => ⟨S16x1x1024, .f32⟩
  | .hbm, ⟨38, _⟩ => ⟨S_, .f32⟩
  | .hbm, ⟨39, _⟩ => ⟨S16x1x1024, .f32⟩
  | .hbm, ⟨40, _⟩ => ⟨S16x1x1024, .f32⟩
  | .hbm, ⟨41, _⟩ => ⟨S16x2048x1024, .f32⟩
  | .hbm, ⟨42, _⟩ => ⟨S16x2048x1024, .f32⟩
  | .hbm, ⟨43, _⟩ => ⟨S16x1x1024, .f32⟩
  | .hbm, ⟨44, _⟩ => ⟨S16x2048x1024, .f32⟩
  | .hbm, ⟨45, _⟩ => ⟨S16x2048x1024, .f32⟩
  | .hbm, ⟨46, _⟩ => ⟨S1024x2048, .f32⟩
  | .hbm, ⟨47, _⟩ => ⟨S16x2048x2048, .f32⟩
  | .hbm, ⟨48, _⟩ => ⟨S16x2048x1024, .f32⟩
  | .hbm, ⟨49, _⟩ => ⟨S16x2048x1024, .f32⟩
  | .hbm, ⟨50, _⟩ => ⟨S16x2048x1024, .f32⟩
  | .hbm, ⟨51, _⟩ => ⟨S16x2048x1024, .f32⟩
  | .hbm, ⟨52, _⟩ => ⟨S_, .f32⟩
  | .hbm, ⟨53, _⟩ => ⟨S16x2048x1024, .f32⟩
  | .hbm, ⟨54, _⟩ => ⟨S16x2048x1024, .f32⟩
  | .hbm, ⟨55, _⟩ => ⟨S16x2048x1024, .f32⟩
  | .hbm, ⟨56, _⟩ => ⟨S_, .f32⟩
  | .hbm, ⟨57, _⟩ => ⟨S16x2048x1024, .f32⟩
  | .hbm, ⟨58, _⟩ => ⟨S16x2048x1024, .f32⟩
  | .hbm, ⟨59, _⟩ => ⟨S16x2048x1024, .f32⟩
  | .hbm, ⟨60, _⟩ => ⟨S_, .f32⟩
  | .hbm, ⟨61, _⟩ => ⟨S16x2048x1024, .f32⟩
  | .hbm, ⟨62, _⟩ => ⟨S16x2048x1024, .f32⟩
  | .hbm, ⟨63, _⟩ => ⟨S_, .f32⟩
  | .hbm, ⟨64, _⟩ => ⟨S16x2048x1024, .f32⟩
  | .hbm, ⟨65, _⟩ => ⟨S16x2048x1024, .f32⟩
  | .hbm, ⟨66, _⟩ => ⟨S16x2048x1024, .f32⟩
  | .hbm, ⟨67, _⟩ => ⟨S16x2048x1024, .bf16⟩
  | .hbm, ⟨68, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_4 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_5 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Final.lean ====
abbrev S16x2048x1024 : Shape := ⟨3, ![16, 2048, 1024]⟩
abbrev S16x6x1024 : Shape := ⟨3, ![16, 6, 1024]⟩
abbrev S1x256x1024 : Shape := ⟨3, ![1, 256, 1024]⟩
abbrev S1x6x1024 : Shape := ⟨3, ![1, 6, 1024]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .bf16⟩
  | .hbm, ⟨2, _⟩ => ⟨S16x2048x1024, .bf16⟩
  | .hbm, ⟨3, _⟩ => ⟨S16x6x1024, .f32⟩
  | .hbm, ⟨4, _⟩ => ⟨S16x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x6x1024, .f32⟩
  | .local _ .vmem, ⟨7, _⟩ => ⟨S1x6x1024, .f32⟩
  | .local _ .vmem, ⟨8, _⟩ => ⟨S1x256x1024, .f32⟩
  | .local _ .vmem, ⟨9, _⟩ => ⟨S1x256x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FinalRefIdeal.lean ====
abbrev S16x2048x1024 : Shape := ⟨3, ![16, 2048, 1024]⟩
abbrev S16x6x1024 : Shape := ⟨3, ![16, 6, 1024]⟩
abbrev S16x1x1024 : Shape := ⟨3, ![16, 1, 1024]⟩
abbrev S16x1024 : Shape := ⟨2, ![16, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .bf16⟩
  | .hbm, ⟨2, _⟩ => ⟨S16x2048x1024, .bf16⟩
  | .hbm, ⟨3, _⟩ => ⟨S16x6x1024, .f32⟩
  | .hbm, ⟨4, _⟩ => ⟨S16x1x1024, .f32⟩
  | .hbm, ⟨5, _⟩ => ⟨S16x1024, .f32⟩
  | .hbm, ⟨6, _⟩ => ⟨S16x1x1024, .f32⟩
  | .hbm, ⟨7, _⟩ => ⟨S16x2048x1024, .f32⟩
  | .hbm, ⟨8, _⟩ => ⟨S16x2048x1024, .f32⟩
  | .hbm, ⟨9, _⟩ => ⟨S16x2048x1024, .f32⟩
  | .hbm, ⟨10, _⟩ => ⟨S16x2048x1024, .f32⟩
  | .hbm, ⟨11, _⟩ => ⟨S16x2048x1024, .f32⟩
  | .hbm, ⟨12, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Ada.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S2x6144x16 : Shape := ⟨3, ![2, 6144, 16]⟩
abbrev S2x16x6144 : Shape := ⟨3, ![2, 16, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S2x6144x16, .f32⟩
  | .hbm, ⟨13, _⟩ => ⟨S2x16x6144, .f32⟩
  | .hbm, ⟨14, _⟩ => ⟨S2x1x6144, .f32⟩
  | .hbm, ⟨15, _⟩ => ⟨S2x16x6144, .f32⟩
  | .hbm, ⟨16, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Post.lean ====
abbrev S16x2048x1024 : Shape := ⟨3, ![16, 2048, 1024]⟩
abbrev S1024x1024 : Shape := ⟨2, ![1024, 1024]⟩
abbrev S16x6x1024 : Shape := ⟨3, ![16, 6, 1024]⟩
abbrev S1x1024 : Shape := ⟨2, ![1, 1024]⟩
abbrev S32x1024 : Shape := ⟨2, ![32, 1024]⟩
abbrev S32x1 : Shape := ⟨2, ![32, 1]⟩
abbrev S16x2x2048 : Shape := ⟨3, ![16, 2, 2048]⟩
abbrev S1x256x1024 : Shape := ⟨3, ![1, 256, 1024]⟩
abbrev S1x6x1024 : Shape := ⟨3, ![1, 6, 1024]⟩
abbrev S1x2x256 : Shape := ⟨3, ![1, 2, 256]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S32x256 : Shape := ⟨2, ![32, 256]⟩
abbrev S8x256 : Shape := ⟨2, ![8, 256]⟩
abbrev S1x256 : Shape := ⟨2, ![1, 256]⟩
abbrev S1x1x256 : Shape := ⟨3, ![1, 1, 256]⟩

abbrev nBuf : Space → Nat
  | .hbm => 11
  | .vmem => 18
  | .smem => 0
  | _ => 0

abbrev bufTy : (tb : Table) → Fin (tcTables nBuf tb) → BufTy
  | .hbm, ⟨0, _⟩ => ⟨S16x2048x1024, .bf16⟩
  | .hbm, ⟨1, _⟩ => ⟨S1024x1024, .bf16⟩
  | .hbm, ⟨2, _⟩ => ⟨S16x2048x1024, .f32⟩
  | .hbm, ⟨3, _⟩ => ⟨S16x6x1024, .f32⟩
  | .hbm, ⟨4, _⟩ => ⟨S1x1024, .f32⟩
  | .hbm, ⟨5, _⟩ => ⟨S32x1024, .f32⟩
  | .hbm, ⟨6, _⟩ => ⟨S32x1, .f32⟩
  | .hbm, ⟨7, _⟩ => ⟨S16x2048x1024, .f32⟩
  | .hbm, ⟨8, _⟩ => ⟨S16x2048x1024, .bf16⟩
  | .hbm, ⟨9, _⟩ => ⟨S16x2x2048, .i32⟩
  | .hbm, ⟨10, _⟩ => ⟨S16x2x2048, .f32⟩
  | .local _ .vmem, ⟨0, _⟩ => ⟨S1x256x1024, .bf16⟩
  | .local _ .vmem, ⟨1, _⟩ => ⟨S1x256x1024, .bf16⟩
  | .local _ .vmem, ⟨2, _⟩ => ⟨S1024x1024, .bf16⟩
  | .local _ .vmem, ⟨3, _⟩ => ⟨S1x256x1024, .f32⟩
  | .local _ .vmem, ⟨4, _⟩ => ⟨S1x256x1024, .f32⟩
  | .local _ .vmem, ⟨5, _⟩ => ⟨S1x6x1024, .f32⟩
  | .local _ .vmem, ⟨6, _⟩ => ⟨S1x6x1024, .f32⟩
  | .local _ .vmem, ⟨7, _⟩ => ⟨S1x1024, .f32⟩
  | .local _ .vmem, ⟨8, _⟩ => ⟨S32x1024, .f32⟩
  | .local _ .vmem, ⟨9, _⟩ => ⟨S32x1, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .bf16⟩
  | .local _ .vmem, ⟨13, _⟩ => ⟨S1x256x1024, .bf16⟩
  | .local _ .vmem, ⟨14, _⟩ => ⟨S1x2x256, .i32⟩
  | .local _ .vmem, ⟨15, _⟩ => ⟨S1x2x256, .i32⟩
  | .local _ .vmem, ⟨16, _⟩ => ⟨S1x2x256, .f32⟩
  | .local _ .vmem, ⟨17, _⟩ => ⟨S1x2x256, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x256 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== PostRefIdeal.lean ====
abbrev S16x2048x1024 : Shape := ⟨3, ![16, 2048, 1024]⟩
abbrev S1024x1024 : Shape := ⟨2, ![1024, 1024]⟩
abbrev S16x6x1024 : Shape := ⟨3, ![16, 6, 1024]⟩
abbrev S1x1024 : Shape := ⟨2, ![1, 1024]⟩
abbrev S32x1024 : Shape := ⟨2, ![32, 1024]⟩
abbrev S32x1 : Shape := ⟨2, ![32, 1]⟩
abbrev S16x1x1024 : Shape := ⟨3, ![16, 1, 1024]⟩
abbrev S16x1024 : Shape := ⟨2, ![16, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S4x8x1024 : Shape := ⟨3, ![4, 8, 1024]⟩
abbrev S1024x8x4 : Shape := ⟨3, ![1024, 8, 4]⟩
abbrev S1024x32 : Shape := ⟨2, ![1024, 32]⟩
abbrev S4x8 : Shape := ⟨2, ![4, 8]⟩
abbrev S8x4 : Shape := ⟨2, ![8, 4]⟩
abbrev S32 : Shape := ⟨1, ![32]⟩
abbrev S32768x1024 : Shape := ⟨2, ![32768, 1024]⟩
abbrev S32768x32 : Shape := ⟨2, ![32768, 32]⟩
abbrev S1x32 : Shape := ⟨2, ![1, 32]⟩
abbrev S32768x8x4 : Shape := ⟨3, ![32768, 8, 4]⟩
abbrev S32768x8x2 : Shape := ⟨3, ![32768, 8, 2]⟩
abbrev S32768x8 : Shape := ⟨2, ![32768, 8]⟩
abbrev S32768x1 : Shape := ⟨2, ![32768, 1]⟩
abbrev S32768 : Shape := ⟨1, ![32768]⟩
abbrev S32768x2 : Shape := ⟨2, ![32768, 2]⟩
abbrev S32768x2x1 : Shape := ⟨3, ![32768, 2, 1]⟩
abbrev S1 : Shape := ⟨1, ![1]⟩
abbrev S1x1x1 : Shape := ⟨3, ![1, 1, 1]⟩
abbrev S16x2048x2 : Shape := ⟨3, ![16, 2048, 2]⟩
abbrev S16x2x2048 : Shape := ⟨3, ![16, 2, 2048]⟩

abbrev nBuf : Space → Nat
  | .hbm => 135
  | .vmem => 0
  | .smem => 0
  | _ => 0

abbrev hbmTy0_0 (i : Nat) : BufTy := match i % 128 with
  | 0 => ⟨S16x2048x1024, .bf16⟩
  | 1 => ⟨S1024x1024, .bf16⟩
  | 2 => ⟨S16x2048x1024, .f32⟩
  | 3 => ⟨S16x6x1024, .f32⟩
  | 4 => ⟨S1x1024, .f32⟩
  | 5 => ⟨S32x1024, .f32⟩
  | 6 => ⟨S32x1, .f32⟩
  | 7 => ⟨S16x2048x1024, .f32⟩
  | 8 => ⟨S1024x1024, .f32⟩
  | 9 => ⟨S16x2048x1024, .f32⟩
  | 10 => ⟨S16x1x1024, .f32⟩
  | 11 => ⟨S16x1024, .f32⟩
  | 12 => ⟨S16x1x1024, .f32⟩
  | 13 => ⟨S16x2048x1024, .f32⟩
  | 14 => ⟨S16x2048x1024, .f32⟩
  | 15 => ⟨S16x2048x1024, .f32⟩
  | 16 => ⟨S1024, .f32⟩
  | 17 => ⟨S16x1x1024, .f32⟩
  | 18 => ⟨S16x1024, .f32⟩
  | 19 => ⟨S16x1x1024, .f32⟩
  | 20 => ⟨S16x1024, .f32⟩
  | 21 => ⟨S16x2048x1024, .f32⟩
  | 22 => ⟨S_, .f32⟩
  | 23 => ⟨S16x2048, .f32⟩
  | 24 => ⟨S16x2048x1, .f32⟩
  | 25 => ⟨S_, .f32⟩
  | 26 => ⟨S16x2048x1, .f32⟩
  | 27 => ⟨S16x2048x1, .f32⟩
  | 28 => ⟨S_, .f32⟩
  | 29 => ⟨S16x2048x1, .f32⟩
  | 30 => ⟨S16x2048x1, .f32⟩
  | 31 => ⟨S16x2048x1, .f32⟩
  | 32 => ⟨S16x2048x1024, .f32⟩
  | 33 => ⟨S16x2048x1024, .f32⟩
  | 34 => ⟨S1x1x1024, .f32⟩
  | 35 => ⟨S16x2048x1024, .f32⟩
  | 36 => ⟨S16x2048x1024, .f32⟩
  | 37 => ⟨S16x1x1024, .f32⟩
  | 38 => ⟨S_, .f32⟩
  | 39 => ⟨S16x1x1024, .f32⟩
  | 40 => ⟨S16x1x1024, .f32⟩
  | 41 => ⟨S16x2048x1024, .f32⟩
  | 42 => ⟨S16x2048x1024, .f32⟩
  | 43 => ⟨S16x1x1024, .f32⟩
  | 44 => ⟨S16x2048x1024, .f32⟩
  | 45 => ⟨S16x2048x1024, .f32⟩
  | 46 => ⟨S4x8x1024, .f32⟩
  | 47 => ⟨S1024x8x4, .f32⟩
  | 48 => ⟨S1024x32, .f32⟩
  | 49 => ⟨S4x8, .f32⟩
  | 50 => ⟨S8x4, .f32⟩
  | 51 => ⟨S32, .f32⟩
  | 52 => ⟨S32768x1024, .f32⟩
  | 53 => ⟨S32768x32, .f32⟩
  | 54 => ⟨S32768x32, .f32⟩
  | 55 => ⟨S32768x32, .f32⟩
  | 56 => ⟨S_, .f32⟩
  | 57 => ⟨S32768x32, .f32⟩
  | 58 => ⟨S32768x32, .f32⟩
  | 59 => ⟨S_, .f32⟩
  | 60 => ⟨S32768x32, .f32⟩
  | 61 => ⟨S32768x32, .f32⟩
  | 62 => ⟨S1x32, .f32⟩
  | 63 => ⟨S32768x32, .f32⟩
  | 64 => ⟨S32768x32, .f32⟩
  | 65 => ⟨S32768x8x4, .f32⟩
  | 66 => ⟨S32768x8x2, .f32⟩
  | 67 => ⟨S32768x8x2, .i32⟩
  | 68 => ⟨S_, .f32⟩
  | 69 => ⟨S32768x8, .f32⟩
  | 70 => ⟨S32768x1, .f32⟩
  | 71 => ⟨S32768x1, .i32⟩
  | 72 => ⟨S32768, .i32⟩
  | 73 => ⟨S32, .i32⟩
  | 74 => ⟨S_, .i32⟩
  | 75 => ⟨S_, .i32⟩
  | 76 => ⟨S32, .i32⟩
  | 77 => ⟨S32, .i32⟩
  | 78 => ⟨S32, .i32⟩
  | 79 => ⟨S_, .i32⟩
  | 80 => ⟨S32, .i32⟩
  | 81 => ⟨S32, .i1⟩
  | 82 => ⟨S32, .i32⟩
  | 83 => ⟨S32, .i32⟩
  | 84 => ⟨S_, .i32⟩
  | 85 => ⟨S32, .i32⟩
  | 86 => ⟨S32, .i1⟩
  | 87 => ⟨S32, .i1⟩
  | 88 => ⟨S_, .i32⟩
  | 89 => ⟨S32, .i32⟩
  | 90 => ⟨S32, .i32⟩
  | 91 => ⟨S32, .i32⟩
  | 92 => ⟨S1x32, .i32⟩
  | 93 => ⟨S32768x1, .i32⟩
  | 94 => ⟨S32768x32, .i32⟩
  | 95 => ⟨S32768x32, .i32⟩
  | 96 => ⟨S32768x32, .i1⟩
  | 97 => ⟨S_, .f32⟩
  | 98 => ⟨S_, .f32⟩
  | 99 => ⟨S32768x32, .f32⟩
  | 100 => ⟨S32768x32, .f32⟩
  | 101 => ⟨S32768x2, .f32⟩
  | 102 => ⟨S32768x2, .i32⟩
  | 103 => ⟨S_, .i32⟩
  | 104 => ⟨S32768x2, .i32⟩
  | 105 => ⟨S32768x2, .i1⟩
  | 106 => ⟨S_, .i32⟩
  | 107 => ⟨S32768x2, .i32⟩
  | 108 => ⟨S32768x2, .i32⟩
  | 109 => ⟨S32768x2, .i32⟩
  | 110 => ⟨S32768x2x1, .i32⟩
  | 111 => ⟨S1, .i32⟩
  | 112 => ⟨S_, .i32⟩
  | 113 => ⟨S32768x2x1, .i32⟩
  | 114 => ⟨S32768x2x1, .i1⟩
  | 115 => ⟨S1x1x1, .i32⟩
  | 116 => ⟨S32768x2x1, .i32⟩
  | 117 => ⟨S32768x2x1, .i1⟩
  | 118 => ⟨S32768x2x1, .i1⟩
  | 119 => ⟨S_, .i1⟩
  | 120 => ⟨S32768x2, .i1⟩
  | 121 => ⟨S32768x2, .f32⟩
  | 122 => ⟨S_, .f32⟩
  | 123 => ⟨S32768x2, .f32⟩
  | 124 => ⟨S32768x2, .f32⟩
  | 125 => ⟨S_, .f32⟩
  | 126 => ⟨S32768, .f32⟩
  | 127 => ⟨S32768x1, .f32⟩
  | _ => ⟨S16x2048x1024, .bf16⟩

abbrev hbmTy0_1 (i : Nat) : BufTy := match i % 128 with
  | 0 => ⟨S32768x2, .f32⟩
  | 1 => ⟨S32768x2, .f32⟩
  | 2 => ⟨S16x2048x1024, .bf16⟩
  | 3 => ⟨S16x2048x2, .i32⟩
  | 4 => ⟨S16x2x2048, .i32⟩
  | 5 => ⟨S16x2048x2, .f32⟩
  | 6 => ⟨S16x2x2048, .f32⟩
  | _ => ⟨S16x2048x1024, .bf16⟩

abbrev hbmTy (i : Nat) : BufTy := match i / 128 with
  | 0 => hbmTy0_0 i
  | 1 => hbmTy0_1 i
  | _ => ⟨S16x2048x1024, .bf16⟩

abbrev bufTy : (tb : Table) → Fin (tcTables nBuf tb) → BufTy
  | .hbm, ⟨i, _⟩ => hbmTy i
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_3 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_values : Ref sig .tc := ⟨.hbm, 66, rfl⟩
abbrev main_indices : Ref sig .tc := ⟨.hbm, 67, rfl⟩
abbrev main_cst_5 : Ref sig .tc := ⟨.hbm, 68, rfl⟩
abbrev main_v53 : Ref sig .tc := ⟨.hbm, 69, rfl⟩
abbrev main_values_6 : Ref sig .tc := ⟨.hbm, 70, rfl⟩
abbrev main_indices_7 : Ref sig .tc := ⟨.hbm, 71, rfl⟩
abbrev main_v54 : Ref sig .tc := ⟨.hbm, 72, rfl⟩
abbrev main_v55 : Ref sig .tc := ⟨.hbm, 73, rfl⟩
abbrev main_c : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_v5 : Ref sig .tc := ⟨.hbm, 80, rfl⟩
abbrev main_call0_v6 : Ref sig .tc := ⟨.hbm, 81, rfl⟩
abbrev main_call0_v7 : Ref sig .tc := ⟨.hbm, 82, rfl⟩
abbrev main_call0_v8 : Ref sig .tc := ⟨.hbm, 83, rfl⟩
abbrev main_call0_c : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_call0_c_0 : Ref sig .tc := ⟨.hbm, 88, rfl⟩
abbrev main_call0_v12 : Ref sig .tc := ⟨.hbm, 89, rfl⟩
abbrev main_call0_v13 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_8 : Ref sig .tc := ⟨.hbm, 97, rfl⟩
abbrev main_call1_v0 : Ref sig .tc := ⟨.hbm, 98, rfl⟩
abbrev main_call1_v1 : Ref sig .tc := ⟨.hbm, 99, rfl⟩
abbrev main_v62 : Ref sig .tc := ⟨.hbm, 100, rfl⟩
abbrev main_values_9 : Ref sig .tc := ⟨.hbm, 101, rfl⟩
abbrev main_indices_10 : Ref sig .tc := ⟨.hbm, 102, rfl⟩
abbrev main_call2_c : Ref sig .tc := ⟨.hbm, 103, rfl⟩
abbrev main_call2_v0 : Ref sig .tc := ⟨.hbm, 104, rfl⟩
abbrev main_call2_v1 : Ref sig .tc := ⟨.hbm, 105, rfl⟩
abbrev main_call2_c_0 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_v5 : Ref sig .tc := ⟨.hbm, 110, rfl⟩
abbrev main_call2_c_1 : Ref sig .tc := ⟨.hbm, 111, rfl⟩
abbrev main_call2_c_2 : Ref sig .tc := ⟨.hbm, 112, rfl⟩
abbrev main_call2_v6 : Ref sig .tc := ⟨.hbm, 113, rfl⟩
abbrev main_call2_v7 : Ref sig .tc := ⟨.hbm, 114, rfl⟩
abbrev main_call2_v8 : Ref sig .tc := ⟨.hbm, 115, rfl⟩
abbrev main_call2_v9 : Ref sig .tc := ⟨.hbm, 116, rfl⟩
abbrev main_call2_v10 : Ref sig .tc := ⟨.hbm, 117, rfl⟩
abbrev main_call2_v11 : Ref sig .tc := ⟨.hbm, 118, rfl⟩
abbrev main_call2_c_3 : Ref sig .tc := ⟨.hbm, 119, rfl⟩
abbrev main_call2_v12 : Ref sig .tc := ⟨.hbm, 120, rfl⟩
abbrev main_call2_v13 : Ref sig .tc := ⟨.hbm, 121, rfl⟩
abbrev main_call2_cst : Ref sig .tc := ⟨.hbm, 122, rfl⟩
abbrev main_call2_v14 : Ref sig .tc := ⟨.hbm, 123, rfl⟩
abbrev main_v63 : Ref sig .tc := ⟨.hbm, 124, rfl⟩
abbrev main_cst_11 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩

abbrev nD : Nat := 1
abbrev τ : Topo := Topo.v7x

variable {F : FTy → Type} [FloatOps F]
-- ==== MlaPre.lean ====
abbrev S16x2048x1024 : Shape := ⟨3, ![16, 2048, 1024]⟩
abbrev S16x6x1024 : Shape := ⟨3, ![16, 6, 1024]⟩
abbrev S1x1024 : Shape := ⟨2, ![1, 1024]⟩
abbrev S16x2048 : Shape := ⟨2, ![16, 2048]⟩
abbrev S1024x672 : Shape := ⟨2, ![1024, 672]⟩
abbrev S1x384 : Shape := ⟨2, ![1, 384]⟩
abbrev S1x256 : Shape := ⟨2, ![1, 256]⟩
abbrev S384x1536 : Shape := ⟨2, ![384, 1536]⟩
abbrev S256x2048 : Shape := ⟨2, ![256, 2048]⟩
abbrev S96 : Shape := ⟨1, ![96]⟩
abbrev S16 : Shape := ⟨1, ![16]⟩
abbrev S_ : Shape := ⟨0, ![]⟩
abbrev S1x128 : Shape := ⟨2, ![1, 128]⟩
abbrev S1 : Shape := ⟨1, ![1]⟩
abbrev S2 : Shape := ⟨1, ![2]⟩
abbrev S1024x128 : Shape := ⟨2, ![1024, 128]⟩
abbrev S1024x32 : Shape := ⟨2, ![1024, 32]⟩
abbrev S1024x640 : Shape := ⟨2, ![1024, 640]⟩
abbrev S1024x768 : Shape := ⟨2, ![1024, 768]⟩
abbrev S384x16x96 : Shape := ⟨3, ![384, 16, 96]⟩
abbrev S384x16x128 : Shape := ⟨3, ![384, 16, 128]⟩
abbrev S384x2048 : Shape := ⟨2, ![384, 2048]⟩
abbrev S256x16x128 : Shape := ⟨3, ![256, 16, 128]⟩
abbrev S256x16x64 : Shape := ⟨3, ![256, 16, 64]⟩
abbrev S256x1024 : Shape := ⟨2, ![256, 1024]⟩
abbrev S128 : Shape := ⟨1, ![128]⟩
abbrev S16x2048x1 : Shape := ⟨3, ![16, 2048, 1]⟩
abbrev S16x16x2048x128 : Shape := ⟨4, ![16, 16, 2048, 128]⟩
abbrev S16x8x2048x128 : Shape := ⟨4, ![16, 8, 2048, 128]⟩
abbrev S1x256x1024 : Shape := ⟨3, ![1, 256, 1024]⟩
abbrev S1x6x1024 : Shape := ⟨3, ![1, 6, 1024]⟩
abbrev S1x256x1 : Shape := ⟨3, ![1, 256, 1]⟩
abbrev S1x16x256x128 : Shape := ⟨4, ![1, 16, 256, 128]⟩
abbrev S1x8x256x128 : Shape := ⟨4, ![1, 8, 256, 128]⟩
abbrev S256 : Shape := ⟨1, ![256]⟩
abbrev S256x1 : Shape := ⟨2, ![256, 1]⟩
abbrev S1x1x1024 : Shape := ⟨3, ![1, 1, 1024]⟩
abbrev S256x768 : Shape := ⟨2, ![256, 768]⟩
abbrev S256x384 : Shape := ⟨2, ![256, 384]⟩
abbrev S256x256 : Shape := ⟨2, ![256, 256]⟩
abbrev S256x128 : Shape := ⟨2, ![256, 128]⟩
abbrev S1x1x256x128 : Shape := ⟨4, ![1, 1, 256, 128]⟩

abbrev nBuf : Space → Nat
  | .hbm => 75
  | .vmem => 22
  | .smem => 0
  | _ => 0

abbrev bufTy : (tb : Table) → Fin (tcTables nBuf tb) → BufTy
  | .hbm, ⟨0, _⟩ => ⟨S16x2048x1024, .f32⟩
  | .hbm, ⟨1, _⟩ => ⟨S16x6x1024, .f32⟩
  | .hbm, ⟨2, _⟩ => ⟨S1x1024, .f32⟩
  | .hbm, ⟨3, _⟩ => ⟨S16x2048, .i32⟩
  | .hbm, ⟨4, _⟩ => ⟨S1024x672, .f32⟩
  | .hbm, ⟨5, _⟩ => ⟨S1x384, .f32⟩
  | .hbm, ⟨6, _⟩ => ⟨S1x256, .f32⟩
  | .hbm, ⟨7, _⟩ => ⟨S384x1536, .f32⟩
  | .hbm, ⟨8, _⟩ => ⟨S256x2048, .f32⟩
  | .hbm, ⟨9, _⟩ => ⟨S96, .f32⟩
  | .hbm, ⟨10, _⟩ => ⟨S96, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S1x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S1x128, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S1x128, .f32⟩
  | .hbm, ⟨33, _⟩ => ⟨S_, .f32⟩
  | .hbm, ⟨34, _⟩ => ⟨S1024x128, .f32⟩
  | .hbm, ⟨35, _⟩ => ⟨S1024x32, .f32⟩
  | .hbm, ⟨36, _⟩ => ⟨S_, .i32⟩
  | .hbm, ⟨37, _⟩ => ⟨S1, .i32⟩
  | .hbm, ⟨38, _⟩ => ⟨S1024x128, .f32⟩
  | .hbm, ⟨39, _⟩ => ⟨S1024x640, .f32⟩
  | .hbm, ⟨40, _⟩ => ⟨S1024x768, .f32⟩
  | .hbm, ⟨41, _⟩ => ⟨S1024x768, .bf16⟩
  | .hbm, ⟨42, _⟩ => ⟨S384x16x96, .f32⟩
  | .hbm, ⟨43, _⟩ => ⟨S_, .i32⟩
  | .hbm, ⟨44, _⟩ => ⟨S_, .f32⟩
  | .hbm, ⟨45, _⟩ => ⟨S384x16x128, .f32⟩
  | .hbm, ⟨46, _⟩ => ⟨S384x2048, .f32⟩
  | .hbm, ⟨47, _⟩ => ⟨S384x2048, .bf16⟩
  | .hbm, ⟨48, _⟩ => ⟨S256x16x128, .f32⟩
  | .hbm, ⟨49, _⟩ => ⟨S256x16x64, .f32⟩
  | .hbm, ⟨50, _⟩ => ⟨S256x1024, .f32⟩
  | .hbm, ⟨51, _⟩ => ⟨S256x16x64, .f32⟩
  | .hbm, ⟨52, _⟩ => ⟨S_, .i32⟩
  | .hbm, ⟨53, _⟩ => ⟨S_, .f32⟩
  | .hbm, ⟨54, _⟩ => ⟨S256x16x128, .f32⟩
  | .hbm, ⟨55, _⟩ => ⟨S256x2048, .f32⟩
  | .hbm, ⟨56, _⟩ => ⟨S256x2048, .bf16⟩
  | .hbm, ⟨57, _⟩ => ⟨S256x16x64, .f32⟩
  | .hbm, ⟨58, _⟩ => ⟨S256x1024, .f32⟩
  | .hbm, ⟨59, _⟩ => ⟨S256x1024, .bf16⟩
  | .hbm, ⟨60, _⟩ => ⟨S_, .f32⟩
  | .hbm, ⟨61, _⟩ => ⟨S96, .f32⟩
  | .hbm, ⟨62, _⟩ => ⟨S96, .f32⟩
  | .hbm, ⟨63, _⟩ => ⟨S_, .i32⟩
  | .hbm, ⟨64, _⟩ => ⟨S_, .f32⟩
  | .hbm, ⟨65, _⟩ => ⟨S128, .f32⟩
  | .hbm, ⟨66, _⟩ => ⟨S1x128, .f32⟩
  | .hbm, ⟨67, _⟩ => ⟨S_, .i32⟩
  | .hbm, ⟨68, _⟩ => ⟨S_, .f32⟩
  | .hbm, ⟨69, _⟩ => ⟨S128, .f32⟩
  | .hbm, ⟨70, _⟩ => ⟨S1x128, .f32⟩
  | .hbm, ⟨71, _⟩ => ⟨S16x2048x1, .i32⟩
  | .hbm, ⟨72, _⟩ => ⟨S16x16x2048x128, .bf16⟩
  | .hbm, ⟨73, _⟩ => ⟨S16x16x2048x128, .bf16⟩
  | .hbm, ⟨74, _⟩ => ⟨S16x8x2048x128, .bf16⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x256x1, .i32⟩
  | .local _ .vmem, ⟨6, _⟩ => ⟨S1x256x1, .i32⟩
  | .local _ .vmem, ⟨7, _⟩ => ⟨S1x128, .f32⟩
  | .local _ .vmem, ⟨8, _⟩ => ⟨S1024x768, .bf16⟩
  | .local _ .vmem, ⟨9, _⟩ => ⟨S1x384, .f32⟩
  | .local _ .vmem, ⟨10, _⟩ => ⟨S1x256, .f32⟩
  | .local _ .vmem, ⟨11, _⟩ => ⟨S384x2048, .bf16⟩
  | .local _ .vmem, ⟨12, _⟩ => ⟨S256x2048, .bf16⟩
  | .local _ .vmem, ⟨13, _⟩ => ⟨S256x1024, .bf16⟩
  | .local _ .vmem, ⟨14, _⟩ => ⟨S1x128, .f32⟩
  | .local _ .vmem, ⟨15, _⟩ => ⟨S1x128, .f32⟩
  | .local _ .vmem, ⟨16, _⟩ => ⟨S1x16x256x128, .bf16⟩
  | .local _ .vmem, ⟨17, _⟩ => ⟨S1x16x256x128, .bf16⟩
  | .local _ .vmem, ⟨18, _⟩ => ⟨S1x16x256x128, .bf16⟩
  | .local _ .vmem, ⟨19, _⟩ => ⟨S1x16x256x128, .bf16⟩
  | .local _ .vmem, ⟨20, _⟩ => ⟨S1x8x256x128, .bf16⟩
  | .local _ .vmem, ⟨21, _⟩ => ⟨S1x8x256x128, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_c : Ref sig .tc := ⟨.hbm, 21, rfl⟩
abbrev main_v7 : Ref sig .tc := ⟨.hbm, 22, rfl⟩
abbrev main_c_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_3 : Ref sig .tc := ⟨.hbm, 27, rfl⟩
abbrev main_v11 : Ref sig .tc := ⟨.hbm, 28, rfl⟩
abbrev main_c_4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_5 : Ref sig .tc := ⟨.hbm, 33, rfl⟩
abbrev main_v15 : Ref sig .tc := ⟨.hbm, 34, rfl⟩
abbrev main_v16 : Ref sig .tc := ⟨.hbm, 35, rfl⟩
abbrev main_c_6 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_7 : Ref sig .tc := ⟨.hbm, 43, rfl⟩
abbrev main_call0_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_8 : Ref sig .tc := ⟨.hbm, 52, rfl⟩
abbrev main_call1_v0 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_9 : Ref sig .tc := ⟨.hbm, 60, rfl⟩
abbrev main_v36 : Ref sig .tc := ⟨.hbm, 61, rfl⟩
abbrev main_v37 : Ref sig .tc := ⟨.hbm, 62, rfl⟩
abbrev main_c_10 : Ref sig .tc := ⟨.hbm, 63, rfl⟩
abbrev main_call2_v0 : Ref sig .tc := ⟨.hbm, 64, rfl⟩
abbrev main_v38 : Ref sig .tc := ⟨.hbm, 65, rfl⟩
abbrev main_v39 : Ref sig .tc := ⟨.hbm, 66, rfl⟩
abbrev main_c_11 : Ref sig .tc := ⟨.hbm, 67, rfl⟩
abbrev main_call3_v0 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43_0 : Ref sig .tc := ⟨.hbm, 72, rfl⟩
abbrev main_v43_1 : Ref sig .tc := ⟨.hbm, 73, rfl⟩
abbrev main_v43_2 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S384x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x16x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x16x256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MlaPreIdeal.lean ====
variable {F : FTy → Type} [FloatOps F] [Named F]
def κ : String → Option EReal := fun
  | "inv_qk" => some ((1 / 96 : ℝ) : EReal)
  | _ => none
-- ==== MlaPreRefIdeal.lean ====
abbrev S16x2048x1024 : Shape := ⟨3, ![16, 2048, 1024]⟩
abbrev S16x6x1024 : Shape := ⟨3, ![16, 6, 1024]⟩
abbrev S1x1024 : Shape := ⟨2, ![1, 1024]⟩
abbrev S16x2048 : Shape := ⟨2, ![16, 2048]⟩
abbrev S1024x672 : Shape := ⟨2, ![1024, 672]⟩
abbrev S1x384 : Shape := ⟨2, ![1, 384]⟩
abbrev S1x256 : Shape := ⟨2, ![1, 256]⟩
abbrev S384x1536 : Shape := ⟨2, ![384, 1536]⟩
abbrev S256x2048 : Shape := ⟨2, ![256, 2048]⟩
abbrev S96 : Shape := ⟨1, ![96]⟩
abbrev S16 : Shape := ⟨1, ![16]⟩
abbrev S_ : Shape := ⟨0, ![]⟩
abbrev S16x2048x1 : Shape := ⟨3, ![16, 2048, 1]⟩
abbrev S1x1x16 : Shape := ⟨3, ![1, 1, 16]⟩
abbrev S16x2048x16 : Shape := ⟨3, ![16, 2048, 16]⟩
abbrev S16x2048x1x16 : Shape := ⟨4, ![16, 2048, 1, 16]⟩
abbrev S1024 : Shape := ⟨1, ![1024]⟩
abbrev S16x1x1024 : Shape := ⟨3, ![16, 1, 1024]⟩
abbrev S16x1024 : Shape := ⟨2, ![16, 1024]⟩
abbrev S1x1x1024 : Shape := ⟨3, ![1, 1, 1024]⟩
abbrev S16x2048x672 : Shape := ⟨3, ![16, 2048, 672]⟩
abbrev S16x2048x384 : Shape := ⟨3, ![16, 2048, 384]⟩
abbrev S16x2048x256 : Shape := ⟨3, ![16, 2048, 256]⟩
abbrev S16x2048x32 : Shape := ⟨3, ![16, 2048, 32]⟩
abbrev S384 : Shape := ⟨1, ![384]⟩
abbrev S1x1x384 : Shape := ⟨3, ![1, 1, 384]⟩
abbrev S16x2048x1536 : Shape := ⟨3, ![16, 2048, 1536]⟩
abbrev S16x2048x16x96 : Shape := ⟨4, ![16, 2048, 16, 96]⟩
abbrev S256 : Shape := ⟨1, ![256]⟩
abbrev S1x1x256 : Shape := ⟨3, ![1, 1, 256]⟩
abbrev S16x2048x2048 : Shape := ⟨3, ![16, 2048, 2048]⟩
abbrev S16x2048x16x128 : Shape := ⟨4, ![16, 2048, 16, 128]⟩
abbrev S16x2048x16x64 : Shape := ⟨4, ![16, 2048, 16, 64]⟩
abbrev S16x2048x1x32 : Shape := ⟨4, ![16, 2048, 1, 32]⟩
abbrev S16x2048x16x32 : Shape := ⟨4, ![16, 2048, 16, 32]⟩
abbrev S16x2048x16x1 : Shape := ⟨4, ![16, 2048, 16, 1]⟩
abbrev S1x1x1x96 : Shape := ⟨4, ![1, 1, 1, 96]⟩
abbrev S16x2048x16x16 : Shape := ⟨4, ![16, 2048, 16, 16]⟩
abbrev S16x2048x8x128 : Shape := ⟨4, ![16, 2048, 8, 128]⟩
abbrev S16x8x2048x128 : Shape := ⟨4, ![16, 8, 2048, 128]⟩
abbrev S16x16x2048x96 : Shape := ⟨4, ![16, 16, 2048, 96]⟩
abbrev S16x16x2048x128 : Shape := ⟨4, ![16, 16, 2048, 128]⟩

abbrev nBuf : Space → Nat
  | .hbm => 186
  | .vmem => 0
  | .smem => 0
  | _ => 0

abbrev hbmTy0_0 (i : Nat) : BufTy := match i % 128 with
  | 0 => ⟨S16x2048x1024, .f32⟩
  | 1 => ⟨S16x6x1024, .f32⟩
  | 2 => ⟨S1x1024, .f32⟩
  | 3 => ⟨S16x2048, .i32⟩
  | 4 => ⟨S1024x672, .f32⟩
  | 5 => ⟨S1x384, .f32⟩
  | 6 => ⟨S1x256, .f32⟩
  | 7 => ⟨S384x1536, .f32⟩
  | 8 => ⟨S256x2048, .f32⟩
  | 9 => ⟨S96, .f32⟩
  | 10 => ⟨S96, .f32⟩
  | 11 => ⟨S16, .f32⟩
  | 12 => ⟨S16, .f32⟩
  | 13 => ⟨S_, .f32⟩
  | 14 => ⟨S16, .f32⟩
  | 15 => ⟨S16, .f32⟩
  | 16 => ⟨S_, .f32⟩
  | 17 => ⟨S16, .f32⟩
  | 18 => ⟨S16, .f32⟩
  | 19 => ⟨S16x2048, .f32⟩
  | 20 => ⟨S16x2048x1, .f32⟩
  | 21 => ⟨S1x1x16, .f32⟩
  | 22 => ⟨S16x2048x16, .f32⟩
  | 23 => ⟨S16x2048x16, .f32⟩
  | 24 => ⟨S16x2048x16, .f32⟩
  | 25 => ⟨S16x2048x16, .f32⟩
  | 26 => ⟨S16x2048x1x16, .f32⟩
  | 27 => ⟨S16x2048x16, .f32⟩
  | 28 => ⟨S16x2048x1x16, .f32⟩
  | 29 => ⟨S1024, .f32⟩
  | 30 => ⟨S16x1x1024, .f32⟩
  | 31 => ⟨S16x1024, .f32⟩
  | 32 => ⟨S16x1x1024, .f32⟩
  | 33 => ⟨S16x1024, .f32⟩
  | 34 => ⟨S16x2048x1024, .f32⟩
  | 35 => ⟨S_, .f32⟩
  | 36 => ⟨S16x2048, .f32⟩
  | 37 => ⟨S16x2048x1, .f32⟩
  | 38 => ⟨S_, .f32⟩
  | 39 => ⟨S16x2048x1, .f32⟩
  | 40 => ⟨S16x2048x1, .f32⟩
  | 41 => ⟨S_, .f32⟩
  | 42 => ⟨S16x2048x1, .f32⟩
  | 43 => ⟨S16x2048x1, .f32⟩
  | 44 => ⟨S16x2048x1, .f32⟩
  | 45 => ⟨S16x2048x1024, .f32⟩
  | 46 => ⟨S16x2048x1024, .f32⟩
  | 47 => ⟨S1x1x1024, .f32⟩
  | 48 => ⟨S16x2048x1024, .f32⟩
  | 49 => ⟨S16x2048x1024, .f32⟩
  | 50 => ⟨S16x1x1024, .f32⟩
  | 51 => ⟨S_, .f32⟩
  | 52 => ⟨S16x1x1024, .f32⟩
  | 53 => ⟨S16x1x1024, .f32⟩
  | 54 => ⟨S16x2048x1024, .f32⟩
  | 55 => ⟨S16x2048x1024, .f32⟩
  | 56 => ⟨S16x1x1024, .f32⟩
  | 57 => ⟨S16x2048x1024, .f32⟩
  | 58 => ⟨S16x2048x1024, .f32⟩
  | 59 => ⟨S16x2048x672, .f32⟩
  | 60 => ⟨S16x2048x384, .f32⟩
  | 61 => ⟨S16x2048x256, .f32⟩
  | 62 => ⟨S16x2048x32, .f32⟩
  | 63 => ⟨S384, .f32⟩
  | 64 => ⟨S16x2048x384, .f32⟩
  | 65 => ⟨S_, .f32⟩
  | 66 => ⟨S16x2048, .f32⟩
  | 67 => ⟨S16x2048x1, .f32⟩
  | 68 => ⟨S_, .f32⟩
  | 69 => ⟨S16x2048x1, .f32⟩
  | 70 => ⟨S16x2048x1, .f32⟩
  | 71 => ⟨S_, .f32⟩
  | 72 => ⟨S16x2048x1, .f32⟩
  | 73 => ⟨S16x2048x1, .f32⟩
  | 74 => ⟨S16x2048x1, .f32⟩
  | 75 => ⟨S16x2048x384, .f32⟩
  | 76 => ⟨S16x2048x384, .f32⟩
  | 77 => ⟨S1x1x384, .f32⟩
  | 78 => ⟨S16x2048x384, .f32⟩
  | 79 => ⟨S16x2048x384, .f32⟩
  | 80 => ⟨S16x2048x1536, .f32⟩
  | 81 => ⟨S16x2048x16x96, .f32⟩
  | 82 => ⟨S256, .f32⟩
  | 83 => ⟨S16x2048x256, .f32⟩
  | 84 => ⟨S_, .f32⟩
  | 85 => ⟨S16x2048, .f32⟩
  | 86 => ⟨S16x2048x1, .f32⟩
  | 87 => ⟨S_, .f32⟩
  | 88 => ⟨S16x2048x1, .f32⟩
  | 89 => ⟨S16x2048x1, .f32⟩
  | 90 => ⟨S_, .f32⟩
  | 91 => ⟨S16x2048x1, .f32⟩
  | 92 => ⟨S16x2048x1, .f32⟩
  | 93 => ⟨S16x2048x1, .f32⟩
  | 94 => ⟨S16x2048x256, .f32⟩
  | 95 => ⟨S16x2048x256, .f32⟩
  | 96 => ⟨S1x1x256, .f32⟩
  | 97 => ⟨S16x2048x256, .f32⟩
  | 98 => ⟨S16x2048x256, .f32⟩
  | 99 => ⟨S16x2048x2048, .f32⟩
  | 100 => ⟨S16x2048x16x128, .f32⟩
  | 101 => ⟨S16x2048x16x64, .f32⟩
  | 102 => ⟨S16x2048x16x64, .f32⟩
  | 103 => ⟨S16x2048x1x32, .f32⟩
  | 104 => ⟨S16x2048x16x32, .f32⟩
  | 105 => ⟨S16x2048x16x96, .f32⟩
  | 106 => ⟨S16x2048x16x96, .f32⟩
  | 107 => ⟨S_, .f32⟩
  | 108 => ⟨S16x2048x16, .f32⟩
  | 109 => ⟨S16x2048x16x1, .f32⟩
  | 110 => ⟨S_, .f32⟩
  | 111 => ⟨S16x2048x16x1, .f32⟩
  | 112 => ⟨S16x2048x16x1, .f32⟩
  | 113 => ⟨S_, .f32⟩
  | 114 => ⟨S16x2048x16x1, .f32⟩
  | 115 => ⟨S16x2048x16x1, .f32⟩
  | 116 => ⟨S16x2048x16x1, .f32⟩
  | 117 => ⟨S16x2048x16x96, .f32⟩
  | 118 => ⟨S16x2048x16x96, .f32⟩
  | 119 => ⟨S1x1x1x96, .f32⟩
  | 120 => ⟨S16x2048x16x96, .f32⟩
  | 121 => ⟨S16x2048x16x96, .f32⟩
  | 122 => ⟨S16x2048x16x96, .f32⟩
  | 123 => ⟨S_, .f32⟩
  | 124 => ⟨S16x2048x16, .f32⟩
  | 125 => ⟨S16x2048x16x1, .f32⟩
  | 126 => ⟨S_, .f32⟩
  | 127 => ⟨S16x2048x16x1, .f32⟩
  | _ => ⟨S16x2048x1024, .f32⟩

abbrev hbmTy0_1 (i : Nat) : BufTy := match i % 128 with
  | 0 => ⟨S16x2048x16x1, .f32⟩
  | 1 => ⟨S_, .f32⟩
  | 2 => ⟨S16x2048x16x1, .f32⟩
  | 3 => ⟨S16x2048x16x1, .f32⟩
  | 4 => ⟨S16x2048x16x1, .f32⟩
  | 5 => ⟨S16x2048x16x96, .f32⟩
  | 6 => ⟨S16x2048x16x96, .f32⟩
  | 7 => ⟨S1x1x1x96, .f32⟩
  | 8 => ⟨S16x2048x16x96, .f32⟩
  | 9 => ⟨S16x2048x16x96, .f32⟩
  | 10 => ⟨S16x2048x16x64, .f32⟩
  | 11 => ⟨S16x2048x16x32, .f32⟩
  | 12 => ⟨S16x2048x16x16, .f32⟩
  | 13 => ⟨S16x2048x16x16, .f32⟩
  | 14 => ⟨S16x2048x16x16, .f32⟩
  | 15 => ⟨S16x2048x16x16, .f32⟩
  | 16 => ⟨S16x2048x16x16, .f32⟩
  | 17 => ⟨S16x2048x16x16, .f32⟩
  | 18 => ⟨S16x2048x16x16, .f32⟩
  | 19 => ⟨S16x2048x16x16, .f32⟩
  | 20 => ⟨S16x2048x16x16, .f32⟩
  | 21 => ⟨S16x2048x16x16, .f32⟩
  | 22 => ⟨S16x2048x16x16, .f32⟩
  | 23 => ⟨S16x2048x16x16, .f32⟩
  | 24 => ⟨S16x2048x16x32, .f32⟩
  | 25 => ⟨S16x2048x16x96, .f32⟩
  | 26 => ⟨S_, .f32⟩
  | 27 => ⟨S16x2048x16x96, .f32⟩
  | 28 => ⟨S16x2048x16x96, .f32⟩
  | 29 => ⟨S16x2048x16x64, .f32⟩
  | 30 => ⟨S16x2048x16x32, .f32⟩
  | 31 => ⟨S16x2048x16x16, .f32⟩
  | 32 => ⟨S16x2048x16x16, .f32⟩
  | 33 => ⟨S16x2048x16x16, .f32⟩
  | 34 => ⟨S16x2048x16x16, .f32⟩
  | 35 => ⟨S16x2048x16x16, .f32⟩
  | 36 => ⟨S16x2048x16x16, .f32⟩
  | 37 => ⟨S16x2048x16x16, .f32⟩
  | 38 => ⟨S16x2048x16x16, .f32⟩
  | 39 => ⟨S16x2048x16x16, .f32⟩
  | 40 => ⟨S16x2048x16x16, .f32⟩
  | 41 => ⟨S16x2048x16x16, .f32⟩
  | 42 => ⟨S16x2048x16x16, .f32⟩
  | 43 => ⟨S16x2048x16x32, .f32⟩
  | 44 => ⟨S16x2048x16x96, .f32⟩
  | 45 => ⟨S16x2048x8x128, .f32⟩
  | 46 => ⟨S16x8x2048x128, .f32⟩
  | 47 => ⟨S16x16x2048x96, .f32⟩
  | 48 => ⟨S_, .i32⟩
  | 49 => ⟨S_, .f32⟩
  | 50 => ⟨S16x16x2048x128, .f32⟩
  | 51 => ⟨S16x16x2048x128, .bf16⟩
  | 52 => ⟨S16x16x2048x96, .f32⟩
  | 53 => ⟨S_, .i32⟩
  | 54 => ⟨S_, .f32⟩
  | 55 => ⟨S16x16x2048x128, .f32⟩
  | 56 => ⟨S16x16x2048x128, .bf16⟩
  | 57 => ⟨S16x8x2048x128, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_8 : Ref sig .tc := ⟨.hbm, 84, rfl⟩
abbrev main_v64 : Ref sig .tc := ⟨.hbm, 85, rfl⟩
abbrev main_v65 : Ref sig .tc := ⟨.hbm, 86, rfl⟩
abbrev main_cst_9 : Ref sig .tc := ⟨.hbm, 87, rfl⟩
abbrev main_v66 : Ref sig .tc := ⟨.hbm, 88, rfl⟩
abbrev main_v67 : Ref sig .tc := ⟨.hbm, 89, rfl⟩
abbrev main_cst_10 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_11 : Ref sig .tc := ⟨.hbm, 107, rfl⟩
abbrev main_v84 : Ref sig .tc := ⟨.hbm, 108, rfl⟩
abbrev main_v85 : Ref sig .tc := ⟨.hbm, 109, rfl⟩
abbrev main_cst_12 : Ref sig .tc := ⟨.hbm, 110, rfl⟩
abbrev main_v86 : Ref sig .tc := ⟨.hbm, 111, rfl⟩
abbrev main_v87 : Ref sig .tc := ⟨.hbm, 112, rfl⟩
abbrev main_cst_13 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_14 : Ref sig .tc := ⟨.hbm, 123, rfl⟩
abbrev main_v97 : Ref sig .tc := ⟨.hbm, 124, rfl⟩
abbrev main_v98 : Ref sig .tc := ⟨.hbm, 125, rfl⟩
abbrev main_cst_15 : Ref sig .tc := ⟨.hbm, 126, rfl⟩
abbrev main_v99 : Ref sig .tc := ⟨.hbm, 127, rfl⟩
abbrev main_v100 : Ref sig .tc := ⟨.hbm, 128, rfl⟩
abbrev main_cst_16 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_cst_17 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_c : Ref sig .tc := ⟨.hbm, 176, rfl⟩
abbrev main_call0_v0 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_c_18 : Ref sig .tc := ⟨.hbm, 181, rfl⟩
abbrev main_call1_v0 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩

abbrev nD : Nat := 1
abbrev τ : Topo := Topo.v7x

variable {F : FTy → Type} [FloatOps F]
-- ==== Proof.AttnAt.lean ====
/- The attention kernel's body read at an index. -/
module

public import proofs.«01_k».proof.Proof.Gen.AttnIdeal.Frame
public import Idealize.ShloMosaic.Lib.Pipeline.ValueKit

@[expose] public section

set_option maxRecDepth 16384

noncomputable section

open Idealize.ShloMosaic Idealize.ShloMosaic.TcCoe Idealize.SL.Sem

namespace Cert.AttnIdeal.Own

open Cert.AttnIdeal Cert.AttnIdeal.Gen

/-- One head's output before rounding: the exponentials times the values, over the sum of the exponentials, from the head's scores `s` and values `v`. -/
def mix (s v : Fin 2048 → EReal) : EReal :=
  Ideal.div (∑ k, Ideal.exp (s k - Finset.fold max (Ideal.ofBits FTy.f32 4286578688#32) s Finset.univ) * v k)
    (∑ k, Ideal.exp (s k - Finset.fold max (Ideal.ofBits FTy.f32 4286578688#32) s Finset.univ))

variable (v0 : Vec Ideal S1x1x2048x128 .bf16) (q0 q1 : Vec Ideal S1x1x512x128 .bf16) (k0 k1 : Vec Ideal S1x1x2048x128 .bf16)

theorem pay3_at (i : Fin 512) (j : Fin 128) :
    k0_pay3 v0 q0 k0 (ix2 i j)
      = mix (fun x => ∑ d : Fin 128, q0 (ix4 0 0 i d) * k0 (ix4 0 0 x d)) (fun x => v0 (ix4 0 0 x j)) := by
  pointwise [k0_pay3, k0_pay2, mix]

theorem slt_at (j : Fin 128) : IntOp.cmpi CmpIPredicate.slt (BitVec.ofNat 32 j.val) 64#32 = if j.val < 64 then 1#1 else 0#1 := by
  revert j; decide

theorem pay1_at (i : Fin 512) (j : Fin 128) :
    k0_pay1 (k0_pay2 v0) (k0_pay3 v0 q0 k0) (k0_pay4 q1 k1) (k0_pay5 q1 k1) (ix3 (0 : Fin 1) i j)
      = if j.val < 64 then mix (fun x => ∑ d : Fin 128, q0 (ix4 0 0 i d) * k0 (ix4 0 0 x d)) (fun x => v0 (ix4 0 0 x j))
        else mix (fun x => ∑ d : Fin 128, q1 (ix4 0 0 i d) * k1 (ix4 0 0 x d)) (fun x => v0 (ix4 0 0 x j)) := by
  have h2 : mix (fun x => ∑ d : Fin 128, q1 (ix4 0 0 i d) * k1 (ix4 0 0 x d)) (fun x => v0 (ix4 0 0 x j))
      = Ideal.div (∑ x, k0_pay4 q1 k1 (ix2 i x) * k0_pay2 v0 (ix2 x j)) (k0_pay5 q1 k1 (ix2 i 0)) := by
    pointwise [k0_pay4, k0_pay5, k0_pay2, mix]
  rw [h2, ← pay3_at]
  generalize k0_pay4 q1 k1 = a
  generalize k0_pay5 q1 k1 = b
  generalize k0_pay3 v0 q0 k0 = e
  generalize k0_pay2 v0 = f
  have h3 : k0_pay1 f e a b (ix3 (0 : Fin 1) i j) = Scalar.select (IntOp.cmpi CmpIPredicate.slt (BitVec.ofNat 32 j.val) 64#32) (e (ix2 i j))
      (Ideal.div (∑ x, a (ix2 i x) * f (ix2 x j)) (b (ix2 i 0))) := by
    pointwise [k0_pay1]
  rw [h3, slt_at]
  split <;> simp [Scalar.select]

end Cert.AttnIdeal.Own

end

end
-- ==== Proof.SoftmaxMath.lean ====
/- Extended-real facts about a softmax-weighted sum. -/
module

public import Idealize.ShloMosaic.Lib.Pipeline.ValueKit

@[expose] public section

noncomputable section

open Idealize.ShloMosaic

namespace Cert.Own

/-- A number other than the infinities times finitely many extended reals: the product distributes when it is not negative. -/
theorem sum_mul_of_nonneg {n : ℕ} (f : Fin n → EReal) (c : EReal) (h0 : 0 ≤ c) (ht : c ≠ ⊤) :
    (∑ k, f k) * c = ∑ k, f k * c := by
  classical
  have key : ∀ s : Finset (Fin n), (∑ k ∈ s, f k) * c = ∑ k ∈ s, f k * c := by
    intro s
    induction s using Finset.induction_on with
    | empty => simp
    | insert a s ha ih =>
      rw [Finset.sum_insert ha, Finset.sum_insert ha, EReal.right_distrib_of_nonneg_of_ne_top h0 ht, ih]
  exact key _

theorem inv_ne_top (x : EReal) : x⁻¹ ≠ ⊤ := by
  induction x with
  | bot => simp
  | top => simp
  | coe r => rw [← EReal.coe_inv]; exact EReal.coe_ne_top _

/-- The largest of finitely many extended reals (more than none) is one of them. -/
theorem fold_max_mem {n : ℕ} (s : Fin (n + 1) → EReal) (b : EReal) (hb : b = ⊥) :
    ∃ k, Finset.fold max b s Finset.univ = s k := by
  subst hb
  have : Finset.fold max (⊥ : EReal) s Finset.univ = Finset.univ.sup s := rfl
  rw [this]
  obtain ⟨k, -, hk⟩ := Finset.exists_mem_eq_sup (Finset.univ : Finset (Fin (n + 1))) ⟨0, Finset.mem_univ _⟩ s
  exact ⟨k, hk⟩

theorem exp_nonneg (x : EReal) : 0 ≤ Ideal.exp x := by
  induction x with
  | bot => exact le_refl _
  | top => exact le_top
  | coe r => exact EReal.coe_nonneg.mpr (Real.exp_pos r).le

theorem ofBits_f32_bot : Ideal.ofBits FTy.f32 4286578688#32 = ⊥ := by
  simp [Ideal.ofBits, Ideal.ieee]

theorem ofBits_f32_top : Ideal.ofBits FTy.f32 2139095040#32 = ⊤ := by
  simp [Ideal.ofBits, Ideal.ieee]

/-- With finite scores the sum of the exponentials is at least one, so it is not zero. -/
theorem sum_exp_ne_zero {n : ℕ} (s : Fin (n + 1) → EReal) (hs : ∀ k, s k ≠ ⊤ ∧ s k ≠ ⊥) (b : EReal) (hb : b = ⊥) :
    (∑ k, Ideal.exp (s k - Finset.fold max b s Finset.univ)) ≠ 0 := by
  obtain ⟨k, hk⟩ := fold_max_mem s b hb
  rw [hk]
  have h1 : Ideal.exp (s k - s k) = 1 := by
    obtain ⟨x, hx⟩ : ∃ x : ℝ, s k = (x : EReal) := ⟨(s k).toReal, (EReal.coe_toReal (hs k).1 (hs k).2).symm⟩
    rw [hx, ← EReal.coe_sub, sub_self]
    show ((Real.exp 0 : ℝ) : EReal) = 1
    simp
  have h2 : Ideal.exp (s k - s k) ≤ ∑ j, Ideal.exp (s j - s k) :=
    Finset.single_le_sum (f := fun j => Ideal.exp (s j - s k)) (fun j _ => exp_nonneg _) (Finset.mem_univ k)
  rw [h1] at h2
  intro h0
  rw [h0] at h2
  exact absurd h2 (by simp)

/-- Dividing the weighted sum is summing with the divided weights. -/
theorem softmax_mix {n : ℕ} (s v : Fin (n + 1) → EReal) (hs : ∀ k, s k ≠ ⊤ ∧ s k ≠ ⊥) (b : EReal) (hb : b = ⊥) :
    Ideal.div (∑ k, Ideal.exp (s k - Finset.fold max b s Finset.univ) * v k)
        (∑ k, Ideal.exp (s k - Finset.fold max b s Finset.univ))
      = ∑ k, v k * Ideal.div (Ideal.exp (s k - max b (Finset.fold max b s Finset.univ)))
          (∑ j, Ideal.exp (s j - max b (Finset.fold max b s Finset.univ))) := by
  have hm : max b (Finset.fold max b s Finset.univ) = Finset.fold max b s Finset.univ := by
    rw [hb]; exact max_eq_right bot_le
  rw [hm]
  have hl := sum_exp_ne_zero s hs b hb
  have h0 : 0 ≤ (∑ k, Ideal.exp (s k - Finset.fold max b s Finset.univ))⁻¹ :=
    EReal.inv_nonneg_of_nonneg (Finset.sum_nonneg fun k _ => exp_nonneg _)
  simp only [Ideal.div, if_neg hl]
  rw [sum_mul_of_nonneg _ _ h0 (inv_ne_top _)]
  refine Finset.sum_congr rfl fun k _ => ?_
  rw [mul_assoc, mul_left_comm]

/-- A sum of products of finite numbers is finite. -/
theorem sum_mul_finite {n : ℕ} (f g : Fin n → EReal) (hf : ∀ k, f k ≠ ⊤ ∧ f k ≠ ⊥) (hg : ∀ k, g k ≠ ⊤ ∧ g k ≠ ⊥) :
    (∑ k, f k * g k) ≠ ⊤ ∧ (∑ k, f k * g k) ≠ ⊥ := by
  classical
  have h : ∀ s : Finset (Fin n), (∑ k ∈ s, f k * g k) = ((∑ k ∈ s, (f k).toReal * (g k).toReal : ℝ) : EReal) := by
    intro s
    induction s using Finset.induction_on with
    | empty => simp
    | insert a s ha ih =>
      rw [Finset.sum_insert ha, Finset.sum_insert ha, ih, EReal.coe_add, EReal.coe_mul,
        EReal.coe_toReal (hf a).1 (hf a).2, EReal.coe_toReal (hg a).1 (hg a).2]
  rw [h]
  exact ⟨EReal.coe_ne_top _, EReal.coe_ne_bot _⟩

/-- The predicate's test: a magnitude below infinity is a finite number. -/
theorem finite_of_abs_lt (x : EReal) (h : max x (-x) < ⊤) : x ≠ ⊤ ∧ x ≠ ⊥ := by
  constructor
  · rintro rfl; simp at h
  · rintro rfl; simp at h

end Cert.Own

end

end
-- ==== Proof.AttnValue.lean ====
/- The attention kernel's result array is the reference's. -/
module

public import proofs.«01_k».proof.Proof.AttnAt
public import proofs.«01_k».proof.Proof.SoftmaxMath
public import proofs.«01_k».proof.Proof.Gen.AttnRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnIdeal.Own

open Cert.AttnIdeal Cert.AttnIdeal.Gen

variable (m : (ℓ : Loc nD τ sig) → Buf (Elt Ideal) ℓ)

theorem idx : ∀ t : Fin cfg0.N, win0_0.index t = ![(grid0.coords t 0).val, (grid0.coords t 1).val, (grid0.coords t 2).val, 0]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 2).val, (grid0.coords t 1).val]
    ∧ (grid0.coords t 0).val < 16 ∧ (grid0.coords t 1).val < 8 ∧ (grid0.coords t 2).val < 4 :=
  (by decide +kernel : ∀ t : Fin grid0.N, _)

/-- The grid point's batch, pair of heads and block of queries. -/
def tb (t : Fin cfg0.N) : Fin 16 := ⟨(grid0.coords t 0).val, (idx t).2.2.2.2.1⟩
def th (t : Fin cfg0.N) : Fin 8 := ⟨(grid0.coords t 1).val, (idx t).2.2.2.2.2.1⟩
def tq (t : Fin cfg0.N) : Fin 4 := ⟨(grid0.coords t 2).val, (idx t).2.2.2.2.2.2⟩

theorem rd_q0 (c : Dev nD) (t : Fin cfg0.N) (i : Fin 512) (d : Fin 128) :
    View.ld (iblk m c 0 t) r0_1 (ix4 0 0 i d) = m ((c : Thread nD τ).loc main_arg0)
      (ix4 (tb t) (⟨2 * (th t).val, by omega⟩ : Fin 16) (⟨(tq t).val * 512 + i.val, by omega⟩ : Fin 2048) d) := by
  refine (View.ld_unit_apply_of (iblk m c 0 t) _ _ _ _ (ix4 0 0 i d) (fun a => by fin_cases a <;> simp)).trans ?_
  blk_ext [iblk, V, idx t, tb, th, tq]

theorem rd_q1 (c : Dev nD) (t : Fin cfg0.N) (i : Fin 512) (d : Fin 128) :
    View.ld (iblk m c 0 t) r0_3 (ix4 0 0 i d) = m ((c : Thread nD τ).loc main_arg0)
      (ix4 (tb t) (⟨2 * (th t).val + 1, by omega⟩ : Fin 16) (⟨(tq t).val * 512 + i.val, by omega⟩ : Fin 2048) d) := by
  refine (View.ld_unit_apply_of (iblk m c 0 t) _ _ _ _ (ix4 0 1 i d) (fun a => by fin_cases a <;> simp)).trans ?_
  blk_ext [iblk, V, idx t, tb, th, tq]

theorem rd_k0 (c : Dev nD) (t : Fin cfg0.N) (x : Fin 2048) (d : Fin 128) :
    View.ld (iblk m c 1 t) r0_2 (ix4 0 0 x d) = m ((c : Thread nD τ).loc main_arg1)
      (ix4 (tb t) (⟨2 * (th t).val, by omega⟩ : Fin 16) x d) := by
  refine (View.ld_unit_apply_of (iblk m c 1 t) _ _ _ _ (ix4 0 0 x d) (fun a => by fin_cases a <;> simp)).trans ?_
  blk_ext [iblk, V, idx t, tb, th, tq]

theorem rd_k1 (c : Dev nD) (t : Fin cfg0.N) (x : Fin 2048) (d : Fin 128) :
    View.ld (iblk m c 1 t) r0_4 (ix4 0 0 x d) = m ((c : Thread nD τ).loc main_arg1)
      (ix4 (tb t) (⟨2 * (th t).val + 1, by omega⟩ : Fin 16) x d) := by
  refine (View.ld_unit_apply_of (iblk m c 1 t) _ _ _ _ (ix4 0 1 x d) (fun a => by fin_cases a <;> simp)).trans ?_
  blk_ext [iblk, V, idx t, tb, th, tq]

theorem rd_v (c : Dev nD) (t : Fin cfg0.N) (x : Fin 2048) (j : Fin 128) :
    iblk m c 2 t (ix4 0 0 x j) = m ((c : Thread nD τ).loc main_arg2) (ix4 (tb t) (th t) x j) := by
  blk_ext [iblk, V, idx t, tb, th, tq]

theorem emb_out (t : Fin cfg0.N) (i : Fin 512) (j : Fin 128) :
    ((View.whole main_v0).slice (win0_3.rect t)).emb (ix3 (0 : Fin 1) i j)
      = ix3 (tb t) (⟨(tq t).val * 512 + i.val, by omega⟩ : Fin 2048) (⟨(th t).val * 128 + j.val, by omega⟩ : Fin 1024) := by
  blk_ext [idx t, tb, th, tq]

end Cert.AttnIdeal.Own

end

end
-- ==== Proof.AttnRefAt.lean ====
/- The attention reference read at an index, stage by stage. -/
module

public import proofs.«01_k».proof.Proof.Gen.AttnRefIdeal.Read
public import Idealize.ShloMosaic.Lib.Pipeline.ValueKit

@[expose] public section

set_option maxRecDepth 16384

noncomputable section

open Idealize.ShloMosaic Idealize.ShloMosaic.TcCoe Idealize.SL.Sem

namespace Cert.AttnRefIdeal.Own

open Cert.AttnRefIdeal Cert.AttnRefIdeal.Gen Cert.AttnRefIdeal.Read

variable (q k : FVec Ideal S16x16x2048x128 .bf16) (v : FVec Ideal S16x8x2048x128 .bf16)

/-- A score: the query row times the key row. -/
theorem v6_at (b h : Fin 16) (r j : Fin 2048) :
    val_main_v6 (F := Ideal) q k (ix4 b h r j) = ∑ d : Fin 128, q (ix4 b h r d) * k (ix4 b h j d) := by
  pointwise [val_main_v0, val_main_v1, val_main_v6]

theorem rowmax_at (x : FVec Ideal S16x16x2048x2048 .f32) (b h : Fin 16) (r : Fin 2048) :
    Host.reduce (FloatOps.maximumf (F := Ideal) (φ := .f32)) x (constant (F := Ideal) S_ .f32 0xFF800000#32) reducesTo_S16x16x2048x2048_S16x16x2048_d3 h_S_ (ix3 b h r)
      = Finset.fold max (Ideal.ofBits FTy.f32 4286578688#32) (fun j : Fin 2048 => x (ix4 b h r j)) Finset.univ := by
  pointwise []

/-- The largest score of a query row. -/
theorem v9_at (b h : Fin 16) (r : Fin 2048) :
    val_main_v9 (F := Ideal) q k (ix3 b h r) = max (Ideal.ofBits FTy.f32 4286578688#32)
      (Finset.fold max (Ideal.ofBits FTy.f32 4286578688#32) (fun j : Fin 2048 => val_main_v6 (F := Ideal) q k (ix4 b h r j)) Finset.univ) := by
  rw [← rowmax_at, val_main_v9_apply, val_main_v8_apply]
  unfold val_main_v7
  generalize val_main_v6 (F := Ideal) q k = x
  rfl

/-- A score's exponential, the largest score of its row taken away. -/
theorem v13_at (b h : Fin 16) (r j : Fin 2048) :
    val_main_v13 (F := Ideal) q k (ix4 b h r j)
      = Ideal.exp (val_main_v6 (F := Ideal) q k (ix4 b h r j) - val_main_v9 (F := Ideal) q k (ix3 b h r)) := by
  pointwise [val_main_v10, val_main_v11, val_main_v12, val_main_v13]

/-- A softmax weight. -/
theorem v17_at (b h : Fin 16) (r j : Fin 2048) :
    val_main_v17 (F := Ideal) q k (ix4 b h r j)
      = Ideal.div (val_main_v13 (F := Ideal) q k (ix4 b h r j)) (∑ x : Fin 2048, val_main_v13 (F := Ideal) q k (ix4 b h r x)) := by
  pointwise [val_main_v14, val_main_v15, val_main_v16, val_main_v17, val_main_cst_1]

theorem i5 (b h : Fin 16) (j : Fin 2048) (d : Fin 64) :
    idx_main_v5 (ix4 b h j d) = ix5 b (⟨h.val / 2, by omega⟩ : Fin 8) (⟨h.val % 2, by omega⟩ : Fin 2) j d := by
  funext a
  match a with
  | ⟨0, _⟩ => exact Fin.ext (by show (((b.val * 16 + h.val) * 2048 + j.val) * 64 + d.val) / 2097152 = b.val; omega)
  | ⟨1, _⟩ => exact Fin.ext (by show (((b.val * 16 + h.val) * 2048 + j.val) * 64 + d.val) / 262144 % 8 = h.val / 2; omega)
  | ⟨2, _⟩ => exact Fin.ext (by show (((b.val * 16 + h.val) * 2048 + j.val) * 64 + d.val) / 131072 % 2 = h.val % 2; omega)
  | ⟨3, _⟩ => exact Fin.ext (by show (((b.val * 16 + h.val) * 2048 + j.val) * 64 + d.val) / 64 % 2048 = j.val; omega)
  | ⟨4, _⟩ => exact Fin.ext (by show (((b.val * 16 + h.val) * 2048 + j.val) * 64 + d.val) % 64 = d.val; omega)

theorem i3 (b : Fin 16) (g : Fin 8) (p : Fin 2) (j : Fin 2048) (d : Fin 64) :
    idx_main_v3 (idx_main_v4 (ix5 b g p j d)) = ix4 b g j (⟨p.val * 64 + d.val, by omega⟩ : Fin 128) := by
  funext a
  match a with
  | ⟨0, _⟩ => exact Fin.ext (by show ((((b.val * 8 + g.val) * 2048 + j.val) * 2 + p.val) * 64 + d.val) / 2097152 = b.val; omega)
  | ⟨1, _⟩ => exact Fin.ext (by show ((((b.val * 8 + g.val) * 2048 + j.val) * 2 + p.val) * 64 + d.val) / 262144 % 8 = g.val; omega)
  | ⟨2, _⟩ => exact Fin.ext (by show ((((b.val * 8 + g.val) * 2048 + j.val) * 2 + p.val) * 64 + d.val) / 128 % 2048 = j.val; omega)
  | ⟨3, _⟩ => exact Fin.ext (by show ((((b.val * 8 + g.val) * 2048 + j.val) * 2 + p.val) * 64 + d.val) % 128 = p.val * 64 + d.val; omega)

/-- The values of one head: its half of the 128 lanes of its pair. -/
theorem v5_at (b h : Fin 16) (j : Fin 2048) (d : Fin 64) :
    val_main_v5 (F := Ideal) v (ix4 b h j d)
      = v (ix4 b (⟨h.val / 2, by omega⟩ : Fin 8) j (⟨h.val % 2 * 64 + d.val, by omega⟩ : Fin 128)) := by
  rw [val_main_v5_apply, i5, val_main_v4_apply, val_main_v3_apply, i3, val_main_v2_apply]
  rfl

/-- The weighted values. -/
theorem v18_at (b h : Fin 16) (d : Fin 64) (r : Fin 2048) :
    val_main_v18 (F := Ideal) q k v (ix4 b h d r)
      = ∑ j : Fin 2048, val_main_v5 (F := Ideal) v (ix4 b h j d) * val_main_v17 (F := Ideal) q k (ix4 b h r j) := by
  pointwise [val_main_v18]

theorem i20 (b : Fin 16) (r : Fin 2048) (c : Fin 1024) :
    idx_main_v19 (idx_main_v20 (ix3 b r c)) = ix4 b (⟨c.val / 64, by omega⟩ : Fin 16) (⟨c.val % 64, by omega⟩ : Fin 64) r := by
  funext a
  match a with
  | ⟨0, _⟩ => exact Fin.ext (by show ((b.val * 2048 + r.val) * 1024 + c.val) / 2097152 = b.val; omega)
  | ⟨1, _⟩ => exact Fin.ext (by show ((b.val * 2048 + r.val) * 1024 + c.val) / 64 % 16 = c.val / 64; omega)
  | ⟨2, _⟩ => exact Fin.ext (by show ((b.val * 2048 + r.val) * 1024 + c.val) % 64 = c.val % 64; omega)
  | ⟨3, _⟩ => exact Fin.ext (by show ((b.val * 2048 + r.val) * 1024 + c.val) / 1024 % 2048 = r.val; omega)

/-- The heads laid side by side. -/
theorem v21_at (b : Fin 16) (r : Fin 2048) (c : Fin 1024) :
    val_main_v21 (F := Ideal) q k v (ix3 b r c)
      = val_main_v18 (F := Ideal) q k v (ix4 b (⟨c.val / 64, by omega⟩ : Fin 16) (⟨c.val % 64, by omega⟩ : Fin 64) r) := by
  rw [val_main_v21_apply, val_main_v20_apply, val_main_v19_apply, i20]
  rfl

end Cert.AttnRefIdeal.Own

end

end
-- ==== Proof.AttnFinal.lean ====
/- The attention kernel's result array is the reference's, for finite queries and keys. -/
module

public import proofs.«01_k».proof.Proof.AttnValue
public import proofs.«01_k».proof.Proof.AttnRefAt
public import proofs.«01_k».proof.Proof.Gen.Pre_finite_scores

@[expose] public section

set_option maxRecDepth 16384

noncomputable section

open Idealize.ShloMosaic Idealize.ShloMosaic.TcCoe Idealize.SL.Sem
open Idealize.ShloMosaic.Pipeline (Dat)

namespace Cert.AttnIdeal.Own

open Cert.AttnIdeal Cert.AttnIdeal.Gen Cert.Own

/-- Every element is a finite number. -/
def AllFinite (x : FVec Ideal S16x16x2048x128 .bf16) : Prop := ∀ i, (x i : EReal) ≠ ⊤ ∧ (x i : EReal) ≠ ⊥

/-- The reference at a column of head `h`: a softmax mix of that head's scores and values. -/
theorem ref_mix (q k : FVec Ideal S16x16x2048x128 .bf16) (v : FVec Ideal S16x8x2048x128 .bf16)
    (hq : AllFinite q) (hk : AllFinite k)
    (b h : Fin 16) (g : Fin 8) (r : Fin 2048) (j : Fin 128) (c : Fin 1024)
    (hh : c.val / 64 = h.val) (hg : c.val / 128 = g.val) (hj : c.val % 128 = j.val) :
    mix (fun x => ∑ e : Fin 128, q (ix4 b h r e) * k (ix4 b h x e)) (fun x => v (ix4 b g x j))
      = Cert.AttnRefIdeal.Read.val_main_v21 (F := Ideal) q k v (ix3 b r c) := by
  rw [Cert.AttnRefIdeal.Own.v21_at]
  have eh : (⟨c.val / 64, by omega⟩ : Fin 16) = h := Fin.ext hh
  rw [eh, Cert.AttnRefIdeal.Own.v18_at]
  simp only [Cert.AttnRefIdeal.Own.v17_at, Cert.AttnRefIdeal.Own.v13_at, Cert.AttnRefIdeal.Own.v9_at, Cert.AttnRefIdeal.Own.v6_at,
    Cert.AttnRefIdeal.Own.v5_at]
  have eg : (⟨h.val / 2, by omega⟩ : Fin 8) = g := Fin.ext (by show h.val / 2 = g.val; omega)
  have ej : (⟨h.val % 2 * 64 + c.val % 64, by omega⟩ : Fin 128) = j := Fin.ext (by show h.val % 2 * 64 + c.val % 64 = j.val; omega)
  rw [eg, ej]
  unfold mix
  rw [softmax_mix _ _ (fun x => sum_mul_finite _ _ (fun e => hq _) (fun e => hk _)) _ ofBits_f32_bot]

variable (m : (ℓ : Loc nD τ sig) → Buf (Elt Ideal) ℓ)

/-- What the body stores at `y` is the reference at the index where `y` lies. -/
theorem point (c : Dev nD) (t : Fin cfg0.N) (y : S1x512x128.Idx)
    (hq : AllFinite (m ((c : Thread nD τ).loc main_arg0)))
    (hk : AllFinite (m ((c : Thread nD τ).loc main_arg1))) :
    k0_pay1 (k0_pay2 (iblk m c 2 t)) (k0_pay3 (iblk m c 2 t) (View.ld (iblk m c 0 t) r0_1) (View.ld (iblk m c 1 t) r0_2))
      (k0_pay4 (View.ld (iblk m c 0 t) r0_3) (View.ld (iblk m c 1 t) r0_4))
      (k0_pay5 (View.ld (iblk m c 0 t) r0_3) (View.ld (iblk m c 1 t) r0_4)) y
    = Cert.AttnRefIdeal.Read.val_main_v21 (F := Ideal) (m ((c : Thread nD τ).loc main_arg0)) (m ((c : Thread nD τ).loc main_arg1))
        (m ((c : Thread nD τ).loc main_arg2)) (((View.whole main_v0).slice (win0_3.rect t)).emb y) := by
  obtain ⟨z, i, j, rfl⟩ : ∃ (z : Fin 1) (i : Fin 512) (j : Fin 128), y = ix3 z i j := ⟨y 0, y 1, y 2, by funext a; fin_cases a <;> rfl⟩
  obtain rfl : z = 0 := Subsingleton.elim _ _
  refine (pay1_at _ _ _ _ _ i j).trans ?_
  rw [emb_out]
  simp only [rd_q0, rd_q1, rd_k0, rd_k1, rd_v]
  split
  · rename_i hj
    exact ref_mix _ _ _ hq hk _ _ _ _ _ _ (by show ((th t).val * 128 + j.val) / 64 = 2 * (th t).val; omega)
      (by show ((th t).val * 128 + j.val) / 128 = (th t).val; omega) (by show ((th t).val * 128 + j.val) % 128 = j.val; omega)
  · rename_i hj
    exact ref_mix _ _ _ hq hk _ _ _ _ _ _ (by show ((th t).val * 128 + j.val) / 64 = 2 * (th t).val + 1; omega)
      (by show ((th t).val * 128 + j.val) / 128 = (th t).val; omega) (by show ((th t).val * 128 + j.val) % 128 = j.val; omega)

theorem final (c : Dev nD)
    (hq : AllFinite (m ((c : Thread nD τ).loc main_arg0)))
    (hk : AllFinite (m ((c : Thread nD τ).loc main_arg1))) :
    (dats m 0 c).arrAt 3 (cfgs 0).N
      = Cert.AttnRefIdeal.Read.val_main_v21 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]; frame_out
  exact point m c t y hq hk

/-- The precondition's two tests say that queries and keys are finite. -/
theorem pre_q (q k : FVec Ideal S16x16x2048x128 .bf16) (v : FVec Ideal S16x8x2048x128 .bf16)
    (h : (Cert.Pre_finite_scores.fn (F := Ideal) q k v).1 = fun _ => 1#1) : AllFinite q := by
  intro i
  have h' := congrFun h i
  pointwise [Cert.Pre_finite_scores.fn] at h'
  refine finite_of_abs_lt _ ?_
  rw [ofBits_f32_top] at h'
  have hb : ∀ b : Bool, BitVec.ofBool b = 1#1 → b = true := by decide
  exact of_decide_eq_true (hb _ h')

theorem pre_k (q k : FVec Ideal S16x16x2048x128 .bf16) (v : FVec Ideal S16x8x2048x128 .bf16)
    (h : (Cert.Pre_finite_scores.fn (F := Ideal) q k v).2 = fun _ => 1#1) : AllFinite k := by
  intro i
  have h' := congrFun h i
  pointwise [Cert.Pre_finite_scores.fn] at h'
  refine finite_of_abs_lt _ ?_
  rw [ofBits_f32_top] at h'
  have hb : ∀ b : Bool, BitVec.ofBool b = 1#1 → b = true := by decide
  exact of_decide_eq_true (hb _ h')

end Cert.AttnIdeal.Own

end

end
-- ==== Proof.MoeIdealBody.lean ====
module

public import proofs.«01_k».proof.Proof.Gen.MoeIdeal.Skeleton
public import proofs.«01_k».proof.Proof.Gen.MoeIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.MoeIdeal.Own

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The propositions of the logic at the program's memory. -/
local notation "𝕄" => MT nD τ sig Unit (Elt F) ℕ (UR sig nD τ) ℕ

/-- The two tables and the two scratch arrays, whole. -/
abbrev tbE : Memref sig .tc .smem S288 .i32 := Memref.whole main_arg0
abbrev tbN : Memref sig .tc .smem S1 .i32 := Memref.whole main_arg1
abbrev scU : Memref sig .tc .vmem S1024x1024 .bf16 := Memref.whole cc0_scratch0
abbrev scD : Memref sig .tc .vmem S512x1024 .bf16 := Memref.whole cc0_scratch1

/-- The block's expert, the block before's, and the number of blocks in use, as the body loads them. -/
def wE (T0 : S288.Idx → BitVec 32) (i : grid0.Coords) : BitVec 32 :=
  View.readAt (Elt F) tbE.view (Rect.unit (s := S288) (k0_off1 i) S1.size (k0_off1_inb i)).toLoadRect T0 (Shape.Idx.first (numel1_S1.symm ▸ Nat.one_pos))
def wP (T0 : S288.Idx → BitVec 32) (i : grid0.Coords) : BitVec 32 :=
  View.readAt (Elt F) tbE.view (Rect.unit (s := S288) (k0_off2 i) S1.size (k0_off2_inb i)).toLoadRect T0 (Shape.Idx.first (numel1_S1.symm ▸ Nat.one_pos))
def wN (T1 : S1.Idx → BitVec 32) : BitVec 32 :=
  View.readAt (Elt F) tbN.view (Rect.unit (s := S1) ![0] S1.size inb_S1_S1_0).toLoadRect T1 (Shape.Idx.first (numel1_S1.symm ▸ Nat.one_pos))

/-- The expert differs from the block before's, or this is the first block. -/
def Chg (T0 : S288.Idx → BitVec 32) (i : grid0.Coords) : Prop :=
  Scalar.cmpi .ne (Scalar.extui (Scalar.ori (Scalar.cmpi .eq (BitVec.ofNat 32 (i 0).val) 0#32) (Scalar.cmpi .ne (wE (F := F) T0 i) (wP (F := F) T0 i)))) 0#32 = 1#1

/-- A scratch array written whole holds what was written, and reads back as it. -/
theorem putU (w : S1024x1024.Idx → Elt F .bf16) :
    scU.view.writes (Elt F) (View.junk (Val := Elt F) scU.view) [⟨Rect.unit (s := S1024x1024) ![0, 0] S1024x1024.size inb_S1024x1024_S1024x1024_0_0, w⟩] = w :=
  (View.read_whole (Val := Elt F) cc0_scratch0 _).symm.trans
    (View.read_writes_full (Val := Elt F) scU.view (View.junk (Val := Elt F) scU.view) inb_S1024x1024_S1024x1024_0_0 w [])
theorem putD (w : S512x1024.Idx → Elt F .bf16) :
    scD.view.writes (Elt F) (View.junk (Val := Elt F) scD.view) [⟨Rect.unit (s := S512x1024) ![0, 0] S512x1024.size inb_S512x1024_S512x1024_0_0, w⟩] = w :=
  (View.read_whole (Val := Elt F) cc0_scratch1 _).symm.trans
    (View.read_writes_full (Val := Elt F) scD.view (View.junk (Val := Elt F) scD.view) inb_S512x1024_S512x1024_0_0 w [])
theorem covU (w : S1024x1024.Idx → Elt F .bf16) :
    scU.view.readCov (Val := Elt F) [⟨Rect.unit (s := S1024x1024) ![0, 0] S1024x1024.size inb_S1024x1024_S1024x1024_0_0, w⟩]
      (Rect.unit (s := S1024x1024) ![0, 0] S1024x1024.size inb_S1024x1024_S1024x1024_0_0).toLoadRect = w :=
  View.readCov_full (Val := Elt F) scU.view inb_S1024x1024_S1024x1024_0_0 inb_S1024x1024_S1024x1024_0_0 w []
theorem covD (w : S512x1024.Idx → Elt F .bf16) :
    scD.view.readCov (Val := Elt F) [⟨Rect.unit (s := S512x1024) ![0, 0] S512x1024.size inb_S512x1024_S512x1024_0_0, w⟩]
      (Rect.unit (s := S512x1024) ![0, 0] S512x1024.size inb_S512x1024_S512x1024_0_0).toLoadRect = w :=
  View.readCov_full (Val := Elt F) scD.view inb_S512x1024_S512x1024_0_0 inb_S512x1024_S512x1024_0_0 w []

set_option maxHeartbeats 1000000 in
/-- The body at a block whose expert is new and in use. -/
theorem run_new (c : Dev nD) (i : grid0.Coords) (arg3 : Memref sig .tc .vmem S256x1024 .bf16) (harg3 : arg3.IsWhole)
    (arg4 : Memref sig .tc .vmem S256x1 .f32) (harg4 : arg4.IsWhole) (arg5 : Memref sig .tc .vmem S1x1024x1024 .f32) (harg5 : arg5.IsWhole)
    (arg6 : Memref sig .tc .vmem S1x512x1024 .f32) (harg6 : arg6.IsWhole) (arg7 : Memref sig .tc .vmem S256x1024 .bf16) (harg7 : arg7.IsWhole)
    (T0 : S288.Idx → BitVec 32) (T1 : S1.Idx → BitVec 32)
    (x0 : S256x1024.Idx → Elt F .bf16) (x1 : S256x1.Idx → Elt F .f32) (x2 : S1x1024x1024.Idx → Elt F .f32) (x3 : S1x512x1024.Idx → Elt F .f32)
    (u : S1024x1024.Idx → Elt F .bf16) (d : S512x1024.Idx → Elt F .bf16)
    (hc : Chg (F := F) T0 i) (h2 : k0_cond2 i (wN (F := F) T1) = 1#1) (h3 : ¬k0_cond3 i (wN (F := F) T1) = 1#1) (K : PUnit → sProp 𝕄) :
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (tbE.view.loc (c : Thread nD τ) ↦{fullShare.right} T0)
      ∗ (tbN.view.loc (c : Thread nD τ) ↦{fullShare.right} T1)
      ∗ (∃ d, owns (c : Thread nD τ) arg7 fullShare d)
      ∗ (scU.view.loc (c : Thread nD τ) ↦{fullShare} u)
      ∗ (scD.view.loc (c : Thread nD τ) ↦{fullShare} d)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbE.view.loc (c : Thread nD τ) ↦{fullShare.right} T0)
          ∗ (tbN.view.loc (c : Thread nD τ) ↦{fullShare.right} T1)
          ∗ owns (c : Thread nD τ) arg7 fullShare (k0_pay3 x0 (k0_pay1 x2) (k0_pay2 x3) x1)
          ∗ (scU.view.loc (c : Thread nD τ) ↦{fullShare} (k0_pay1 x2 : S1024x1024.Idx → Elt F .bf16))
          ∗ (scD.view.loc (c : Thread nD τ) ↦{fullShare} (k0_pay2 x3 : S512x1024.Idx → Elt F .bf16))) -∗ K ⟨⟩))
      ⊢ wp frame (wpE (defs₀ (F := F)) Variants.none c none) Set.univ
          (cc0_moe_experts i tbE (Memref.isWhole_whole _) tbN (Memref.isWhole_whole _) arg3 harg3 arg4 harg4 arg5 harg5 arg6 harg6 arg7 harg7
            scU (Memref.isWhole_whole _) scD (Memref.isWhole_whole _)) K := by
  unfold Chg wE wP at hc
  unfold wN at h2 h3
  unfold owns
  rw [cc0_moe_experts_eq_skeleton]; unfold cc0_moe_experts_skel
  iintro ⟨H0, H1, H2, H3, HT0, HT1, ⟨%d4, %f4, -, HO4⟩, HS0, HS1, Hk⟩
  have hS0 : scU.IsWhole := Memref.isWhole_whole _
  have hS1 : scD.IsWhole := Memref.isWhole_whole _
  have hT0 : tbE.IsWhole := Memref.isWhole_whole _
  have hT1 : tbN.IsWhole := Memref.isWhole_whole _
  sl_exec! (disch := first | (guard_target = Scalar.cmpi .ne _ _ = _; exact hc) | (guard_target = k0_cond2 _ _ = _; exact h2) | (guard_target = ¬(k0_cond3 _ _ = _); exact h3))
  sl_step
  iapply Hk
  have eU : scU.view.writes (Elt F) (View.junk (Val := Elt F) scU.view) (run_new.sl.HS0_1 arg5 x2) = (k0_pay1 x2 : S1024x1024.Idx → Elt F .bf16) := by
    unfold run_new.sl.HS0_1
    rw [View.readAt_rep_full]
    exact putU _
  have eD : scD.view.writes (Elt F) (View.junk (Val := Elt F) scD.view) (run_new.sl.HS1_1 arg6 x3) = (k0_pay2 x3 : S512x1024.Idx → Elt F .bf16) := by
    unfold run_new.sl.HS1_1
    rw [View.readAt_rep_full]
    exact putD _
  rw [eU, eD]
  have e20 : run_new.sl.v20 arg5 x2 = (k0_pay1 x2 : S1024x1024.Idx → Elt F .bf16) := by
    unfold run_new.sl.v20 run_new.sl.HS0_1
    rw [View.readAt_rep_full]
    exact covU _
  have e28 : run_new.sl.v28 arg6 x3 = (k0_pay2 x3 : S512x1024.Idx → Elt F .bf16) := by
    unfold run_new.sl.v28 run_new.sl.HS1_1
    rw [View.readAt_rep_full]
    exact covD _
  have eO : View.read (Elt F) arg7.view (arg7.view.writes (Elt F) (View.junk (Val := Elt F) arg7.view) (run_new.sl.HO4_1 arg3 arg4 arg5 arg6 x0 x1 x2 x3)) = (k0_pay3 x0 (k0_pay1 x2) (k0_pay2 x3) x1) := by
    unfold run_new.sl.HO4_1
    rw [View.read_writes_full, View.readAt_rep_full, View.readAt_rep_full, e20, e28]
  isplitl [H0]; · iexact H0
  isplitl [H1]; · iexact H1
  isplitl [H2]; · iexact H2
  isplitl [H3]; · iexact H3
  isplitl [HT0]; · iexact HT0
  isplitl [HT1]; · iexact HT1
  isplitl [HO4]
  · iexists _
    isplitr
    · ipureintro; exact eO
    · iexact HO4
  isplitl [HS0]; · iexact HS0
  iexact HS1

set_option maxHeartbeats 1000000 in
/-- The body at a block whose expert is new and not in use. -/
theorem run_new_idle (c : Dev nD) (i : grid0.Coords) (arg3 : Memref sig .tc .vmem S256x1024 .bf16) (harg3 : arg3.IsWhole)
    (arg4 : Memref sig .tc .vmem S256x1 .f32) (harg4 : arg4.IsWhole) (arg5 : Memref sig .tc .vmem S1x1024x1024 .f32) (harg5 : arg5.IsWhole)
    (arg6 : Memref sig .tc .vmem S1x512x1024 .f32) (harg6 : arg6.IsWhole) (arg7 : Memref sig .tc .vmem S256x1024 .bf16) (harg7 : arg7.IsWhole)
    (T0 : S288.Idx → BitVec 32) (T1 : S1.Idx → BitVec 32)
    (x0 : S256x1024.Idx → Elt F .bf16) (x1 : S256x1.Idx → Elt F .f32) (x2 : S1x1024x1024.Idx → Elt F .f32) (x3 : S1x512x1024.Idx → Elt F .f32)
    (u : S1024x1024.Idx → Elt F .bf16) (d : S512x1024.Idx → Elt F .bf16)
    (hc : Chg (F := F) T0 i) (h2 : ¬k0_cond2 i (wN (F := F) T1) = 1#1) (h3 : k0_cond3 i (wN (F := F) T1) = 1#1) (K : PUnit → sProp 𝕄) :
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (tbE.view.loc (c : Thread nD τ) ↦{fullShare.right} T0)
      ∗ (tbN.view.loc (c : Thread nD τ) ↦{fullShare.right} T1)
      ∗ (∃ d, owns (c : Thread nD τ) arg7 fullShare d)
      ∗ (scU.view.loc (c : Thread nD τ) ↦{fullShare} u)
      ∗ (scD.view.loc (c : Thread nD τ) ↦{fullShare} d)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbE.view.loc (c : Thread nD τ) ↦{fullShare.right} T0)
          ∗ (tbN.view.loc (c : Thread nD τ) ↦{fullShare.right} T1)
          ∗ owns (c : Thread nD τ) arg7 fullShare (k0_pay4 (F := F))
          ∗ (scU.view.loc (c : Thread nD τ) ↦{fullShare} (k0_pay1 x2 : S1024x1024.Idx → Elt F .bf16))
          ∗ (scD.view.loc (c : Thread nD τ) ↦{fullShare} (k0_pay2 x3 : S512x1024.Idx → Elt F .bf16))) -∗ K ⟨⟩))
      ⊢ wp frame (wpE (defs₀ (F := F)) Variants.none c none) Set.univ
          (cc0_moe_experts i tbE (Memref.isWhole_whole _) tbN (Memref.isWhole_whole _) arg3 harg3 arg4 harg4 arg5 harg5 arg6 harg6 arg7 harg7
            scU (Memref.isWhole_whole _) scD (Memref.isWhole_whole _)) K := by
  unfold Chg wE wP at hc
  unfold wN at h2 h3
  unfold owns
  rw [cc0_moe_experts_eq_skeleton]; unfold cc0_moe_experts_skel
  iintro ⟨H0, H1, H2, H3, HT0, HT1, ⟨%d4, %f4, -, HO4⟩, HS0, HS1, Hk⟩
  have hS0 : scU.IsWhole := Memref.isWhole_whole _
  have hS1 : scD.IsWhole := Memref.isWhole_whole _
  have hT0 : tbE.IsWhole := Memref.isWhole_whole _
  have hT1 : tbN.IsWhole := Memref.isWhole_whole _
  sl_exec! (disch := first | (guard_target = Scalar.cmpi .ne _ _ = _; exact hc) | (guard_target = ¬(k0_cond2 _ _ = _); exact h2) | (guard_target = k0_cond3 _ _ = _; exact h3))
  sl_step
  iapply Hk
  have eU : scU.view.writes (Elt F) (View.junk (Val := Elt F) scU.view) (run_new_idle.sl.HS0_1 arg5 x2) = (k0_pay1 x2 : S1024x1024.Idx → Elt F .bf16) := by
    unfold run_new_idle.sl.HS0_1
    rw [View.readAt_rep_full]
    exact putU _
  have eD : scD.view.writes (Elt F) (View.junk (Val := Elt F) scD.view) (run_new_idle.sl.HS1_1 arg6 x3) = (k0_pay2 x3 : S512x1024.Idx → Elt F .bf16) := by
    unfold run_new_idle.sl.HS1_1
    rw [View.readAt_rep_full]
    exact putD _
  rw [eU, eD]
  have eO : View.read (Elt F) arg7.view (arg7.view.writes (Elt F) (View.junk (Val := Elt F) arg7.view) run_new_idle.sl.HO4_1) = (k0_pay4 (F := F)) := by
    unfold run_new_idle.sl.HO4_1
    exact View.read_writes_full _ _ _ _ _
  isplitl [H0]; · iexact H0
  isplitl [H1]; · iexact H1
  isplitl [H2]; · iexact H2
  isplitl [H3]; · iexact H3
  isplitl [HT0]; · iexact HT0
  isplitl [HT1]; · iexact HT1
  isplitl [HO4]
  · iexists _
    isplitr
    · ipureintro; exact eO
    · iexact HO4
  isplitl [HS0]; · iexact HS0
  iexact HS1

set_option maxHeartbeats 1000000 in
/-- The body at a block of the expert before and in use. -/
theorem run_same (c : Dev nD) (i : grid0.Coords) (arg3 : Memref sig .tc .vmem S256x1024 .bf16) (harg3 : arg3.IsWhole)
    (arg4 : Memref sig .tc .vmem S256x1 .f32) (harg4 : arg4.IsWhole) (arg5 : Memref sig .tc .vmem S1x1024x1024 .f32) (harg5 : arg5.IsWhole)
    (arg6 : Memref sig .tc .vmem S1x512x1024 .f32) (harg6 : arg6.IsWhole) (arg7 : Memref sig .tc .vmem S256x1024 .bf16) (harg7 : arg7.IsWhole)
    (T0 : S288.Idx → BitVec 32) (T1 : S1.Idx → BitVec 32)
    (x0 : S256x1024.Idx → Elt F .bf16) (x1 : S256x1.Idx → Elt F .f32) (x2 : S1x1024x1024.Idx → Elt F .f32) (x3 : S1x512x1024.Idx → Elt F .f32)
    (u : S1024x1024.Idx → Elt F .bf16) (d : S512x1024.Idx → Elt F .bf16)
    (hc : ¬Chg (F := F) T0 i) (h2 : k0_cond2 i (wN (F := F) T1) = 1#1) (h3 : ¬k0_cond3 i (wN (F := F) T1) = 1#1) (K : PUnit → sProp 𝕄) :
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (tbE.view.loc (c : Thread nD τ) ↦{fullShare.right} T0)
      ∗ (tbN.view.loc (c : Thread nD τ) ↦{fullShare.right} T1)
      ∗ (∃ d, owns (c : Thread nD τ) arg7 fullShare d)
      ∗ (scU.view.loc (c : Thread nD τ) ↦{fullShare} u)
      ∗ (scD.view.loc (c : Thread nD τ) ↦{fullShare} d)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbE.view.loc (c : Thread nD τ) ↦{fullShare.right} T0)
          ∗ (tbN.view.loc (c : Thread nD τ) ↦{fullShare.right} T1)
          ∗ owns (c : Thread nD τ) arg7 fullShare (k0_pay3 x0 u d x1)
          ∗ (scU.view.loc (c : Thread nD τ) ↦{fullShare} u)
          ∗ (scD.view.loc (c : Thread nD τ) ↦{fullShare} d)) -∗ K ⟨⟩))
      ⊢ wp frame (wpE (defs₀ (F := F)) Variants.none c none) Set.univ
          (cc0_moe_experts i tbE (Memref.isWhole_whole _) tbN (Memref.isWhole_whole _) arg3 harg3 arg4 harg4 arg5 harg5 arg6 harg6 arg7 harg7
            scU (Memref.isWhole_whole _) scD (Memref.isWhole_whole _)) K := by
  unfold Chg wE wP at hc
  unfold wN at h2 h3
  unfold owns
  rw [cc0_moe_experts_eq_skeleton]; unfold cc0_moe_experts_skel
  iintro ⟨H0, H1, H2, H3, HT0, HT1, ⟨%d4, %f4, -, HO4⟩, HS0, HS1, Hk⟩
  have hS0 : scU.IsWhole := Memref.isWhole_whole _
  have hS1 : scD.IsWhole := Memref.isWhole_whole _
  have hT0 : tbE.IsWhole := Memref.isWhole_whole _
  have hT1 : tbN.IsWhole := Memref.isWhole_whole _
  sl_exec! (disch := first | (guard_target = ¬(Scalar.cmpi .ne _ _ = _); exact hc) | (guard_target = k0_cond2 _ _ = _; exact h2) | (guard_target = ¬(k0_cond3 _ _ = _); exact h3))
  sl_step
  iapply Hk
  have eO : View.read (Elt F) arg7.view (arg7.view.writes (Elt F) (View.junk (Val := Elt F) arg7.view) (run_same.sl.HO4_1 arg3 arg4 x0 x1 u d)) = (k0_pay3 x0 u d x1) := by
    unfold run_same.sl.HO4_1
    rw [View.read_writes_full, View.readAt_rep_full, View.readAt_rep_full, View.readAt_full, View.readAt_full]
    rfl
  isplitl [H0]; · iexact H0
  isplitl [H1]; · iexact H1
  isplitl [H2]; · iexact H2
  isplitl [H3]; · iexact H3
  isplitl [HT0]; · iexact HT0
  isplitl [HT1]; · iexact HT1
  isplitl [HO4]
  · iexists _
    isplitr
    · ipureintro; exact eO
    · iexact HO4
  isplitl [HS0]; · iexact HS0
  iexact HS1

set_option maxHeartbeats 1000000 in
/-- The body at a block of the expert before and not in use. -/
theorem run_same_idle (c : Dev nD) (i : grid0.Coords) (arg3 : Memref sig .tc .vmem S256x1024 .bf16) (harg3 : arg3.IsWhole)
    (arg4 : Memref sig .tc .vmem S256x1 .f32) (harg4 : arg4.IsWhole) (arg5 : Memref sig .tc .vmem S1x1024x1024 .f32) (harg5 : arg5.IsWhole)
    (arg6 : Memref sig .tc .vmem S1x512x1024 .f32) (harg6 : arg6.IsWhole) (arg7 : Memref sig .tc .vmem S256x1024 .bf16) (harg7 : arg7.IsWhole)
    (T0 : S288.Idx → BitVec 32) (T1 : S1.Idx → BitVec 32)
    (x0 : S256x1024.Idx → Elt F .bf16) (x1 : S256x1.Idx → Elt F .f32) (x2 : S1x1024x1024.Idx → Elt F .f32) (x3 : S1x512x1024.Idx → Elt F .f32)
    (u : S1024x1024.Idx → Elt F .bf16) (d : S512x1024.Idx → Elt F .bf16)
    (hc : ¬Chg (F := F) T0 i) (h2 : ¬k0_cond2 i (wN (F := F) T1) = 1#1) (h3 : k0_cond3 i (wN (F := F) T1) = 1#1) (K : PUnit → sProp 𝕄) :
    iprop((arg3.view.loc (c : Thread nD τ) ↦[arg3.view.set]{fullShare} arg3.view.rep x0)
      ∗ (arg4.view.loc (c : Thread nD τ) ↦[arg4.view.set]{fullShare} arg4.view.rep x1)
      ∗ (arg5.view.loc (c : Thread nD τ) ↦[arg5.view.set]{fullShare} arg5.view.rep x2)
      ∗ (arg6.view.loc (c : Thread nD τ) ↦[arg6.view.set]{fullShare} arg6.view.rep x3)
      ∗ (tbE.view.loc (c : Thread nD τ) ↦{fullShare.right} T0)
      ∗ (tbN.view.loc (c : Thread nD τ) ↦{fullShare.right} T1)
      ∗ (∃ d, owns (c : Thread nD τ) arg7 fullShare d)
      ∗ (scU.view.loc (c : Thread nD τ) ↦{fullShare} u)
      ∗ (scD.view.loc (c : Thread nD τ) ↦{fullShare} d)
      ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbE.view.loc (c : Thread nD τ) ↦{fullShare.right} T0)
          ∗ (tbN.view.loc (c : Thread nD τ) ↦{fullShare.right} T1)
          ∗ owns (c : Thread nD τ) arg7 fullShare (k0_pay4 (F := F))
          ∗ (scU.view.loc (c : Thread nD τ) ↦{fullShare} u)
          ∗ (scD.view.loc (c : Thread nD τ) ↦{fullShare} d)) -∗ K ⟨⟩))
      ⊢ wp frame (wpE (defs₀ (F := F)) Variants.none c none) Set.univ
          (cc0_moe_experts i tbE (Memref.isWhole_whole _) tbN (Memref.isWhole_whole _) arg3 harg3 arg4 harg4 arg5 harg5 arg6 harg6 arg7 harg7
            scU (Memref.isWhole_whole _) scD (Memref.isWhole_whole _)) K := by
  unfold Chg wE wP at hc
  unfold wN at h2 h3
  unfold owns
  rw [cc0_moe_experts_eq_skeleton]; unfold cc0_moe_experts_skel
  iintro ⟨H0, H1, H2, H3, HT0, HT1, ⟨%d4, %f4, -, HO4⟩, HS0, HS1, Hk⟩
  have hS0 : scU.IsWhole := Memref.isWhole_whole _
  have hS1 : scD.IsWhole := Memref.isWhole_whole _
  have hT0 : tbE.IsWhole := Memref.isWhole_whole _
  have hT1 : tbN.IsWhole := Memref.isWhole_whole _
  sl_exec! (disch := first | (guard_target = ¬(Scalar.cmpi .ne _ _ = _); exact hc) | (guard_target = ¬(k0_cond2 _ _ = _); exact h2) | (guard_target = k0_cond3 _ _ = _; exact h3))
  sl_step
  iapply Hk
  have eO : View.read (Elt F) arg7.view (arg7.view.writes (Elt F) (View.junk (Val := Elt F) arg7.view) run_same_idle.sl.HO4_1) = (k0_pay4 (F := F)) := by
    unfold run_same_idle.sl.HO4_1
    exact View.read_writes_full _ _ _ _ _
  isplitl [H0]; · iexact H0
  isplitl [H1]; · iexact H1
  isplitl [H2]; · iexact H2
  isplitl [H3]; · iexact H3
  isplitl [HT0]; · iexact HT0
  isplitl [HT1]; · iexact HT1
  isplitl [HO4]
  · iexists _
    isplitr
    · ipureintro; exact eO
    · iexact HO4
  isplitl [HS0]; · iexact HS0
  iexact HS1

end Cert.MoeIdeal.Own

end
-- ==== Proof.MoeIdealGrid.lean ====
module

public import proofs.«01_k».proof.Proof.MoeIdealBody
public import Idealize.ShloMosaic.Lib.Pipeline.ValueKit

@[expose] public section

set_option maxRecDepth 16384
set_option Elab.async false

noncomputable section

namespace Cert.MoeIdeal.Own

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The propositions of the logic at the program's memory. -/
local notation "𝕄" => MT nD τ sig Unit (Elt F) ℕ (UR sig nD τ) ℕ

/-- The resource algebra of the staging cells, embedded whole. -/
abbrev EP : Emb (UR sig nD τ) 𝕄 := emb₁

/-! ## The tables and the pipeline at them -/

/-- The tables' contents: the experts' numbers and the number of blocks in use. -/
def tabs (T0 : S288.Idx → BitVec 32) (T1 : S1.Idx → BitVec 32) : pre0.Contents (Elt F) :=
  fun | ⟨0, _⟩ => T0 | ⟨1, _⟩ => T1 | ⟨_ + 2, h⟩ => absurd h (by simp)

/-- Every expert's number below 32 makes every block of the two weight arrays lie inside its array. -/
theorem tabs_ok (T0 : S288.Idx → BitVec 32) (T1 : S1.Idx → BitVec 32) (h : ∀ x, (T0 x).toNat < 32) : ok0 (F := F) (tabs T0 T1) := by
  refine ⟨fun i => ⟨fun a => ?_, .inl rfl⟩, fun i => ⟨fun a => ?_, .inl rfl⟩⟩
  · have hx := h ((Rect.unit (s := S288) (k0_off1 i) S1.size (k0_off1_inb i)).emb (Shape.Idx.first (numel1_S1.symm ▸ Nat.one_pos)))
    fin_cases a
    · show ((T0 ((Rect.unit (s := S288) (k0_off1 i) S1.size (k0_off1_inb i)).emb (Shape.Idx.first (numel1_S1.symm ▸ Nat.one_pos)))).toNat + 1) * 1 ≤ 32
      omega
    · show (0 + 1) * 1024 ≤ 1024; omega
    · show (0 + 1) * 1024 ≤ 1024; omega
  · have hx := h ((Rect.unit (s := S288) (k0_off1 i) S1.size (k0_off1_inb i)).emb (Shape.Idx.first (numel1_S1.symm ▸ Nat.one_pos)))
    fin_cases a
    · show ((T0 ((Rect.unit (s := S288) (k0_off1 i) S1.size (k0_off1_inb i)).emb (Shape.Idx.first (numel1_S1.symm ▸ Nat.one_pos)))).toNat + 1) * 1 ≤ 32
      omega
    · show (0 + 1) * 512 ≤ 512; omega
    · show (0 + 1) * 1024 ≤ 1024; omega

variable (a : (pcfg0 (F := F)).Adm)

abbrev cfgA : Pipeline.Cfg sig Λ₀ := cfg0 (F := F) a
abbrev pcs : Fin 1 → Pipeline.Cfg sig Λ₀ := Pipeline.pin (pcfgs (F := F)) fun _ => a

/-- The two tables. -/
def tE : S288.Idx → BitVec 32 := a.1 0
def tN : S1.Idx → BitVec 32 := a.1 1

variable (m : (ℓ : Loc nD τ sig) → Buf (Elt F) ℓ) (ρ : Dev nD → PrngReg)

/-- The launch memory holds the tables. -/
def Held : Prop := ∀ (c : Dev nD) (j : Fin 2), m ((c : Thread nD τ).loc (pre0.ref j)) = a.1 j

/-- Point `t`'s coordinates. -/
abbrev crd (t : Fin (cfgA a).N) : grid0.Coords := (cfgA a).grid.coords t

/-- Each window's current staging memref at point `t`, and its wholeness. -/
abbrev ms0 (t : Fin (cfgA a).N) : Memref sig .tc .vmem S256x1024 .bf16 := spec0_0.stage ((cfgA a).slots t (0 : Fin 5))
abbrev hs0 (t : Fin (cfgA a).N) : (ms0 a t).IsWhole := hstage0_0 (((cfgA a).slots t (0 : Fin 5)).cast nbuf0_0)
abbrev ms1 (t : Fin (cfgA a).N) : Memref sig .tc .vmem S256x1 .f32 := spec0_1.stage ((cfgA a).slots t (1 : Fin 5))
abbrev hs1 (t : Fin (cfgA a).N) : (ms1 a t).IsWhole := hstage0_1 (((cfgA a).slots t (1 : Fin 5)).cast nbuf0_1)
abbrev ms2 (t : Fin (cfgA a).N) : Memref sig .tc .vmem S1x1024x1024 .f32 := spec0_2.stage ((cfgA a).slots t (2 : Fin 5))
abbrev hs2 (t : Fin (cfgA a).N) : (ms2 a t).IsWhole := hstage0_2 (((cfgA a).slots t (2 : Fin 5)).cast nbuf0_2)
abbrev ms3 (t : Fin (cfgA a).N) : Memref sig .tc .vmem S1x512x1024 .f32 := spec0_3.stage ((cfgA a).slots t (3 : Fin 5))
abbrev hs3 (t : Fin (cfgA a).N) : (ms3 a t).IsWhole := hstage0_3 (((cfgA a).slots t (3 : Fin 5)).cast nbuf0_3)
abbrev ms4 (t : Fin (cfgA a).N) : Memref sig .tc .vmem S256x1024 .bf16 := spec0_4.stage ((cfgA a).slots t (4 : Fin 5))
abbrev hs4 (t : Fin (cfgA a).N) : (ms4 a t).IsWhole := hstage0_4 (((cfgA a).slots t (4 : Fin 5)).cast nbuf0_4)

/-- Window `w`'s block at point `t`, read off its array at launch. -/
def iblk (c : Dev nD) (w : Fin (cfgA a).W) (t : Fin (cfgA a).N) : (((cfgA a).win w).xblock ((cfgA a).grid.coords t)).Idx → Elt F ((cfgA a).win w).elt :=
  (((cfgA a).win w).blk t).view.read (Elt F) ((s₀ m ρ).mem (((cfgA a).win w).arr.view.loc (c : Thread nD τ)))

/-! ## The schedule -/

theorem crd_val : ∀ t : Fin grid0.N, (grid0.coords t 0).val = t.val := by decide +kernel

theorem N_eq : (cfgA a).N = 288 := N_0

theorem crd0 (t : Fin (cfgA a).N) : (crd a t 0).val = t.val := crd_val t

/-- The expert of block `n`. -/
def ex (n : ℕ) (h : n < 288) : BitVec 32 := tE a (ix1 ⟨n, h⟩)

theorem wE_eq (t : Fin (cfgA a).N) : wE (F := F) (tE a) (crd a t) = ex a t.val t.isLt := by
  have := crd0 a t
  have e : Affine.IsInt (BitVec.ofNat 32 t.val) (t.val : ℤ) := Affine.ofNat _ (by have := t.isLt; have := N_eq a; omega)
  show tE a _ = tE a _
  refine congrArg (tE a) (funext fun b => ?_)
  fin_cases b
  refine Fin.ext ?_
  show k0_off1 (crd a t) 0 + 1 * 0 = t.val
  rw [k0_off1_eq]
  show (crd a t 0).val + 1 * 0 = t.val
  omega

theorem off2_val : ∀ t : Fin grid0.N, k0_off2 (grid0.coords t) 0 = t.val - 1 := by decide +kernel

theorem wP_eq (t : Fin (cfgA a).N) (h : t.val - 1 < 288) : wP (F := F) (tE a) (crd a t) = ex a (t.val - 1) h := by
  show tE a _ = tE a _
  refine congrArg (tE a) (funext fun b => ?_)
  fin_cases b
  refine Fin.ext ?_
  show k0_off2 (crd a t) 0 + 1 * 0 = t.val - 1
  have := off2_val t
  show k0_off2 (grid0.coords t) 0 + 1 * 0 = t.val - 1
  omega

theorem flag (b : BitVec 1) : Scalar.cmpi .ne (Scalar.extui b : BitVec 32) 0#32 = b := by
  revert b; decide

/-- The body stores its output at every point: either the block is in use or it is not. -/
theorem cond3_iff (i : grid0.Coords) (w : BitVec 32) : k0_cond3 i w = 1#1 ↔ ¬k0_cond2 i w = 1#1 := by
  show Scalar.cmpi .ne (Scalar.extui _ : BitVec 32) 0#32 = 1#1 ↔ ¬Scalar.cmpi .ne (Scalar.extui _ : BitVec 32) 0#32 = 1#1
  rw [flag, flag]
  show BitVec.ofBool (BitVec.sle w (BitVec.ofNat 32 (i 0).val)) = 1#1 ↔ ¬BitVec.ofBool (BitVec.slt (BitVec.ofNat 32 (i 0).val) w) = 1#1
  generalize BitVec.ofNat 32 (i 0).val = v
  have hb : ∀ b : Bool, BitVec.ofBool b = 1#1 ↔ b = true := by decide
  rw [hb, hb, BitVec.sle_iff_toInt_le, BitVec.slt_iff_toInt_lt]; omega

/-- Whether a block is in use, as a comparison of integers. -/
theorem cond2_iff (i : grid0.Coords) (w : BitVec 32) : k0_cond2 i w = 1#1 ↔ (BitVec.ofNat 32 (i 0).val).toInt < w.toInt := by
  show Scalar.cmpi .ne (Scalar.extui _ : BitVec 32) 0#32 = 1#1 ↔ _
  rw [flag]
  show BitVec.ofBool (BitVec.slt (BitVec.ofNat 32 (i 0).val) w) = 1#1 ↔ _
  have hb : ∀ b : Bool, BitVec.ofBool b = 1#1 ↔ b = true := by decide
  rw [hb, BitVec.slt_iff_toInt_lt]

theorem not_chg (n x y : BitVec 32)
    (h : ¬Scalar.cmpi .ne (Scalar.extui (Scalar.ori (Scalar.cmpi .eq n 0#32) (Scalar.cmpi .ne x y)) : BitVec 32) 0#32 = 1#1) :
    n ≠ 0#32 ∧ x = y := by
  rw [flag] at h
  have hb : ∀ b c : Bool, ¬Scalar.ori (BitVec.ofBool b) (BitVec.ofBool c) = 1#1 → b = false ∧ c = false := by decide
  have := hb _ _ (show ¬Scalar.ori (BitVec.ofBool (n == 0#32)) (BitVec.ofBool (x != y)) = 1#1 from h)
  simpa using this

/-- Where the expert is not new, the point is not the first and the expert is the block before's. -/
theorem same_of_not_Chg (t : Fin (cfgA a).N) (h : ¬Chg (F := F) (tE a) (crd a t)) :
    t.val ≠ 0 ∧ ∀ h', ex a t.val t.isLt = ex a (t.val - 1) h' := by
  obtain ⟨h1, h2⟩ := not_chg _ _ _ h
  refine ⟨fun h0 => h1 ?_, fun h' => ?_⟩
  · rw [crd0, h0]
  · rw [← wE_eq, h2, wP_eq]

theorem idle4 (t : Fin (cfgA a).N) : (cfgA a).idle (4 : Fin 5) ((cfgA a).grid.coords t) = false := by
  show (!(k0_cond2 (crd a t) (a.1.atD 1 ![0]) == 1#1) && !(k0_cond3 (crd a t) (a.1.atD 1 ![0]) == 1#1)) = false
  generalize (a.1.atD 1 ![0] : BitVec 32) = w
  have := cond3_iff (crd a t) w
  by_cases h : k0_cond2 (crd a t) w = 1#1
  · simp [h]
  · simp [this.2 h]

/-- The weight windows' block index. -/
theorem index2 (t : Fin (cfgA a).N) : ((cfgA a).win (2 : Fin 5)).index t = ![(ex a t.val t.isLt).toNat, 0, 0] := by
  rw [← wE_eq]
  rfl
theorem index3 (t : Fin (cfgA a).N) : ((cfgA a).win (3 : Fin 5)).index t = ![(ex a t.val t.isLt).toNat, 0, 0] := by
  rw [← wE_eq]
  rfl
theorem index0 (t : Fin (cfgA a).N) : ((cfgA a).win (0 : Fin 5)).index t = ![t.val, 0] := (by decide +kernel : ∀ t : Fin grid0.N, cc0_transform_0 (grid0.coords t) = ![t.val, 0]) t
theorem index1 (t : Fin (cfgA a).N) : ((cfgA a).win (1 : Fin 5)).index t = ![t.val, 0] := (by decide +kernel : ∀ t : Fin grid0.N, cc0_transform_1 (grid0.coords t) = ![t.val, 0]) t
theorem index4 (t : Fin (cfgA a).N) : ((cfgA a).win (4 : Fin 5)).index t = ![t.val, 0] := (by decide +kernel : ∀ t : Fin grid0.N, cc0_transform_4 (grid0.coords t) = ![t.val, 0]) t

theorem ex_lt (n : ℕ) (h : n < 288) : (ex a n h).toNat < 32 := by
  have hb := (a.2.1 (crd a ⟨n, h⟩)).elim fun h _ => h 0
  have e := index2 a ⟨n, h⟩
  have e' := congrFun e 0
  have hb' : (((cfgA a).win (2 : Fin 5)).index ⟨n, h⟩ 0 + 1) * 1 ≤ 32 := hb
  rw [e'] at hb'
  have : ((ex a n h).toNat + 1) * 1 ≤ 32 := hb'
  omega

theorem rd2 (c : Dev nD) (t : Fin (cfgA a).N) (i j : Fin 1024) :
    iblk a m ρ c 2 t (ix3 0 i j) = m ((c : Thread nD τ).loc main_arg4) (ix3 (⟨(ex a t.val t.isLt).toNat, ex_lt a _ _⟩ : Fin 32) i j) := by
  blk_ext [iblk, s₀]
  · exact congrFun (index2 a t) (0 : Fin 3)
  · exact (congrArg (fun n => n * 1024 + i.val) (congrFun (index2 a t) (1 : Fin 3))).trans (by show 0 * 1024 + i.val = i.val; omega)
  · exact (congrArg (fun n => n * 1024 + j.val) (congrFun (index2 a t) (2 : Fin 3))).trans (by show 0 * 1024 + j.val = j.val; omega)
theorem rd3 (c : Dev nD) (t : Fin (cfgA a).N) (i : Fin 512) (j : Fin 1024) :
    iblk a m ρ c 3 t (ix3 0 i j) = m ((c : Thread nD τ).loc main_arg5) (ix3 (⟨(ex a t.val t.isLt).toNat, ex_lt a _ _⟩ : Fin 32) i j) := by
  blk_ext [iblk, s₀]
  · exact congrFun (index3 a t) (0 : Fin 3)
  · exact (congrArg (fun n => n * 512 + i.val) (congrFun (index3 a t) (1 : Fin 3))).trans (by show 0 * 512 + i.val = i.val; omega)
  · exact (congrArg (fun n => n * 1024 + j.val) (congrFun (index3 a t) (2 : Fin 3))).trans (by show 0 * 1024 + j.val = j.val; omega)

theorem rd0 (c : Dev nD) (t : Fin (cfgA a).N) (i : Fin 256) (j : Fin 1024) :
    iblk a m ρ c 0 t (ix2 i j) = m ((c : Thread nD τ).loc main_arg2) (ix2 (⟨t.val * 256 + i.val, by have := t.isLt; have := N_eq a; omega⟩ : Fin 73728) j) := by
  blk_ext [iblk, s₀]
  · exact congrArg (fun n => n * 256 + i.val) (congrFun (index0 a t) (0 : Fin 2))
  · exact (congrArg (fun n => n * 1024 + j.val) (congrFun (index0 a t) (1 : Fin 2))).trans (by show 0 * 1024 + j.val = j.val; omega)
theorem rd1 (c : Dev nD) (t : Fin (cfgA a).N) (i : Fin 256) :
    iblk a m ρ c 1 t (ix2 i 0) = m ((c : Thread nD τ).loc main_arg3) (ix2 (⟨t.val * 256 + i.val, by have := t.isLt; have := N_eq a; omega⟩ : Fin 73728) 0) := by
  blk_ext [iblk, s₀]
  · exact congrArg (fun n => n * 256 + i.val) (congrFun (index1 a t) (0 : Fin 2))
  · exact congrFun (index1 a t) (1 : Fin 2)

/-- Two points of one expert have the same weight blocks. -/
theorem iblk2_congr (c : Dev nD) (t t' : Fin (cfgA a).N) (h : ex a t.val t.isLt = ex a t'.val t'.isLt) :
    (iblk a m ρ c 2 t : S1x1024x1024.Idx → Elt F .f32) = iblk a m ρ c 2 t' := by
  funext y
  obtain ⟨z, i, j, rfl⟩ : ∃ (z : Fin 1) (i j : Fin 1024), y = ix3 z i j := ⟨y (0 : Fin 3), y (1 : Fin 3), y (2 : Fin 3), by funext b; fin_cases b <;> rfl⟩
  obtain rfl : z = 0 := Subsingleton.elim _ _
  exact (rd2 a m ρ c t i j).trans ((congrArg (fun e : Fin 32 => m ((c : Thread nD τ).loc main_arg4) (ix3 e i j)) (Fin.ext (congrArg BitVec.toNat h))).trans (rd2 a m ρ c t' i j).symm)
theorem iblk3_congr (c : Dev nD) (t t' : Fin (cfgA a).N) (h : ex a t.val t.isLt = ex a t'.val t'.isLt) :
    (iblk a m ρ c 3 t : S1x512x1024.Idx → Elt F .f32) = iblk a m ρ c 3 t' := by
  funext y
  obtain ⟨z, i, j, rfl⟩ : ∃ (z : Fin 1) (i : Fin 512) (j : Fin 1024), y = ix3 z i j := ⟨y (0 : Fin 3), y (1 : Fin 3), y (2 : Fin 3), by funext b; fin_cases b <;> rfl⟩
  obtain rfl : z = 0 := Subsingleton.elim _ _
  exact (rd3 a m ρ c t i j).trans ((congrArg (fun e : Fin 32 => m ((c : Thread nD τ).loc main_arg5) (ix3 e i j)) (Fin.ext (congrArg BitVec.toNat h))).trans (rd3 a m ρ c t' i j).symm)

end Cert.MoeIdeal.Own

end
-- ==== Proof.MoeIdealFrame.lean ====
module

public import proofs.«01_k».proof.Proof.MoeIdealGrid

@[expose] public section

set_option maxRecDepth 16384
set_option Elab.async false

noncomputable section

namespace Cert.MoeIdeal.Own

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The propositions of the logic at the program's memory. -/
local notation "𝕄" => MT nD τ sig Unit (Elt F) ℕ (UR sig nD τ) ℕ

variable (a : (pcfg0 (F := F)).Adm) (m : (ℓ : Loc nD τ sig) → Buf (Elt F) ℓ) (ρ : Dev nD → PrngReg)

/-- Whether block `t` is in use. -/
def Used (t : Fin (cfgA a).N) : Prop := k0_cond2 (crd a t) (wN (F := F) (tN a)) = 1#1

open Classical in
/-- What the body leaves in the output's staging buffer at point `t`. -/
def out (c : Dev nD) (t : Fin (cfgA a).N) : S256x1024.Idx → Elt F .bf16 :=
  if Used a t then
    k0_pay3 (iblk a m ρ c (0 : Fin 5) t) (k0_pay1 (iblk a m ρ c (2 : Fin 5) t)) (k0_pay2 (iblk a m ρ c (3 : Fin 5) t)) (iblk a m ρ c (1 : Fin 5) t)
  else k0_pay4

/-- The expert's two weight blocks at point `t`, as the scratch arrays hold them. -/
def scrU (c : Dev nD) (t : Fin (cfgA a).N) : S1024x1024.Idx → Elt F .bf16 := k0_pay1 (iblk a m ρ c (2 : Fin 5) t)
def scrD (c : Dev nD) (t : Fin (cfgA a).N) : S512x1024.Idx → Elt F .bf16 := k0_pay2 (iblk a m ρ c (3 : Fin 5) t)

/-- The invariant before point `n`: past the first point the scratch arrays hold the weights of the point before; the body's
    halves of the tables. -/
def Phi (c : Dev nD) (n : Fin ((cfgA a).N + 1)) : sProp 𝕄 :=
  iprop((∃ u, ⌜∀ h : n.val ≠ 0, u = scrU a m ρ c ⟨n.val - 1, by omega⟩⌝ ∗ (scU.view.loc (c : Thread nD τ) ↦{fullShare} u))
    ∗ (∃ d, ⌜∀ h : n.val ≠ 0, d = scrD a m ρ c ⟨n.val - 1, by omega⟩⌝ ∗ (scD.view.loc (c : Thread nD τ) ↦{fullShare} d))
    ∗ (tbE.view.loc (c : Thread nD τ) ↦{fullShare.right} tE a) ∗ (tbN.view.loc (c : Thread nD τ) ↦{fullShare.right} tN a))

/-- The proof data of the one pipeline on core `c`. -/
def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => out a m ρ c t
  Φ t := Phi a m ρ c t
  q _ := fullShare
  owed _ := 0

theorem after0_0 (c : Dev nD) (t : Fin (cfgA a).N) : (dats a m ρ 0 c).after (0 : Fin 5) t = iblk a m ρ c (0 : Fin 5) t := rfl
theorem after0_1 (c : Dev nD) (t : Fin (cfgA a).N) : (dats a m ρ 0 c).after (1 : Fin 5) t = iblk a m ρ c (1 : Fin 5) t := rfl
theorem after0_2 (c : Dev nD) (t : Fin (cfgA a).N) : (dats a m ρ 0 c).after (2 : Fin 5) t = iblk a m ρ c (2 : Fin 5) t := rfl
theorem after0_3 (c : Dev nD) (t : Fin (cfgA a).N) : (dats a m ρ 0 c).after (3 : Fin 5) t = iblk a m ρ c (3 : Fin 5) t := rfl
theorem after0_4 (c : Dev nD) (t : Fin (cfgA a).N) : (dats a m ρ 0 c).after (4 : Fin 5) t = out a m ρ c t := rfl

/-- An input window holds its block when the body runs, fetched there or not. -/
theorem before0_0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- The body at point `t` on its staging memrefs, as the pipeline calls it. -/
abbrev bodyAt (t : Fin (cfgA a).N) : Prog (TpuEff nD τ sig (Elt F) Λ₀ .tc) PUnit :=
  cc0_moe_experts (crd a t) tbE (Memref.isWhole_whole _) tbN (Memref.isWhole_whole _) (ms0 a t) (hs0 a t) (ms1 a t) (hs1 a t) (ms2 a t) (hs2 a t) (ms3 a t) (hs3 a t) (ms4 a t) (hs4 a t) scU (Memref.isWhole_whole _) scD (Memref.isWhole_whole _)

set_option maxHeartbeats 2000000 in
/-- One run of the body as the pipeline needs it, whatever the point: the output at `out`, the scratch arrays at the point's weights. -/
theorem run_at (c : Dev nD) (t : Fin (cfgA a).N) (u : S1024x1024.Idx → Elt F .bf16) (d : S512x1024.Idx → Elt F .bf16)
    (hu : ∀ h : t.val ≠ 0, u = scrU a m ρ c ⟨t.val - 1, by omega⟩) (hd : ∀ h : t.val ≠ 0, d = scrD a m ρ c ⟨t.val - 1, by omega⟩)
    (K : PUnit → sProp 𝕄) :
    iprop(((ms0 a t).view.loc (c : Thread nD τ) ↦[(ms0 a t).view.set]{fullShare} (ms0 a t).view.rep (iblk a m ρ c (0 : Fin 5) t))
      ∗ ((ms1 a t).view.loc (c : Thread nD τ) ↦[(ms1 a t).view.set]{fullShare} (ms1 a t).view.rep (iblk a m ρ c (1 : Fin 5) t))
      ∗ ((ms2 a t).view.loc (c : Thread nD τ) ↦[(ms2 a t).view.set]{fullShare} (ms2 a t).view.rep (iblk a m ρ c (2 : Fin 5) t))
      ∗ ((ms3 a t).view.loc (c : Thread nD τ) ↦[(ms3 a t).view.set]{fullShare} (ms3 a t).view.rep (iblk a m ρ c (3 : Fin 5) t))
      ∗ (tbE.view.loc (c : Thread nD τ) ↦{fullShare.right} tE a)
      ∗ (tbN.view.loc (c : Thread nD τ) ↦{fullShare.right} tN a)
      ∗ (∃ e, owns (c : Thread nD τ) (ms4 a t) fullShare e)
      ∗ (scU.view.loc (c : Thread nD τ) ↦{fullShare} u)
      ∗ (scD.view.loc (c : Thread nD τ) ↦{fullShare} d)
      ∗ (iprop(((ms0 a t).view.loc (c : Thread nD τ) ↦[(ms0 a t).view.set]{fullShare} (ms0 a t).view.rep (iblk a m ρ c (0 : Fin 5) t))
          ∗ ((ms1 a t).view.loc (c : Thread nD τ) ↦[(ms1 a t).view.set]{fullShare} (ms1 a t).view.rep (iblk a m ρ c (1 : Fin 5) t))
          ∗ ((ms2 a t).view.loc (c : Thread nD τ) ↦[(ms2 a t).view.set]{fullShare} (ms2 a t).view.rep (iblk a m ρ c (2 : Fin 5) t))
          ∗ ((ms3 a t).view.loc (c : Thread nD τ) ↦[(ms3 a t).view.set]{fullShare} (ms3 a t).view.rep (iblk a m ρ c (3 : Fin 5) t))
          ∗ (tbE.view.loc (c : Thread nD τ) ↦{fullShare.right} tE a)
          ∗ (tbN.view.loc (c : Thread nD τ) ↦{fullShare.right} tN a)
          ∗ owns (c : Thread nD τ) (ms4 a t) fullShare (out a m ρ c t)
          ∗ (scU.view.loc (c : Thread nD τ) ↦{fullShare} scrU a m ρ c t)
          ∗ (scD.view.loc (c : Thread nD τ) ↦{fullShare} scrD a m ρ c t)) -∗ K ⟨⟩))
      ⊢ wp frame (wpE (defs₀ (F := F)) Variants.none c none) Set.univ (bodyAt a t) K := by
  have hlt := t.isLt
  have hN := N_eq a
  by_cases hc : Chg (F := F) (tE a) (crd a t)
  · by_cases h2 : Used a t
    · have h3 : ¬k0_cond3 (crd a t) (wN (F := F) (tN a)) = 1#1 := fun h => (cond3_iff _ _).1 h h2
      unfold out scrU scrD
      rw [if_pos h2]
      exact run_new c (crd a t) (ms0 a t) (hs0 a t) (ms1 a t) (hs1 a t) (ms2 a t) (hs2 a t) (ms3 a t) (hs3 a t) (ms4 a t) (hs4 a t) (tE a) (tN a) _ _ _ _ u d hc h2 h3 K
    · have h3 : k0_cond3 (crd a t) (wN (F := F) (tN a)) = 1#1 := (cond3_iff _ _).2 h2
      unfold out scrU scrD
      rw [if_neg h2]
      exact run_new_idle c (crd a t) (ms0 a t) (hs0 a t) (ms1 a t) (hs1 a t) (ms2 a t) (hs2 a t) (ms3 a t) (hs3 a t) (ms4 a t) (hs4 a t) (tE a) (tN a) _ _ _ _ u d hc h2 h3 K
  · obtain ⟨h0, hx⟩ := same_of_not_Chg a t hc
    have hx' := hx (by omega)
    have eu : u = scrU a m ρ c t := (hu h0).trans (by unfold scrU; rw [iblk2_congr a m ρ c t ⟨t.val - 1, by omega⟩ hx'])
    have ed : d = scrD a m ρ c t := (hd h0).trans (by unfold scrD; rw [iblk3_congr a m ρ c t ⟨t.val - 1, by omega⟩ hx'])
    subst eu ed
    by_cases h2 : Used a t
    · have h3 : ¬k0_cond3 (crd a t) (wN (F := F) (tN a)) = 1#1 := fun h => (cond3_iff _ _).1 h h2
      unfold out
      rw [if_pos h2]
      exact run_same c (crd a t) (ms0 a t) (hs0 a t) (ms1 a t) (hs1 a t) (ms2 a t) (hs2 a t) (ms3 a t) (hs3 a t) (ms4 a t) (hs4 a t) (tE a) (tN a) _ _ _ _ _ _ hc h2 h3 K
    · have h3 : k0_cond3 (crd a t) (wN (F := F) (tN a)) = 1#1 := (cond3_iff _ _).2 h2
      unfold out
      rw [if_neg h2]
      exact run_same_idle c (crd a t) (ms0 a t) (hs0 a t) (ms1 a t) (hs1 a t) (ms2 a t) (hs2 a t) (ms3 a t) (hs3 a t) (ms4 a t) (hs4 a t) (tE a) (tN a) _ _ _ _ _ _ hc h2 h3 K

set_option maxHeartbeats 2000000 in
/-- The body obligation at point `t`. -/
theorem sound_body (c : Dev nD) (t : Fin (cfgA a).N) :
    iprop((dats a m ρ 0 c).Φ t.castSucc ∗ (dats a m ρ 0 c).owesAt () t.castSucc
        ∗ (∃ d, owns (c : Thread nD τ) (ms0 a t) fullShare ((dats a m ρ 0 c).before (0 : Fin 5) t d))
        ∗ (∃ d, owns (c : Thread nD τ) (ms1 a t) fullShare ((dats a m ρ 0 c).before (1 : Fin 5) t d))
        ∗ (∃ d, owns (c : Thread nD τ) (ms2 a t) fullShare ((dats a m ρ 0 c).before (2 : Fin 5) t d))
        ∗ (∃ d, owns (c : Thread nD τ) (ms3 a t) fullShare ((dats a m ρ 0 c).before (3 : Fin 5) t d))
        ∗ (∃ d, owns (c : Thread nD τ) (ms4 a t) fullShare ((dats a m ρ 0 c).before (4 : Fin 5) t d)))
      ⊢ wp frame (wpE (defs₀ (F := F)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  rewrite [idle4 a t]
  simp only [before0_0, before0_1, before0_2, before0_3, after0_0, after0_1, after0_2, after0_3, after0_4]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  unfold Phi
  iintro ⟨⟨⟨%u, %hu, HS0⟩, ⟨%d, %hd, HS1⟩, HT0, HT1⟩, Ho, ⟨%d0, H0⟩, ⟨%d1, H1⟩, ⟨%d2, H2⟩, ⟨%d3, H3⟩, ⟨%d4, H4⟩⟩
  iapply (run_at a m ρ c t u d hu hd _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  isplitl [HS1]; · iexact HS1
  iintro ⟨H0, H1, H2, H3, HT0, HT1, H4, HS0, HS1⟩
  isplitl [HS0 HS1 HT0 HT1]
  · isplitl [HS0]
    · iexists _; isplitr; swap
      · iexact HS0
      · ipureintro; intro hn; rfl
    isplitl [HS1]
    · iexists _; isplitr; swap
      · iexact HS1
      · ipureintro; intro hn; rfl
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iexact H4

/-- The library's body obligation, at every point. -/
theorem body_obligation (c : Dev nD) : BodyObligation (dats a m ρ 0 c) (defs₀ (F := F)) Variants.none () Set.univ := fun t => by
  rw [bigSep_W0]
  exact sound_body a m ρ c t

/-! ## The launch -/

/-- The rounds library's launch element. -/
def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers, -/
theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HT0]
  · iexact HT0
  iexact HT1

/-- and at the last point the scratch buffers given back. -/
theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- Every array at what the library computes, every table at what the pipeline ran at. -/
def QC : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 2000000 in
/-- From any memory holding the tables every weakly fair execution terminates with each array at the computed contents and every
    counter at zero. -/
theorem run_main (hp : Held a m) : θ_run (defs (F := F)) (onTc (τ := τ) (main (F := F))) (s₀ m ρ) (fun r => QC a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre EP defs₀ Variants.none m ρ main
    (hbody := fun c => (body_obligation a m ρ c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The argument arrays end unchanged and every counter of the machine reads zero at every final state. -/
theorem frame (hp : Held a m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 0).trans (hp c 0).symm, ((h.1 c).2 1).trans (hp c 1).symm,
    ((h.1 c).1 (0 : Fin 5)).trans ((dats a m ρ 0 c).arrAt_in (0 : Fin 5) rfl _), ((h.1 c).1 (1 : Fin 5)).trans ((dats a m ρ 0 c).arrAt_in (1 : Fin 5) rfl _),
    ((h.1 c).1 (2 : Fin 5)).trans ((dats a m ρ 0 c).arrAt_in (2 : Fin 5) rfl _), ((h.1 c).1 (3 : Fin 5)).trans ((dats a m ρ 0 c).arrAt_in (3 : Fin 5) rfl _)⟩, h.2⟩)
    (run_main a m ρ hp)

end Cert.MoeIdeal.Own

end
-- ==== Proof.MoeRefAt.lean ====
/- The expert layer's reference, read at one index. -/
module

public import Idealize.ShloMosaic.Lib.Pipeline.ValueKit
public import proofs.«01_k».proof.Proof.Gen.MoeRefIdeal
public import proofs.«01_k».proof.Proof.Gen.MoeRefIdeal.Read

@[expose] public section

set_option maxRecDepth 16384

noncomputable section

open Idealize.ShloMosaic

namespace Cert.MoeRefIdeal.Own

open Cert.MoeRefIdeal Cert.MoeRefIdeal.Gen Cert.MoeRefIdeal.Read

/-! ## Whole matrices taken from a stack of them -/

/-- The dimension numbers of a gather of whole `A × B` matrices, one per start index. -/
abbrev pickDims (N A B C : Nat)
    (wf : GatherDims.WF ⟨3, ![N, A, B]⟩ ⟨2, ![C, 1]⟩ ⟨3, ![C, A, B]⟩ [1, 2] [0] [] [0] [] 1 ![1, A, B]) :
    GatherDims ⟨3, ![N, A, B]⟩ ⟨2, ![C, 1]⟩ ⟨3, ![C, A, B]⟩ where
  offsetDims := [1, 2]
  collapsedSliceDims := [0]
  operandBatchingDims := []
  startIndicesBatchingDims := []
  startIndexMap := [0]
  indexVectorDim := 1
  sliceSizes := ![1, A, B]
  wf := wf

/-- Block `b`'s matrix is the stack's at the number `b`'s start index holds, when that number is one of the stack's. -/
theorem pick_apply {α : Type} {N A B C : Nat}
    (wf : GatherDims.WF ⟨3, ![N, A, B]⟩ ⟨2, ![C, 1]⟩ ⟨3, ![C, A, B]⟩ [1, 2] [0] [] [0] [] 1 ![1, A, B])
    (x : (⟨3, ![N, A, B]⟩ : Shape).Idx → α) (s : IVec ⟨2, ![C, 1]⟩ 32) (b : Fin C) (i : Fin A) (j : Fin B)
    (e : Fin N) (he : (s (ix2 b 0)).toInt = (e.val : ℤ)) :
    Host.gather (pickDims N A B C wf) x s (ix3 b i j) = x (ix3 e i j) := by
  unfold Host.gather
  congr 1
  funext a
  refine Fin.ext ?_
  show (pickDims N A B C wf).start (ix3 b i j) s a + (pickDims N A B C wf).batchCoord (ix3 b i j) a
      + (pickDims N A B C wf).offCoord (ix3 b i j) a = _
  rw [GatherDims.batchCoord_eq_zero _ _ _ (fun h => by simp at h)]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (pickDims N A B C wf).startIndexMap from List.mem_singleton.mpr rfl)]
    have hs : (pickDims N A B C wf).siIdx (ix3 b i j) ⟨List.idxOf (0 : Fin 3) (pickDims N A B C wf).startIndexMap,
        List.idxOf_lt_length_iff.2 (List.mem_singleton.mpr rfl)⟩ = ix2 b 0 := by
      funext k; refine Fin.ext ?_
      match k with
      | ⟨0, _⟩ => rfl
      | ⟨1, _⟩ => rfl
    have h1 : min (s (ix2 b 0)).toInt.toNat (N - 1) = e.val := by rw [he]; have := e.isLt; omega
    exact (congrArg (fun k => min (s k).toInt.toNat (N - 1) + 0 + 0) hs).trans (by simpa using h1)
  · unfold GatherDims.start GatherDims.offCoord
    rw [dif_neg (fun h => absurd (List.mem_singleton.mp h) (by simp)), dif_pos ((GatherDims.mem_sKept _ _).mpr ⟨fun h => absurd (List.mem_singleton.mp h) (by simp), fun h => by simp at h⟩)]
    show 0 + 0 + _ = i.val
    rw [Nat.zero_add]
    rfl
  · unfold GatherDims.start GatherDims.offCoord
    rw [dif_neg (fun h => absurd (List.mem_singleton.mp h) (by simp)), dif_pos ((GatherDims.mem_sKept _ _).mpr ⟨fun h => absurd (List.mem_singleton.mp h) (by simp), fun h => by simp at h⟩)]
    show 0 + 0 + _ = j.val
    rw [Nat.zero_add]
    rfl

/-! ## The stages -/

/-- A number below 32 is its own signed value. -/
theorem toInt_small (w : BitVec 32) (h : w.toNat < 32) : w.toInt = (w.toNat : ℤ) := by
  rw [BitVec.toInt_eq_toNat_cond]; split <;> omega

theorem not_neg (w : BitVec 32) (h : w.toNat < 32) : IntOp.cmpi .slt w 0#32 = 0#1 := by
  have hi := toInt_small w h
  show BitVec.ofBool (BitVec.slt w 0#32) = 0#1
  have hf : BitVec.slt w 0#32 = false := by
    rw [← Bool.not_eq_true, BitVec.slt_iff_toInt_lt, hi]
    simp
  rw [hf]; rfl

variable (x0 : IVec S288 32) (x1 : IVec S1 32) (x2 : FVec Ideal S73728x1024 .bf16) (x3 : FVec Ideal S73728x1 .f32)
  (x4 : FVec Ideal S32x1024x1024 .f32) (x5 : FVec Ideal S32x512x1024 .f32)

/-- A block's expert, counted from the front: its number is not negative. -/
theorem v7_at (b : Fin 288) (h : (x0 (ix1 b)).toNat < 32) : val_main_v7 (F := Ideal) x0 (ix2 b 0) = x0 (ix1 b) := by
  pointwise [val_main_v7, val_main_v6, val_main_v5, val_main_v4, val_main_v3, val_main_v2, val_main_c, val_main_c_0]
  rw [not_neg _ h]; rfl

theorem v19_at (b : Fin 288) (h : (x0 (ix1 b)).toNat < 32) : val_main_v19 (F := Ideal) x0 (ix2 b 0) = x0 (ix1 b) := by
  pointwise [val_main_v19, val_main_v18, val_main_v17, val_main_v16, val_main_v15, val_main_v14, val_main_c_1, val_main_c_2]
  rw [not_neg _ h]; rfl

theorem v8_at (b : Fin 288) (h : (x0 (ix1 b)).toNat < 32) (i f : Fin 1024) :
    val_main_v8 (F := Ideal) x0 x4 (ix3 b i f) = x4 (ix3 (⟨(x0 (ix1 b)).toNat, h⟩ : Fin 32) i f) :=
  pick_apply _ x4 _ b i f ⟨(x0 (ix1 b)).toNat, h⟩ (by rw [v7_at x0 b h]; exact toInt_small _ h)

theorem v20_at (b : Fin 288) (h : (x0 (ix1 b)).toNat < 32) (i : Fin 512) (f : Fin 1024) :
    val_main_v20 (F := Ideal) x0 x5 (ix3 b i f) = x5 (ix3 (⟨(x0 (ix1 b)).toNat, h⟩ : Fin 32) i f) :=
  pick_apply _ x5 _ b i f ⟨(x0 (ix1 b)).toNat, h⟩ (by rw [v19_at x0 b h]; exact toInt_small _ h)

theorem v1_at (b : Fin 288) (i : Fin 256) (k : Fin 1024) :
    val_main_v1 (F := Ideal) x2 (ix3 b i k) = x2 (ix2 (⟨b.val * 256 + i.val, by omega⟩ : Fin 73728) k) := by
  rw [val_main_v1_apply, show idx_main_v1 (ix3 b i k) = ix2 (⟨b.val * 256 + i.val, by omega⟩ : Fin 73728) k from by
    funext a
    match a with
    | ⟨0, _⟩ => exact Fin.ext (by show ((b.val * 256 + i.val) * 1024 + k.val) / 1024 = b.val * 256 + i.val; omega)
    | ⟨1, _⟩ => exact Fin.ext (by show ((b.val * 256 + i.val) * 1024 + k.val) % 1024 = k.val; omega)]
  pointwise [val_main_v0]

/-- The expert's up and gate products of a row. -/
theorem v9_at (b : Fin 288) (h : (x0 (ix1 b)).toNat < 32) (i : Fin 256) (f : Fin 1024) :
    val_main_v9 (F := Ideal) x0 x2 x4 (ix3 b i f)
      = ∑ k : Fin 1024, x2 (ix2 (⟨b.val * 256 + i.val, by omega⟩ : Fin 73728) k) * x4 (ix3 (⟨(x0 (ix1 b)).toNat, h⟩ : Fin 32) k f) := by
  unfold val_main_v9
  simp only [← v8_at x0 x4 b h, ← v1_at]
  generalize val_main_v8 (F := Ideal) x0 x4 = V
  generalize val_main_v1 (F := Ideal) x2 = W
  pointwise []

/-- The gated product: the gate through its logistic, times the other half. -/
theorem v13_at (b : Fin 288) (i : Fin 256) (f : Fin 512) :
    val_main_v13 (F := Ideal) x0 x2 x4 (ix3 b i f)
      = val_main_v9 (F := Ideal) x0 x2 x4 (ix3 b i (⟨f.val, by omega⟩ : Fin 1024))
          * Ideal.logistic (val_main_v9 (F := Ideal) x0 x2 x4 (ix3 b i (⟨f.val, by omega⟩ : Fin 1024)))
          * val_main_v9 (F := Ideal) x0 x2 x4 (ix3 b i (⟨512 + f.val, by omega⟩ : Fin 1024)) := by
  have h4 : val_main_call0_v4 (F := Ideal) (ix3 b i f) = 1 := by pointwise [val_main_call0_v4, val_main_call0_cst_0]
  have h2 : val_main_call0_v2 (F := Ideal) (ix3 b i f) = 1 := by pointwise [val_main_call0_v2, val_main_call0_cst]
  unfold val_main_v13 val_main_v12 val_main_v11 val_main_call0_v5 val_main_call0_v3 val_main_call0_v1 val_main_call0_v0 val_main_v10
  generalize val_main_v9 (F := Ideal) x0 x2 x4 = V
  pointwise []
  rw [h4, h2]; rfl

theorem v21_at (b : Fin 288) (h : (x0 (ix1 b)).toNat < 32) (i : Fin 256) (j : Fin 1024) :
    val_main_v21 (F := Ideal) x0 x2 x4 x5 (ix3 b i j)
      = ∑ f : Fin 512, val_main_v13 (F := Ideal) x0 x2 x4 (ix3 b i f) * x5 (ix3 (⟨(x0 (ix1 b)).toNat, h⟩ : Fin 32) f j) := by
  unfold val_main_v21
  simp only [← v20_at x0 x5 b h]
  generalize val_main_v20 (F := Ideal) x0 x5 = V
  generalize val_main_v13 (F := Ideal) x0 x2 x4 = W
  pointwise []

theorem v22_at (b : Fin 288) (i : Fin 256) :
    val_main_v22 (F := Ideal) x3 (ix3 b i 0) = x3 (ix2 (⟨b.val * 256 + i.val, by omega⟩ : Fin 73728) 0) := by
  rw [val_main_v22_apply, show idx_main_v22 (ix3 b i 0) = ix2 (⟨b.val * 256 + i.val, by omega⟩ : Fin 73728) 0 from by
    funext a
    match a with
    | ⟨0, _⟩ => exact Fin.ext (by show ((b.val * 256 + i.val) * 1 + 0) / 1 = b.val * 256 + i.val; omega)
    | ⟨1, _⟩ => rfl]

theorem v24_at (b : Fin 288) (i : Fin 256) (j : Fin 1024) :
    val_main_v24 (F := Ideal) x0 x2 x3 x4 x5 (ix3 b i j)
      = val_main_v21 (F := Ideal) x0 x2 x4 x5 (ix3 b i j) * x3 (ix2 (⟨b.val * 256 + i.val, by omega⟩ : Fin 73728) 0) := by
  rw [← v22_at x3 b i]
  unfold val_main_v24 val_main_v23
  generalize val_main_v21 (F := Ideal) x0 x2 x4 x5 = V
  generalize val_main_v22 (F := Ideal) x3 = W
  pointwise []

open Classical in
/-- Blocks past the number in use are zero. -/
theorem v30_at (b : Fin 288) (i : Fin 256) (j : Fin 1024) :
    val_main_v30 (F := Ideal) x0 x1 x2 x3 x4 x5 (ix3 b i j)
      = if (BitVec.ofNat 32 b.val).toInt < (x1 (ix1 0)).toInt then val_main_v24 (F := Ideal) x0 x2 x3 x4 x5 (ix3 b i j) else 0 := by
  unfold val_main_v30
  generalize val_main_v24 (F := Ideal) x0 x2 x3 x4 x5 = V
  pointwise [val_main_call1_v1, val_main_call1_v2, val_main_call1_v0, val_main_cst, val_main_v29, val_main_v28, val_main_v27,
    val_main_v26, val_main_v25]
  show Scalar.select (BitVec.ofBool (BitVec.slt (BitVec.ofNat 32 b.val) (x1 (ix1 0)))) _ _ = _
  by_cases h : (BitVec.ofNat 32 b.val).toInt < (x1 (ix1 0)).toInt
  · rw [if_pos h, BitVec.slt_iff_toInt_lt.mpr h]; rfl
  · rw [if_neg h, show BitVec.slt (BitVec.ofNat 32 b.val) (x1 (ix1 0)) = false from by
      rw [← Bool.not_eq_true, BitVec.slt_iff_toInt_lt]; exact h]
    refine (if_neg (by decide)).trans ?_
    show constant (F := Ideal) S_ .f32 0#32 ix0 = 0
    pointwise []

/-- The result's row `t * 256 + i` is row `i` of block `t`. -/
theorem v32_at (r : Fin 73728) (b : Fin 288) (i : Fin 256) (hr : r.val = b.val * 256 + i.val) (j : Fin 1024) :
    val_main_v32 (F := Ideal) x0 x1 x2 x3 x4 x5 (ix2 r j) = val_main_v30 (F := Ideal) x0 x1 x2 x3 x4 x5 (ix3 b i j) := by
  have h31 : val_main_v31 (F := Ideal) x0 x1 x2 x3 x4 x5 (ix2 r j) = val_main_v30 (F := Ideal) x0 x1 x2 x3 x4 x5 (ix3 b i j) := by
    rw [val_main_v31_apply, show idx_main_v31 (ix2 r j) = ix3 b i j from by
      funext a
      match a with
      | ⟨0, _⟩ => exact Fin.ext (by show (r.val * 1024 + j.val) / 262144 = b.val; omega)
      | ⟨1, _⟩ => exact Fin.ext (by show (r.val * 1024 + j.val) / 1024 % 256 = i.val; omega)
      | ⟨2, _⟩ => exact Fin.ext (by show (r.val * 1024 + j.val) % 1024 = j.val; omega)]
  rw [← h31]
  unfold val_main_v32
  generalize val_main_v31 (F := Ideal) x0 x1 x2 x3 x4 x5 = V
  pointwise []

end Cert.MoeRefIdeal.Own

end

end
-- ==== Proof.MoeFinal.lean ====
/- The expert kernel's result array is the reference's, for expert numbers that name an expert. -/
module

public import proofs.«01_k».proof.Proof.MoeIdealFrame
public import proofs.«01_k».proof.Proof.MoeRefAt
public import proofs.«01_k».proof.Proof.Gen.Pre_experts_named

@[expose] public section

set_option maxRecDepth 16384

noncomputable section

open Idealize.ShloMosaic Idealize.ShloMosaic.TcCoe Idealize.SL.Sem
open Idealize.ShloMosaic.Pipeline (Dat)

namespace Cert.MoeIdeal.Own

open Cert.MoeIdeal Cert.MoeIdeal.Gen

/-! ## The stored blocks, entry by entry -/

theorem pay1_at (x : FVec Ideal S1x1024x1024 .f32) (i j : Fin 1024) : k0_pay1 (F := Ideal) x (ix2 i j) = x (ix3 0 i j) := by
  pointwise [k0_pay1]

theorem pay2_at (x : FVec Ideal S1x512x1024 .f32) (i : Fin 512) (j : Fin 1024) : k0_pay2 (F := Ideal) x (ix2 i j) = x (ix3 0 i j) := by
  pointwise [k0_pay2]

theorem pay4_at (i : Fin 256) (j : Fin 1024) : k0_pay4 (F := Ideal) (ix2 i j) = 0 := by
  pointwise [k0_pay4]

theorem pay3_at (x : FVec Ideal S256x1024 .bf16) (u : FVec Ideal S1024x1024 .bf16) (d : FVec Ideal S512x1024 .bf16)
    (w : FVec Ideal S256x1 .f32) (i : Fin 256) (j : Fin 1024) :
    k0_pay3 (F := Ideal) x u d w (ix2 i j)
      = (∑ f : Fin 512, ((∑ k : Fin 1024, x (ix2 i k) * u (ix2 k (⟨f.val, by omega⟩ : Fin 1024)))
            * Ideal.logistic (∑ k : Fin 1024, x (ix2 i k) * u (ix2 k (⟨f.val, by omega⟩ : Fin 1024)))
            * ∑ k : Fin 1024, x (ix2 i k) * u (ix2 k (⟨512 + f.val, by omega⟩ : Fin 1024))) * d (ix2 f j)) * w (ix2 i 0) := by
  pointwise [k0_pay3]

/-! ## The result array -/

variable (a : (pcfg0 (F := Ideal)).Adm) (m : (ℓ : Loc nD τ sig) → Buf (Elt Ideal) ℓ) (ρ : Dev nD → PrngReg)

/-- Tables of zeros. -/
def adm0 : (pcfg0 (F := Ideal)).Adm := ⟨tabs (fun _ => 0) (fun _ => 0), tabs_ok _ _ (fun _ => by decide)⟩

/-- The output's blocks cover it, whatever the tables. -/
theorem covers4 : ((cfgA a).win (4 : Fin 5)).Covers := (by decide +kernel : ((cfgA adm0).win (4 : Fin 5)).Covers)

theorem emb4 (t : Fin (cfgA a).N) (i : Fin 256) (j : Fin 1024) :
    (((cfgA a).win (4 : Fin 5)).blk t).view.emb (ix2 i j)
      = ix2 (⟨t.val * 256 + i.val, by have := t.isLt; have := N_eq a; omega⟩ : Fin 73728) j := by
  blk_ext []
  · exact congrArg (fun n => n * 256 + i.val) (congrFun (index4 a t) (0 : Fin 2))
  · exact (congrArg (fun n => n * 1024 + j.val) (congrFun (index4 a t) (1 : Fin 2))).trans (by show 0 * 1024 + j.val = j.val; omega)

/-- The number of blocks in use, as the body reads it. -/
theorem wN_eq (T : S1.Idx → BitVec 32) : wN (F := Ideal) T = T (ix1 0) := by
  show T _ = T _
  refine congrArg T (funext fun b => ?_)
  fin_cases b
  exact Subsingleton.elim (α := Fin 1) _ _

/-- What the body stores at a row and column is the reference there. -/
theorem point (hp : Held a m) (c : Dev nD) (t : Fin (cfgA a).N) (i : Fin 256) (j : Fin 1024) :
    out a m ρ c t (ix2 i j)
      = Cert.MoeRefIdeal.Read.val_main_v32 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (ix2 (⟨t.val * 256 + i.val, by have := t.isLt; have := N_eq a; omega⟩ : Fin 73728) j) := by
  have hN := N_eq a
  have h0 : m ((c : Thread nD τ).loc main_arg0) = tE a := hp c 0
  have h1 : m ((c : Thread nD τ).loc main_arg1) = tN a := hp c 1
  have hx : (tE a (ix1 (⟨t.val, t.isLt⟩ : Fin 288))).toNat < 32 := ex_lt a t.val t.isLt
  rw [h0, h1, Cert.MoeRefIdeal.Own.v32_at _ _ _ _ _ _ _ (⟨t.val, t.isLt⟩ : Fin 288) i rfl j, Cert.MoeRefIdeal.Own.v30_at]
  have hu : Used a t ↔ (BitVec.ofNat 32 t.val).toInt < (tN a (ix1 0)).toInt := by
    unfold Used
    rw [cond2_iff, crd0, wN_eq]
  unfold out
  by_cases h : (BitVec.ofNat 32 t.val).toInt < (tN a (ix1 0)).toInt
  · rw [if_pos (hu.mpr h), if_pos h, Cert.MoeRefIdeal.Own.v24_at, Cert.MoeRefIdeal.Own.v21_at _ _ _ _ _ hx]
    simp only [Cert.MoeRefIdeal.Own.v13_at, Cert.MoeRefIdeal.Own.v9_at _ _ _ _ hx]
    refine (pay3_at _ _ _ _ i j).trans ?_
    simp only [pay1_at, pay2_at]
    simp only [rd0, rd1, rd2, rd3]
    rfl
  · rw [if_neg (fun hh => h (hu.mp hh)), if_neg h]
    exact pay4_at i j

theorem final (hp : Held a m) (c : Dev nD) :
    (dats a m ρ 0 c).arrAt (4 : Fin 5) (cfgA a).N
      = Cert.MoeRefIdeal.Read.val_main_v32 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats a m ρ 0 c).arrAt_eq_of_covers (4 : Fin 5) _ (covers4 a) fun t _ y => ?_
  blk_simp
  rw [after0_4]
  obtain ⟨i, j, rfl⟩ : ∃ (i : Fin 256) (j : Fin 1024), y = ix2 i j := ⟨y (0 : Fin 2), y (1 : Fin 2), by funext b; fin_cases b <;> rfl⟩
  exact (point a m ρ hp c t i j).trans (congrArg _ (emb4 a t i j).symm)

end Cert.MoeIdeal.Own

end

end
-- ==== Proof.MoePre.lean ====
/- What the expert precondition says of the experts' numbers. -/
module

public import Idealize.ShloMosaic.Lib.Pipeline.ValueKit
public import proofs.«01_k».proof.Proof.Gen.Pre_experts_named

@[expose] public section

noncomputable section

open Idealize.ShloMosaic

namespace Cert.Pre_experts_named.Own

open Cert.Pre_experts_named Cert.Pre_experts_named.Gen

/-- Every block's expert is one of the 32. -/
theorem lt_of_pre {F : FTy → Type} [FloatOps F] (x0 : IVec S288 32) (x1 : IVec S1 32) (x2 : FVec F S73728x1024 .bf16)
    (x3 : FVec F S73728x1 .f32) (x4 : FVec F S32x1024x1024 .f32) (x5 : FVec F S32x512x1024 .f32)
    (h : Cert.Pre_experts_named.fn (F := F) x0 x1 x2 x3 x4 x5 = fun _ => 1#1) (x : S288.Idx) : (x0 x).toNat < 32 := by
  have h' : IntOp.andi (BitVec.ofBool (BitVec.sle 0#32 (x0 x))) (BitVec.ofBool (BitVec.slt (x0 x) 32#32)) = 1#1 := congrFun h x
  have hb : ∀ p q : Bool, IntOp.andi (BitVec.ofBool p) (BitVec.ofBool q) = 1#1 → p = true ∧ q = true := by decide
  obtain ⟨h1, h2⟩ := hb _ _ h'
  rw [BitVec.sle_iff_toInt_le] at h1
  rw [BitVec.slt_iff_toInt_lt] at h2
  have e0 : (0#32).toInt = 0 := by decide
  have e1 : (32#32).toInt = 32 := by decide
  rw [e0] at h1; rw [e1] at h2
  rw [BitVec.toInt_eq_toNat_cond] at h1 h2
  have := (x0 x).isLt
  split at h1 <;> omega

end Cert.Pre_experts_named.Own

end

end
-- ==== Proof.MoeClaim.lean ====
/- The expert kernel's frames and value, from the precondition on the experts' numbers. -/
module

public import proofs.«01_k».proof.Defs
public import proofs.«01_k».proof.Proof.MoeFrame
public import proofs.«01_k».proof.Proof.MoeFinal
public import proofs.«01_k».proof.Proof.MoePre
public import proofs.«01_k».proof.Proof.Gen.MoeRefIdeal.Run

@[expose] public section

noncomputable section

open Idealize.ShloMosaic Idealize.ShloMosaic.TcCoe Idealize.SL.Sem

section
open Cert.Moe Cert.Moe.Gen Cert.Moe.Own
variable {F : FTy → Type} [FloatOps F]

/-- The tables that the launch memory holds, when every expert's number is one of the 32. -/
def Cert.Moe.Own.held (m : (ℓ : Loc nD τ sig) → Buf (Elt F) ℓ)
    (h : ∀ x : S288.Idx, ((m (((0 : Dev nD) : Thread nD τ).loc main_arg0) x : BitVec 32)).toNat < 32) : (pcfg0 (F := F)).Adm :=
  ⟨tabs (m (((0 : Dev nD) : Thread nD τ).loc main_arg0)) (m (((0 : Dev nD) : Thread nD τ).loc main_arg1)), tabs_ok _ _ h⟩

theorem Cert.Moe.Own.held_spec (m : (ℓ : Loc nD τ sig) → Buf (Elt F) ℓ)
    (h : ∀ x : S288.Idx, ((m (((0 : Dev nD) : Thread nD τ).loc main_arg0) x : BitVec 32)).toNat < 32) : Held (held m h) m := by
  intro c j
  obtain rfl : c = 0 := Subsingleton.elim _ _
  fin_cases j <;> rfl
end

section
open Cert.MoeIdeal Cert.MoeIdeal.Gen Cert.MoeIdeal.Own
variable {F : FTy → Type} [FloatOps F]

/-- The tables that the launch memory holds, when every expert's number is one of the 32. -/
def Cert.MoeIdeal.Own.held (m : (ℓ : Loc nD τ sig) → Buf (Elt F) ℓ)
    (h : ∀ x : S288.Idx, ((m (((0 : Dev nD) : Thread nD τ).loc main_arg0) x : BitVec 32)).toNat < 32) : (pcfg0 (F := F)).Adm :=
  ⟨tabs (m (((0 : Dev nD) : Thread nD τ).loc main_arg0)) (m (((0 : Dev nD) : Thread nD τ).loc main_arg1)), tabs_ok _ _ h⟩

theorem Cert.MoeIdeal.Own.held_spec (m : (ℓ : Loc nD τ sig) → Buf (Elt F) ℓ)
    (h : ∀ x : S288.Idx, ((m (((0 : Dev nD) : Thread nD τ).loc main_arg0) x : BitVec 32)).toNat < 32) : Held (held m h) m := by
  intro c j
  obtain rfl : c = 0 := Subsingleton.elim _ _
  fin_cases j <;> rfl
end

namespace Cert.Proof

theorem moe : Cert.quiescent_Moe := fun m ρ hpre =>
  Cert.Moe.Own.frame _ m ρ (Cert.Moe.Own.held_spec m (Cert.Pre_experts_named.Own.lt_of_pre _ _ _ _ _ _ (hpre 0)))

theorem moe_ideal : Cert.quiescent_MoeIdeal := fun m ρ hpre =>
  Cert.MoeIdeal.Own.frame _ m ρ (Cert.MoeIdeal.Own.held_spec m (Cert.Pre_experts_named.Own.lt_of_pre _ _ _ _ _ _ (hpre 0)))

/-- The expert reference leaves its arguments and every counter as they were. -/
theorem moe_ref : Cert.quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)

/-- The expert call's result is the reference's. -/
theorem moe_value : Cert.algebraic_MoeIdeal_MoeRefIdeal := by
  intro m g m' g' hpre hagree
  have hlt := Cert.Pre_experts_named.Own.lt_of_pre _ _ _ _ _ _ (hpre 0)
  have hp := Cert.MoeIdeal.Own.held_spec m hlt
  refine ⟨fun c => Cert.MoeRefIdeal.Read.val_main_v32 (F := Ideal)
      (m ((c.tc : Thread Cert.MoeIdeal.nD Cert.MoeIdeal.τ).loc Cert.MoeIdeal.main_arg0))
      (m ((c.tc : Thread Cert.MoeIdeal.nD Cert.MoeIdeal.τ).loc Cert.MoeIdeal.main_arg1))
      (m ((c.tc : Thread Cert.MoeIdeal.nD Cert.MoeIdeal.τ).loc Cert.MoeIdeal.main_arg2))
      (m ((c.tc : Thread Cert.MoeIdeal.nD Cert.MoeIdeal.τ).loc Cert.MoeIdeal.main_arg3))
      (m ((c.tc : Thread Cert.MoeIdeal.nD Cert.MoeIdeal.τ).loc Cert.MoeIdeal.main_arg4))
      (m ((c.tc : Thread Cert.MoeIdeal.nD Cert.MoeIdeal.τ).loc Cert.MoeIdeal.main_arg5)), ?_, ?_⟩
  · refine (θ_run _ _ _).mono (fun r h c => ?_) (Cert.MoeIdeal.Own.run_main _ m g hp)
    have hc := h.1 c
    exact ⟨(hc.1 (4 : Fin 5)).trans (Cert.MoeIdeal.Own.final _ m g hp c), (hc.2 0).trans (hp c 0).symm, (hc.2 1).trans (hp c 1).symm,
      (hc.1 (0 : Fin 5)).trans ((Cert.MoeIdeal.Own.dats _ m g 0 c).arrAt_in (0 : Fin 5) rfl _),
      (hc.1 (1 : Fin 5)).trans ((Cert.MoeIdeal.Own.dats _ m g 0 c).arrAt_in (1 : Fin 5) rfl _),
      (hc.1 (2 : Fin 5)).trans ((Cert.MoeIdeal.Own.dats _ m g 0 c).arrAt_in (2 : Fin 5) rfl _),
      (hc.1 (3 : Fin 5)).trans ((Cert.MoeIdeal.Own.dats _ m g 0 c).arrAt_in (3 : Fin 5) rfl _)⟩
  · refine (θ_run _ _ _).mono (fun r h c => ?_) (Cert.MoeRefIdeal.Value.run m' g')
    obtain ⟨h0, hr⟩ := h c
    refine ⟨?_, hr⟩
    obtain ⟨e0, e1, e2, e3, e4, e5⟩ := hagree c
    rw [h0, e0, e1, e2, e3, e4, e5]
    exact Cert.MoeRefIdeal.Read.val_main_v32_eq _ _ _ _ _ _

end Cert.Proof

end

end
-- ==== Proof.RowMath.lean ====
/- The row functions shared by the layer's token kernels. -/
module

public import Idealize.ShloMosaic.Lib.Pipeline.ValueKit

@[expose] public section

noncomputable section

open Idealize.ShloMosaic

namespace Cert.Own

/-- A row of 1024 numbers over its root mean square, times the gain. -/
def normed (f g : Fin 1024 → EReal) (k : Fin 1024) : EReal :=
  f k * Ideal.rsqrt (Ideal.div (∑ x, f x * f x) (Ideal.ofBits FTy.f32 1149239296#32) + Ideal.ofBits FTy.f32 897988541#32) * g k

/-- The tanh form of gelu. -/
def gelu (v : EReal) : EReal :=
  v * (Ideal.ofBits FTy.f32 1056964608#32 * (1 + Ideal.tanh (Ideal.ofBits FTy.f32 1061962282#32 *
    (v + Ideal.ofBits FTy.f32 1027024659#32 * (v * (v * v))))))

end Cert.Own

end

end
-- ==== Proof.RnnPreAt.lean ====
/- What the branch-input kernel stores at an index of its blocks, and where its blocks lie. -/
module

public import proofs.«01_k».proof.Proof.RowMath
public import proofs.«01_k».proof.Proof.Gen.RnnPreIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RnnPreIdeal.Own

open Cert.RnnPreIdeal Cert.RnnPreIdeal.Gen Cert.Own

theorem pay4_at (y0 y1 : Vec Ideal S1x256x1024 .bf16) (x : Vec Ideal S1x256x1024 .f32) (p : Vec Ideal S1x1x1024 .f32) (i : Fin 256) (j : Fin 1024) :
    k0_pay4 y0 y1 x p (ix2 i j) = x (ix3 0 i j) + p (ix3 0 0 j) * (y0 (ix3 0 i j) + y1 (ix3 0 i j)) := by
  pointwise [k0_pay4]

theorem pay5_at (y0 y1 : Vec Ideal S1x256x1024 .bf16) (x : Vec Ideal S1x256x1024 .f32) (p : Vec Ideal S1x1x1024 .f32) (i : Fin 256) (j : Fin 1024) :
    k0_pay5 y0 y1 x p (ix3 0 i j) = x (ix3 0 i j) + p (ix3 0 0 j) * (y0 (ix3 0 i j) + y1 (ix3 0 i j)) := by
  rw [← pay4_at y0 y1 x p i j]
  unfold k0_pay5; generalize k0_pay4 y0 y1 x p = V
  pointwise []

theorem pay6_at (y0 y1 : Vec Ideal S1x256x1024 .bf16) (x : Vec Ideal S1x256x1024 .f32) (p : Vec Ideal S1x1x1024 .f32) (g : Vec Ideal S1x1024 .f32) (i : Fin 256) (j : Fin 1024) :
    k0_pay6 y0 y1 x p g (ix2 i j) = normed (fun k => k0_pay4 y0 y1 x p (ix2 i k)) (fun k => g (ix2 0 k)) j := by
  unfold k0_pay6 normed; generalize k0_pay4 y0 y1 x p = V
  pointwise []

theorem pay7_at (s : Vec Ideal S1x1x1024 .f32) (j : Fin 1024) : k0_pay7 s (ix2 0 j) = s (ix3 0 0 j) := by
  pointwise [k0_pay7]

theorem pay8_at (j : Fin 1024) : k0_pay8 (F := Ideal) (ix2 0 j) = 1 := by
  pointwise [k0_pay8]

theorem pay1_at (v29 : FVec Ideal S256x1024 .f32) (v31 v32 : FVec Ideal S1x1024 .f32) (v36 : Vec Ideal S1x1x1024 .f32) (v41 : Vec Ideal S1024x2048 .bf16) (i : Fin 256) (j : Fin 2048) :
    k0_pay1 v29 v31 v32 v36 v41 (ix2 i j)
      = ∑ k, (v29 (ix2 i k) * (v32 (ix2 0 k) + v31 (ix2 0 k)) + v36 (ix3 0 0 k)) * v41 (ix2 k j) := by
  pointwise [k0_pay1]

theorem pay2_at (v29 : FVec Ideal S256x1024 .f32) (v31 v32 : FVec Ideal S1x1024 .f32) (v36 : Vec Ideal S1x1x1024 .f32) (v41 : Vec Ideal S1024x2048 .bf16) (i : Fin 256) (j : Fin 1024) :
    k0_pay2 v29 v31 v32 v36 v41 (ix3 0 i j) = gelu (k0_pay1 v29 v31 v32 v36 v41 (ix2 i (⟨j.val, by omega⟩ : Fin 2048))) := by
  unfold k0_pay2 gelu; generalize k0_pay1 v29 v31 v32 v36 v41 = V
  pointwise []

theorem pay3_at (v29 : FVec Ideal S256x1024 .f32) (v31 v32 : FVec Ideal S1x1024 .f32) (v36 : Vec Ideal S1x1x1024 .f32) (v41 : Vec Ideal S1024x2048 .bf16) (i : Fin 256) (j : Fin 1024) :
    k0_pay3 v29 v31 v32 v36 v41 (ix3 0 i j) = k0_pay1 v29 v31 v32 v36 v41 (ix2 i (⟨1024 + j.val, by omega⟩ : Fin 2048)) := by
  unfold k0_pay3; generalize k0_pay1 v29 v31 v32 v36 v41 = V
  pointwise []

variable (m : (ℓ : Loc nD τ sig) → Buf (Elt Ideal) ℓ)

theorem idx : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, 0, 0]
    ∧ win0_4.index t = ![(grid0.coords t 0).val, 0, 0]
    ∧ win0_5.index t = ![0, 0]
    ∧ win0_6.index t = ![0, 0]
    ∧ win0_7.index t = ![(grid0.coords t 0).val, (grid0.coords t 1).val, 0]
    ∧ win0_8.index t = ![(grid0.coords t 0).val, (grid0.coords t 1).val, 0]
    ∧ win0_9.index t = ![(grid0.coords t 0).val, (grid0.coords t 1).val, 0]
    ∧ (grid0.coords t 0).val < 16 ∧ (grid0.coords t 1).val < 8 :=
  (by decide +kernel : ∀ t : Fin grid0.N, _)

/-- The grid point's batch and block of tokens. -/
def tb (t : Fin cfg0.N) : Fin 16 := ⟨(grid0.coords t 0).val, (idx t).2.2.2.2.2.2.2.2.2.2.1⟩
def tj (t : Fin cfg0.N) : Fin 8 := ⟨(grid0.coords t 1).val, (idx t).2.2.2.2.2.2.2.2.2.2.2⟩

/-- The token of the batch that row `i` of the point's block is. -/
def tok (t : Fin cfg0.N) (i : Fin 256) : Fin 2048 := ⟨(tj t).val * 256 + i.val, by omega⟩

theorem rd_x (c : Dev nD) (t : Fin cfg0.N) (i : Fin 256) (j : Fin 1024) :
    View.ld (iblk m c 0 t) r0_0 (ix3 0 i j) = m ((c : Thread nD τ).loc main_arg0) (ix3 (tb t) (tok t i) j) := by
  refine (View.ld_unit_apply_of (iblk m c 0 t) _ _ _ _ (ix3 0 i j) (fun a => by fin_cases a <;> simp)).trans ?_
  blk_ext [iblk, V, idx t, tb, tj, tok]

theorem rd_y0 (c : Dev nD) (t : Fin cfg0.N) (i : Fin 256) (j : Fin 1024) :
    View.ld (iblk m c 1 t) r0_0 (ix3 0 i j) = m ((c : Thread nD τ).loc main_arg1) (ix3 (tb t) (tok t i) j) := by
  refine (View.ld_unit_apply_of (iblk m c 1 t) _ _ _ _ (ix3 0 i j) (fun a => by fin_cases a <;> simp)).trans ?_
  blk_ext [iblk, V, idx t, tb, tj, tok]

theorem rd_y1 (c : Dev nD) (t : Fin cfg0.N) (i : Fin 256) (j : Fin 1024) :
    View.ld (iblk m c 2 t) r0_0 (ix3 0 i j) = m ((c : Thread nD τ).loc main_arg2) (ix3 (tb t) (tok t i) j) := by
  refine (View.ld_unit_apply_of (iblk m c 2 t) _ _ _ _ (ix3 0 i j) (fun a => by fin_cases a <;> simp)).trans ?_
  blk_ext [iblk, V, idx t, tb, tj, tok]

theorem rd_x' (c : Dev nD) (t : Fin cfg0.N) (i : Fin 256) (j : Fin 1024) :
    iblk m c 0 t (ix3 0 i j) = m ((c : Thread nD τ).loc main_arg0) (ix3 (tb t) (tok t i) j) := by
  blk_ext [iblk, V, idx t, tb, tj, tok]

theorem rd_y0' (c : Dev nD) (t : Fin cfg0.N) (i : Fin 256) (j : Fin 1024) :
    iblk m c 1 t (ix3 0 i j) = m ((c : Thread nD τ).loc main_arg1) (ix3 (tb t) (tok t i) j) := by
  blk_ext [iblk, V, idx t, tb, tj, tok]

theorem rd_y1' (c : Dev nD) (t : Fin cfg0.N) (i : Fin 256) (j : Fin 1024) :
    iblk m c 2 t (ix3 0 i j) = m ((c : Thread nD τ).loc main_arg2) (ix3 (tb t) (tok t i) j) := by
  blk_ext [iblk, V, idx t, tb, tj, tok]

theorem rd_gate (c : Dev nD) (t : Fin cfg0.N) (j : Fin 1024) :
    View.ld (iblk m c 3 t) r0_1 (ix3 0 0 j) = m ((c : Thread nD τ).loc main_arg3) (ix3 (tb t) (5 : Fin 6) j) := by
  refine (View.ld_unit_apply_of (iblk m c 3 t) _ _ _ _ (ix3 0 5 j) (fun a => by fin_cases a <;> simp)).trans ?_
  blk_ext [iblk, V, idx t, tb]

theorem rd_scale (c : Dev nD) (t : Fin cfg0.N) (j : Fin 1024) :
    View.ld (iblk m c 4 t) r0_3 (ix3 0 0 j) = m ((c : Thread nD τ).loc main_arg4) (ix3 (tb t) (1 : Fin 6) j) := by
  refine (View.ld_unit_apply_of (iblk m c 4 t) _ _ _ _ (ix3 0 1 j) (fun a => by fin_cases a <;> simp)).trans ?_
  blk_ext [iblk, V, idx t, tb]

theorem rd_shift (c : Dev nD) (t : Fin cfg0.N) (j : Fin 1024) :
    View.ld (iblk m c 4 t) r0_4 (ix3 0 0 j) = m ((c : Thread nD τ).loc main_arg4) (ix3 (tb t) (0 : Fin 6) j) := by
  refine (View.ld_unit_apply_of (iblk m c 4 t) _ _ _ _ (ix3 0 0 j) (fun a => by fin_cases a <;> simp)).trans ?_
  blk_ext [iblk, V, idx t, tb]

theorem rd_g (c : Dev nD) (t : Fin cfg0.N) (j : Fin 1024) :
    View.ld (iblk m c 5 t) r0_2 (ix2 0 j) = m ((c : Thread nD τ).loc main_arg5) (ix2 0 j) := by
  refine (View.ld_unit_apply_of (iblk m c 5 t) _ _ _ _ (ix2 0 j) (fun a => by fin_cases a <;> simp)).trans ?_
  blk_ext [iblk, V, idx t]

theorem rd_win' (c : Dev nD) (t : Fin cfg0.N) (k : Fin 1024) (j : Fin 2048) :
    iblk m c 6 t (ix2 k j) = m ((c : Thread nD τ).loc main_arg6) (ix2 k j) := by
  blk_ext [iblk, V, idx t]

theorem rd_win (c : Dev nD) (t : Fin cfg0.N) (k : Fin 1024) (j : Fin 2048) :
    View.ld (iblk m c 6 t) r0_5 (ix2 k j) = m ((c : Thread nD τ).loc main_arg6) (ix2 k j) := by
  refine (View.ld_unit_apply_of (iblk m c 6 t) _ _ _ _ (ix2 k j) (fun a => by fin_cases a <;> simp)).trans ?_
  blk_ext [iblk, V, idx t]

theorem emb7 (t : Fin cfg0.N) (i : Fin 256) (j : Fin 1024) :
    ((View.whole main_v0_0).slice (win0_7.rect t)).emb (ix3 0 i j) = ix3 (tb t) (tok t i) j := by
  blk_ext [idx t, tb, tj, tok]

theorem emb8 (t : Fin cfg0.N) (i : Fin 256) (j : Fin 1024) :
    ((View.whole main_v0_1).slice (win0_8.rect t)).emb (ix3 0 i j) = ix3 (tb t) (tok t i) j := by
  blk_ext [idx t, tb, tj, tok]

theorem emb9 (t : Fin cfg0.N) (i : Fin 256) (j : Fin 1024) :
    ((View.whole main_v0_2).slice (win0_9.rect t)).emb (ix3 0 i j) = ix3 (tb t) (tok t i) j := by
  blk_ext [idx t, tb, tj, tok]

end Cert.RnnPreIdeal.Own

end

end
-- ==== Proof.RnnPreRefAt.lean ====
/- The branch-input reference, stage by stage, at an index. -/
module

public import proofs.«01_k».proof.Proof.RowMath
public import proofs.«01_k».proof.Proof.Gen.RnnPreRefIdeal.Read
public import Idealize.ShloMosaic.Lib.Pipeline.ValueKit

@[expose] public section

set_option maxRecDepth 16384

noncomputable section

open Idealize.ShloMosaic Idealize.ShloMosaic.TcCoe

namespace Cert.RnnPreRefIdeal.Own

open Cert.RnnPreRefIdeal Cert.RnnPreRefIdeal.Gen Cert.RnnPreRefIdeal.Read Cert.Own

variable (x0 : FVec Ideal S16x2048x1024 .f32) (x1 x2 : FVec Ideal S16x2048x1024 .bf16) (x3 x4 : FVec Ideal S16x6x1024 .f32)
  (x5 : FVec Ideal S1x1024 .f32) (x6 : FVec Ideal S1024x2048 .bf16)

theorem v2_at (b : Fin 16) (j : Fin 1024) : val_main_v2 (F := Ideal) x3 (ix3 b 0 j) = x3 (ix3 b 5 j) := by
  pointwise [val_main_v2, val_main_v1, val_main_v0]

theorem v8_at (b : Fin 16) (r : Fin 2048) (j : Fin 1024) :
    val_main_v8 (F := Ideal) x0 x1 x2 x3 (ix3 b r j) = x0 (ix3 b r j) + x3 (ix3 b 5 j) * (x1 (ix3 b r j) + x2 (ix3 b r j)) := by
  rw [← v2_at x3 b j]
  unfold val_main_v8 val_main_v7 val_main_v6
  generalize val_main_v2 (F := Ideal) x3 = V
  pointwise [val_main_v5, val_main_v4, val_main_v3]

theorem v26_at (b : Fin 16) (r : Fin 2048) (j : Fin 1024) :
    val_main_v26 (F := Ideal) x0 x1 x2 x3 x5 (ix3 b r j)
      = normed (fun k => val_main_v8 (F := Ideal) x0 x1 x2 x3 (ix3 b r k)) (fun k => x5 (ix2 0 k)) j := by
  unfold val_main_v26 val_main_v23 val_main_v22 val_main_v21 val_main_v20 val_main_v18 val_main_v16 val_main_v15 val_main_v14 normed
  generalize val_main_v8 (F := Ideal) x0 x1 x2 x3 = V
  pointwise [val_main_v25, val_main_v24, val_main_v9, val_main_v17, val_main_v19, val_main_cst, val_main_cst_0, val_main_cst_1]

theorem v34_at (b : Fin 16) (r : Fin 2048) (j : Fin 1024) :
    val_main_v34 (F := Ideal) x0 x1 x2 x3 x4 x5 (ix3 b r j)
      = val_main_v26 (F := Ideal) x0 x1 x2 x3 x5 (ix3 b r j) * (1 + x4 (ix3 b 1 j)) + x4 (ix3 b 0 j) := by
  unfold val_main_v34 val_main_v31
  generalize val_main_v26 (F := Ideal) x0 x1 x2 x3 x5 = V
  pointwise [val_main_v33, val_main_v32, val_main_v11, val_main_v10, val_main_v30, val_main_v29, val_main_v28, val_main_v27,
    val_main_v13, val_main_v12, val_main_cst_2]

theorem v36_at (b : Fin 16) (r : Fin 2048) (j : Fin 2048) :
    val_main_v36 (F := Ideal) x0 x1 x2 x3 x4 x5 x6 (ix3 b r j)
      = ∑ k, val_main_v34 (F := Ideal) x0 x1 x2 x3 x4 x5 (ix3 b r k) * x6 (ix2 k j) := by
  unfold val_main_v36
  generalize val_main_v34 (F := Ideal) x0 x1 x2 x3 x4 x5 = V
  pointwise [val_main_v35]

theorem v52_at (b : Fin 16) (r : Fin 2048) (j : Fin 1024) :
    val_main_v52 (F := Ideal) x0 x1 x2 x3 x4 x5 x6 (ix3 b r j)
      = gelu (val_main_v36 (F := Ideal) x0 x1 x2 x3 x4 x5 x6 (ix3 b r (⟨j.val, by omega⟩ : Fin 2048))) := by
  unfold gelu val_main_v52 val_main_v51 val_main_v50 val_main_v48 val_main_v46 val_main_v45 val_main_v43 val_main_v42 val_main_v40 val_main_v39 val_main_v37
  generalize val_main_v36 (F := Ideal) x0 x1 x2 x3 x4 x5 x6 = V
  pointwise [val_main_v41, val_main_v44, val_main_v47, val_main_v49, val_main_cst_3, val_main_cst_4, val_main_cst_5, val_main_cst_6]
  rw [mul_assoc (V (ix3 b r (⟨j.val, by omega⟩ : Fin 2048))) (V _) (V _)]

theorem v53_at (b : Fin 16) (r : Fin 2048) (j : Fin 1024) :
    val_main_v53 (F := Ideal) x0 x1 x2 x3 x4 x5 x6 (ix3 b r j)
      = val_main_v36 (F := Ideal) x0 x1 x2 x3 x4 x5 x6 (ix3 b r (⟨1024 + j.val, by omega⟩ : Fin 2048)) := by
  unfold val_main_v53 val_main_v38
  generalize val_main_v36 (F := Ideal) x0 x1 x2 x3 x4 x5 x6 = V
  pointwise []

end Cert.RnnPreRefIdeal.Own

end

end
-- ==== Proof.RnnPreFinal.lean ====
/- The branch-input kernel's three result arrays are the reference's. -/
module

public import proofs.«01_k».proof.Proof.RnnPreAt
public import proofs.«01_k».proof.Proof.RnnPreRefAt

@[expose] public section

set_option maxRecDepth 16384

noncomputable section

open Idealize.ShloMosaic Idealize.ShloMosaic.TcCoe Idealize.SL.Sem
open Idealize.ShloMosaic.Pipeline (Dat)

namespace Cert.RnnPreIdeal.Own

open Cert.RnnPreIdeal Cert.RnnPreIdeal.Gen Cert.Own

variable (m : (ℓ : Loc nD τ sig) → Buf (Elt Ideal) ℓ)

/-- The reference's residual stream, of the kernel's arguments. -/
abbrev refX (c : Dev nD) := Cert.RnnPreRefIdeal.Read.val_main_v8 (F := Ideal) (m ((c : Thread nD τ).loc main_arg0)) (m ((c : Thread nD τ).loc main_arg1))
  (m ((c : Thread nD τ).loc main_arg2)) (m ((c : Thread nD τ).loc main_arg3))

/-- The reference's projection, of the kernel's arguments. -/
abbrev refP (c : Dev nD) := Cert.RnnPreRefIdeal.Read.val_main_v36 (F := Ideal) (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6))

/-- The reference's gated half, of the kernel's arguments. -/
abbrev refG (c : Dev nD) := Cert.RnnPreRefIdeal.Read.val_main_v52 (F := Ideal) (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6))

/-- The reference's other half, of the kernel's arguments. -/
abbrev refU (c : Dev nD) := Cert.RnnPreRefIdeal.Read.val_main_v53 (F := Ideal) (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6))

theorem x_at (c : Dev nD) (t : Fin cfg0.N) (i : Fin 256) (j : Fin 1024) :
    k0_pay4 (View.ld (iblk m c 1 t) r0_0) (View.ld (iblk m c 2 t) r0_0) (View.ld (iblk m c 0 t) r0_0) (View.ld (iblk m c 3 t) r0_1) (ix2 i j)
      = refX m c (ix3 (tb t) (tok t i) j) := by
  refine (pay4_at _ _ _ _ i j).trans ?_
  rw [rd_x, rd_y0, rd_y1, rd_gate]
  exact (Cert.RnnPreRefIdeal.Own.v8_at _ _ _ _ _ _ _).symm

theorem point7 (c : Dev nD) (t : Fin cfg0.N) (y : S1x256x1024.Idx) :
    k0_pay5 (iblk m c 1 t) (iblk m c 2 t) (iblk m c 0 t) (View.ld (iblk m c 3 t) r0_1) y
      = refX m c (((View.whole main_v0_0).slice (win0_7.rect t)).emb y) := by
  obtain ⟨z, i, j, rfl⟩ : ∃ (z : Fin 1) (i : Fin 256) (j : Fin 1024), y = ix3 z i j := ⟨y 0, y 1, y 2, by funext a; fin_cases a <;> rfl⟩
  obtain rfl : z = 0 := Subsingleton.elim _ _
  rw [emb7]
  refine (pay5_at _ _ _ _ i j).trans ?_
  rw [rd_x', rd_y0', rd_y1', rd_gate]
  exact (Cert.RnnPreRefIdeal.Own.v8_at _ _ _ _ _ _ _).symm

theorem final7 (c : Dev nD) : (dats m 0 c).arrAt 7 (cfgs 0).N = refX m c := by
  refine (dats m 0 c).arrAt_eq_of_covers 7 _ (by decide +kernel) fun t _ y => ?_
  blk_simp
  rw [after0_7]; frame_out
  exact point7 m c t y

/-- The body's projection at a row of its block is the reference's at that token. -/
theorem p_at (c : Dev nD) (t : Fin cfg0.N) (i : Fin 256) (j : Fin 2048) :
    k0_pay1 (k0_pay9 (iblk m c 0 t) (iblk m c 1 t) (iblk m c 2 t) (iblk m c 3 t) (iblk m c 4 t) (iblk m c 5 t) (iblk m c 6 t))
      (k0_pay10 (iblk m c 0 t) (iblk m c 1 t) (iblk m c 2 t) (iblk m c 3 t) (iblk m c 4 t) (iblk m c 5 t) (iblk m c 6 t))
      (k0_pay11 (iblk m c 0 t) (iblk m c 1 t) (iblk m c 2 t) (iblk m c 3 t) (iblk m c 4 t) (iblk m c 5 t) (iblk m c 6 t))
      (View.ld (iblk m c 4 t) r0_4) (iblk m c 6 t) (ix2 i j)
      = refP m c (ix3 (tb t) (tok t i) j) := by
  refine (pay1_at _ _ _ _ _ i j).trans ?_
  refine Eq.trans ?_ (Cert.RnnPreRefIdeal.Own.v36_at _ _ _ _ _ _ _ _ _ _).symm
  refine Finset.sum_congr rfl fun k _ => ?_
  rw [rd_shift, rd_win']
  unfold k0_pay9 k0_pay10 k0_pay11
  rw [pay6_at, pay7_at, pay8_at, rd_scale]
  refine Eq.trans ?_ (congrArg (· * _) (Cert.RnnPreRefIdeal.Own.v34_at _ _ _ _ _ _ _ _ _).symm)
  refine congrArg (fun z => (z * _ + _) * _) ?_
  refine Eq.trans ?_ (Cert.RnnPreRefIdeal.Own.v26_at _ _ _ _ _ _ _ _).symm
  exact congrArg₂ (fun f g => normed f g k) (funext fun x => x_at m c t i x) (funext fun x => rd_g m c t x)

theorem point8 (c : Dev nD) (t : Fin cfg0.N) (y : S1x256x1024.Idx) :
    k0_pay2 (k0_pay9 (iblk m c 0 t) (iblk m c 1 t) (iblk m c 2 t) (iblk m c 3 t) (iblk m c 4 t) (iblk m c 5 t) (iblk m c 6 t))
      (k0_pay10 (iblk m c 0 t) (iblk m c 1 t) (iblk m c 2 t) (iblk m c 3 t) (iblk m c 4 t) (iblk m c 5 t) (iblk m c 6 t))
      (k0_pay11 (iblk m c 0 t) (iblk m c 1 t) (iblk m c 2 t) (iblk m c 3 t) (iblk m c 4 t) (iblk m c 5 t) (iblk m c 6 t))
      (View.ld (iblk m c 4 t) r0_4) (iblk m c 6 t) y
      = refG m c (((View.whole main_v0_1).slice (win0_8.rect t)).emb y) := by
  obtain ⟨z, i, j, rfl⟩ : ∃ (z : Fin 1) (i : Fin 256) (j : Fin 1024), y = ix3 z i j := ⟨y 0, y 1, y 2, by funext a; fin_cases a <;> rfl⟩
  obtain rfl : z = 0 := Subsingleton.elim _ _
  rw [emb8]
  refine (pay2_at _ _ _ _ _ i j).trans ?_
  rw [p_at]
  exact (Cert.RnnPreRefIdeal.Own.v52_at _ _ _ _ _ _ _ _ _ _).symm

theorem final8 (c : Dev nD) : (dats m 0 c).arrAt 8 (cfgs 0).N = refG m c := by
  refine (dats m 0 c).arrAt_eq_of_covers 8 _ (by decide +kernel) fun t _ y => ?_
  blk_simp
  rw [after0_8]; frame_out
  exact point8 m c t y

theorem point9 (c : Dev nD) (t : Fin cfg0.N) (y : S1x256x1024.Idx) :
    k0_pay3 (k0_pay9 (iblk m c 0 t) (iblk m c 1 t) (iblk m c 2 t) (iblk m c 3 t) (iblk m c 4 t) (iblk m c 5 t) (iblk m c 6 t))
      (k0_pay10 (iblk m c 0 t) (iblk m c 1 t) (iblk m c 2 t) (iblk m c 3 t) (iblk m c 4 t) (iblk m c 5 t) (iblk m c 6 t))
      (k0_pay11 (iblk m c 0 t) (iblk m c 1 t) (iblk m c 2 t) (iblk m c 3 t) (iblk m c 4 t) (iblk m c 5 t) (iblk m c 6 t))
      (View.ld (iblk m c 4 t) r0_4) (iblk m c 6 t) y
      = refU m c (((View.whole main_v0_2).slice (win0_9.rect t)).emb y) := by
  obtain ⟨z, i, j, rfl⟩ : ∃ (z : Fin 1) (i : Fin 256) (j : Fin 1024), y = ix3 z i j := ⟨y 0, y 1, y 2, by funext a; fin_cases a <;> rfl⟩
  obtain rfl : z = 0 := Subsingleton.elim _ _
  rw [emb9]
  refine (pay3_at _ _ _ _ _ i j).trans ?_
  rw [p_at]
  exact (Cert.RnnPreRefIdeal.Own.v53_at _ _ _ _ _ _ _ _ _ _).symm

theorem final9 (c : Dev nD) : (dats m 0 c).arrAt 9 (cfgs 0).N = refU m c := by
  refine (dats m 0 c).arrAt_eq_of_covers 9 _ (by decide +kernel) fun t _ y => ?_
  blk_simp
  rw [after0_9]; frame_out
  exact point9 m c t y

end Cert.RnnPreIdeal.Own

end

end
-- ==== Proof.FinalFinal.lean ====
/- The last residual sum's result array is the reference's. -/
module

public import proofs.«01_k».proof.Proof.Gen.FinalIdeal.Frame
public import proofs.«01_k».proof.Proof.Gen.FinalRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FinalIdeal.Own

open Cert.FinalIdeal Cert.FinalIdeal.Gen

theorem pay1_at (y0 y1 : Vec Ideal S1x256x1024 .bf16) (x : Vec Ideal S1x256x1024 .f32) (p : Vec Ideal S1x1x1024 .f32) (i : Fin 256) (j : Fin 1024) :
    k0_pay1 y0 y1 x p (ix3 0 i j) = x (ix3 0 i j) + p (ix3 0 0 j) * (y0 (ix3 0 i j) + y1 (ix3 0 i j)) := by
  pointwise [k0_pay1]

theorem ref_gate (x3 : FVec Ideal S16x6x1024 .f32) (b : Fin 16) (j : Fin 1024) :
    Cert.FinalRefIdeal.Read.val_main_v2 (F := Ideal) x3 (ix3 b 0 j) = x3 (ix3 b 5 j) := by
  pointwise [Cert.FinalRefIdeal.Read.val_main_v2, Cert.FinalRefIdeal.Read.val_main_v1, Cert.FinalRefIdeal.Read.val_main_v0]

theorem ref_at (x0 : FVec Ideal S16x2048x1024 .f32) (x1 x2 : FVec Ideal S16x2048x1024 .bf16) (x3 : FVec Ideal S16x6x1024 .f32)
    (b : Fin 16) (r : Fin 2048) (j : Fin 1024) :
    Cert.FinalRefIdeal.Read.val_main_v8 (F := Ideal) x0 x1 x2 x3 (ix3 b r j)
      = x0 (ix3 b r j) + x3 (ix3 b 5 j) * (x1 (ix3 b r j) + x2 (ix3 b r j)) := by
  rw [← ref_gate x3 b j]
  unfold Cert.FinalRefIdeal.Read.val_main_v8 Cert.FinalRefIdeal.Read.val_main_v7 Cert.FinalRefIdeal.Read.val_main_v6
  generalize Cert.FinalRefIdeal.Read.val_main_v2 (F := Ideal) x3 = V
  pointwise [Cert.FinalRefIdeal.Read.val_main_v5, Cert.FinalRefIdeal.Read.val_main_v4, Cert.FinalRefIdeal.Read.val_main_v3]

variable (m : (ℓ : Loc nD τ sig) → Buf (Elt Ideal) ℓ)

theorem idx : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, 0, 0]
    ∧ win0_4.index t = ![(grid0.coords t 0).val, (grid0.coords t 1).val, 0]
    ∧ (grid0.coords t 0).val < 16 ∧ (grid0.coords t 1).val < 8 :=
  (by decide +kernel : ∀ t : Fin grid0.N, _)

/-- The grid point's batch and block of tokens. -/
def tb (t : Fin cfg0.N) : Fin 16 := ⟨(grid0.coords t 0).val, (idx t).2.2.2.2.2.1⟩
def tj (t : Fin cfg0.N) : Fin 8 := ⟨(grid0.coords t 1).val, (idx t).2.2.2.2.2.2⟩

/-- The token of the batch that row `i` of the point's block is. -/
def tok (t : Fin cfg0.N) (i : Fin 256) : Fin 2048 := ⟨(tj t).val * 256 + i.val, by omega⟩

theorem rd_x (c : Dev nD) (t : Fin cfg0.N) (i : Fin 256) (j : Fin 1024) :
    iblk m c 0 t (ix3 0 i j) = m ((c : Thread nD τ).loc main_arg0) (ix3 (tb t) (tok t i) j) := by
  blk_ext [iblk, V, idx t, tb, tj, tok]

theorem rd_y0 (c : Dev nD) (t : Fin cfg0.N) (i : Fin 256) (j : Fin 1024) :
    iblk m c 1 t (ix3 0 i j) = m ((c : Thread nD τ).loc main_arg1) (ix3 (tb t) (tok t i) j) := by
  blk_ext [iblk, V, idx t, tb, tj, tok]

theorem rd_y1 (c : Dev nD) (t : Fin cfg0.N) (i : Fin 256) (j : Fin 1024) :
    iblk m c 2 t (ix3 0 i j) = m ((c : Thread nD τ).loc main_arg2) (ix3 (tb t) (tok t i) j) := by
  blk_ext [iblk, V, idx t, tb, tj, tok]

theorem rd_gate (c : Dev nD) (t : Fin cfg0.N) (j : Fin 1024) :
    View.ld (iblk m c 3 t) r0_1 (ix3 0 0 j) = m ((c : Thread nD τ).loc main_arg3) (ix3 (tb t) (5 : Fin 6) j) := by
  refine (View.ld_unit_apply_of (iblk m c 3 t) _ _ _ _ (ix3 0 5 j) (fun a => by fin_cases a <;> simp)).trans ?_
  blk_ext [iblk, V, idx t, tb]

theorem emb_out (t : Fin cfg0.N) (i : Fin 256) (j : Fin 1024) :
    ((View.whole main_v0).slice (win0_4.rect t)).emb (ix3 0 i j) = ix3 (tb t) (tok t i) j := by
  blk_ext [idx t, tb, tj, tok]

theorem point (c : Dev nD) (t : Fin cfg0.N) (y : S1x256x1024.Idx) :
    k0_pay1 (iblk m c 1 t) (iblk m c 2 t) (iblk m c 0 t) (View.ld (iblk m c 3 t) r0_1) y
      = Cert.FinalRefIdeal.Read.val_main_v8 (F := Ideal) (m ((c : Thread nD τ).loc main_arg0)) (m ((c : Thread nD τ).loc main_arg1))
          (m ((c : Thread nD τ).loc main_arg2)) (m ((c : Thread nD τ).loc main_arg3)) (((View.whole main_v0).slice (win0_4.rect t)).emb y) := by
  obtain ⟨z, i, j, rfl⟩ : ∃ (z : Fin 1) (i : Fin 256) (j : Fin 1024), y = ix3 z i j := ⟨y 0, y 1, y 2, by funext a; fin_cases a <;> rfl⟩
  obtain rfl : z = 0 := Subsingleton.elim _ _
  rw [emb_out]
  refine (pay1_at _ _ _ _ i j).trans ?_
  rw [rd_x, rd_y0, rd_y1, rd_gate]
  exact (ref_at _ _ _ _ _ _ _).symm

theorem final (c : Dev nD) :
    (dats m 0 c).arrAt 4 (cfgs 0).N
      = Cert.FinalRefIdeal.Read.val_main_v8 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.FinalIdeal.Own

end

end
-- ==== Proof.AdaFinal.lean ====
/- The modulation kernel's result array is the reference's. -/
module

public import proofs.«01_k».proof.Proof.Gen.AdaIdeal.Frame
public import proofs.«01_k».proof.Proof.Gen.AdaIdeal.Value
public import proofs.«01_k».proof.Proof.Gen.AdaRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdaIdeal.Own

open Cert.AdaIdeal Cert.AdaIdeal.Gen

theorem pay1_at (v0 : Vec Ideal S16x1024 .f32) (v3 : Vec Ideal S1x1024x1536 .f32) (v6 : Vec Ideal S1x1x1536 .f32) (i : Fin 16) (j : Fin 1536) :
    k0_pay1 v0 v3 v6 (ix3 0 i j)
      = ∑ k : Fin 1024, (v0 (ix2 i k) * Ideal.logistic (v0 (ix2 i k))) * v3 (ix3 0 k j) + v6 (ix3 0 0 j) := by
  pointwise [k0_pay1]

open Cert.AdaRefIdeal.Read in
theorem silu_at (x0 : FVec Ideal S16x1024 .f32) (i : Fin 16) (k : Fin 1024) :
    val_main_v0 (F := Ideal) x0 (ix2 i k) = x0 (ix2 i k) * Ideal.logistic (x0 (ix2 i k)) := by
  pointwise [val_main_v0, val_main_call0_v5, val_main_call0_v4, val_main_call0_v3, val_main_call0_v2, val_main_call0_v1,
    val_main_call0_v0, val_main_call0_cst, val_main_call0_cst_0, Ideal.logistic]

open Cert.AdaRefIdeal.Read in
theorem ref_at (x0 : FVec Ideal S16x1024 .f32) (x1 : FVec Ideal S2x1024x6144 .f32) (x2 : FVec Ideal S2x6144 .f32)
    (l : Fin 2) (i : Fin 16) (j : Fin 6144) :
    val_main_v5 (F := Ideal) x0 x1 x2 (ix3 l i j)
      = ∑ k : Fin 1024, val_main_v0 (F := Ideal) x0 (ix2 i k) * x1 (ix3 l k j) + x2 (ix2 l j) := by
  unfold val_main_v5 val_main_v2 val_main_v1
  generalize val_main_v0 (F := Ideal) x0 = V
  pointwise [val_main_v4, val_main_v3]
  exact congrArg (· + _) (Finset.sum_congr rfl fun k _ => mul_comm _ _)

variable (m : (ℓ : Loc nD τ sig) → Buf (Elt Ideal) ℓ)

theorem idx : ∀ t : Fin cfg0.N, win0_0.index t = ![0, 0]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val]
    ∧ (grid0.coords t 0).val < 2 ∧ (grid0.coords t 1).val < 4 :=
  (by decide +kernel : ∀ t : Fin grid0.N, _)

/-- The grid point's layer and block of columns. -/
def tl (t : Fin cfg0.N) : Fin 2 := ⟨(grid0.coords t 0).val, (idx t).2.2.2.2.1⟩
def tj (t : Fin cfg0.N) : Fin 4 := ⟨(grid0.coords t 1).val, (idx t).2.2.2.2.2⟩

/-- The column that column `j` of the point's block is. -/
def col (t : Fin cfg0.N) (j : Fin 1536) : Fin 6144 := ⟨(tj t).val * 1536 + j.val, by omega⟩

theorem rd_c (c : Dev nD) (t : Fin cfg0.N) (i : Fin 16) (k : Fin 1024) :
    iblk m c 0 t (ix2 i k) = m ((c : Thread nD τ).loc main_arg0) (ix2 i k) := by
  blk_ext [iblk, V, idx t]

theorem rd_w (c : Dev nD) (t : Fin cfg0.N) (k : Fin 1024) (j : Fin 1536) :
    iblk m c 1 t (ix3 0 k j) = m ((c : Thread nD τ).loc main_arg1) (ix3 (tl t) k (col t j)) := by
  blk_ext [iblk, V, idx t, tl, tj, col]

/-- The host lays the biases out with one more axis before the region. -/
theorem V_bias (c : Dev nD) : V m c main_v0
    = shapeCast S2x1x6144 (m ((c : Thread nD τ).loc main_arg2)) shapeCasts_S2x6144_S2x1x6144 := by
  show StableHlo.after hostOps0 _ (Proc.devRef .tc main_v0) = _
  rw [StableHlo.after_cons, StableHlo.after_nil, StableHlo.reshape_result']
  rfl

theorem cast_at (X : FVec Ideal S2x6144 .f32) (l : Fin 2) (j : Fin 6144) :
    shapeCast S2x1x6144 X shapeCasts_S2x6144_S2x1x6144 (ix3 l 0 j) = X (ix2 l j) := by
  pointwise []

theorem bias_at (c : Dev nD) (l : Fin 2) (j : Fin 6144) : V m c main_v0 (ix3 l 0 j) = m ((c : Thread nD τ).loc main_arg2) (ix2 l j) := by
  exact (congrFun (V_bias m c) _).trans (cast_at _ l j)

theorem rd_b (c : Dev nD) (t : Fin cfg0.N) (j : Fin 1536) :
    iblk m c 2 t (ix3 0 0 j) = m ((c : Thread nD τ).loc main_arg2) (ix2 (tl t) (col t j)) := by
  refine Eq.trans ?_ (bias_at m c (tl t) (col t j))
  blk_ext [iblk, idx t, tl, tj, col]

theorem emb_out (t : Fin cfg0.N) (i : Fin 16) (j : Fin 1536) :
    ((View.whole main_v1).slice (win0_3.rect t)).emb (ix3 0 i j) = ix3 (tl t) i (col t j) := by
  blk_ext [idx t, tl, tj, col]

theorem point (c : Dev nD) (t : Fin cfg0.N) (y : S1x16x1536.Idx) :
    k0_pay1 (iblk m c 0 t) (iblk m c 1 t) (iblk m c 2 t) y
      = Cert.AdaRefIdeal.Read.val_main_v5 (F := Ideal) (m ((c : Thread nD τ).loc main_arg0)) (m ((c : Thread nD τ).loc main_arg1))
          (m ((c : Thread nD τ).loc main_arg2)) (((View.whole main_v1).slice (win0_3.rect t)).emb y) := by
  obtain ⟨z, i, j, rfl⟩ : ∃ (z : Fin 1) (i : Fin 16) (j : Fin 1536), y = ix3 z i j := ⟨y 0, y 1, y 2, by funext a; fin_cases a <;> rfl⟩
  obtain rfl : z = 0 := Subsingleton.elim _ _
  rw [emb_out]
  refine (pay1_at _ _ _ i j).trans ?_
  simp only [rd_c, rd_w, rd_b]
  refine Eq.trans ?_ (ref_at _ _ _ _ _ _).symm
  simp only [silu_at]

theorem final (c : Dev nD) :
    (dats m 0 c).arrAt 3 (cfgs 0).N
      = Cert.AdaRefIdeal.Read.val_main_v5 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]; frame_out
  exact point m c t y

end Cert.AdaIdeal.Own

end

end
-- ==== Proof.PostAt.lean ====
/- What the experts-input kernel stores at an index of its blocks. -/
module

public import proofs.«01_k».proof.Proof.RowMath
public import proofs.«01_k».proof.Proof.Gen.PostIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PostIdeal.Own

open Cert.PostIdeal Cert.PostIdeal.Gen Cert.Own

theorem pay4_at (a : Vec Ideal S1x256x1024 .bf16) (w : Vec Ideal S1024x1024 .bf16) (x : Vec Ideal S1x256x1024 .f32) (p : Vec Ideal S1x1x1024 .f32) (i : Fin 256) (j : Fin 1024) :
    k0_pay4 a w x p (ix2 i j) = x (ix3 0 i j) + p (ix3 0 0 j) * ∑ k, a (ix3 0 i k) * w (ix2 k j) := by
  pointwise [k0_pay4]

theorem pay5_at (a : Vec Ideal S1x256x1024 .bf16) (w : Vec Ideal S1024x1024 .bf16) (x : Vec Ideal S1x256x1024 .f32) (p : Vec Ideal S1x1x1024 .f32) (i : Fin 256) (j : Fin 1024) :
    k0_pay5 a w x p (ix3 0 i j) = x (ix3 0 i j) + p (ix3 0 0 j) * ∑ k, a (ix3 0 i k) * w (ix2 k j) := by
  rw [← pay4_at a w x p i j]
  unfold k0_pay5; generalize k0_pay4 a w x p = V
  pointwise []

theorem pay6_at (a : Vec Ideal S1x256x1024 .bf16) (w : Vec Ideal S1024x1024 .bf16) (x : Vec Ideal S1x256x1024 .f32) (p : Vec Ideal S1x1x1024 .f32) (g : Vec Ideal S1x1024 .f32) (s : Vec Ideal S1x1x1024 .f32) (i : Fin 256) (j : Fin 1024) :
    k0_pay6 a w x p g s (ix2 i j) = normed (fun k => k0_pay4 a w x p (ix2 i k)) (fun k => g (ix2 0 k)) j * (1 + s (ix3 0 0 j)) := by
  unfold k0_pay6 normed; generalize k0_pay4 a w x p = V
  pointwise []

theorem pay7_at (v : FVec Ideal S256x1024 .f32) (s : Vec Ideal S1x1x1024 .f32) (i : Fin 256) (j : Fin 1024) :
    k0_pay7 v s (ix2 i j) = v (ix2 i j) + s (ix3 0 0 j) := by
  pointwise [k0_pay7]

theorem pay8_at (v : FVec Ideal S256x1024 .f32) (s : Vec Ideal S1x1x1024 .f32) (i : Fin 256) (j : Fin 1024) :
    k0_pay8 v s (ix3 0 i j) = v (ix2 i j) + s (ix3 0 0 j) := by
  pointwise [k0_pay8, k0_pay7]

section
variable (v : FVec Ideal S256x1024 .f32) (s : Vec Ideal S1x1x1024 .f32) (wr : Vec Ideal S32x1024 .f32) (rb : Vec Ideal S32x1 .f32)

theorem pay9_at (e : Fin 32) (i : Fin 256) :
    k0_pay9 v s wr (ix2 e i) = Ideal.logistic (∑ k, wr (ix2 e k) * k0_pay7 v s (ix2 i k)) := by
  unfold k0_pay9; generalize k0_pay7 v s = V
  pointwise []

theorem pay10_at (e : Fin 32) (i : Fin 256) :
    k0_pay10 v s wr rb (ix2 e i) = k0_pay9 v s wr (ix2 e i) + rb (ix2 e 0) := by
  unfold k0_pay10; generalize k0_pay9 v s wr = V
  pointwise []

theorem pay11_at (g : Fin 8) (i : Fin 256) : k0_pay11 v s wr rb (ix2 g i) = k0_pay10 v s wr rb (ix2 (⟨g.val, by omega⟩ : Fin 32) i) := by
  unfold k0_pay11; generalize k0_pay10 v s wr rb = V
  pointwise []

theorem pay12_at (g : Fin 8) (i : Fin 256) : k0_pay12 v s wr rb (ix2 g i) = k0_pay10 v s wr rb (ix2 (⟨8 + g.val, by omega⟩ : Fin 32) i) := by
  unfold k0_pay12; generalize k0_pay10 v s wr rb = V
  pointwise []

theorem pay13_at (g : Fin 8) (i : Fin 256) : k0_pay13 v s wr rb (ix2 g i) = k0_pay10 v s wr rb (ix2 (⟨16 + g.val, by omega⟩ : Fin 32) i) := by
  unfold k0_pay13; generalize k0_pay10 v s wr rb = V
  pointwise []

theorem pay14_at (g : Fin 8) (i : Fin 256) : k0_pay14 v s wr rb (ix2 g i) = k0_pay10 v s wr rb (ix2 (⟨24 + g.val, by omega⟩ : Fin 32) i) := by
  unfold k0_pay14; generalize k0_pay10 v s wr rb = V
  pointwise []

theorem pay15_at (g : Fin 8) (i : Fin 256) : k0_pay15 v s wr (ix2 g i) = k0_pay9 v s wr (ix2 (⟨g.val, by omega⟩ : Fin 32) i) := by
  unfold k0_pay15; generalize k0_pay9 v s wr = V
  pointwise []

theorem pay16_at (g : Fin 8) (i : Fin 256) : k0_pay16 v s wr (ix2 g i) = k0_pay9 v s wr (ix2 (⟨8 + g.val, by omega⟩ : Fin 32) i) := by
  unfold k0_pay16; generalize k0_pay9 v s wr = V
  pointwise []

theorem pay17_at (g : Fin 8) (i : Fin 256) : k0_pay17 v s wr (ix2 g i) = k0_pay9 v s wr (ix2 (⟨16 + g.val, by omega⟩ : Fin 32) i) := by
  unfold k0_pay17; generalize k0_pay9 v s wr = V
  pointwise []

theorem pay18_at (g : Fin 8) (i : Fin 256) : k0_pay18 v s wr (ix2 g i) = k0_pay9 v s wr (ix2 (⟨24 + g.val, by omega⟩ : Fin 32) i) := by
  unfold k0_pay18; generalize k0_pay9 v s wr = V
  pointwise []

end

end Cert.PostIdeal.Own

end

end
-- ==== Proof.PostBlocks.lean ====
/- Where the experts-input kernel's blocks lie. -/
module

public import proofs.«01_k».proof.Proof.PostAt

@[expose] public section

set_option maxRecDepth 16384

noncomputable section

open Idealize.ShloMosaic Idealize.ShloMosaic.TcCoe Idealize.SL.Sem
open Idealize.ShloMosaic.Pipeline (Dat)

namespace Cert.PostIdeal.Own

open Cert.PostIdeal Cert.PostIdeal.Gen Cert.Own

variable (m : (ℓ : Loc nD τ sig) → Buf (Elt Ideal) ℓ)

theorem idx : ∀ t : Fin cfg0.N, win0_0.index t = ![(grid0.coords t 0).val, (grid0.coords t 1).val, 0]
    ∧ win0_1.index t = ![0, 0]
    ∧ win0_2.index t = ![(grid0.coords t 0).val, (grid0.coords t 1).val, 0]
    ∧ win0_3.index t = ![(grid0.coords t 0).val, 0, 0]
    ∧ win0_4.index t = ![0, 0]
    ∧ win0_5.index t = ![0, 0]
    ∧ win0_6.index t = ![0, 0]
    ∧ win0_7.index t = ![(grid0.coords t 0).val, (grid0.coords t 1).val, 0]
    ∧ win0_8.index t = ![(grid0.coords t 0).val, (grid0.coords t 1).val, 0]
    ∧ win0_9.index t = ![(grid0.coords t 0).val, 0, (grid0.coords t 1).val]
    ∧ win0_10.index t = ![(grid0.coords t 0).val, 0, (grid0.coords t 1).val]
    ∧ (grid0.coords t 0).val < 16 ∧ (grid0.coords t 1).val < 8 :=
  (by decide +kernel : ∀ t : Fin grid0.N, _)

/-- The grid point's batch and block of tokens. -/
def tb (t : Fin cfg0.N) : Fin 16 := ⟨(grid0.coords t 0).val, (idx t).2.2.2.2.2.2.2.2.2.2.2.1⟩
def tj (t : Fin cfg0.N) : Fin 8 := ⟨(grid0.coords t 1).val, (idx t).2.2.2.2.2.2.2.2.2.2.2.2⟩

/-- The token of the batch that row `i` of the point's block is. -/
def tok (t : Fin cfg0.N) (i : Fin 256) : Fin 2048 := ⟨(tj t).val * 256 + i.val, by omega⟩

theorem rd_a' (c : Dev nD) (t : Fin cfg0.N) (i : Fin 256) (j : Fin 1024) :
    iblk m c 0 t (ix3 0 i j) = m ((c : Thread nD τ).loc main_arg0) (ix3 (tb t) (tok t i) j) := by
  blk_ext [iblk, V, idx t, tb, tj, tok]

theorem rd_a (c : Dev nD) (t : Fin cfg0.N) (i : Fin 256) (j : Fin 1024) :
    View.ld (iblk m c 0 t) r0_0 (ix3 0 i j) = m ((c : Thread nD τ).loc main_arg0) (ix3 (tb t) (tok t i) j) := by
  refine (View.ld_unit_apply_of (iblk m c 0 t) _ _ _ _ (ix3 0 i j) (fun a => by fin_cases a <;> simp)).trans ?_
  exact rd_a' m c t i j

theorem rd_wo' (c : Dev nD) (t : Fin cfg0.N) (k : Fin 1024) (j : Fin 1024) :
    iblk m c 1 t (ix2 k j) = m ((c : Thread nD τ).loc main_arg1) (ix2 k j) := by
  blk_ext [iblk, V, idx t]

theorem rd_wo (c : Dev nD) (t : Fin cfg0.N) (k : Fin 1024) (j : Fin 1024) :
    View.ld (iblk m c 1 t) r0_1 (ix2 k j) = m ((c : Thread nD τ).loc main_arg1) (ix2 k j) := by
  refine (View.ld_unit_apply_of (iblk m c 1 t) _ _ _ _ (ix2 k j) (fun a => by fin_cases a <;> simp)).trans ?_
  exact rd_wo' m c t k j

theorem rd_x' (c : Dev nD) (t : Fin cfg0.N) (i : Fin 256) (j : Fin 1024) :
    iblk m c 2 t (ix3 0 i j) = m ((c : Thread nD τ).loc main_arg2) (ix3 (tb t) (tok t i) j) := by
  blk_ext [iblk, V, idx t, tb, tj, tok]

theorem rd_x (c : Dev nD) (t : Fin cfg0.N) (i : Fin 256) (j : Fin 1024) :
    View.ld (iblk m c 2 t) r0_0 (ix3 0 i j) = m ((c : Thread nD τ).loc main_arg2) (ix3 (tb t) (tok t i) j) := by
  refine (View.ld_unit_apply_of (iblk m c 2 t) _ _ _ _ (ix3 0 i j) (fun a => by fin_cases a <;> simp)).trans ?_
  exact rd_x' m c t i j

theorem rd_gate (c : Dev nD) (t : Fin cfg0.N) (j : Fin 1024) :
    View.ld (iblk m c 3 t) r0_2 (ix3 0 0 j) = m ((c : Thread nD τ).loc main_arg3) (ix3 (tb t) (2 : Fin 6) j) := by
  refine (View.ld_unit_apply_of (iblk m c 3 t) _ _ _ _ (ix3 0 2 j) (fun a => by fin_cases a <;> simp)).trans ?_
  blk_ext [iblk, V, idx t, tb]

theorem rd_scale (c : Dev nD) (t : Fin cfg0.N) (j : Fin 1024) :
    View.ld (iblk m c 3 t) r0_4 (ix3 0 0 j) = m ((c : Thread nD τ).loc main_arg3) (ix3 (tb t) (4 : Fin 6) j) := by
  refine (View.ld_unit_apply_of (iblk m c 3 t) _ _ _ _ (ix3 0 4 j) (fun a => by fin_cases a <;> simp)).trans ?_
  blk_ext [iblk, V, idx t, tb]

theorem rd_shift (c : Dev nD) (t : Fin cfg0.N) (j : Fin 1024) :
    View.ld (iblk m c 3 t) r0_5 (ix3 0 0 j) = m ((c : Thread nD τ).loc main_arg3) (ix3 (tb t) (3 : Fin 6) j) := by
  refine (View.ld_unit_apply_of (iblk m c 3 t) _ _ _ _ (ix3 0 3 j) (fun a => by fin_cases a <;> simp)).trans ?_
  blk_ext [iblk, V, idx t, tb]

theorem rd_g (c : Dev nD) (t : Fin cfg0.N) (j : Fin 1024) :
    View.ld (iblk m c 4 t) r0_3 (ix2 0 j) = m ((c : Thread nD τ).loc main_arg4) (ix2 0 j) := by
  refine (View.ld_unit_apply_of (iblk m c 4 t) _ _ _ _ (ix2 0 j) (fun a => by fin_cases a <;> simp)).trans ?_
  blk_ext [iblk, V, idx t]

theorem rd_wr (c : Dev nD) (t : Fin cfg0.N) (e : Fin 32) (k : Fin 1024) :
    View.ld (iblk m c 5 t) r0_6 (ix2 e k) = m ((c : Thread nD τ).loc main_arg5) (ix2 e k) := by
  refine (View.ld_unit_apply_of (iblk m c 5 t) _ _ _ _ (ix2 e k) (fun a => by fin_cases a <;> simp)).trans ?_
  blk_ext [iblk, V, idx t]

theorem rd_rb (c : Dev nD) (t : Fin cfg0.N) (e : Fin 32) :
    View.ld (iblk m c 6 t) r0_7 (ix2 e 0) = m ((c : Thread nD τ).loc main_arg6) (ix2 e 0) := by
  refine (View.ld_unit_apply_of (iblk m c 6 t) _ _ _ _ (ix2 e 0) (fun a => by fin_cases a <;> simp)).trans ?_
  blk_ext [iblk, V, idx t]

theorem emb7 (t : Fin cfg0.N) (i : Fin 256) (j : Fin 1024) :
    ((View.whole main_v0_0).slice (win0_7.rect t)).emb (ix3 0 i j) = ix3 (tb t) (tok t i) j := by
  blk_ext [idx t, tb, tj, tok]

theorem emb8 (t : Fin cfg0.N) (i : Fin 256) (j : Fin 1024) :
    ((View.whole main_v0_1).slice (win0_8.rect t)).emb (ix3 0 i j) = ix3 (tb t) (tok t i) j := by
  blk_ext [idx t, tb, tj, tok]

theorem emb9 (t : Fin cfg0.N) (k : Fin 2) (i : Fin 256) :
    ((View.whole main_v0_2).slice (win0_9.rect t)).emb (ix3 0 k i) = ix3 (tb t) k (tok t i) := by
  blk_ext [idx t, tb, tj, tok]

theorem emb10 (t : Fin cfg0.N) (k : Fin 2) (i : Fin 256) :
    ((View.whole main_v0_3).slice (win0_10.rect t)).emb (ix3 0 k i) = ix3 (tb t) k (tok t i) := by
  blk_ext [idx t, tb, tj, tok]

end Cert.PostIdeal.Own

end

end
-- ==== Proof.PickMath.lean ====
/- The greatest and the second greatest of a row, the earlier of equal ones first. -/
module

public import Idealize.ShloMosaic.Lib.Pipeline.ValueKit
public import Idealize.ShloMosaic.Lib.SortFacts

@[expose] public section

noncomputable section

open Idealize.ShloMosaic

namespace Cert.Own

/-- Position `p` of the row comes before position `q`: greater, or equal and earlier. -/
def bef {n : Nat} (f : Fin n → EReal) (p q : Fin n) : Prop := f q < f p ∨ (f p = f q ∧ p < q)

theorem bef_total {n : Nat} (f : Fin n → EReal) {p q : Fin n} (h : p ≠ q) : bef f p q ∨ bef f q p := by
  unfold bef
  rcases lt_trichotomy (f p) (f q) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

/-- `i` is the row's first position. -/
def Top1 {n : Nat} (f : Fin n → EReal) (i : Fin n) : Prop := ∀ p, p ≠ i → bef f i p

/-- `i` and `j` are the row's first two positions. -/
def Top2 {n : Nat} (f : Fin n → EReal) (i j : Fin n) : Prop := Top1 f i ∧ i ≠ j ∧ ∀ p, p ≠ i → p ≠ j → bef f j p

theorem bef_asymm {n : Nat} {f : Fin n → EReal} {p q : Fin n} (h : bef f p q) : ¬ bef f q p := by
  rintro (h' | ⟨h', h''⟩) <;> rcases h with h | ⟨h, h3⟩
  · exact lt_asymm h h'
  · exact (h ▸ h').ne rfl
  · exact (h' ▸ h).ne rfl
  · exact lt_asymm h3 h''

theorem Top1.unique {n : Nat} {f : Fin n → EReal} {i i' : Fin n} (h : Top1 f i) (h' : Top1 f i') : i = i' := by
  by_contra hne
  exact bef_asymm (h i' fun e => hne e.symm) (h' i hne)

theorem Top2.unique {n : Nat} {f : Fin n → EReal} {i j i' j' : Fin n} (h : Top2 f i j) (h' : Top2 f i' j') : i = i' ∧ j = j' := by
  obtain rfl := h.1.unique h'.1
  refine ⟨rfl, ?_⟩
  by_contra hne
  exact bef_asymm (h.2.2 j' h'.2.1.symm fun e => hne e.symm) (h'.2.2 j h.2.1.symm hne)

/-- A sort of positions in their order looks at a pair the later position first, so ties cost nothing. -/
theorem stableSort_of_later {ι : Type} [Preorder ι] (R R' : ι → ι → Bool) (h : ∀ a b, a < b → R b a = R' b a) (l : List ι)
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

open Classical in
/-- The position that a sort of the row, greatest first, puts at `k`. -/
def pick {n : Nat} (f : Fin n → EReal) (k : Fin n) : Fin n := sortedFrom (fun p q => decide (f q < f p)) k

open Classical in
theorem pick_bef {n : Nat} (f : Fin n → EReal) {i j : Fin n} (h : i < j) : bef f (pick f i) (pick f j) := by
  have e : sortedFrom (fun p q => decide (f q < f p)) = sortedFrom (fun p q => decide (bef f p q)) := by
    funext k
    unfold sortedFrom
    refine (List.get_of_eq ?_ _).trans rfl
    refine stableSort_of_later _ _ (fun a b hab => ?_) _ (List.pairwise_lt_finRange n)
    unfold bef
    simp [hab.le]
  have hne : pick f i ≠ pick f j := fun e' => h.ne (sortedFrom_injective _ e')
  refine (bef_total f hne).resolve_right fun hb => ?_
  have := sortedFrom_noInversion (fun p q => decide (bef f p q)) (fun p q => decide (bef f p q))
    (fun a b hab => by simpa using bef_asymm (by simpa using hab)) (fun a b hab => hab) ?_ i j h
  · unfold pick at hb; rw [e] at hb; simp [hb] at this
  · intro a b c hab hbc
    simp only [decide_eq_false_iff_not] at hab hbc ⊢
    unfold bef at *
    push Not at hab hbc ⊢
    refine ⟨hab.1.trans hbc.1, fun h1 => ?_⟩
    have h2 : f a = f b := le_antisymm hab.1 (h1 ▸ hbc.1)
    exact (hbc.2 (h2.symm.trans h1)).trans (hab.2 h2)

theorem pick_top1 {n : Nat} (f : Fin n → EReal) (h : 0 < n) : Top1 f (pick f ⟨0, h⟩) := by
  intro p hp
  obtain ⟨k, rfl⟩ := sortedFrom_surjective (fun p q => decide (f q < f p)) p
  refine pick_bef f (Fin.lt_def.mpr (Nat.pos_of_ne_zero fun e => hp ?_))
  exact congrArg _ (Fin.ext e)

theorem pick_top2 {n : Nat} (f : Fin n → EReal) (h : 1 < n) : Top2 f (pick f ⟨0, by omega⟩) (pick f ⟨1, h⟩) := by
  refine ⟨pick_top1 f _, fun e => ?_, fun p hp hp' => ?_⟩
  · have := sortedFrom_injective _ e; simp at this
  · obtain ⟨k, rfl⟩ := sortedFrom_surjective (fun p q => decide (f q < f p)) p
    refine pick_bef f (Fin.lt_def.mpr ?_)
    have h0 : k.val ≠ 0 := fun e => hp (congrArg _ (Fin.ext e))
    have h1 : k.val ≠ 1 := fun e => hp' (congrArg _ (Fin.ext e))
    show 1 < k.val
    omega

/-- The sum of the two greatest of four, by comparing in pairs. -/
theorem top2_sum {f : Fin 4 → EReal} {i j : Fin 4} (h : Top2 f i j) :
    max (max (f 0) (f 1)) (max (f 2) (f 3)) + max (min (max (f 0) (f 1)) (max (f 2) (f 3))) (max (min (f 0) (f 1)) (min (f 2) (f 3)))
      = f i + f j := by
  have h1 : ∀ p, f p ≤ f i := fun p => by
    by_cases e : p = i
    · rw [e]
    · exact (h.1 p e).elim le_of_lt fun h => h.1.ge
  have h2 : ∀ p, p ≠ i → f p ≤ f j := fun p e => by
    by_cases e' : p = j
    · rw [e']
    · exact (h.2.2 p e e').elim le_of_lt fun h => h.1.ge
  have e1 : max (max (f 0) (f 1)) (max (f 2) (f 3)) = f i := by
    refine le_antisymm (by simp [h1]) ?_
    fin_cases i <;> simp
  rw [e1]; congr 1
  have hij := h.2.1
  clear h e1
  fin_cases i <;> fin_cases j <;> simp at hij h1 h2 ⊢ <;>
    simp [Fin.forall_fin_succ] at h1 h2 <;> simp [*]

open Classical in
/-- The first of four, by keeping the best seen so far: after two, three and four. -/
def best2 (f : Fin 4 → EReal) : Fin 4 := if f 0 < f 1 then 1 else 0
open Classical in
def best3 (f : Fin 4 → EReal) : Fin 4 := if f (best2 f) < f 2 then 2 else best2 f
open Classical in
def best4 (f : Fin 4 → EReal) : Fin 4 := if f (best3 f) < f 3 then 3 else best3 f

theorem best4_eq {f : Fin 4 → EReal} {i : Fin 4} (h : Top1 f i) : best4 f = i := by
  have h0 := h 0
  have h1 := h 1
  have h2 := h 2
  have h3 := h 3
  unfold bef at h0 h1 h2 h3
  clear h
  fin_cases i <;> simp at h0 h1 h2 h3 <;> unfold best4 best3 best2 <;> split_ifs <;> simp_all <;> grind

/-- The row with one position put last. -/
def without (f : Fin 4 → EReal) (i k : Fin 4) : EReal := if i = k then ⊥ else f k

theorem top1_without {f : Fin 4 → EReal} {i j : Fin 4} (h : Top2 f i j) (hf : ∀ k, ⊥ < f k) : Top1 (without f i) j := by
  intro p hp
  by_cases e : p = i
  · subst e
    left
    simp [without, h.2.1, hf]
  · have := h.2.2 p e hp
    unfold bef without at *
    simpa [Ne.symm e, h.2.1] using this

/-- The first two of the rows that stay when the others fall to the bottom. -/
theorem top2_within {f : Fin 4 → EReal} {F : Fin 32 → EReal} {i j : Fin 4} (g : Fin 8) (h : Top2 f i j) (hf : ∀ k, ⊥ < f k)
    (hF : ∀ e : Fin 32, F e = if h : e.val / 4 = g.val then f ⟨e.val % 4, Nat.mod_lt _ (by decide)⟩ else ⊥) :
    Top2 F ⟨g.val * 4 + i.val, by omega⟩ ⟨g.val * 4 + j.val, by omega⟩ := by
  have hin : ∀ k : Fin 4, F ⟨g.val * 4 + k.val, by omega⟩ = f k := fun k => by
    rw [hF, dif_pos (by show (g.val * 4 + k.val) / 4 = g.val; omega)]
    exact congrArg f (Fin.ext (by show (g.val * 4 + k.val) % 4 = k.val; omega))
  have key : ∀ (k : Fin 4) (p : Fin 32), (∀ q : Fin 4, p = ⟨g.val * 4 + q.val, by omega⟩ → bef f k q) → bef F ⟨g.val * 4 + k.val, by omega⟩ p := by
    intro k p hq
    by_cases e : p.val / 4 = g.val
    · obtain ⟨q, hpq⟩ : ∃ q : Fin 4, p = ⟨g.val * 4 + q.val, by omega⟩ := ⟨⟨p.val % 4, by omega⟩, Fin.ext (by show p.val = g.val * 4 + p.val % 4; omega)⟩
      have := hq q hpq
      rw [hpq]
      unfold bef at this ⊢
      rw [hin, hin]
      refine this.imp id fun ⟨h1, h2⟩ => ⟨h1, Fin.lt_def.mpr ?_⟩
      have : k.val < q.val := h2
      show g.val * 4 + k.val < g.val * 4 + q.val
      omega
    · left
      rw [hin, hF, dif_neg e]
      exact hf k
  refine ⟨fun p hp => key i p fun q hq => h.1 q fun e => hp (by rw [hq, e]), fun e => h.2.1 (Fin.ext ?_), fun p hp hp' => key j p fun q hq => h.2.2 q (fun e => hp (by rw [hq, e])) fun e => hp' (by rw [hq, e])⟩
  have := congrArg Fin.val e
  have : g.val * 4 + i.val = g.val * 4 + j.val := this
  omega

end Cert.Own

end

end
-- ==== Proof.PostScan.lean ====
/- The experts-input kernel's choice of a group and of two experts in it. -/
module

public import proofs.«01_k».proof.Proof.PickMath
public import proofs.«01_k».proof.Proof.SoftmaxMath
public import proofs.«01_k».proof.Proof.PostAt

@[expose] public section

set_option maxRecDepth 16384

noncomputable section

open Idealize.ShloMosaic Idealize.ShloMosaic.TcCoe Idealize.SL.Sem
open Idealize.ShloMosaic.Pipeline (Dat)

namespace Cert.PostIdeal.Own

open Cert.PostIdeal Cert.PostIdeal.Gen Cert.Own

theorem min_least : ∀ (P : Fin 8 → Bool) (g : Fin 8), P g = true → (∀ x, x < g → P x = false) →
    Finset.fold IntOp.minsi (2147483647#32) (fun x : Fin 8 => if P x = true then BitVec.ofNat 32 x.val else 8#32) Finset.univ = BitVec.ofNat 32 g.val := by
  decide +kernel

theorem group_of (G : Fin 8 → EReal) (g : Fin 8) (h : Top1 G g) :
    Finset.fold IntOp.minsi (2147483647#32) (fun x : Fin 8 => if G x = Finset.fold max (Ideal.ofBits FTy.f32 4286578688#32) G Finset.univ
      then BitVec.ofNat 32 x.val else 8#32) Finset.univ = BitVec.ofNat 32 g.val := by
  have hm : Finset.fold max (Ideal.ofBits FTy.f32 4286578688#32) G Finset.univ = G g := by
    rw [ofBits_f32_bot]
    refine le_antisymm (Finset.fold_max_le _ |>.mpr ⟨bot_le, fun x _ => ?_⟩) (Finset.le_fold_max _ |>.mpr (Or.inr ⟨g, Finset.mem_univ _, le_rfl⟩))
    by_cases e : x = g
    · rw [e]
    · exact (h x e).elim le_of_lt fun h => h.1.ge
  classical
  rw [hm]
  have := min_least (fun x => decide (G x = G g)) g (by simp) (fun x hx => ?_)
  · simpa using this
  · simp only [decide_eq_false_iff_not]
    exact ((h x hx.ne).resolve_right fun h' => lt_asymm hx h'.2).ne

theorem one_of (m : Fin 8 → EReal) (g : Fin 8) (o : Fin 8 → BitVec 1)
    (ho : ∀ x, o x = IntOp.cmpi CmpIPredicate.eq (BitVec.ofNat 32 x.val) (BitVec.ofNat 32 g.val)) :
    ∑ x, Scalar.select (o x) (m x) 0 = m g := by
  have e : ∀ x g : Fin 8, IntOp.cmpi CmpIPredicate.eq (BitVec.ofNat 32 x.val) (BitVec.ofNat 32 g.val) = if x = g then 1#1 else 0#1 := by decide
  have : ∀ x, Scalar.select (o x) (m x) 0 = if x = g then m x else 0 := fun x => by
    rw [ho, e]; by_cases h : x = g <;> simp [h, Scalar.select]
  simp [this]

theorem pay19_at (v : FVec Ideal S256x1024 .f32) (s : Vec Ideal S1x1x1024 .f32) (wr : Vec Ideal S32x1024 .f32) (rb : Vec Ideal S32x1 .f32)
    (i : Fin 256) (f : Fin 8 → Fin 4 → EReal) (a b : Fin 8 → Fin 4) (g : Fin 8) (hab : ∀ g, Top2 (f g) (a g) (b g))
    (h0 : ∀ g, k0_pay11 v s wr rb (ix2 g i) = f g 0) (h1 : ∀ g, k0_pay12 v s wr rb (ix2 g i) = f g 1)
    (h2 : ∀ g, k0_pay13 v s wr rb (ix2 g i) = f g 2) (h3 : ∀ g, k0_pay14 v s wr rb (ix2 g i) = f g 3)
    (hg : Top1 (fun g => f g (a g) + f g (b g)) g) :
    k0_pay19 v s wr rb (ix2 0 i) = BitVec.ofNat 32 g.val := by
  unfold k0_pay19
  generalize k0_pay11 v s wr rb = m0 at h0 ⊢
  generalize k0_pay12 v s wr rb = m1 at h1 ⊢
  generalize k0_pay13 v s wr rb = m2 at h2 ⊢
  generalize k0_pay14 v s wr rb = m3 at h3 ⊢
  pointwise []
  simp only [h0, h1, h2, h3, top2_sum (hab _)]
  exact group_of _ g hg

theorem pay20_at (v : FVec Ideal S256x1024 .f32) (s : Vec Ideal S1x1x1024 .f32) (wr : Vec Ideal S32x1024 .f32) (rb : Vec Ideal S32x1 .f32) (g : Fin 8) (i : Fin 256) :
    k0_pay20 v s wr rb (ix2 g i) = IntOp.cmpi CmpIPredicate.eq (BitVec.ofNat 32 g.val) (k0_pay19 v s wr rb (ix2 0 i)) := by
  unfold k0_pay20
  generalize k0_pay19 v s wr rb = V
  pointwise []

section
variable (w : FVec Ideal S8x256 .f32) (o : IVec S8x256 1) (i : Fin 256) (g : Fin 8)
  (ho : ∀ x, o (ix2 x i) = IntOp.cmpi CmpIPredicate.eq (BitVec.ofNat 32 x.val) (BitVec.ofNat 32 g.val))
include ho

theorem pay23_at : k0_pay23 w o (ix2 0 i) = w (ix2 g i) := by
  unfold k0_pay23; pointwise []; exact one_of (fun x => w (ix2 x i)) g (fun x => o (ix2 x i)) ho
theorem pay24_at : k0_pay24 w o (ix2 0 i) = w (ix2 g i) := by
  unfold k0_pay24; pointwise []; exact one_of (fun x => w (ix2 x i)) g (fun x => o (ix2 x i)) ho
theorem pay25_at : k0_pay25 w o (ix2 0 i) = w (ix2 g i) := by
  unfold k0_pay25; pointwise []; exact one_of (fun x => w (ix2 x i)) g (fun x => o (ix2 x i)) ho
theorem pay26_at : k0_pay26 w o (ix2 0 i) = w (ix2 g i) := by
  unfold k0_pay26; pointwise []; exact one_of (fun x => w (ix2 x i)) g (fun x => o (ix2 x i)) ho
theorem pay27_at : k0_pay27 w o (ix2 0 i) = w (ix2 g i) := by
  unfold k0_pay27; pointwise []; exact one_of (fun x => w (ix2 x i)) g (fun x => o (ix2 x i)) ho
theorem pay28_at : k0_pay28 w o (ix2 0 i) = w (ix2 g i) := by
  unfold k0_pay28; pointwise []; exact one_of (fun x => w (ix2 x i)) g (fun x => o (ix2 x i)) ho
theorem pay29_at : k0_pay29 w o (ix2 0 i) = w (ix2 g i) := by
  unfold k0_pay29; pointwise []; exact one_of (fun x => w (ix2 x i)) g (fun x => o (ix2 x i)) ho
end

theorem pay22_at (v : FVec Ideal S256x1024 .f32) (s : Vec Ideal S1x1x1024 .f32) (wr : Vec Ideal S32x1024 .f32) (rb : Vec Ideal S32x1 .f32) (i : Fin 256) (g : Fin 8)
    (ho : ∀ x, k0_pay20 v s wr rb (ix2 x i) = IntOp.cmpi CmpIPredicate.eq (BitVec.ofNat 32 x.val) (BitVec.ofNat 32 g.val)) :
    k0_pay22 (k0_pay21 v s wr rb) (ix2 0 i) = k0_pay11 v s wr rb (ix2 g i) := by
  unfold k0_pay22 k0_pay21
  generalize k0_pay20 v s wr rb = o at ho ⊢
  generalize k0_pay11 v s wr rb = w
  pointwise []
  exact one_of (fun x => w (ix2 x i)) g (fun x => o (ix2 x i)) ho

theorem sel_if {α : Type} (p : Prop) {_ : Decidable p} (a b : α) : Scalar.select (BitVec.ofBool (decide p)) a b = if p then a else b := by
  by_cases h : p <;> simp [h, Scalar.select]

theorem eq_of : ∀ i k : Fin 4, IntOp.cmpi CmpIPredicate.eq (BitVec.ofNat 32 i.val) (BitVec.ofNat 32 k.val) = BitVec.ofBool (decide (i = k)) := by
  decide

theorem ne_of : ∀ i : Fin 4, IntOp.cmpi CmpIPredicate.ne (BitVec.ofNat 32 i.val) 0#32 = BitVec.ofBool (decide (i ≠ 0)) := by
  decide

section
variable (v48 v49 v51 v52 : FVec Ideal S8x256 .f32) (o : IVec S8x256 1) (v76 : FVec Ideal S8x256 .f32) (i : Fin 256) (f s : Fin 4 → EReal)
  (h0 : k0_pay22 v76 (ix2 0 i) = f 0) (h1 : k0_pay23 v48 o (ix2 0 i) = f 1) (h2 : k0_pay24 v49 o (ix2 0 i) = f 2)
  (s0 : k0_pay26 v51 o (ix2 0 i) = s 0) (s1 : k0_pay27 v52 o (ix2 0 i) = s 1)
include h0 h1

open Classical in
theorem pay32_at : k0_pay32 v48 o v76 (ix2 0 i) = BitVec.ofBool (decide (f 0 < f 1)) := by
  unfold k0_pay32
  generalize k0_pay22 v76 = V at h0 ⊢
  generalize k0_pay23 v48 o = W at h1 ⊢
  pointwise []
  rw [h0, h1]
  try congr!

theorem pay33_at : k0_pay33 v48 o v76 (ix2 0 i) = f (best2 f) := by
  have h := pay32_at v48 o v76 i f h0 h1
  unfold k0_pay33 best2
  generalize k0_pay32 v48 o v76 = U at h ⊢
  generalize k0_pay22 v76 = V at h0 ⊢
  generalize k0_pay23 v48 o = W at h1 ⊢
  pointwise []
  rw [h0, h1, h, sel_if]
  split_ifs <;> rfl

include s0 s1 in
theorem pay34_at : k0_pay34 v48 v51 v52 o v76 (ix2 0 i) = s (best2 f) := by
  have h := pay32_at v48 o v76 i f h0 h1
  unfold k0_pay34 best2
  generalize k0_pay32 v48 o v76 = U at h ⊢
  generalize k0_pay26 v51 o = V at s0 ⊢
  generalize k0_pay27 v52 o = W at s1 ⊢
  pointwise []
  rw [s0, s1, h, sel_if]
  split_ifs <;> rfl

include h2

open Classical in
theorem pay35_at : k0_pay35 v48 v49 o v76 (ix2 0 i) = BitVec.ofBool (decide (f (best2 f) < f 2)) := by
  have h := pay33_at v48 o v76 i f h0 h1
  unfold k0_pay35
  generalize k0_pay33 v48 o v76 = V at h ⊢
  generalize k0_pay24 v49 o = W at h2 ⊢
  pointwise []
  rw [h, h2]
  try congr!

theorem pay36_at : k0_pay36 v48 v49 o v76 (ix2 0 i) = f (best3 f) := by
  have h := pay33_at v48 o v76 i f h0 h1
  have h' := pay35_at v48 v49 o v76 i f h0 h1 h2
  unfold k0_pay36 best3
  generalize k0_pay35 v48 v49 o v76 = U at h' ⊢
  generalize k0_pay33 v48 o v76 = V at h ⊢
  generalize k0_pay24 v49 o = W at h2 ⊢
  pointwise []
  rw [h, h2, h', sel_if]
  split_ifs <;> rfl

theorem pay37_at : k0_pay37 v48 v49 o v76 (ix2 0 i) = BitVec.ofNat 32 (best3 f).val := by
  have h := pay32_at v48 o v76 i f h0 h1
  have h' := pay35_at v48 v49 o v76 i f h0 h1 h2
  unfold k0_pay37 best3 best2
  generalize k0_pay35 v48 v49 o v76 = U at h' ⊢
  generalize k0_pay32 v48 o v76 = V at h ⊢
  pointwise [k0_pay31]
  rw [h, h', sel_if, sel_if]
  unfold best2
  split_ifs <;> rfl
end

section
variable (v78 v82 v86 v90 v94 v98 v102 v106 v107 v113 v115 : FVec Ideal S1x256 .f32) (v108 v117 : IVec S1x256 32) (v114 : IVec S1x256 1)
  (i : Fin 256) (f s : Fin 4 → EReal)
  (h78 : v78 (ix2 0 i) = f 0) (h82 : v82 (ix2 0 i) = f 1) (h86 : v86 (ix2 0 i) = f 2) (h90 : v90 (ix2 0 i) = f 3)
  (h94 : v94 (ix2 0 i) = s 0) (h98 : v98 (ix2 0 i) = s 1) (h102 : v102 (ix2 0 i) = s 2) (h106 : v106 (ix2 0 i) = s 3)
  (h107 : v107 (ix2 0 i) = (⊥ : EReal)) (h108 : v108 (ix2 0 i) = 0#32)
  (h113 : v113 (ix2 0 i) = s (best2 f)) (h115 : v115 (ix2 0 i) = f (best3 f)) (h117 : v117 (ix2 0 i) = BitVec.ofNat 32 (best3 f).val)
include h90 h115

open Classical in
theorem pay38_at : k0_pay38 v90 v115 (ix2 0 i) = BitVec.ofBool (decide (f (best3 f) < f 3)) := by
  unfold k0_pay38
  pointwise []
  rw [h90, h115]
  try congr!

open Classical in
include h102 h106 h113 in
theorem pay40_at (h114 : v114 (ix2 0 i) = BitVec.ofBool (decide (f (best2 f) < f 2))) :
    k0_pay40 v90 v102 v106 v113 v114 v115 (ix2 0 i) = s (best4 f) := by
  have h := pay38_at v90 v115 i f h90 h115
  unfold k0_pay40 best4
  generalize k0_pay38 v90 v115 = U at h ⊢
  pointwise []
  rw [h, h106, h102, h113, h114, sel_if, sel_if]
  unfold best3
  split_ifs <;> rfl

include h117

theorem pay39_at : k0_pay39 v90 v115 v117 (ix2 0 i) = BitVec.ofNat 32 (best4 f).val := by
  have h := pay38_at v90 v115 i f h90 h115
  unfold k0_pay39 best4
  generalize k0_pay38 v90 v115 = U at h ⊢
  pointwise []
  rw [h, h117, sel_if]
  split_ifs <;> rfl

open Classical in
theorem pay41_at : k0_pay41 v90 v115 v117 (ix2 0 i) = BitVec.ofBool (decide (best4 f ≠ 0)) := by
  have h := pay39_at v90 v115 v117 i f h90 h115 h117
  unfold k0_pay41
  generalize k0_pay39 v90 v115 v117 = U at h ⊢
  pointwise []
  rw [h, ne_of]
  try congr!

include h107

include h78 in
theorem pay42_at : k0_pay42 v78 v90 v107 v115 v117 (ix2 0 i) = without f (best4 f) 0 := by
  have h := pay39_at v90 v115 v117 i f h90 h115 h117
  have h' := pay41_at v90 v115 v117 i f h90 h115 h117
  unfold k0_pay42 without
  generalize k0_pay39 v90 v115 v117 = U at h ⊢
  generalize k0_pay41 v90 v115 v117 = W at h' ⊢
  pointwise []
  rw [h, h', h107, h78, sel_if]
  have e := eq_of (best4 f) 0
  rw [show (0#32 : BitVec 32) = BitVec.ofNat 32 (0 : Fin 4).val from rfl, e]
  classical
  by_cases hb : best4 f = 0 <;> simp [hb, Scalar.select]

include h82 in
theorem pay43_at : k0_pay43 v82 v90 v107 v115 v117 (ix2 0 i) = without f (best4 f) 1 := by
  have h := pay39_at v90 v115 v117 i f h90 h115 h117
  unfold k0_pay43 without
  generalize k0_pay39 v90 v115 v117 = U at h ⊢
  pointwise []
  rw [h, h107, h82, show (1#32 : BitVec 32) = BitVec.ofNat 32 (1 : Fin 4).val from rfl, eq_of]
  by_cases hb : best4 f = 1 <;> simp [hb, Scalar.select]

include h86 in
theorem pay46_at : k0_pay46 v86 v90 v107 v115 v117 (ix2 0 i) = without f (best4 f) 2 := by
  have h := pay39_at v90 v115 v117 i f h90 h115 h117
  unfold k0_pay46 without
  generalize k0_pay39 v90 v115 v117 = U at h ⊢
  pointwise []
  rw [h, h107, h86, show (2#32 : BitVec 32) = BitVec.ofNat 32 (2 : Fin 4).val from rfl, eq_of]
  by_cases hb : best4 f = 2 <;> simp [hb, Scalar.select]

include h78 h82

open Classical in
theorem pay44_at : k0_pay44 v78 v82 v90 v107 v115 v117 (ix2 0 i)
    = BitVec.ofBool (decide (without f (best4 f) 0 < without f (best4 f) 1)) := by
  have h := pay42_at v78 v90 v107 v115 v117 i f h78 h90 h107 h115 h117
  have h' := pay43_at v82 v90 v107 v115 v117 i f h82 h90 h107 h115 h117
  unfold k0_pay44
  generalize k0_pay42 v78 v90 v107 v115 v117 = U at h ⊢
  generalize k0_pay43 v82 v90 v107 v115 v117 = W at h' ⊢
  pointwise []
  rw [h, h']
  try congr!

theorem pay45_at : k0_pay45 v78 v82 v90 v107 v115 v117 (ix2 0 i) = without f (best4 f) (best2 (without f (best4 f))) := by
  have h := pay42_at v78 v90 v107 v115 v117 i f h78 h90 h107 h115 h117
  have h' := pay43_at v82 v90 v107 v115 v117 i f h82 h90 h107 h115 h117
  have h'' := pay44_at v78 v82 v90 v107 v115 v117 i f h78 h82 h90 h107 h115 h117
  unfold k0_pay45 best2
  generalize k0_pay42 v78 v90 v107 v115 v117 = U at h ⊢
  generalize k0_pay43 v82 v90 v107 v115 v117 = W at h' ⊢
  generalize k0_pay44 v78 v82 v90 v107 v115 v117 = T at h'' ⊢
  pointwise []
  rw [h, h', h'', sel_if]
  split_ifs <;> rfl

include h86

open Classical in
theorem pay47_at : k0_pay47 v78 v82 v86 v90 v107 v115 v117 (ix2 0 i)
    = BitVec.ofBool (decide (without f (best4 f) (best2 (without f (best4 f))) < without f (best4 f) 2)) := by
  have h := pay45_at v78 v82 v90 v107 v115 v117 i f h78 h82 h90 h107 h115 h117
  have h' := pay46_at v86 v90 v107 v115 v117 i f h86 h90 h107 h115 h117
  unfold k0_pay47
  generalize k0_pay45 v78 v82 v90 v107 v115 v117 = U at h ⊢
  generalize k0_pay46 v86 v90 v107 v115 v117 = W at h' ⊢
  pointwise []
  rw [h, h']
  try congr!

open Classical in
theorem pay48_at : k0_pay48 v78 v82 v86 v90 v107 v115 v117 (ix2 0 i)
    = BitVec.ofBool (decide (without f (best4 f) (best3 (without f (best4 f))) < without f (best4 f) 3)) := by
  have h := pay45_at v78 v82 v90 v107 v115 v117 i f h78 h82 h90 h107 h115 h117
  have h' := pay46_at v86 v90 v107 v115 v117 i f h86 h90 h107 h115 h117
  have h'' := pay47_at v78 v82 v86 v90 v107 v115 v117 i f h78 h82 h86 h90 h107 h115 h117
  have h3 := pay39_at v90 v115 v117 i f h90 h115 h117
  have hw : Scalar.select (BitVec.ofBool (decide (best4 f = 3))) (⊥ : EReal) (f 3) = without f (best4 f) 3 := by
    unfold without
    by_cases hb : best4 f = 3 <;> simp [hb, Scalar.select]
  unfold k0_pay48
  generalize k0_pay45 v78 v82 v90 v107 v115 v117 = U at h ⊢
  generalize k0_pay46 v86 v90 v107 v115 v117 = W at h' ⊢
  generalize k0_pay47 v78 v82 v86 v90 v107 v115 v117 = T at h'' ⊢
  generalize k0_pay39 v90 v115 v117 = X at h3 ⊢
  pointwise []
  rw [h, h', h'', h3, h107, h90, show (3#32 : BitVec 32) = BitVec.ofNat 32 (3 : Fin 4).val from rfl, eq_of, sel_if]
  generalize best4 f = b at hw ⊢
  have he : (if without f b (best2 (without f b)) < without f b 2 then without f b 2 else without f b (best2 (without f b)))
      = without f b (best3 (without f b)) := by
    rw [best3]; split_ifs <;> rfl
  rw [he, ← hw]
  try congr!

include h108 in
theorem pay49_at : k0_pay49 v78 v82 v86 v90 v107 v108 v115 v117 (ix2 0 i) = BitVec.ofNat 32 (best4 (without f (best4 f))).val := by
  have h1 := pay41_at v90 v115 v117 i f h90 h115 h117
  have h2 := pay44_at v78 v82 v90 v107 v115 v117 i f h78 h82 h90 h107 h115 h117
  have h3 := pay47_at v78 v82 v86 v90 v107 v115 v117 i f h78 h82 h86 h90 h107 h115 h117
  have h4 := pay48_at v78 v82 v86 v90 v107 v115 v117 i f h78 h82 h86 h90 h107 h115 h117
  unfold k0_pay49
  generalize k0_pay41 v90 v115 v117 = U at h1 ⊢
  generalize k0_pay44 v78 v82 v90 v107 v115 v117 = T at h2 ⊢
  generalize k0_pay47 v78 v82 v86 v90 v107 v115 v117 = W at h3 ⊢
  generalize k0_pay48 v78 v82 v86 v90 v107 v115 v117 = X at h4 ⊢
  pointwise []
  rw [h1, h2, h3, h4, h108]
  simp only [sel_if]
  generalize best4 f = b
  generalize without f b = c
  rw [best4, best3, best2]
  split_ifs <;> rfl

include h94 h98 h102 h106 in
theorem pay50_at (hne : best4 (without f (best4 f)) ≠ best4 f) :
    k0_pay50 v78 v82 v86 v90 v94 v98 v102 v106 v107 v115 v117 (ix2 0 i) = s (best4 (without f (best4 f))) := by
  have h1 := pay41_at v90 v115 v117 i f h90 h115 h117
  have h2 := pay44_at v78 v82 v90 v107 v115 v117 i f h78 h82 h90 h107 h115 h117
  have h3 := pay47_at v78 v82 v86 v90 v107 v115 v117 i f h78 h82 h86 h90 h107 h115 h117
  have h4 := pay48_at v78 v82 v86 v90 v107 v115 v117 i f h78 h82 h86 h90 h107 h115 h117
  unfold k0_pay50
  generalize k0_pay41 v90 v115 v117 = U at h1 ⊢
  generalize k0_pay44 v78 v82 v90 v107 v115 v117 = T at h2 ⊢
  generalize k0_pay47 v78 v82 v86 v90 v107 v115 v117 = W at h3 ⊢
  generalize k0_pay48 v78 v82 v86 v90 v107 v115 v117 = X at h4 ⊢
  pointwise []
  rw [h1, h2, h3, h4, h94, h98, h102, h106]
  simp only [sel_if]
  generalize best4 f = b at hne ⊢
  generalize without f b = c at hne ⊢
  rw [best4, best3, best2] at hne ⊢
  split_ifs at hne ⊢ <;> simp_all
end

end Cert.PostIdeal.Own

end

end
-- ==== Proof.PostRefAt.lean ====
/- The experts-input reference, stage by stage, at an index. -/
module

public import proofs.«01_k».proof.Proof.RowMath
public import proofs.«01_k».proof.Proof.PickMath
public import proofs.«01_k».proof.Proof.SoftmaxMath
public import proofs.«01_k».proof.Proof.Gen.PostRefIdeal.Read
public import Idealize.ShloMosaic.Lib.Pipeline.ValueKit

@[expose] public section

set_option maxRecDepth 16384

noncomputable section

open Idealize.ShloMosaic Idealize.ShloMosaic.TcCoe

namespace Cert.PostRefIdeal.Own

open Cert.PostRefIdeal Cert.PostRefIdeal.Gen Cert.PostRefIdeal.Read Cert.Own

variable (x0 : FVec Ideal S16x2048x1024 .bf16) (x1 : FVec Ideal S1024x1024 .bf16) (x2 : FVec Ideal S16x2048x1024 .f32) (x3 : FVec Ideal S16x6x1024 .f32)
  (x4 : FVec Ideal S1x1024 .f32) (x5 : FVec Ideal S32x1024 .f32) (x6 : FVec Ideal S32x1 .f32)

theorem v5_at (b : Fin 16) (j : Fin 1024) : val_main_v5 (F := Ideal) x3 (ix3 b 0 j) = x3 (ix3 b 2 j) := by
  pointwise [val_main_v5, val_main_v4, val_main_v3]

theorem v2_at (b : Fin 16) (r : Fin 2048) (j : Fin 1024) :
    val_main_v2 (F := Ideal) x0 x1 (ix3 b r j) = ∑ k, x0 (ix3 b r k) * x1 (ix2 k j) := by
  pointwise [val_main_v2, val_main_v1, val_main_v0]

theorem v8_at (b : Fin 16) (r : Fin 2048) (j : Fin 1024) :
    val_main_v8 (F := Ideal) x0 x1 x2 x3 (ix3 b r j) = x2 (ix3 b r j) + x3 (ix3 b 2 j) * ∑ k, x0 (ix3 b r k) * x1 (ix2 k j) := by
  rw [← v5_at x3 b j, ← v2_at x0 x1 b r j]
  unfold val_main_v8 val_main_v7 val_main_v6
  generalize val_main_v5 (F := Ideal) x3 = V
  generalize val_main_v2 (F := Ideal) x0 x1 = W
  pointwise []

theorem v26_at (b : Fin 16) (r : Fin 2048) (j : Fin 1024) :
    val_main_v26 (F := Ideal) x0 x1 x2 x3 x4 (ix3 b r j)
      = normed (fun k => val_main_v8 (F := Ideal) x0 x1 x2 x3 (ix3 b r k)) (fun k => x4 (ix2 0 k)) j := by
  unfold val_main_v26 val_main_v23 val_main_v22 val_main_v21 val_main_v20 val_main_v18 val_main_v16 val_main_v15 val_main_v14 normed
  generalize val_main_v8 (F := Ideal) x0 x1 x2 x3 = V
  pointwise [val_main_v25, val_main_v24, val_main_v9, val_main_v17, val_main_v19, val_main_cst, val_main_cst_0, val_main_cst_1]

theorem v34_at (b : Fin 16) (r : Fin 2048) (j : Fin 1024) :
    val_main_v34 (F := Ideal) x0 x1 x2 x3 x4 (ix3 b r j)
      = val_main_v26 (F := Ideal) x0 x1 x2 x3 x4 (ix3 b r j) * (1 + x3 (ix3 b 4 j)) + x3 (ix3 b 3 j) := by
  unfold val_main_v34 val_main_v31
  generalize val_main_v26 (F := Ideal) x0 x1 x2 x3 x4 = V
  pointwise [val_main_v33, val_main_v32, val_main_v11, val_main_v10, val_main_v30, val_main_v29, val_main_v28, val_main_v27,
    val_main_v13, val_main_v12, val_main_cst_2]

theorem v68_at (b : Fin 16) (r : Fin 2048) (j : Fin 1024) :
    val_main_v68 (F := Ideal) x0 x1 x2 x3 x4 (ix3 b r j) = val_main_v34 (F := Ideal) x0 x1 x2 x3 x4 (ix3 b r j) := rfl

/-- Row `r` of batch `b` among all tokens. -/
def row (b : Fin 16) (r : Fin 2048) : Fin 32768 := ⟨b.val * 2048 + r.val, by omega⟩

/-- Expert `j` of group `g`, and its row in the router's table. -/
def ex (g : Fin 8) (j : Fin 4) : Fin 32 := ⟨g.val * 4 + j.val, by omega⟩
def rw_ (g : Fin 8) (j : Fin 4) : Fin 32 := ⟨j.val * 8 + g.val, by omega⟩

theorem v37_at (k : Fin 1024) (g : Fin 8) (j : Fin 4) : val_main_v37 (F := Ideal) x5 (ix2 k (ex g j)) = x5 (ix2 (rw_ g j) k) := by
  unfold ex rw_
  pointwise [val_main_v37, val_main_v36, val_main_v35]

theorem v40_at (g : Fin 8) (j : Fin 4) : val_main_v40 (F := Ideal) x6 (ix1 (ex g j)) = x6 (ix2 (rw_ g j) 0) := by
  unfold ex rw_
  pointwise [val_main_v40, val_main_v39, val_main_v38]

theorem v41_at (b : Fin 16) (r : Fin 2048) (k : Fin 1024) :
    val_main_v41 (F := Ideal) x0 x1 x2 x3 x4 (ix2 (row b r) k) = val_main_v34 (F := Ideal) x0 x1 x2 x3 x4 (ix3 b r k) := by
  unfold val_main_v41 row
  generalize val_main_v34 (F := Ideal) x0 x1 x2 x3 x4 = V
  pointwise []

theorem v42_at (b : Fin 16) (r : Fin 2048) (g : Fin 8) (j : Fin 4) :
    val_main_v42 (F := Ideal) x0 x1 x2 x3 x4 x5 (ix2 (row b r) (ex g j))
      = ∑ k, val_main_v34 (F := Ideal) x0 x1 x2 x3 x4 (ix3 b r k) * x5 (ix2 (rw_ g j) k) := by
  simp only [← v41_at, ← v37_at]
  unfold val_main_v42
  generalize val_main_v41 (F := Ideal) x0 x1 x2 x3 x4 = V
  generalize val_main_v37 (F := Ideal) x5 = W
  pointwise []

theorem v48_at (n : Fin 32768) (e : Fin 32) :
    val_main_v48 (F := Ideal) x0 x1 x2 x3 x4 x5 (ix2 n e) = Ideal.logistic (val_main_v42 (F := Ideal) x0 x1 x2 x3 x4 x5 (ix2 n e)) := by
  unfold val_main_v48 val_main_v46 val_main_v44 val_main_v43 Ideal.logistic
  generalize val_main_v42 (F := Ideal) x0 x1 x2 x3 x4 x5 = V
  pointwise [val_main_v47, val_main_v45, val_main_cst_3, val_main_cst_4]

theorem v51_at (n : Fin 32768) (e : Fin 32) :
    val_main_v51 (F := Ideal) x0 x1 x2 x3 x4 x5 x6 (ix2 n e)
      = val_main_v48 (F := Ideal) x0 x1 x2 x3 x4 x5 (ix2 n e) + val_main_v40 (F := Ideal) x6 (ix1 e) := by
  unfold val_main_v51 val_main_v50 val_main_v49
  generalize val_main_v48 (F := Ideal) x0 x1 x2 x3 x4 x5 = V
  generalize val_main_v40 (F := Ideal) x6 = W
  pointwise []

theorem v52_at (n : Fin 32768) (g : Fin 8) (j : Fin 4) :
    val_main_v52 (F := Ideal) x0 x1 x2 x3 x4 x5 x6 (ix3 n g j) = val_main_v51 (F := Ideal) x0 x1 x2 x3 x4 x5 x6 (ix2 n (ex g j)) := by
  unfold val_main_v52 ex
  generalize val_main_v51 (F := Ideal) x0 x1 x2 x3 x4 x5 x6 = V
  pointwise []

theorem gt_eq_one (a b : Ideal .f32) : (FloatOps.cmpfTotal .gt a b == 1#1) = @decide ((b : EReal) < a) (Classical.propDecidable _) := by
  rw [Bool.eq_iff_iff]
  by_cases h : (b : EReal) < a <;> simp [Ideal.cmpfTotal_def, Ideal.cmp, CmpDirection.ordered, h]

section
variable (s : Shape) (d : Nat) (hd : d < s.rank) (V : s.Idx → Ideal .f32) (i : s.Idx) (w : Fin (s.size ⟨d, hd⟩) → s.Idx)
  (hw : ∀ k, i.along ⟨d, hd⟩ k = w k)
include hw

/-- A sort along an axis, greatest first, at an index whose fiber is `w`. -/
theorem sort2_fst (y : s.Idx → BitVec 32) :
    (Host.sort2 s d (fun l r => FloatOps.cmpfTotal .gt l.1 r.1) V y).1 i = V (w (pick (fun k => V (w k)) (i ⟨d, hd⟩))) := by
  unfold Host.sort2
  rw [dif_pos hd]
  simp only [hw, gt_eq_one]
  unfold pick
  congr!

theorem sort2_snd (y : s.Idx → BitVec 32) :
    (Host.sort2 s d (fun l r => FloatOps.cmpfTotal .gt l.1 r.1) V y).2 i = y (w (pick (fun k => V (w k)) (i ⟨d, hd⟩))) := by
  unfold Host.sort2
  rw [dif_pos hd]
  simp only [hw, gt_eq_one]
  unfold pick
  congr!
end

/-- The two greatest of a group's four, in their order. -/
theorem topK_group (V : FVec Ideal S32768x8x4 .f32) (n : Fin 32768) (g : Fin 8) (k : Fin 2) :
    (Host.topK S32768x8x2 2 (FloatOps.cmpfTotal .gt) V sliceFits_S32768x8x4_S32768x8x2).1 (ix3 n g k)
      = V (ix3 n g (pick (fun j => V (ix3 n g j)) (k.castLE (by decide)))) := by
  refine Eq.trans ?_ (sort2_fst S32768x8x4 2 (Nat.lt_succ_self 2 : 2 < S32768x8x4.rank) V (ix3 n g (k.castLE (by decide))) (fun j => ix3 n g j)
    (fun j => by funext a; fin_cases a <;> rfl) (fun i => iotaInDim S32768x8x4 32 2 i))
  show (Host.sort2 S32768x8x4 2 (fun l r => FloatOps.cmpfTotal .gt l.1 r.1) V (fun i => iotaInDim S32768x8x4 32 2 i)).1 _ = _
  refine congrArg _ ?_
  funext a; fin_cases a <;> exact Fin.ext (Nat.zero_add _)

/-- The first of the groups. -/
theorem topK_groups (V : FVec Ideal S32768x8 .f32) (n : Fin 32768) :
    (Host.topK S32768x1 1 (FloatOps.cmpfTotal .gt) V sliceFits_S32768x8_S32768x1).2 (ix2 n 0)
      = BitVec.ofNat 32 (pick (fun j => V (ix2 n j)) 0).val := by
  refine Eq.trans ?_ (sort2_snd S32768x8 1 (Nat.lt_succ_self 1 : 1 < S32768x8.rank) V (ix2 n 0) (fun j => ix2 n j)
    (fun j => by funext a; fin_cases a <;> rfl) (fun i => iotaInDim S32768x8 32 1 i))
  show (Host.sort2 S32768x8 1 (fun l r => FloatOps.cmpfTotal .gt l.1 r.1) V (fun i => iotaInDim S32768x8 32 1 i)).2 _ = _
  refine congrArg _ ?_
  funext a; fin_cases a <;> exact Fin.ext (Nat.zero_add _)

/-- The first two of the experts. -/
theorem topK_experts (V : FVec Ideal S32768x32 .f32) (n : Fin 32768) (k : Fin 2) :
    (Host.topK S32768x2 1 (FloatOps.cmpfTotal .gt) V sliceFits_S32768x32_S32768x2).2 (ix2 n k)
      = BitVec.ofNat 32 (pick (fun j => V (ix2 n j)) (k.castLE (by decide))).val := by
  refine Eq.trans ?_ (sort2_snd S32768x32 1 (Nat.lt_succ_self 1 : 1 < S32768x32.rank) V (ix2 n (k.castLE (by decide))) (fun j => ix2 n j)
    (fun j => by funext a; fin_cases a <;> rfl) (fun i => iotaInDim S32768x32 32 1 i))
  show (Host.sort2 S32768x32 1 (fun l r => FloatOps.cmpfTotal .gt l.1 r.1) V (fun i => iotaInDim S32768x32 32 1 i)).2 _ = _
  refine congrArg _ ?_
  funext a; fin_cases a <;> exact Fin.ext (Nat.zero_add _)

theorem v53_at (n : Fin 32768) (g : Fin 8) {i j : Fin 4}
    (h : Top2 (fun j => val_main_v51 (F := Ideal) x0 x1 x2 x3 x4 x5 x6 (ix2 n (ex g j))) i j) :
    val_main_v53 (F := Ideal) x0 x1 x2 x3 x4 x5 x6 (ix2 n g)
      = val_main_v51 (F := Ideal) x0 x1 x2 x3 x4 x5 x6 (ix2 n (ex g i)) + val_main_v51 (F := Ideal) x0 x1 x2 x3 x4 x5 x6 (ix2 n (ex g j)) := by
  simp only [← v52_at] at h ⊢
  unfold val_main_v53 val_main_values
  generalize val_main_v52 (F := Ideal) x0 x1 x2 x3 x4 x5 x6 = V at h ⊢
  have hu := h.unique (pick_top2 _ (by decide))
  have h0 := topK_group V n g 0
  have h1 := topK_group V n g 1
  rw [hu.1, hu.2]
  generalize Prod.fst _ = T at h0 h1 ⊢
  refine Eq.trans (b := T (ix3 n g 0) + T (ix3 n g 1)) ?_ (congrArg₂ _ h0 h1)
  pointwise [val_main_cst_5]
  exact Fin.sum_univ_two _

theorem v54_at (n : Fin 32768) :
    val_main_v54 (F := Ideal) x0 x1 x2 x3 x4 x5 x6 (ix1 n)
      = BitVec.ofNat 32 (pick (fun g => val_main_v53 (F := Ideal) x0 x1 x2 x3 x4 x5 x6 (ix2 n g)) 0).val := by
  unfold val_main_v54 val_main_indices_7
  generalize val_main_v53 (F := Ideal) x0 x1 x2 x3 x4 x5 x6 = V
  rw [← topK_groups]
  generalize Prod.snd _ = T
  pointwise []

theorem v56_at (e : Fin 32) : val_main_v56 (F := Ideal) (ix1 e) = BitVec.ofNat 32 (e.val / 4) := by
  revert e
  unfold val_main_v56 val_main_call0_v11 val_main_call0_v13 val_main_call0_v6 val_main_call0_v10 val_main_call0_v12 val_main_call0_v2 val_main_call0_v8 val_main_call0_v3 val_main_call0_v5 val_main_call0_v9 val_main_call0_v7 val_main_call0_v1 val_main_v55 val_main_call0_v4 val_main_call0_v0 val_main_c val_main_call0_c val_main_call0_c_0
  decide +kernel

theorem v62_at (n : Fin 32768) (e : Fin 32) :
    val_main_v62 (F := Ideal) x0 x1 x2 x3 x4 x5 x6 (ix2 n e)
      = if BitVec.ofNat 32 (e.val / 4) = val_main_v54 (F := Ideal) x0 x1 x2 x3 x4 x5 x6 (ix1 n) then val_main_v51 (F := Ideal) x0 x1 x2 x3 x4 x5 x6 (ix2 n e) else ⊥ := by
  rw [← v56_at]
  unfold val_main_v62 val_main_v61 val_main_v60 val_main_v59 val_main_v58 val_main_v57
  generalize val_main_v51 (F := Ideal) x0 x1 x2 x3 x4 x5 x6 = V
  generalize val_main_v54 (F := Ideal) x0 x1 x2 x3 x4 x5 x6 = W
  generalize val_main_v56 (F := Ideal) = U
  pointwise [val_main_call1_v1, val_main_call1_v0, val_main_cst_8]
  have hb : id (constant (F := Ideal) S_ FTy.f32 4286578688#32) ix0 = (⊥ : EReal) := by
    exact ofBits_f32_bot
  rw [hb]
  by_cases h : U (ix1 e) = W (ix1 n)
  · simp [h, Scalar.select, IntOp.cmpi]
  · simp [h, Scalar.select, IntOp.cmpi, beq_eq_false_iff_ne.mpr h]

/-- The gather down a row, read at an index. -/
theorem gather_at (W : FVec Ideal S32768x32 .f32) (ind : IVec S32768x2x1 32) (n : Fin 32768) (k : Fin 2) :
    Host.gather gather_S32768x32_S32768x2x1_S32768x2_n_1_0_0_1_2_11 W ind (ix2 n k)
      = W (ix2 n ⟨min (ind (ix3 n k 0)).toInt.toNat 31, by omega⟩) := by
  generalize hd : gather_S32768x32_S32768x2x1_S32768x2_n_1_0_0_1_2_11 = d
  unfold Host.gather
  refine congrArg W ?_
  funext a
  refine Fin.ext ?_
  have off : ∀ a, d.offCoord (ix2 n k) a = 0 := fun a => GatherDims.offCoord_eq_zero _ _ _ fun h => by
    rw [GatherDims.mem_sKept] at h; subst hd
    revert h; revert a; decide
  show d.start (ix2 n k) ind a + d.batchCoord (ix2 n k) a + d.offCoord (ix2 n k) a = _
  rw [off, Nat.add_zero]
  match a with
  | ⟨0, _⟩ =>
    rw [GatherDims.start_batching _ _ _ _ (by subst hd; exact List.mem_singleton.mpr rfl), Nat.zero_add]
    subst hd
    rfl
  | ⟨1, _⟩ =>
    show d.start (ix2 n k) ind (1 : Fin 2) + d.batchCoord (ix2 n k) (1 : Fin 2) = _
    rw [GatherDims.batchCoord_eq_zero _ _ _ (by subst hd; decide), Nat.add_zero]
    subst hd
    unfold GatherDims.start
    rw [dif_pos (show (1 : Fin 2) ∈ gather_S32768x32_S32768x2x1_S32768x2_n_1_0_0_1_2_11.startIndexMap from List.mem_singleton.mpr rfl)]
    have hsi : gather_S32768x32_S32768x2x1_S32768x2_n_1_0_0_1_2_11.siIdx (ix2 n k)
        ⟨List.idxOf (1 : Fin 2) gather_S32768x32_S32768x2x1_S32768x2_n_1_0_0_1_2_11.startIndexMap,
          List.idxOf_lt_length_iff.2 (List.mem_singleton.mpr rfl)⟩ = ix3 n k 0 := by
      funext b; refine Fin.ext ?_
      match b with
      | ⟨0, _⟩ => rfl
      | ⟨1, _⟩ => rfl
      | ⟨2, _⟩ => rfl
    rw [hsi]
    rfl

theorem sel_at (n : Fin 32768) (k : Fin 2) (e : Fin 32)
    (h : val_main_indices_10 (F := Ideal) x0 x1 x2 x3 x4 x5 x6 (ix2 n k) = BitVec.ofNat 32 e.val) :
    val_main_call2_v4 (F := Ideal) x0 x1 x2 x3 x4 x5 x6 (ix2 n k) = BitVec.ofNat 32 e.val := by
  unfold val_main_call2_v4 val_main_call2_v3 val_main_call2_v1
  generalize val_main_indices_10 (F := Ideal) x0 x1 x2 x3 x4 x5 x6 = V at h ⊢
  pointwise [val_main_call2_v2, val_main_call2_v0, val_main_call2_c, val_main_call2_c_0]
  rw [h]
  clear h
  revert e
  decide

theorem v63_at (n : Fin 32768) (k : Fin 2) (e : Fin 32)
    (h : val_main_indices_10 (F := Ideal) x0 x1 x2 x3 x4 x5 x6 (ix2 n k) = BitVec.ofNat 32 e.val) :
    val_main_v63 (F := Ideal) x0 x1 x2 x3 x4 x5 x6 (ix2 n k) = val_main_v48 (F := Ideal) x0 x1 x2 x3 x4 x5 (ix2 n e) := by
  have h := sel_at x0 x1 x2 x3 x4 x5 x6 n k e h
  unfold val_main_v63 val_main_call2_v13 val_main_call2_v12 val_main_call2_v11 val_main_call2_v10 val_main_call2_v7 val_main_call2_v5
  generalize val_main_call2_v4 (F := Ideal) x0 x1 x2 x3 x4 x5 x6 = V at h ⊢
  generalize val_main_v48 (F := Ideal) x0 x1 x2 x3 x4 x5 = W
  pointwise [val_main_call2_v14, val_main_call2_cst, val_main_call2_v6, val_main_call2_v8, val_main_call2_v9, val_main_call2_c_1, val_main_call2_c_2, val_main_call2_c_3]
  rw [gather_at]
  have hs : shapeCast S32768x2x1 V shapeCasts_S32768x2_S32768x2x1 (ix3 n k 0) = V (ix2 n k) := by pointwise []
  have hf : ∀ b : BitVec 1, b = 1#1 → Finset.fold IntOp.andi (1#1) (fun _ : Fin 1 => b) Finset.univ = 1#1 := by decide
  have hin : ∀ e : Fin 32, IntOp.andi (IntOp.cmpi CmpIPredicate.sge (BitVec.ofNat 32 e.val) 0#32)
      (IntOp.cmpi CmpIPredicate.sle (BitVec.ofNat 32 e.val) 31#32) = 1#1 := by decide
  have hm : ∀ e : Fin 32, min (BitVec.ofNat 32 e.val).toInt.toNat 31 = e.val := by decide
  rw [hf _ (by rw [h]; exact hin e)]
  show W _ = _
  refine congrArg W (congrArg (ix2 n) (Fin.ext ?_))
  show min (shapeCast S32768x2x1 V shapeCasts_S32768x2_S32768x2x1 (ix3 n k 0)).toInt.toNat 31 = e.val
  rw [hs, h, hm]

theorem v67_at (n : Fin 32768) (k : Fin 2) :
    val_main_v67 (F := Ideal) x0 x1 x2 x3 x4 x5 x6 (ix2 n k)
      = Ideal.div (val_main_v63 (F := Ideal) x0 x1 x2 x3 x4 x5 x6 (ix2 n k))
          (val_main_v63 (F := Ideal) x0 x1 x2 x3 x4 x5 x6 (ix2 n 0) + val_main_v63 (F := Ideal) x0 x1 x2 x3 x4 x5 x6 (ix2 n 1)) := by
  unfold val_main_v67 val_main_v66 val_main_v65 val_main_v64
  generalize val_main_v63 (F := Ideal) x0 x1 x2 x3 x4 x5 x6 = V
  rw [← Fin.sum_univ_two fun j => V (ix2 n j)]
  pointwise [val_main_cst_11]

theorem v70_at (b : Fin 16) (k : Fin 2) (r : Fin 2048) :
    val_main_v70 (F := Ideal) x0 x1 x2 x3 x4 x5 x6 (ix3 b k r) = val_main_indices_10 (F := Ideal) x0 x1 x2 x3 x4 x5 x6 (ix2 (row b r) k) := by
  unfold val_main_v70 val_main_v69 row
  generalize val_main_indices_10 (F := Ideal) x0 x1 x2 x3 x4 x5 x6 = V
  pointwise []

theorem v72_at (b : Fin 16) (k : Fin 2) (r : Fin 2048) :
    val_main_v72 (F := Ideal) x0 x1 x2 x3 x4 x5 x6 (ix3 b k r) = val_main_v67 (F := Ideal) x0 x1 x2 x3 x4 x5 x6 (ix2 (row b r) k) := by
  unfold val_main_v72 val_main_v71 row
  generalize val_main_v67 (F := Ideal) x0 x1 x2 x3 x4 x5 x6 = V
  pointwise []

end Cert.PostRefIdeal.Own

end

end
-- ==== Proof.PostChoice.lean ====
/- The experts-input kernel's scans: which two experts a token gets and with what weights, from its scores. -/
module

public import proofs.«01_k».proof.Proof.PostScan
public import proofs.«01_k».proof.Proof.PostRefAt

@[expose] public section

set_option maxRecDepth 16384

noncomputable section

open Idealize.ShloMosaic Idealize.ShloMosaic.TcCoe Idealize.SL.Sem
open Idealize.ShloMosaic.Pipeline (Dat)

namespace Cert.PostIdeal.Own

open Cert.PostIdeal Cert.PostIdeal.Gen Cert.Own
open Cert.PostRefIdeal.Own (ex rw_)

theorem pay30_at (i : Fin 256) : k0_pay30 (F := Ideal) (ix2 0 i) = (⊥ : EReal) := by
  unfold k0_pay30
  pointwise []
  exact ofBits_f32_bot

theorem pay1_at (u w : IVec S1x256 32) (i : Fin 256) : k0_pay1 u w (ix3 0 0 i) = u (ix2 0 i) * 4#32 + w (ix2 0 i) := by
  unfold k0_pay1
  pointwise []
  rfl

theorem pay52_at (u : IVec S1x256 32) (p q : FVec Ideal S1x256 .f32) (w : IVec S1x256 32) (i : Fin 256) :
    k0_pay52 u p q w (ix3 0 0 i) = u (ix2 0 i) * 4#32 + k0_pay39 p q w (ix2 0 i) := by
  unfold k0_pay52
  generalize k0_pay39 p q w = X
  pointwise []
  rfl

theorem pay2_at (u w : FVec Ideal S1x256 .f32) (i : Fin 256) : k0_pay2 u w (ix3 0 0 i) = Ideal.div (u (ix2 0 i)) (w (ix2 0 i)) := by
  unfold k0_pay2; pointwise []

theorem pay3_at (u w : FVec Ideal S1x256 .f32) (i : Fin 256) : k0_pay3 u w (ix3 0 0 i) = Ideal.div (u (ix2 0 i)) (w (ix2 0 i)) := by
  unfold k0_pay3; pointwise []

theorem number : ∀ (g : Fin 8) (j : Fin 4), BitVec.ofNat 32 g.val * 4#32 + BitVec.ofNat 32 j.val = BitVec.ofNat 32 (ex g j).val := by
  decide

section
variable (x0 : Vec Ideal S1x256x1024 .bf16) (x1 : Vec Ideal S1024x1024 .bf16) (x2 : Vec Ideal S1x256x1024 .f32) (x3 : Vec Ideal S1x6x1024 .f32)
  (x4 : Vec Ideal S1x1024 .f32) (x5 : Vec Ideal S32x1024 .f32) (x6 : Vec Ideal S32x1 .f32) (i : Fin 256) (f s : Fin 8 → Fin 4 → EReal)
  (hf : ∀ g j, k0_pay10 (k0_pay53 x0 x1 x2 x3 x4 x5 x6) (View.ld x3 r0_5) (View.ld x5 r0_6) (View.ld x6 r0_7) (ix2 (rw_ g j) i) = f g j)
  (hs : ∀ g j, k0_pay9 (k0_pay53 x0 x1 x2 x3 x4 x5 x6) (View.ld x3 r0_5) (View.ld x5 r0_6) (ix2 (rw_ g j) i) = s g j)
  (a b : Fin 8 → Fin 4) (g : Fin 8) (hab : ∀ g, Top2 (f g) (a g) (b g)) (hg : Top1 (fun g => f g (a g) + f g (b g)) g)
  (hpos : ∀ g j, (⊥ : EReal) < f g j)

theorem pay69_of (i : Fin 256) : k0_pay69 x0 x1 x2 x3 x4 x5 x6 (ix2 0 i) = (⊥ : EReal) := pay30_at i

theorem r0 (g : Fin 8) : (⟨g.val, by omega⟩ : Fin 32) = rw_ g 0 := Fin.ext (by show g.val = 0 * 8 + g.val; omega)
theorem r1 (g : Fin 8) : (⟨8 + g.val, by omega⟩ : Fin 32) = rw_ g 1 := Fin.ext (by show 8 + g.val = 1 * 8 + g.val; omega)
theorem r2 (g : Fin 8) : (⟨16 + g.val, by omega⟩ : Fin 32) = rw_ g 2 := Fin.ext (by show 16 + g.val = 2 * 8 + g.val; omega)
theorem r3 (g : Fin 8) : (⟨24 + g.val, by omega⟩ : Fin 32) = rw_ g 3 := Fin.ext (by show 24 + g.val = 3 * 8 + g.val; omega)

include hf hab hg

theorem pay58_of : k0_pay58 x0 x1 x2 x3 x4 x5 x6 (ix2 0 i) = BitVec.ofNat 32 g.val := by
  unfold k0_pay58
  exact pay19_at _ _ _ _ i f a b g hab (fun g => (pay11_at _ _ _ _ g i).trans (by rw [r0]; exact hf g 0))
    (fun g => (pay12_at _ _ _ _ g i).trans (by rw [r1]; exact hf g 1)) (fun g => (pay13_at _ _ _ _ g i).trans (by rw [r2]; exact hf g 2))
    (fun g => (pay14_at _ _ _ _ g i).trans (by rw [r3]; exact hf g 3)) hg

theorem pay59_of (x : Fin 8) : k0_pay59 x0 x1 x2 x3 x4 x5 x6 (ix2 x i) = IntOp.cmpi CmpIPredicate.eq (BitVec.ofNat 32 x.val) (BitVec.ofNat 32 g.val) := by
  have h := pay58_of x0 x1 x2 x3 x4 x5 x6 i f hf a b g hab hg
  unfold k0_pay59
  rw [pay20_at]
  unfold k0_pay58 at h
  rw [h]

theorem pay61_of : k0_pay61 x0 x1 x2 x3 x4 x5 x6 (ix2 0 i) = f g 0 := by
  unfold k0_pay61 k0_pay60
  rw [pay22_at _ _ _ _ i g (pay59_of x0 x1 x2 x3 x4 x5 x6 i f hf a b g hab hg), pay11_at, r0]
  exact hf g 0

theorem pay62_of : k0_pay62 x0 x1 x2 x3 x4 x5 x6 (ix2 0 i) = f g 1 := by
  unfold k0_pay62
  rw [pay23_at _ _ i g (pay59_of x0 x1 x2 x3 x4 x5 x6 i f hf a b g hab hg)]
  unfold k0_pay54
  rw [pay12_at, r1]
  exact hf g 1

theorem pay63_of : k0_pay63 x0 x1 x2 x3 x4 x5 x6 (ix2 0 i) = f g 2 := by
  unfold k0_pay63
  rw [pay24_at _ _ i g (pay59_of x0 x1 x2 x3 x4 x5 x6 i f hf a b g hab hg)]
  unfold k0_pay55
  rw [pay13_at, r2]
  exact hf g 2

theorem pay64_of : k0_pay64 x0 x1 x2 x3 x4 x5 x6 (ix2 0 i) = f g 3 := by
  unfold k0_pay64
  rw [pay25_at _ _ i g (pay59_of x0 x1 x2 x3 x4 x5 x6 i f hf a b g hab hg), pay14_at, r3]
  exact hf g 3

theorem pay72_of : k0_pay72 x0 x1 x2 x3 x4 x5 x6 (ix2 0 i) = f g (best3 (f g)) := by
  unfold k0_pay72
  exact pay36_at _ _ _ _ i (f g) (pay61_of x0 x1 x2 x3 x4 x5 x6 i f hf a b g hab hg) (pay62_of x0 x1 x2 x3 x4 x5 x6 i f hf a b g hab hg)
    (pay63_of x0 x1 x2 x3 x4 x5 x6 i f hf a b g hab hg)

theorem pay73_of : k0_pay73 x0 x1 x2 x3 x4 x5 x6 (ix2 0 i) = BitVec.ofNat 32 (best3 (f g)).val := by
  unfold k0_pay73
  exact pay37_at _ _ _ _ i (f g) (pay61_of x0 x1 x2 x3 x4 x5 x6 i f hf a b g hab hg) (pay62_of x0 x1 x2 x3 x4 x5 x6 i f hf a b g hab hg)
    (pay63_of x0 x1 x2 x3 x4 x5 x6 i f hf a b g hab hg)

open Classical in
theorem pay71_of : k0_pay71 x0 x1 x2 x3 x4 x5 x6 (ix2 0 i) = BitVec.ofBool (decide (f g (best2 (f g)) < f g 2)) := by
  unfold k0_pay71
  exact pay35_at _ _ _ _ i (f g) (pay61_of x0 x1 x2 x3 x4 x5 x6 i f hf a b g hab hg) (pay62_of x0 x1 x2 x3 x4 x5 x6 i f hf a b g hab hg)
    (pay63_of x0 x1 x2 x3 x4 x5 x6 i f hf a b g hab hg)

/-- The first of the token's experts. -/
theorem first : k0_pay52 (k0_pay58 x0 x1 x2 x3 x4 x5 x6) (k0_pay64 x0 x1 x2 x3 x4 x5 x6) (k0_pay72 x0 x1 x2 x3 x4 x5 x6) (k0_pay73 x0 x1 x2 x3 x4 x5 x6) (ix3 0 0 i)
    = BitVec.ofNat 32 (ex g (a g)).val := by
  rw [pay52_at, pay58_of x0 x1 x2 x3 x4 x5 x6 i f hf a b g hab hg,
    pay39_at _ _ _ i (f g) (pay64_of x0 x1 x2 x3 x4 x5 x6 i f hf a b g hab hg) (pay72_of x0 x1 x2 x3 x4 x5 x6 i f hf a b g hab hg)
      (pay73_of x0 x1 x2 x3 x4 x5 x6 i f hf a b g hab hg), best4_eq (hab g).1]
  exact number g (a g)

include hpos in
/-- The second of the token's experts. -/
theorem second : k0_pay1 (k0_pay58 x0 x1 x2 x3 x4 x5 x6) (k0_pay49 (k0_pay61 x0 x1 x2 x3 x4 x5 x6) (k0_pay62 x0 x1 x2 x3 x4 x5 x6) (k0_pay63 x0 x1 x2 x3 x4 x5 x6)
      (k0_pay64 x0 x1 x2 x3 x4 x5 x6) (k0_pay69 x0 x1 x2 x3 x4 x5 x6) k0_pay31 (k0_pay72 x0 x1 x2 x3 x4 x5 x6) (k0_pay73 x0 x1 x2 x3 x4 x5 x6)) (ix3 0 0 i)
    = BitVec.ofNat 32 (ex g (b g)).val := by
  rw [pay1_at, pay58_of x0 x1 x2 x3 x4 x5 x6 i f hf a b g hab hg,
    pay49_at _ _ _ _ _ _ _ _ i (f g) (pay61_of x0 x1 x2 x3 x4 x5 x6 i f hf a b g hab hg) (pay62_of x0 x1 x2 x3 x4 x5 x6 i f hf a b g hab hg)
      (pay63_of x0 x1 x2 x3 x4 x5 x6 i f hf a b g hab hg) (pay64_of x0 x1 x2 x3 x4 x5 x6 i f hf a b g hab hg) (pay69_of x0 x1 x2 x3 x4 x5 x6 i)
      (rfl : k0_pay31 (ix2 0 i) = 0#32)
      (pay72_of x0 x1 x2 x3 x4 x5 x6 i f hf a b g hab hg) (pay73_of x0 x1 x2 x3 x4 x5 x6 i f hf a b g hab hg),
    best4_eq (hab g).1, best4_eq (top1_without (hab g) (hpos g))]
  exact number g (b g)

include hs

theorem pay65_of : k0_pay65 x0 x1 x2 x3 x4 x5 x6 (ix2 0 i) = s g 0 := by
  unfold k0_pay65
  rw [pay26_at _ _ i g (pay59_of x0 x1 x2 x3 x4 x5 x6 i f hf a b g hab hg)]
  unfold k0_pay56
  rw [pay15_at, r0]
  exact hs g 0

theorem pay66_of : k0_pay66 x0 x1 x2 x3 x4 x5 x6 (ix2 0 i) = s g 1 := by
  unfold k0_pay66
  rw [pay27_at _ _ i g (pay59_of x0 x1 x2 x3 x4 x5 x6 i f hf a b g hab hg)]
  unfold k0_pay57
  rw [pay16_at, r1]
  exact hs g 1

theorem pay67_of : k0_pay67 x0 x1 x2 x3 x4 x5 x6 (ix2 0 i) = s g 2 := by
  unfold k0_pay67
  rw [pay28_at _ _ i g (pay59_of x0 x1 x2 x3 x4 x5 x6 i f hf a b g hab hg), pay17_at, r2]
  exact hs g 2

theorem pay68_of : k0_pay68 x0 x1 x2 x3 x4 x5 x6 (ix2 0 i) = s g 3 := by
  unfold k0_pay68
  rw [pay29_at _ _ i g (pay59_of x0 x1 x2 x3 x4 x5 x6 i f hf a b g hab hg), pay18_at, r3]
  exact hs g 3

theorem pay70_of : k0_pay70 x0 x1 x2 x3 x4 x5 x6 (ix2 0 i) = s g (best2 (f g)) := by
  unfold k0_pay70
  exact pay34_at _ _ _ _ _ i (f g) (s g) (pay61_of x0 x1 x2 x3 x4 x5 x6 i f hf a b g hab hg) (pay62_of x0 x1 x2 x3 x4 x5 x6 i f hf a b g hab hg)
    (pay65_of x0 x1 x2 x3 x4 x5 x6 i f s hf hs a b g hab hg) (pay66_of x0 x1 x2 x3 x4 x5 x6 i f s hf hs a b g hab hg)

theorem score1 : k0_pay40 (k0_pay64 x0 x1 x2 x3 x4 x5 x6) (k0_pay67 x0 x1 x2 x3 x4 x5 x6) (k0_pay68 x0 x1 x2 x3 x4 x5 x6) (k0_pay70 x0 x1 x2 x3 x4 x5 x6)
      (k0_pay71 x0 x1 x2 x3 x4 x5 x6) (k0_pay72 x0 x1 x2 x3 x4 x5 x6) (ix2 0 i) = s g (a g) := by
  rw [pay40_at _ _ _ _ _ _ i (f g) (s g) (pay64_of x0 x1 x2 x3 x4 x5 x6 i f hf a b g hab hg) (pay67_of x0 x1 x2 x3 x4 x5 x6 i f s hf hs a b g hab hg)
      (pay68_of x0 x1 x2 x3 x4 x5 x6 i f s hf hs a b g hab hg) (pay70_of x0 x1 x2 x3 x4 x5 x6 i f s hf hs a b g hab hg)
      (pay72_of x0 x1 x2 x3 x4 x5 x6 i f hf a b g hab hg) (pay71_of x0 x1 x2 x3 x4 x5 x6 i f hf a b g hab hg), best4_eq (hab g).1]

include hpos

theorem score2 : k0_pay50 (k0_pay61 x0 x1 x2 x3 x4 x5 x6) (k0_pay62 x0 x1 x2 x3 x4 x5 x6) (k0_pay63 x0 x1 x2 x3 x4 x5 x6) (k0_pay64 x0 x1 x2 x3 x4 x5 x6)
      (k0_pay65 x0 x1 x2 x3 x4 x5 x6) (k0_pay66 x0 x1 x2 x3 x4 x5 x6) (k0_pay67 x0 x1 x2 x3 x4 x5 x6) (k0_pay68 x0 x1 x2 x3 x4 x5 x6) (k0_pay69 x0 x1 x2 x3 x4 x5 x6)
      (k0_pay72 x0 x1 x2 x3 x4 x5 x6) (k0_pay73 x0 x1 x2 x3 x4 x5 x6) (ix2 0 i) = s g (b g) := by
  have h1 := best4_eq (hab g).1
  have h2 := best4_eq (top1_without (hab g) (hpos g))
  rw [pay50_at _ _ _ _ _ _ _ _ _ _ _ i (f g) (s g) (pay61_of x0 x1 x2 x3 x4 x5 x6 i f hf a b g hab hg) (pay62_of x0 x1 x2 x3 x4 x5 x6 i f hf a b g hab hg)
      (pay63_of x0 x1 x2 x3 x4 x5 x6 i f hf a b g hab hg) (pay64_of x0 x1 x2 x3 x4 x5 x6 i f hf a b g hab hg)
      (pay65_of x0 x1 x2 x3 x4 x5 x6 i f s hf hs a b g hab hg) (pay66_of x0 x1 x2 x3 x4 x5 x6 i f s hf hs a b g hab hg)
      (pay67_of x0 x1 x2 x3 x4 x5 x6 i f s hf hs a b g hab hg) (pay68_of x0 x1 x2 x3 x4 x5 x6 i f s hf hs a b g hab hg) (pay69_of x0 x1 x2 x3 x4 x5 x6 i)
      (pay72_of x0 x1 x2 x3 x4 x5 x6 i f hf a b g hab hg) (pay73_of x0 x1 x2 x3 x4 x5 x6 i f hf a b g hab hg)
      (by rw [h1, h2]; exact (hab g).2.1.symm), h1, h2]

theorem pay74_of : k0_pay74 x0 x1 x2 x3 x4 x5 x6 (ix2 0 i) = s g (a g) + s g (b g) :=
  congrArg₂ (· + ·) (score1 x0 x1 x2 x3 x4 x5 x6 i f s hf hs a b g hab hg) (score2 x0 x1 x2 x3 x4 x5 x6 i f s hf hs a b g hab hg hpos)
end

end Cert.PostIdeal.Own

end

end
-- ==== Proof.PostPick.lean ====
/- The reference's choice of experts, from the first of the groups and the first two of each group. -/
module

public import proofs.«01_k».proof.Proof.PostRefAt
public import proofs.«01_k».proof.Proof.Gen.Pre_bias_above

@[expose] public section

set_option maxRecDepth 16384

noncomputable section

open Idealize.ShloMosaic Idealize.ShloMosaic.TcCoe Idealize.SL.Sem
open Idealize.ShloMosaic.Pipeline (Dat)

namespace Cert.PostRefIdeal.Own

open Cert.PostRefIdeal Cert.PostRefIdeal.Gen Cert.PostRefIdeal.Read Cert.Own

theorem logistic_nonneg (x : EReal) : 0 ≤ Ideal.logistic x := by
  induction x using EReal.rec with
  | bot => simp
  | coe r => rw [Ideal.logistic_coe]; exact EReal.coe_nonneg.mpr (by positivity)
  | top => simp

variable (x0 : FVec Ideal S16x2048x1024 .bf16) (x1 : FVec Ideal S1024x1024 .bf16) (x2 : FVec Ideal S16x2048x1024 .f32) (x3 : FVec Ideal S16x6x1024 .f32)
  (x4 : FVec Ideal S1x1024 .f32) (x5 : FVec Ideal S32x1024 .f32) (x6 : FVec Ideal S32x1 .f32)

/-- The precondition's test says that no bias is minus infinity. -/
theorem pre_rb (h : Cert.Pre_bias_above.fn (F := Ideal) x0 x1 x2 x3 x4 x5 x6 = fun _ => 1#1) (e : Fin 32) : (⊥ : EReal) < x6 (ix2 e 0) := by
  have h' := congrFun h (ix2 e 0)
  pointwise [Cert.Pre_bias_above.fn] at h'
  have hb : ∀ b : Bool, BitVec.ofBool b = 1#1 → b = true := by decide
  have h' := of_decide_eq_true (hb _ h')
  rwa [ofBits_f32_bot] at h'

theorem above (hrb : ∀ e : Fin 32, (⊥ : EReal) < x6 (ix2 e 0)) (n : Fin 32768) (g : Fin 8) (j : Fin 4) :
    (⊥ : EReal) < val_main_v51 (F := Ideal) x0 x1 x2 x3 x4 x5 x6 (ix2 n (ex g j)) := by
  rw [v51_at, v48_at, v40_at]
  have h1 := logistic_nonneg (val_main_v42 (F := Ideal) x0 x1 x2 x3 x4 x5 (ix2 n (ex g j)))
  exact EReal.bot_lt_add_iff.mpr ⟨lt_of_lt_of_le EReal.bot_lt_zero h1, hrb _⟩

theorem ex_div_mod (e : Fin 32) : ex ⟨e.val / 4, by omega⟩ ⟨e.val % 4, by omega⟩ = e := by
  refine Fin.ext ?_
  show e.val / 4 * 4 + e.val % 4 = e.val
  omega

/-- Every token has a first group, and each group its first two. -/
theorem choices (f : Fin 8 → Fin 4 → EReal) : ∃ (a b : Fin 8 → Fin 4) (g : Fin 8), (∀ g, Top2 (f g) (a g) (b g)) ∧ Top1 (fun g => f g (a g) + f g (b g)) g :=
  ⟨fun g => pick (f g) ⟨0, by decide⟩, fun g => pick (f g) ⟨1, by decide⟩, _, fun g => pick_top2 (f g) (by decide), pick_top1 _ (by decide)⟩

variable (n : Fin 32768) (a b : Fin 8 → Fin 4) (g : Fin 8)
  (hab : ∀ g, Top2 (fun j => val_main_v51 (F := Ideal) x0 x1 x2 x3 x4 x5 x6 (ix2 n (ex g j))) (a g) (b g))
  (hg : Top1 (fun g => val_main_v51 (F := Ideal) x0 x1 x2 x3 x4 x5 x6 (ix2 n (ex g (a g)))
    + val_main_v51 (F := Ideal) x0 x1 x2 x3 x4 x5 x6 (ix2 n (ex g (b g)))) g)
  (hpos : ∀ g j, (⊥ : EReal) < val_main_v51 (F := Ideal) x0 x1 x2 x3 x4 x5 x6 (ix2 n (ex g j)))
include hab hg

theorem v54_of : val_main_v54 (F := Ideal) x0 x1 x2 x3 x4 x5 x6 (ix1 n) = BitVec.ofNat 32 g.val := by
  rw [v54_at]
  have e : (fun g => val_main_v53 (F := Ideal) x0 x1 x2 x3 x4 x5 x6 (ix2 n g)) = fun g => val_main_v51 (F := Ideal) x0 x1 x2 x3 x4 x5 x6 (ix2 n (ex g (a g)))
      + val_main_v51 (F := Ideal) x0 x1 x2 x3 x4 x5 x6 (ix2 n (ex g (b g))) :=
    funext fun g => v53_at x0 x1 x2 x3 x4 x5 x6 n g (hab g)
  rw [e, hg.unique (pick_top1 _ (by decide))]
  rfl

include hpos

theorem top_of : Top2 (fun e => val_main_v62 (F := Ideal) x0 x1 x2 x3 x4 x5 x6 (ix2 n e)) (ex g (a g)) (ex g (b g)) := by
  refine top2_within g (hab g) (hpos g) fun e => ?_
  show val_main_v62 (F := Ideal) x0 x1 x2 x3 x4 x5 x6 (ix2 n e) = _
  rw [v62_at, v54_of x0 x1 x2 x3 x4 x5 x6 n a b g hab hg]
  have he : ∀ (q g : Fin 8), BitVec.ofNat 32 q.val = BitVec.ofNat 32 g.val ↔ q.val = g.val := by decide
  have he := he ⟨e.val / 4, by omega⟩ g
  by_cases h : e.val / 4 = g.val
  · rw [if_pos (he.mpr h), dif_pos h]
    refine congrArg (fun e => val_main_v51 (F := Ideal) x0 x1 x2 x3 x4 x5 x6 (ix2 n e)) ?_
    refine Eq.trans (ex_div_mod e).symm ?_
    refine congrArg (fun g => ex g _) (Fin.ext h)
  · rw [if_neg (fun h' => h (he.mp h')), dif_neg h]

theorem idx0 : val_main_indices_10 (F := Ideal) x0 x1 x2 x3 x4 x5 x6 (ix2 n 0) = BitVec.ofNat 32 (ex g (a g)).val := by
  have h := (top_of x0 x1 x2 x3 x4 x5 x6 n a b g hab hg hpos).unique (pick_top2 _ (by decide))
  unfold val_main_indices_10
  rw [topK_experts, h.1]
  rfl

theorem idx1 : val_main_indices_10 (F := Ideal) x0 x1 x2 x3 x4 x5 x6 (ix2 n 1) = BitVec.ofNat 32 (ex g (b g)).val := by
  have h := (top_of x0 x1 x2 x3 x4 x5 x6 n a b g hab hg hpos).unique (pick_top2 _ (by decide))
  unfold val_main_indices_10
  rw [topK_experts, h.2]
  rfl

end Cert.PostRefIdeal.Own

end

end
-- ==== Proof.PostFinal.lean ====
/- The experts-input kernel's four result arrays are the reference's. -/
module

public import proofs.«01_k».proof.Proof.PostBlocks
public import proofs.«01_k».proof.Proof.PostChoice
public import proofs.«01_k».proof.Proof.PostPick

@[expose] public section

set_option maxRecDepth 16384

noncomputable section

open Idealize.ShloMosaic Idealize.ShloMosaic.TcCoe Idealize.SL.Sem
open Idealize.ShloMosaic.Pipeline (Dat)

namespace Cert.PostIdeal.Own

open Cert.PostIdeal Cert.PostIdeal.Gen Cert.Own
open Cert.PostRefIdeal.Own (ex rw_ row)

variable (m : (ℓ : Loc nD τ sig) → Buf (Elt Ideal) ℓ)

/-- The reference's residual stream, of the kernel's arguments. -/
abbrev refX (c : Dev nD) := Cert.PostRefIdeal.Read.val_main_v8 (F := Ideal) (m ((c : Thread nD τ).loc main_arg0)) (m ((c : Thread nD τ).loc main_arg1))
  (m ((c : Thread nD τ).loc main_arg2)) (m ((c : Thread nD τ).loc main_arg3))

/-- The reference's normed and shifted row, before its cast, of the kernel's arguments. -/
abbrev refT (c : Dev nD) := Cert.PostRefIdeal.Read.val_main_v34 (F := Ideal) (m ((c : Thread nD τ).loc main_arg0)) (m ((c : Thread nD τ).loc main_arg1))
  (m ((c : Thread nD τ).loc main_arg2)) (m ((c : Thread nD τ).loc main_arg3)) (m ((c : Thread nD τ).loc main_arg4))

/-- The reference's experts' input, of the kernel's arguments. -/
abbrev refH (c : Dev nD) := Cert.PostRefIdeal.Read.val_main_v68 (F := Ideal) (m ((c : Thread nD τ).loc main_arg0)) (m ((c : Thread nD τ).loc main_arg1))
  (m ((c : Thread nD τ).loc main_arg2)) (m ((c : Thread nD τ).loc main_arg3)) (m ((c : Thread nD τ).loc main_arg4))

/-- The reference's scores without and with the bias, of the kernel's arguments. -/
abbrev refS (c : Dev nD) := Cert.PostRefIdeal.Read.val_main_v48 (F := Ideal) (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))
abbrev refB (c : Dev nD) := Cert.PostRefIdeal.Read.val_main_v51 (F := Ideal) (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))
  (m ((c : Thread nD τ).loc main_arg6))

/-- The reference's experts and their weights, of the kernel's arguments. -/
abbrev refI (c : Dev nD) := Cert.PostRefIdeal.Read.val_main_v70 (F := Ideal) (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))
  (m ((c : Thread nD τ).loc main_arg6))
abbrev refW (c : Dev nD) := Cert.PostRefIdeal.Read.val_main_v72 (F := Ideal) (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))
  (m ((c : Thread nD τ).loc main_arg6))

/-- The reference's experts and their scores, token by token. -/
abbrev refJ (c : Dev nD) := Cert.PostRefIdeal.Read.val_main_indices_10 (F := Ideal) (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))
  (m ((c : Thread nD τ).loc main_arg6))
abbrev refV (c : Dev nD) := Cert.PostRefIdeal.Read.val_main_v63 (F := Ideal) (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))
  (m ((c : Thread nD τ).loc main_arg6))

theorem x_at (c : Dev nD) (t : Fin cfg0.N) (i : Fin 256) (j : Fin 1024) :
    k0_pay4 (View.ld (iblk m c 0 t) r0_0) (View.ld (iblk m c 1 t) r0_1) (View.ld (iblk m c 2 t) r0_0) (View.ld (iblk m c 3 t) r0_2) (ix2 i j)
      = refX m c (ix3 (tb t) (tok t i) j) := by
  refine (pay4_at _ _ _ _ i j).trans ?_
  refine Eq.trans ?_ (Cert.PostRefIdeal.Own.v8_at _ _ _ _ _ _ _).symm
  rw [rd_x, rd_gate]
  refine congrArg (fun z : EReal => (_ : EReal) + (_ : EReal) * z) (Finset.sum_congr rfl fun k _ => ?_)
  exact congrArg₂ (· * ·) (rd_a m c t i k) (rd_wo m c t k j)

theorem point7 (c : Dev nD) (t : Fin cfg0.N) (y : S1x256x1024.Idx) :
    k0_pay5 (iblk m c 0 t) (iblk m c 1 t) (iblk m c 2 t) (View.ld (iblk m c 3 t) r0_2) y
      = refX m c (((View.whole main_v0_0).slice (win0_7.rect t)).emb y) := by
  obtain ⟨z, i, j, rfl⟩ : ∃ (z : Fin 1) (i : Fin 256) (j : Fin 1024), y = ix3 z i j := ⟨y 0, y 1, y 2, by funext a; fin_cases a <;> rfl⟩
  obtain rfl : z = 0 := Subsingleton.elim _ _
  rw [emb7]
  refine (pay5_at _ _ _ _ i j).trans ?_
  refine Eq.trans ?_ (Cert.PostRefIdeal.Own.v8_at _ _ _ _ _ _ _).symm
  rw [rd_x', rd_gate]
  refine congrArg (fun z : EReal => (_ : EReal) + (_ : EReal) * z) (Finset.sum_congr rfl fun k _ => ?_)
  exact congrArg₂ (· * ·) (rd_a' m c t i k) (rd_wo' m c t k j)

theorem final7 (c : Dev nD) : (dats m 0 c).arrAt 7 (cfgs 0).N = refX m c := by
  refine (dats m 0 c).arrAt_eq_of_covers 7 _ (by decide +kernel) fun t _ y => ?_
  blk_simp
  rw [after0_7]; frame_out
  exact point7 m c t y

/-- The body's normed and shifted row is the reference's at that token. -/
theorem t_at (c : Dev nD) (t : Fin cfg0.N) (i : Fin 256) (j : Fin 1024) :
    k0_pay53 (iblk m c 0 t) (iblk m c 1 t) (iblk m c 2 t) (iblk m c 3 t) (iblk m c 4 t) (iblk m c 5 t) (iblk m c 6 t) (ix2 i j)
        + View.ld (iblk m c 3 t) r0_5 (ix3 0 0 j)
      = refT m c (ix3 (tb t) (tok t i) j) := by
  refine Eq.trans ?_ (Cert.PostRefIdeal.Own.v34_at _ _ _ _ _ _ _ _).symm
  unfold k0_pay53
  rw [pay6_at, rd_shift, rd_scale]
  refine congrArg (fun z => z * _ + _) ?_
  refine Eq.trans ?_ (Cert.PostRefIdeal.Own.v26_at _ _ _ _ _ _ _ _).symm
  exact congrArg₂ (fun f g => normed f g j) (funext fun x => x_at m c t i x) (funext fun x => rd_g m c t x)

theorem point8 (c : Dev nD) (t : Fin cfg0.N) (y : S1x256x1024.Idx) :
    k0_pay8 (k0_pay53 (iblk m c 0 t) (iblk m c 1 t) (iblk m c 2 t) (iblk m c 3 t) (iblk m c 4 t) (iblk m c 5 t) (iblk m c 6 t))
        (View.ld (iblk m c 3 t) r0_5) y
      = refH m c (((View.whole main_v0_1).slice (win0_8.rect t)).emb y) := by
  obtain ⟨z, i, j, rfl⟩ : ∃ (z : Fin 1) (i : Fin 256) (j : Fin 1024), y = ix3 z i j := ⟨y 0, y 1, y 2, by funext a; fin_cases a <;> rfl⟩
  obtain rfl : z = 0 := Subsingleton.elim _ _
  rw [emb8]
  refine (pay8_at _ _ i j).trans ?_
  exact (t_at m c t i j).trans (Cert.PostRefIdeal.Own.v68_at _ _ _ _ _ _ _ _).symm

theorem final8 (c : Dev nD) : (dats m 0 c).arrAt 8 (cfgs 0).N = refH m c := by
  refine (dats m 0 c).arrAt_eq_of_covers 8 _ (by decide +kernel) fun t _ y => ?_
  blk_simp
  rw [after0_8]; frame_out
  exact point8 m c t y

/-- The body's scores are the reference's at that token. -/
theorem s_at (c : Dev nD) (t : Fin cfg0.N) (i : Fin 256) (g : Fin 8) (j : Fin 4) :
    k0_pay9 (k0_pay53 (iblk m c 0 t) (iblk m c 1 t) (iblk m c 2 t) (iblk m c 3 t) (iblk m c 4 t) (iblk m c 5 t) (iblk m c 6 t))
        (View.ld (iblk m c 3 t) r0_5) (View.ld (iblk m c 5 t) r0_6) (ix2 (rw_ g j) i)
      = refS m c (ix2 (row (tb t) (tok t i)) (ex g j)) := by
  rw [pay9_at]
  refine Eq.trans ?_ (Cert.PostRefIdeal.Own.v48_at _ _ _ _ _ _ _ _).symm
  refine congrArg Ideal.logistic ?_
  refine Eq.trans ?_ (Cert.PostRefIdeal.Own.v42_at _ _ _ _ _ _ _ _ _ _).symm
  refine Finset.sum_congr rfl fun k _ => ?_
  rw [mul_comm, pay7_at]
  exact congrArg₂ (· * ·) (t_at m c t i k) (rd_wr m c t _ k)

theorem b_at (c : Dev nD) (t : Fin cfg0.N) (i : Fin 256) (g : Fin 8) (j : Fin 4) :
    k0_pay10 (k0_pay53 (iblk m c 0 t) (iblk m c 1 t) (iblk m c 2 t) (iblk m c 3 t) (iblk m c 4 t) (iblk m c 5 t) (iblk m c 6 t))
        (View.ld (iblk m c 3 t) r0_5) (View.ld (iblk m c 5 t) r0_6) (View.ld (iblk m c 6 t) r0_7) (ix2 (rw_ g j) i)
      = refB m c (ix2 (row (tb t) (tok t i)) (ex g j)) := by
  rw [pay10_at, s_at, rd_rb]
  refine Eq.trans ?_ (Cert.PostRefIdeal.Own.v51_at _ _ _ _ _ _ _ _ _).symm
  exact congrArg (_ + ·) (Cert.PostRefIdeal.Own.v40_at _ _ _).symm

section
variable {e : EltTy} (w1 w0 : S1x1x256.Idx → Elt Ideal e) (i : Fin 256)

/-- The two rows of a block of choices, as they were stored. -/
theorem pieces1 : View.canon (Val := Elt Ideal) (s := S1x2x256) (e := e) [⟨r0_9, w1⟩, ⟨r0_8, w0⟩] (ix3 0 1 i) = w1 (ix3 0 0 i) := by
  have hi : (ix3 0 1 i : S1x2x256.Idx) = r0_9.emb (ix3 0 0 i) := by
    funext a; fin_cases a <;> exact Fin.ext (by simp [Rect.emb_apply])
  rw [hi]
  exact View.canon_cons_emb r0_9 w1 _ (ix3 0 0 i)

theorem pieces0 : View.canon (Val := Elt Ideal) (s := S1x2x256) (e := e) [⟨r0_9, w1⟩, ⟨r0_8, w0⟩] (ix3 0 0 i) = w0 (ix3 0 0 i) := by
  have hm : (ix3 0 0 i : S1x2x256.Idx) ∉ r0_9.set := by
    intro hm
    obtain ⟨x, hx⟩ := r0_9.exists_idx_of_mem hm
    have h : (r0_9.emb x 1).val = 0 := congrArg (fun y : S1x2x256.Idx => (y 1).val) hx
    rw [Rect.emb_apply] at h
    have h' : 1 + 1 * (x 1).val = 0 := h
    omega
  have hi : (ix3 0 0 i : S1x2x256.Idx) = r0_8.emb (ix3 0 0 i) := by
    funext a; fin_cases a <;> exact Fin.ext (by simp [Rect.emb_apply])
  refine (View.canon_cons_of_not_mem ⟨r0_9, w1⟩ _ hm).trans ?_
  refine (congrArg (View.canon (Val := Elt Ideal) (s := S1x2x256) (e := e) [⟨r0_8, w0⟩]) hi).trans ?_
  exact View.canon_cons_emb r0_8 w0 _ (ix3 0 0 i)
end

/-- No bias is minus infinity. -/
abbrev Above (c : Dev nD) : Prop := ∀ e : Fin 32, (⊥ : EReal) < m ((c : Thread nD τ).loc main_arg6) (ix2 e 0)

theorem point9 (c : Dev nD) (hrb : Above m c) (t : Fin cfg0.N) (k : Fin 2) (i : Fin 256) :
    out0_9 (iblk m c 0 t) (iblk m c 1 t) (iblk m c 2 t) (iblk m c 3 t) (iblk m c 4 t) (iblk m c 5 t) (iblk m c 6 t) (ix3 0 k i)
      = refI m c (ix3 (tb t) k (tok t i)) := by
  obtain ⟨a, b, g, hab, hg⟩ := Cert.PostRefIdeal.Own.choices fun g j => refB m c (ix2 (row (tb t) (tok t i)) (ex g j))
  have hpos : ∀ g j, (⊥ : EReal) < refB m c (ix2 (row (tb t) (tok t i)) (ex g j)) :=
    Cert.PostRefIdeal.Own.above _ _ _ _ _ _ _ hrb (row (tb t) (tok t i))
  refine Eq.trans ?_ (Cert.PostRefIdeal.Own.v70_at _ _ _ _ _ _ _ _ _ _).symm
  unfold out0_9
  match k with
  | 0 =>
    refine (pieces0 _ _ i).trans ?_
    refine (first _ _ _ _ _ _ _ i _ (b_at m c t i) a b g hab hg).trans ?_
    exact (Cert.PostRefIdeal.Own.idx0 _ _ _ _ _ _ _ _ a b g hab hg hpos).symm
  | 1 =>
    refine (pieces1 _ _ i).trans ?_
    refine (second _ _ _ _ _ _ _ i _ (b_at m c t i) a b g hab hg hpos).trans ?_
    exact (Cert.PostRefIdeal.Own.idx1 _ _ _ _ _ _ _ _ a b g hab hg hpos).symm

theorem final9 (c : Dev nD) (hrb : Above m c) : (dats m 0 c).arrAt 9 (cfgs 0).N = refI m c := by
  refine (dats m 0 c).arrAt_eq_of_covers 9 _ (by decide +kernel) fun t _ y => ?_
  blk_simp
  rw [after0_9]
  obtain ⟨z, k, i, rfl⟩ : ∃ (z : Fin 1) (k : Fin 2) (i : Fin 256), y = ix3 z k i := ⟨y 0, y 1, y 2, by funext a; fin_cases a <;> rfl⟩
  obtain rfl : z = 0 := Subsingleton.elim _ _
  exact (point9 m c hrb t k i).trans (congrArg (refI m c) (emb9 t k i).symm)

theorem point10 (c : Dev nD) (hrb : Above m c) (t : Fin cfg0.N) (k : Fin 2) (i : Fin 256) :
    out0_10 (iblk m c 0 t) (iblk m c 1 t) (iblk m c 2 t) (iblk m c 3 t) (iblk m c 4 t) (iblk m c 5 t) (iblk m c 6 t) (ix3 0 k i)
      = refW m c (ix3 (tb t) k (tok t i)) := by
  obtain ⟨a, b, g, hab, hg⟩ := Cert.PostRefIdeal.Own.choices fun g j => refB m c (ix2 (row (tb t) (tok t i)) (ex g j))
  have hpos : ∀ g j, (⊥ : EReal) < refB m c (ix2 (row (tb t) (tok t i)) (ex g j)) :=
    Cert.PostRefIdeal.Own.above _ _ _ _ _ _ _ hrb (row (tb t) (tok t i))
  have h0 : refV m c (ix2 (row (tb t) (tok t i)) 0) = refS m c (ix2 (row (tb t) (tok t i)) (ex g (a g))) :=
    Cert.PostRefIdeal.Own.v63_at _ _ _ _ _ _ _ _ 0 _ (Cert.PostRefIdeal.Own.idx0 _ _ _ _ _ _ _ _ a b g hab hg hpos)
  have h1 : refV m c (ix2 (row (tb t) (tok t i)) 1) = refS m c (ix2 (row (tb t) (tok t i)) (ex g (b g))) :=
    Cert.PostRefIdeal.Own.v63_at _ _ _ _ _ _ _ _ 1 _ (Cert.PostRefIdeal.Own.idx1 _ _ _ _ _ _ _ _ a b g hab hg hpos)
  have ht := pay74_of _ _ _ _ _ _ _ i _ _ (b_at m c t i) (s_at m c t i) a b g hab hg hpos
  refine Eq.trans ?_ (Cert.PostRefIdeal.Own.v72_at _ _ _ _ _ _ _ _ _ _).symm
  refine Eq.trans ?_ (Cert.PostRefIdeal.Own.v67_at _ _ _ _ _ _ _ _ _).symm
  unfold out0_10
  match k with
  | 0 =>
    refine (pieces0 _ _ i).trans ?_
    refine (pay2_at _ _ i).trans ?_
    refine (congrArg₂ Ideal.div (score1 _ _ _ _ _ _ _ i _ _ (b_at m c t i) (s_at m c t i) a b g hab hg) ht).trans ?_
    exact (congrArg₂ Ideal.div h0 (congrArg₂ (· + ·) h0 h1)).symm
  | 1 =>
    refine (pieces1 _ _ i).trans ?_
    refine (pay3_at _ _ i).trans ?_
    refine (congrArg₂ Ideal.div (score2 _ _ _ _ _ _ _ i _ _ (b_at m c t i) (s_at m c t i) a b g hab hg hpos) ht).trans ?_
    exact (congrArg₂ Ideal.div h1 (congrArg₂ (· + ·) h0 h1)).symm

theorem final10 (c : Dev nD) (hrb : Above m c) : (dats m 0 c).arrAt 10 (cfgs 0).N = refW m c := by
  refine (dats m 0 c).arrAt_eq_of_covers 10 _ (by decide +kernel) fun t _ y => ?_
  blk_simp
  rw [after0_10]
  obtain ⟨z, k, i, rfl⟩ : ∃ (z : Fin 1) (k : Fin 2) (i : Fin 256), y = ix3 z k i := ⟨y 0, y 1, y 2, by funext a; fin_cases a <;> rfl⟩
  obtain rfl : z = 0 := Subsingleton.elim _ _
  exact (point10 m c hrb t k i).trans (congrArg (refW m c) (emb10 t k i).symm)

end Cert.PostIdeal.Own

end

end
-- ==== Proof.MlaHead.lean ====
/- One head of the latent kernel: what every one of its thirty-two head pieces computes. -/
module

public import proofs.«01_k».proof.Proof.Gen.MlaPreIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlaPreIdeal.Own

open Cert.MlaPreIdeal Cert.MlaPreIdeal.Gen

/-- The mean square of a head's 96 components, and the head normalised and scaled. -/
def normV (g : FVec Ideal S1x128 .f32) (X : FVec Ideal S256x128 .f32) : FVec Ideal S256x128 .f32 :=
  mulf (mulf X (broadcastTo S256x128 (rsqrt (addf (mulf (shapeCast S256x1 (multiReduction (F := Ideal) .add [1] S256 (mulf X X) 0x00000000#32
    reduces_S256x128_S256 (.inl rfl) rfl) shapeCasts_S256_S256x1) (broadcast S256x1 (Named.named (F := Ideal) κ "inv_qk" (φ := .f32) 0x3C2AAAAB#32)))
    (broadcast S256x1 (Scalar.ofBits (F := Ideal) .f32 0x358637BD#32)))) broadcasts_S256x1_S256x128)) (broadcastTo S256x128 g broadcasts_S1x128_S256x128)

/-- A normalised head turned: cosine in place, sines on its two rotations. -/
def turnV (c a b Z : FVec Ideal S256x128 .f32) : FVec Ideal S256x128 .f32 :=
  addf (addf (mulf Z c) (mulf (dynamicRotate 1 112#32 none Z rotates_S256x128_d1) a)) (mulf (dynamicRotate 1 16#32 none Z rotates_S256x128_d1) b)

/-- The block of one head. -/
def headV (c a b : FVec Ideal S256x128 .f32) (g : FVec Ideal S1x128 .f32) (X : FVec Ideal S256x128 .f32) : FVec Ideal S1x1x256x128 .bf16 :=
  shapeCast S1x1x256x128 (truncf (F := Ideal) .bf16 (turnV c a b (normV g X)) bitsLt_bf16_f32) shapeCasts_S256x128_S1x1x256x128

/-- The columns of head `h`. -/
def colsV (Y : FVec Ideal S256x2048 .f32) (h : Fin 16) : FVec Ideal S256x128 .f32 :=
  fun i => Y (ix2 (i 0) ⟨h.val * 128 + (i 1).val, by have := h.isLt; have h1 : (i 1).val < 128 := (i 1).isLt; omega⟩)

/-- The buffer of all heads, at an index. -/
def headE (c a b : FVec Ideal S256x128 .f32) (g : FVec Ideal S1x128 .f32) (X : Fin 16 → FVec Ideal S256x128 .f32) (y : S1x16x256x128.Idx) :
    Elt Ideal .bf16 := headV c a b g (X (y 1)) (ix4 0 0 (y 2) (y 3))

theorem cols_of (Y : FVec Ideal S256x2048 .f32) (n : ℕ) (hs : S256x2048.Slices ![0, n] S256x128) (h : Fin 16) (hn : n = h.val * 128) :
    extractStridedSlice S256x128 ![0, n] Y hs = colsV Y h := by
  subst hn
  funext i
  refine extractStridedSlice_apply _ Y hs i _ fun a => ?_
  match a with
  | ⟨0, _⟩ => exact (Nat.zero_add _).symm
  | ⟨1, _⟩ => rfl

theorem headE_at (c a b : FVec Ideal S256x128 .f32) (g : FVec Ideal S1x128 .f32) (X : Fin 16 → FVec Ideal S256x128 .f32) (h : ℕ) (hh : h < 16)
    (inb : ∀ d, (![0, h, 0, 0] : Fin 4 → Nat) d + S1x1x256x128.size d ≤ S1x16x256x128.size d) (x : S1x1x256x128.Idx) :
    headV c a b g (X ⟨h, hh⟩) x
      = headE c a b g X ((Rect.unit (s := S1x16x256x128) ![0, h, 0, 0] S1x1x256x128.size inb).emb x) := by
  have e1 : (Rect.unit (s := S1x16x256x128) ![0, h, 0, 0] S1x1x256x128.size inb).emb x 1 = (⟨h, hh⟩ : Fin 16) := by
    refine Fin.ext ?_
    have hx : (x 1).val < 1 := (x 1).isLt
    show h + 1 * (x 1).val = h
    omega
  have e2 : x = ix4 0 0 ((Rect.unit (s := S1x16x256x128) ![0, h, 0, 0] S1x1x256x128.size inb).emb x 2)
      ((Rect.unit (s := S1x16x256x128) ![0, h, 0, 0] S1x1x256x128.size inb).emb x 3) := by
    funext d
    refine Fin.ext ?_
    have h0 : (x 0).val < 1 := (x 0).isLt
    have h1 : (x 1).val < 1 := (x 1).isLt
    match d with
    | ⟨0, _⟩ => show (x 0).val = 0; omega
    | ⟨1, _⟩ => show (x 1).val = 0; omega
    | ⟨2, _⟩ => show (x 2).val = 0 + 1 * (x 2).val; omega
    | ⟨3, _⟩ => show (x 3).val = 0 + 1 * (x 3).val; omega
  show _ = headV c a b g (X _) (ix4 0 0 _ _)
  rw [e1]
  exact congrArg _ e2

theorem q_15 (c a b : FVec Ideal S256x128 .f32) (Q : FVec Ideal S256x2048 .f32) (g : FVec Ideal S1x128 .f32) :
    k0_pay84 c a b g (k0_pay81 Q) (k0_pay82 Q) (k0_pay83 (F := Ideal)) = headV c a b g (colsV Q 15) := by
  rw [← cols_of Q 1920 slices_S256x2048_o0_1920_S256x128 15 rfl]
  rfl

theorem q_14 (c a b : FVec Ideal S256x128 .f32) (Q : FVec Ideal S256x2048 .f32) (g : FVec Ideal S1x128 .f32) :
    k0_pay79 a b (k0_pay76 Q g) (k0_pay77 Q c g) (k0_pay78 Q g) = headV c a b g (colsV Q 14) := by
  rw [← cols_of Q 1792 slices_S256x2048_o0_1792_S256x128 14 rfl]
  rfl

theorem q_13 (c a b : FVec Ideal S256x128 .f32) (Q : FVec Ideal S256x2048 .f32) (g : FVec Ideal S1x128 .f32) :
    k0_pay74 (k0_pay73 Q c a b g) = headV c a b g (colsV Q 13) := by
  rw [← cols_of Q 1664 slices_S256x2048_o0_1664_S256x128 13 rfl]
  rfl

theorem q_12 (c a b : FVec Ideal S256x128 .f32) (Q : FVec Ideal S256x2048 .f32) (g : FVec Ideal S1x128 .f32) :
    k0_pay69 Q c a b g = headV c a b g (colsV Q 12) := by
  rw [← cols_of Q 1536 slices_S256x2048_o0_1536_S256x128 12 rfl]
  rfl

theorem q_11 (c a b : FVec Ideal S256x128 .f32) (Q : FVec Ideal S256x2048 .f32) (g : FVec Ideal S1x128 .f32) :
    k0_pay65 Q c a b g = headV c a b g (colsV Q 11) := by
  rw [← cols_of Q 1408 slices_S256x2048_o0_1408_S256x128 11 rfl]
  rfl

theorem q_10 (c a b : FVec Ideal S256x128 .f32) (Q : FVec Ideal S256x2048 .f32) (g : FVec Ideal S1x128 .f32) :
    k0_pay60 Q c a b g = headV c a b g (colsV Q 10) := by
  rw [← cols_of Q 1280 slices_S256x2048_o0_1280_S256x128 10 rfl]
  rfl

theorem q_9 (c a b : FVec Ideal S256x128 .f32) (Q : FVec Ideal S256x2048 .f32) (g : FVec Ideal S1x128 .f32) :
    k0_pay57 c a b g (k0_pay55 Q) (k0_pay56 Q) = headV c a b g (colsV Q 9) := by
  rw [← cols_of Q 1152 slices_S256x2048_o0_1152_S256x128 9 rfl]
  rfl

theorem q_8 (c a b : FVec Ideal S256x128 .f32) (Q : FVec Ideal S256x2048 .f32) (g : FVec Ideal S1x128 .f32) :
    k0_pay53 c a b g (k0_pay51 Q) (k0_pay52 Q) = headV c a b g (colsV Q 8) := by
  rw [← cols_of Q 1024 slices_S256x2048_o0_1024_S256x128 8 rfl]
  rfl

theorem q_7 (c a b : FVec Ideal S256x128 .f32) (Q : FVec Ideal S256x2048 .f32) (g : FVec Ideal S1x128 .f32) :
    k0_pay49 b (k0_pay47 Q g) (k0_pay48 Q c a g) 16#32 = headV c a b g (colsV Q 7) := by
  rw [← cols_of Q 896 slices_S256x2048_o0_896_S256x128 7 rfl]
  rfl

theorem q_6 (c a b : FVec Ideal S256x128 .f32) (Q : FVec Ideal S256x2048 .f32) (g : FVec Ideal S1x128 .f32) :
    k0_pay45 (k0_pay44 Q c a b g) = headV c a b g (colsV Q 6) := by
  rw [← cols_of Q 768 slices_S256x2048_o0_768_S256x128 6 rfl]
  rfl

theorem q_5 (c a b : FVec Ideal S256x128 .f32) (Q : FVec Ideal S256x2048 .f32) (g : FVec Ideal S1x128 .f32) :
    k0_pay40 Q c a b g = headV c a b g (colsV Q 5) := by
  rw [← cols_of Q 640 slices_S256x2048_o0_640_S256x128 5 rfl]
  rfl

theorem q_4 (c a b : FVec Ideal S256x128 .f32) (Q : FVec Ideal S256x2048 .f32) (g : FVec Ideal S1x128 .f32) :
    k0_pay37 Q c a b g = headV c a b g (colsV Q 4) := by
  rw [← cols_of Q 512 slices_S256x2048_o0_512_S256x128 4 rfl]
  rfl

theorem q_3 (c a b : FVec Ideal S256x128 .f32) (Q : FVec Ideal S256x2048 .f32) (g : FVec Ideal S1x128 .f32) :
    k0_pay32 Q c a b g = headV c a b g (colsV Q 3) := by
  rw [← cols_of Q 384 slices_S256x2048_o0_384_S256x128 3 rfl]
  rfl

theorem q_2 (c a b : FVec Ideal S256x128 .f32) (Q : FVec Ideal S256x2048 .f32) (g : FVec Ideal S1x128 .f32) :
    k0_pay29 c a b g (k0_pay26 Q) (k0_pay27 Q) (k0_pay28 (F := Ideal)) = headV c a b g (colsV Q 2) := by
  rw [← cols_of Q 256 slices_S256x2048_o0_256_S256x128 2 rfl]
  rfl

theorem q_1 (c a b : FVec Ideal S256x128 .f32) (Q : FVec Ideal S256x2048 .f32) (g : FVec Ideal S1x128 .f32) :
    k0_pay24 c a b (k0_pay23 Q g) = headV c a b g (colsV Q 1) := by
  rw [← cols_of Q 128 slices_S256x2048_o0_128_S256x128 1 rfl]
  rfl

theorem q_0 (Q : FVec Ideal S256x2048 .f32) (v74 v75 : FVec Ideal S256x128 .f32) (v96 : Vec Ideal S1x128 .f32) :
    k0_pay21 (k0_pay20 Q v74 v75 v96) = headV (k0_pay14 v74 v75) (k0_pay16 v74 v75) (k0_pay17 v74 v75) (k0_pay18 v96) (colsV Q 0) := by
  rw [← cols_of Q 0 slices_S256x2048_o0_0_S256x128 0 rfl]
  rfl

theorem k_15 (c a b R : FVec Ideal S256x128 .f32) (Q : FVec Ideal S256x2048 .f32) (g : FVec Ideal S1x128 .f32) :
    k0_pay85 R Q c a b g = headV c a b g (addf (colsV Q 15) R) := by
  rw [← cols_of Q 1920 slices_S256x2048_o0_1920_S256x128 15 rfl]
  rfl

theorem k_14 (c a b R : FVec Ideal S256x128 .f32) (Q : FVec Ideal S256x2048 .f32) (g : FVec Ideal S1x128 .f32) :
    k0_pay80 R Q c a b g = headV c a b g (addf (colsV Q 14) R) := by
  rw [← cols_of Q 1792 slices_S256x2048_o0_1792_S256x128 14 rfl]
  rfl

theorem k_13 (c a b R : FVec Ideal S256x128 .f32) (Q : FVec Ideal S256x2048 .f32) (g : FVec Ideal S1x128 .f32) :
    k0_pay75 R Q c a b g = headV c a b g (addf (colsV Q 13) R) := by
  rw [← cols_of Q 1664 slices_S256x2048_o0_1664_S256x128 13 rfl]
  rfl

theorem k_12 (c a b R : FVec Ideal S256x128 .f32) (Q : FVec Ideal S256x2048 .f32) (g : FVec Ideal S1x128 .f32) :
    k0_pay72 c a b g (k0_pay70 R Q) (k0_pay71 R Q) = headV c a b g (addf (colsV Q 12) R) := by
  rw [← cols_of Q 1536 slices_S256x2048_o0_1536_S256x128 12 rfl]
  rfl

theorem k_11 (c a b R : FVec Ideal S256x128 .f32) (Q : FVec Ideal S256x2048 .f32) (g : FVec Ideal S1x128 .f32) :
    k0_pay68 c a b g (k0_pay66 R Q) (k0_pay67 R Q) = headV c a b g (addf (colsV Q 11) R) := by
  rw [← cols_of Q 1408 slices_S256x2048_o0_1408_S256x128 11 rfl]
  rfl

theorem k_10 (c a b R : FVec Ideal S256x128 .f32) (Q : FVec Ideal S256x2048 .f32) (g : FVec Ideal S1x128 .f32) :
    k0_pay64 b (k0_pay61 R Q g) (k0_pay62 R Q c g) (k0_pay63 R Q a g) = headV c a b g (addf (colsV Q 10) R) := by
  rw [← cols_of Q 1280 slices_S256x2048_o0_1280_S256x128 10 rfl]
  rfl

theorem k_9 (c a b R : FVec Ideal S256x128 .f32) (Q : FVec Ideal S256x2048 .f32) (g : FVec Ideal S1x128 .f32) :
    k0_pay59 (k0_pay58 R Q c a b g) = headV c a b g (addf (colsV Q 9) R) := by
  rw [← cols_of Q 1152 slices_S256x2048_o0_1152_S256x128 9 rfl]
  rfl

theorem k_8 (c a b R : FVec Ideal S256x128 .f32) (Q : FVec Ideal S256x2048 .f32) (g : FVec Ideal S1x128 .f32) :
    k0_pay54 R Q c a b g = headV c a b g (addf (colsV Q 8) R) := by
  rw [← cols_of Q 1024 slices_S256x2048_o0_1024_S256x128 8 rfl]
  rfl

theorem k_7 (c a b R : FVec Ideal S256x128 .f32) (Q : FVec Ideal S256x2048 .f32) (g : FVec Ideal S1x128 .f32) :
    k0_pay50 R Q c a b g = headV c a b g (addf (colsV Q 7) R) := by
  rw [← cols_of Q 896 slices_S256x2048_o0_896_S256x128 7 rfl]
  rfl

theorem k_6 (c a b R : FVec Ideal S256x128 .f32) (Q : FVec Ideal S256x2048 .f32) (g : FVec Ideal S1x128 .f32) :
    k0_pay46 R Q c a b g = headV c a b g (addf (colsV Q 6) R) := by
  rw [← cols_of Q 768 slices_S256x2048_o0_768_S256x128 6 rfl]
  rfl

theorem k_5 (c a b R : FVec Ideal S256x128 .f32) (Q : FVec Ideal S256x2048 .f32) (g : FVec Ideal S1x128 .f32) :
    k0_pay43 c a b g (k0_pay41 R Q) (k0_pay42 R Q) = headV c a b g (addf (colsV Q 5) R) := by
  rw [← cols_of Q 640 slices_S256x2048_o0_640_S256x128 5 rfl]
  rfl

theorem k_4 (c a b R : FVec Ideal S256x128 .f32) (Q : FVec Ideal S256x2048 .f32) (g : FVec Ideal S1x128 .f32) :
    k0_pay39 c a b g (k0_pay38 R Q) = headV c a b g (addf (colsV Q 4) R) := by
  rw [← cols_of Q 512 slices_S256x2048_o0_512_S256x128 4 rfl]
  rfl

theorem k_3 (c a b R : FVec Ideal S256x128 .f32) (Q : FVec Ideal S256x2048 .f32) (g : FVec Ideal S1x128 .f32) :
    k0_pay36 b (k0_pay34 R Q c a g) (k0_pay35 R Q g) = headV c a b g (addf (colsV Q 3) R) := by
  rw [← cols_of Q 384 slices_S256x2048_o0_384_S256x128 3 rfl]
  rfl

theorem k_2 (c a b R : FVec Ideal S256x128 .f32) (Q : FVec Ideal S256x2048 .f32) (g : FVec Ideal S1x128 .f32) :
    k0_pay31 (k0_pay30 R Q c a b g) = headV c a b g (addf (colsV Q 2) R) := by
  rw [← cols_of Q 256 slices_S256x2048_o0_256_S256x128 2 rfl]
  rfl

theorem k_1 (c a b R : FVec Ideal S256x128 .f32) (Q : FVec Ideal S256x2048 .f32) (g : FVec Ideal S1x128 .f32) :
    k0_pay25 R Q c a b g = headV c a b g (addf (colsV Q 1) R) := by
  rw [← cols_of Q 128 slices_S256x2048_o0_128_S256x128 1 rfl]
  rfl

theorem k_0 (c a b R : FVec Ideal S256x128 .f32) (Q : FVec Ideal S256x2048 .f32) (g : FVec Ideal S1x128 .f32) :
    k0_pay22 R Q c a b g = headV c a b g (addf (colsV Q 0) R) := by
  rw [← cols_of Q 0 slices_S256x2048_o0_0_S256x128 0 rfl]
  rfl

variable (x0 : Vec Ideal S1x256x1024 .f32) (x1 : Vec Ideal S1x6x1024 .f32) (x2 : Vec Ideal S1x1024 .f32) (x3 : Vec Ideal S1x256x1 .i32) (x4 : Vec Ideal S1x128 .f32) (x5 : Vec Ideal S1024x768 .bf16) (x6 : Vec Ideal S1x384 .f32) (x7 : Vec Ideal S1x256 .f32) (x8 : Vec Ideal S384x2048 .bf16) (x9 : Vec Ideal S256x2048 .bf16) (x10 : Vec Ideal S256x1024 .bf16) (x11 : Vec Ideal S1x128 .f32) (x12 : Vec Ideal S1x128 .f32)

theorem out_13 (y : S1x16x256x128.Idx) : out0_13 x0 x1 x2 x3 x4 x5 x6 x7 x8 x9 x10 x11 x12 y
    = headE (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay104 x0 x1 x2 x3 x4 x5 x6 x7 x8 x9 x10 x11 x12) (colsV (k0_pay96 x0 x1 x2 x3 x4 x5 x6 x7 x8 x9 x10 x11 x12)) y := by
  refine View.canon_apply_of_pieces (headE (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay104 x0 x1 x2 x3 x4 x5 x6 x7 x8 x9 x10 x11 x12) (colsV (k0_pay96 x0 x1 x2 x3 x4 x5 x6 x7 x8 x9 x10 x11 x12))) _ ?_ y (cover0_13 _ _ _ _ _ _ _ _ _ _ _ _ _ _ _ _ y)
  intro pc hpc
  rcases List.mem_cons.mp hpc with rfl | hpc
  · exact fun x => (congrFun (q_15 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay96 x0 x1 x2 x3 x4 x5 x6 x7 x8 x9 x10 x11 x12) (k0_pay104 x0 x1 x2 x3 x4 x5 x6 x7 x8 x9 x10 x11 x12)) x).trans (headE_at _ _ _ _ (colsV (k0_pay96 x0 x1 x2 x3 x4 x5 x6 x7 x8 x9 x10 x11 x12)) 15 (by decide) inb_S1x16x256x128_S1x1x256x128_0_15_0_0 x)
  rcases List.mem_cons.mp hpc with rfl | hpc
  · exact fun x => (congrFun (q_14 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay96 x0 x1 x2 x3 x4 x5 x6 x7 x8 x9 x10 x11 x12) (k0_pay104 x0 x1 x2 x3 x4 x5 x6 x7 x8 x9 x10 x11 x12)) x).trans (headE_at _ _ _ _ (colsV (k0_pay96 x0 x1 x2 x3 x4 x5 x6 x7 x8 x9 x10 x11 x12)) 14 (by decide) inb_S1x16x256x128_S1x1x256x128_0_14_0_0 x)
  rcases List.mem_cons.mp hpc with rfl | hpc
  · exact fun x => (congrFun (q_13 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay96 x0 x1 x2 x3 x4 x5 x6 x7 x8 x9 x10 x11 x12) (k0_pay104 x0 x1 x2 x3 x4 x5 x6 x7 x8 x9 x10 x11 x12)) x).trans (headE_at _ _ _ _ (colsV (k0_pay96 x0 x1 x2 x3 x4 x5 x6 x7 x8 x9 x10 x11 x12)) 13 (by decide) inb_S1x16x256x128_S1x1x256x128_0_13_0_0 x)
  rcases List.mem_cons.mp hpc with rfl | hpc
  · exact fun x => (congrFun (q_12 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay96 x0 x1 x2 x3 x4 x5 x6 x7 x8 x9 x10 x11 x12) (k0_pay104 x0 x1 x2 x3 x4 x5 x6 x7 x8 x9 x10 x11 x12)) x).trans (headE_at _ _ _ _ (colsV (k0_pay96 x0 x1 x2 x3 x4 x5 x6 x7 x8 x9 x10 x11 x12)) 12 (by decide) inb_S1x16x256x128_S1x1x256x128_0_12_0_0 x)
  rcases List.mem_cons.mp hpc with rfl | hpc
  · exact fun x => (congrFun (q_11 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay96 x0 x1 x2 x3 x4 x5 x6 x7 x8 x9 x10 x11 x12) (k0_pay104 x0 x1 x2 x3 x4 x5 x6 x7 x8 x9 x10 x11 x12)) x).trans (headE_at _ _ _ _ (colsV (k0_pay96 x0 x1 x2 x3 x4 x5 x6 x7 x8 x9 x10 x11 x12)) 11 (by decide) inb_S1x16x256x128_S1x1x256x128_0_11_0_0 x)
  rcases List.mem_cons.mp hpc with rfl | hpc
  · exact fun x => (congrFun (q_10 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay96 x0 x1 x2 x3 x4 x5 x6 x7 x8 x9 x10 x11 x12) (k0_pay104 x0 x1 x2 x3 x4 x5 x6 x7 x8 x9 x10 x11 x12)) x).trans (headE_at _ _ _ _ (colsV (k0_pay96 x0 x1 x2 x3 x4 x5 x6 x7 x8 x9 x10 x11 x12)) 10 (by decide) inb_S1x16x256x128_S1x1x256x128_0_10_0_0 x)
  rcases List.mem_cons.mp hpc with rfl | hpc
  · exact fun x => (congrFun (q_9 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay96 x0 x1 x2 x3 x4 x5 x6 x7 x8 x9 x10 x11 x12) (k0_pay104 x0 x1 x2 x3 x4 x5 x6 x7 x8 x9 x10 x11 x12)) x).trans (headE_at _ _ _ _ (colsV (k0_pay96 x0 x1 x2 x3 x4 x5 x6 x7 x8 x9 x10 x11 x12)) 9 (by decide) inb_S1x16x256x128_S1x1x256x128_0_9_0_0 x)
  rcases List.mem_cons.mp hpc with rfl | hpc
  · exact fun x => (congrFun (q_8 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay96 x0 x1 x2 x3 x4 x5 x6 x7 x8 x9 x10 x11 x12) (k0_pay104 x0 x1 x2 x3 x4 x5 x6 x7 x8 x9 x10 x11 x12)) x).trans (headE_at _ _ _ _ (colsV (k0_pay96 x0 x1 x2 x3 x4 x5 x6 x7 x8 x9 x10 x11 x12)) 8 (by decide) inb_S1x16x256x128_S1x1x256x128_0_8_0_0 x)
  rcases List.mem_cons.mp hpc with rfl | hpc
  · exact fun x => (congrFun (q_7 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay96 x0 x1 x2 x3 x4 x5 x6 x7 x8 x9 x10 x11 x12) (k0_pay104 x0 x1 x2 x3 x4 x5 x6 x7 x8 x9 x10 x11 x12)) x).trans (headE_at _ _ _ _ (colsV (k0_pay96 x0 x1 x2 x3 x4 x5 x6 x7 x8 x9 x10 x11 x12)) 7 (by decide) inb_S1x16x256x128_S1x1x256x128_0_7_0_0 x)
  rcases List.mem_cons.mp hpc with rfl | hpc
  · exact fun x => (congrFun (q_6 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay96 x0 x1 x2 x3 x4 x5 x6 x7 x8 x9 x10 x11 x12) (k0_pay104 x0 x1 x2 x3 x4 x5 x6 x7 x8 x9 x10 x11 x12)) x).trans (headE_at _ _ _ _ (colsV (k0_pay96 x0 x1 x2 x3 x4 x5 x6 x7 x8 x9 x10 x11 x12)) 6 (by decide) inb_S1x16x256x128_S1x1x256x128_0_6_0_0 x)
  rcases List.mem_cons.mp hpc with rfl | hpc
  · exact fun x => (congrFun (q_5 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay96 x0 x1 x2 x3 x4 x5 x6 x7 x8 x9 x10 x11 x12) (k0_pay104 x0 x1 x2 x3 x4 x5 x6 x7 x8 x9 x10 x11 x12)) x).trans (headE_at _ _ _ _ (colsV (k0_pay96 x0 x1 x2 x3 x4 x5 x6 x7 x8 x9 x10 x11 x12)) 5 (by decide) inb_S1x16x256x128_S1x1x256x128_0_5_0_0 x)
  rcases List.mem_cons.mp hpc with rfl | hpc
  · exact fun x => (congrFun (q_4 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay96 x0 x1 x2 x3 x4 x5 x6 x7 x8 x9 x10 x11 x12) (k0_pay104 x0 x1 x2 x3 x4 x5 x6 x7 x8 x9 x10 x11 x12)) x).trans (headE_at _ _ _ _ (colsV (k0_pay96 x0 x1 x2 x3 x4 x5 x6 x7 x8 x9 x10 x11 x12)) 4 (by decide) inb_S1x16x256x128_S1x1x256x128_0_4_0_0 x)
  rcases List.mem_cons.mp hpc with rfl | hpc
  · exact fun x => (congrFun (q_3 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay96 x0 x1 x2 x3 x4 x5 x6 x7 x8 x9 x10 x11 x12) (k0_pay104 x0 x1 x2 x3 x4 x5 x6 x7 x8 x9 x10 x11 x12)) x).trans (headE_at _ _ _ _ (colsV (k0_pay96 x0 x1 x2 x3 x4 x5 x6 x7 x8 x9 x10 x11 x12)) 3 (by decide) inb_S1x16x256x128_S1x1x256x128_0_3_0_0 x)
  rcases List.mem_cons.mp hpc with rfl | hpc
  · exact fun x => (congrFun (q_2 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay96 x0 x1 x2 x3 x4 x5 x6 x7 x8 x9 x10 x11 x12) (k0_pay104 x0 x1 x2 x3 x4 x5 x6 x7 x8 x9 x10 x11 x12)) x).trans (headE_at _ _ _ _ (colsV (k0_pay96 x0 x1 x2 x3 x4 x5 x6 x7 x8 x9 x10 x11 x12)) 2 (by decide) inb_S1x16x256x128_S1x1x256x128_0_2_0_0 x)
  rcases List.mem_cons.mp hpc with rfl | hpc
  · exact fun x => (congrFun (q_1 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay96 x0 x1 x2 x3 x4 x5 x6 x7 x8 x9 x10 x11 x12) (k0_pay104 x0 x1 x2 x3 x4 x5 x6 x7 x8 x9 x10 x11 x12)) x).trans (headE_at _ _ _ _ (colsV (k0_pay96 x0 x1 x2 x3 x4 x5 x6 x7 x8 x9 x10 x11 x12)) 1 (by decide) inb_S1x16x256x128_S1x1x256x128_0_1_0_0 x)
  rcases List.mem_cons.mp hpc with rfl | hpc
  · exact fun x => (congrFun (q_0 (k0_pay96 x0 x1 x2 x3 x4 x5 x6 x7 x8 x9 x10 x11 x12) (k0_pay99 x0 x1 x2 x3 x4 x5 x6 x7 x8 x9 x10 x11 x12) (k0_pay100 x0 x1 x2 x3 x4 x5 x6 x7 x8 x9 x10 x11 x12) (View.ld x11 r0_11)) x).trans (headE_at _ _ _ _ (colsV (k0_pay96 x0 x1 x2 x3 x4 x5 x6 x7 x8 x9 x10 x11 x12)) 0 (by decide) inb_S1x16x256x128_S1x1x256x128_0_0_0_0 x)
  nomatch hpc

theorem out_14 (y : S1x16x256x128.Idx) : out0_14 x0 x1 x2 x3 x4 x5 x6 x7 x8 x9 x10 x11 x12 y
    = headE (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay105 x0 x1 x2 x3 x4 x5 x6 x7 x8 x9 x10 x11 x12) (fun h => addf (colsV (k0_pay97 x0 x1 x2 x3 x4 x5 x6 x7 x8 x9 x10 x11 x12) h) (k0_pay95 x0 x1 x2 x3 x4 x5 x6 x7 x8 x9 x10 x11 x12)) y := by
  refine View.canon_apply_of_pieces (headE (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay105 x0 x1 x2 x3 x4 x5 x6 x7 x8 x9 x10 x11 x12) (fun h => addf (colsV (k0_pay97 x0 x1 x2 x3 x4 x5 x6 x7 x8 x9 x10 x11 x12) h) (k0_pay95 x0 x1 x2 x3 x4 x5 x6 x7 x8 x9 x10 x11 x12))) _ ?_ y (cover0_14 _ _ _ _ _ _ _ _ _ _ _ _ _ _ _ _ y)
  intro pc hpc
  rcases List.mem_cons.mp hpc with rfl | hpc
  · exact fun x => (congrFun (k_15 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay95 x0 x1 x2 x3 x4 x5 x6 x7 x8 x9 x10 x11 x12) (k0_pay97 x0 x1 x2 x3 x4 x5 x6 x7 x8 x9 x10 x11 x12) (k0_pay105 x0 x1 x2 x3 x4 x5 x6 x7 x8 x9 x10 x11 x12)) x).trans (headE_at _ _ _ _ (fun h => addf (colsV (k0_pay97 x0 x1 x2 x3 x4 x5 x6 x7 x8 x9 x10 x11 x12) h) (k0_pay95 x0 x1 x2 x3 x4 x5 x6 x7 x8 x9 x10 x11 x12)) 15 (by decide) inb_S1x16x256x128_S1x1x256x128_0_15_0_0 x)
  rcases List.mem_cons.mp hpc with rfl | hpc
  · exact fun x => (congrFun (k_14 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay95 x0 x1 x2 x3 x4 x5 x6 x7 x8 x9 x10 x11 x12) (k0_pay97 x0 x1 x2 x3 x4 x5 x6 x7 x8 x9 x10 x11 x12) (k0_pay105 x0 x1 x2 x3 x4 x5 x6 x7 x8 x9 x10 x11 x12)) x).trans (headE_at _ _ _ _ (fun h => addf (colsV (k0_pay97 x0 x1 x2 x3 x4 x5 x6 x7 x8 x9 x10 x11 x12) h) (k0_pay95 x0 x1 x2 x3 x4 x5 x6 x7 x8 x9 x10 x11 x12)) 14 (by decide) inb_S1x16x256x128_S1x1x256x128_0_14_0_0 x)
  rcases List.mem_cons.mp hpc with rfl | hpc
  · exact fun x => (congrFun (k_13 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay95 x0 x1 x2 x3 x4 x5 x6 x7 x8 x9 x10 x11 x12) (k0_pay97 x0 x1 x2 x3 x4 x5 x6 x7 x8 x9 x10 x11 x12) (k0_pay105 x0 x1 x2 x3 x4 x5 x6 x7 x8 x9 x10 x11 x12)) x).trans (headE_at _ _ _ _ (fun h => addf (colsV (k0_pay97 x0 x1 x2 x3 x4 x5 x6 x7 x8 x9 x10 x11 x12) h) (k0_pay95 x0 x1 x2 x3 x4 x5 x6 x7 x8 x9 x10 x11 x12)) 13 (by decide) inb_S1x16x256x128_S1x1x256x128_0_13_0_0 x)
  rcases List.mem_cons.mp hpc with rfl | hpc
  · exact fun x => (congrFun (k_12 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay95 x0 x1 x2 x3 x4 x5 x6 x7 x8 x9 x10 x11 x12) (k0_pay97 x0 x1 x2 x3 x4 x5 x6 x7 x8 x9 x10 x11 x12) (k0_pay105 x0 x1 x2 x3 x4 x5 x6 x7 x8 x9 x10 x11 x12)) x).trans (headE_at _ _ _ _ (fun h => addf (colsV (k0_pay97 x0 x1 x2 x3 x4 x5 x6 x7 x8 x9 x10 x11 x12) h) (k0_pay95 x0 x1 x2 x3 x4 x5 x6 x7 x8 x9 x10 x11 x12)) 12 (by decide) inb_S1x16x256x128_S1x1x256x128_0_12_0_0 x)
  rcases List.mem_cons.mp hpc with rfl | hpc
  · exact fun x => (congrFun (k_11 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay95 x0 x1 x2 x3 x4 x5 x6 x7 x8 x9 x10 x11 x12) (k0_pay97 x0 x1 x2 x3 x4 x5 x6 x7 x8 x9 x10 x11 x12) (k0_pay105 x0 x1 x2 x3 x4 x5 x6 x7 x8 x9 x10 x11 x12)) x).trans (headE_at _ _ _ _ (fun h => addf (colsV (k0_pay97 x0 x1 x2 x3 x4 x5 x6 x7 x8 x9 x10 x11 x12) h) (k0_pay95 x0 x1 x2 x3 x4 x5 x6 x7 x8 x9 x10 x11 x12)) 11 (by decide) inb_S1x16x256x128_S1x1x256x128_0_11_0_0 x)
  rcases List.mem_cons.mp hpc with rfl | hpc
  · exact fun x => (congrFun (k_10 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay95 x0 x1 x2 x3 x4 x5 x6 x7 x8 x9 x10 x11 x12) (k0_pay97 x0 x1 x2 x3 x4 x5 x6 x7 x8 x9 x10 x11 x12) (k0_pay105 x0 x1 x2 x3 x4 x5 x6 x7 x8 x9 x10 x11 x12)) x).trans (headE_at _ _ _ _ (fun h => addf (colsV (k0_pay97 x0 x1 x2 x3 x4 x5 x6 x7 x8 x9 x10 x11 x12) h) (k0_pay95 x0 x1 x2 x3 x4 x5 x6 x7 x8 x9 x10 x11 x12)) 10 (by decide) inb_S1x16x256x128_S1x1x256x128_0_10_0_0 x)
  rcases List.mem_cons.mp hpc with rfl | hpc
  · exact fun x => (congrFun (k_9 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay95 x0 x1 x2 x3 x4 x5 x6 x7 x8 x9 x10 x11 x12) (k0_pay97 x0 x1 x2 x3 x4 x5 x6 x7 x8 x9 x10 x11 x12) (k0_pay105 x0 x1 x2 x3 x4 x5 x6 x7 x8 x9 x10 x11 x12)) x).trans (headE_at _ _ _ _ (fun h => addf (colsV (k0_pay97 x0 x1 x2 x3 x4 x5 x6 x7 x8 x9 x10 x11 x12) h) (k0_pay95 x0 x1 x2 x3 x4 x5 x6 x7 x8 x9 x10 x11 x12)) 9 (by decide) inb_S1x16x256x128_S1x1x256x128_0_9_0_0 x)
  rcases List.mem_cons.mp hpc with rfl | hpc
  · exact fun x => (congrFun (k_8 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay95 x0 x1 x2 x3 x4 x5 x6 x7 x8 x9 x10 x11 x12) (k0_pay97 x0 x1 x2 x3 x4 x5 x6 x7 x8 x9 x10 x11 x12) (k0_pay105 x0 x1 x2 x3 x4 x5 x6 x7 x8 x9 x10 x11 x12)) x).trans (headE_at _ _ _ _ (fun h => addf (colsV (k0_pay97 x0 x1 x2 x3 x4 x5 x6 x7 x8 x9 x10 x11 x12) h) (k0_pay95 x0 x1 x2 x3 x4 x5 x6 x7 x8 x9 x10 x11 x12)) 8 (by decide) inb_S1x16x256x128_S1x1x256x128_0_8_0_0 x)
  rcases List.mem_cons.mp hpc with rfl | hpc
  · exact fun x => (congrFun (k_7 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay95 x0 x1 x2 x3 x4 x5 x6 x7 x8 x9 x10 x11 x12) (k0_pay97 x0 x1 x2 x3 x4 x5 x6 x7 x8 x9 x10 x11 x12) (k0_pay105 x0 x1 x2 x3 x4 x5 x6 x7 x8 x9 x10 x11 x12)) x).trans (headE_at _ _ _ _ (fun h => addf (colsV (k0_pay97 x0 x1 x2 x3 x4 x5 x6 x7 x8 x9 x10 x11 x12) h) (k0_pay95 x0 x1 x2 x3 x4 x5 x6 x7 x8 x9 x10 x11 x12)) 7 (by decide) inb_S1x16x256x128_S1x1x256x128_0_7_0_0 x)
  rcases List.mem_cons.mp hpc with rfl | hpc
  · exact fun x => (congrFun (k_6 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay95 x0 x1 x2 x3 x4 x5 x6 x7 x8 x9 x10 x11 x12) (k0_pay97 x0 x1 x2 x3 x4 x5 x6 x7 x8 x9 x10 x11 x12) (k0_pay105 x0 x1 x2 x3 x4 x5 x6 x7 x8 x9 x10 x11 x12)) x).trans (headE_at _ _ _ _ (fun h => addf (colsV (k0_pay97 x0 x1 x2 x3 x4 x5 x6 x7 x8 x9 x10 x11 x12) h) (k0_pay95 x0 x1 x2 x3 x4 x5 x6 x7 x8 x9 x10 x11 x12)) 6 (by decide) inb_S1x16x256x128_S1x1x256x128_0_6_0_0 x)
  rcases List.mem_cons.mp hpc with rfl | hpc
  · exact fun x => (congrFun (k_5 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay95 x0 x1 x2 x3 x4 x5 x6 x7 x8 x9 x10 x11 x12) (k0_pay97 x0 x1 x2 x3 x4 x5 x6 x7 x8 x9 x10 x11 x12) (k0_pay105 x0 x1 x2 x3 x4 x5 x6 x7 x8 x9 x10 x11 x12)) x).trans (headE_at _ _ _ _ (fun h => addf (colsV (k0_pay97 x0 x1 x2 x3 x4 x5 x6 x7 x8 x9 x10 x11 x12) h) (k0_pay95 x0 x1 x2 x3 x4 x5 x6 x7 x8 x9 x10 x11 x12)) 5 (by decide) inb_S1x16x256x128_S1x1x256x128_0_5_0_0 x)
  rcases List.mem_cons.mp hpc with rfl | hpc
  · exact fun x => (congrFun (k_4 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay95 x0 x1 x2 x3 x4 x5 x6 x7 x8 x9 x10 x11 x12) (k0_pay97 x0 x1 x2 x3 x4 x5 x6 x7 x8 x9 x10 x11 x12) (k0_pay105 x0 x1 x2 x3 x4 x5 x6 x7 x8 x9 x10 x11 x12)) x).trans (headE_at _ _ _ _ (fun h => addf (colsV (k0_pay97 x0 x1 x2 x3 x4 x5 x6 x7 x8 x9 x10 x11 x12) h) (k0_pay95 x0 x1 x2 x3 x4 x5 x6 x7 x8 x9 x10 x11 x12)) 4 (by decide) inb_S1x16x256x128_S1x1x256x128_0_4_0_0 x)
  rcases List.mem_cons.mp hpc with rfl | hpc
  · exact fun x => (congrFun (k_3 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay95 x0 x1 x2 x3 x4 x5 x6 x7 x8 x9 x10 x11 x12) (k0_pay97 x0 x1 x2 x3 x4 x5 x6 x7 x8 x9 x10 x11 x12) (k0_pay105 x0 x1 x2 x3 x4 x5 x6 x7 x8 x9 x10 x11 x12)) x).trans (headE_at _ _ _ _ (fun h => addf (colsV (k0_pay97 x0 x1 x2 x3 x4 x5 x6 x7 x8 x9 x10 x11 x12) h) (k0_pay95 x0 x1 x2 x3 x4 x5 x6 x7 x8 x9 x10 x11 x12)) 3 (by decide) inb_S1x16x256x128_S1x1x256x128_0_3_0_0 x)
  rcases List.mem_cons.mp hpc with rfl | hpc
  · exact fun x => (congrFun (k_2 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay95 x0 x1 x2 x3 x4 x5 x6 x7 x8 x9 x10 x11 x12) (k0_pay97 x0 x1 x2 x3 x4 x5 x6 x7 x8 x9 x10 x11 x12) (k0_pay105 x0 x1 x2 x3 x4 x5 x6 x7 x8 x9 x10 x11 x12)) x).trans (headE_at _ _ _ _ (fun h => addf (colsV (k0_pay97 x0 x1 x2 x3 x4 x5 x6 x7 x8 x9 x10 x11 x12) h) (k0_pay95 x0 x1 x2 x3 x4 x5 x6 x7 x8 x9 x10 x11 x12)) 2 (by decide) inb_S1x16x256x128_S1x1x256x128_0_2_0_0 x)
  rcases List.mem_cons.mp hpc with rfl | hpc
  · exact fun x => (congrFun (k_1 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay95 x0 x1 x2 x3 x4 x5 x6 x7 x8 x9 x10 x11 x12) (k0_pay97 x0 x1 x2 x3 x4 x5 x6 x7 x8 x9 x10 x11 x12) (k0_pay105 x0 x1 x2 x3 x4 x5 x6 x7 x8 x9 x10 x11 x12)) x).trans (headE_at _ _ _ _ (fun h => addf (colsV (k0_pay97 x0 x1 x2 x3 x4 x5 x6 x7 x8 x9 x10 x11 x12) h) (k0_pay95 x0 x1 x2 x3 x4 x5 x6 x7 x8 x9 x10 x11 x12)) 1 (by decide) inb_S1x16x256x128_S1x1x256x128_0_1_0_0 x)
  rcases List.mem_cons.mp hpc with rfl | hpc
  · exact fun x => (congrFun (k_0 (k0_pay101 x0 x1 x2 x3 x4 x5 x6 x7 x8 x9 x10 x11 x12) (k0_pay102 x0 x1 x2 x3 x4 x5 x6 x7 x8 x9 x10 x11 x12) (k0_pay103 x0 x1 x2 x3 x4 x5 x6 x7 x8 x9 x10 x11 x12) (k0_pay95 x0 x1 x2 x3 x4 x5 x6 x7 x8 x9 x10 x11 x12) (k0_pay97 x0 x1 x2 x3 x4 x5 x6 x7 x8 x9 x10 x11 x12) (k0_pay105 x0 x1 x2 x3 x4 x5 x6 x7 x8 x9 x10 x11 x12)) x).trans (headE_at _ _ _ _ (fun h => addf (colsV (k0_pay97 x0 x1 x2 x3 x4 x5 x6 x7 x8 x9 x10 x11 x12) h) (k0_pay95 x0 x1 x2 x3 x4 x5 x6 x7 x8 x9 x10 x11 x12)) 0 (by decide) inb_S1x16x256x128_S1x1x256x128_0_0_0_0 x)
  nomatch hpc

end Cert.MlaPreIdeal.Own

end

end
-- ==== Proof.MlaMath.lean ====
/- The row functions of the latent kernel. -/
module

public import proofs.«01_k».proof.Proof.RowMath

@[expose] public section

noncomputable section

open Idealize.ShloMosaic

namespace Cert.Own

/-- A row of `n` numbers over its root mean square, times the gain; `w` is the number of its components. -/
def normW {n : ℕ} (w : EReal) (f g : Fin n → EReal) (k : Fin n) : EReal :=
  f k * Ideal.rsqrt (Ideal.div (∑ x, f x * f x) w + Ideal.ofBits FTy.f32 897988541#32) * g k

end Cert.Own

end

end
-- ==== Proof.MlaAt.lean ====
/- What the latent kernel's values are at an index. -/
module

public import proofs.«01_k».proof.Proof.MlaMath
public import proofs.«01_k».proof.Proof.MlaHead
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.MlaPreIdeal.Own

open Cert.MlaPreIdeal Cert.MlaPreIdeal.Gen Cert.Own

theorem inv_at : Named.named (F := Ideal) Cert.MlaPreIdeal.κ "inv_qk" (φ := .f32) 0x3C2AAAAB#32 = (((1 / 96 : ℝ)) : EReal) :=
  IdealRules.named_const.ideal_named_scalar _ _ _ _ rfl

theorem norm_at (g : FVec Ideal S1x128 .f32) (X : FVec Ideal S256x128 .f32) (i : Fin 256) (j : Fin 128) :
    normV g X (ix2 i j)
      = X (ix2 i j) * Ideal.rsqrt ((∑ k : Fin 128, X (ix2 i k) * X (ix2 i k)) * ((1 / 96 : ℝ) : EReal) + Ideal.ofBits FTy.f32 897988541#32) * g (ix2 0 j) := by
  rw [← inv_at]
  pointwise [normV]

theorem turn_at (c a b Z : FVec Ideal S256x128 .f32) (i : Fin 256) (j : Fin 128) :
    turnV c a b Z (ix2 i j)
      = Z (ix2 i j) * c (ix2 i j) + Z (ix2 i ⟨(j.val + 16) % 128, Nat.mod_lt _ (by decide)⟩) * a (ix2 i j)
        + Z (ix2 i ⟨(j.val + 112) % 128, Nat.mod_lt _ (by decide)⟩) * b (ix2 i j) := by
  have h1 : dynamicRotate 1 112#32 none Z rotates_S256x128_d1 (ix2 i j) = Z (ix2 i ⟨(j.val + 16) % 128, Nat.mod_lt _ (by decide)⟩) := by
    refine dynamicRotate_apply _ _ _ _ _ _ fun d => ?_
    match d with
    | ⟨0, _⟩ => rfl
    | ⟨1, _⟩ => show (j.val + 16) % 128 = (j.val + 128 - 112) % 128; omega
  have h2 : dynamicRotate 1 16#32 none Z rotates_S256x128_d1 (ix2 i j) = Z (ix2 i ⟨(j.val + 112) % 128, Nat.mod_lt _ (by decide)⟩) := by
    refine dynamicRotate_apply _ _ _ _ _ _ fun d => ?_
    match d with
    | ⟨0, _⟩ => rfl
    | ⟨1, _⟩ => show (j.val + 112) % 128 = (j.val + 128 - 16) % 128; omega
  rw [← h1, ← h2]
  rfl

theorem head_at (c a b : FVec Ideal S256x128 .f32) (g : FVec Ideal S1x128 .f32) (X : FVec Ideal S256x128 .f32) (i : Fin 256) (j : Fin 128) :
    headV c a b g X (ix4 0 0 i j) = turnV c a b (normV g X) (ix2 i j) := by
  unfold headV
  generalize turnV c a b (normV g X) = V
  pointwise []

theorem pay3_at (x : Vec Ideal S1x256x1024 .f32) (g : Vec Ideal S1x1024 .f32) (p q : Vec Ideal S1x1x1024 .f32) (w : Vec Ideal S1024x768 .bf16)
    (i : Fin 256) (j : Fin 768) :
    k0_pay3 x g p q w (ix2 i j)
      = ∑ k : Fin 1024, (normed (fun k => x (ix3 0 i k)) (fun k => g (ix2 0 k)) k * (1 + p (ix3 0 0 k)) + q (ix3 0 0 k)) * w (ix2 k j) := by
  unfold normed
  pointwise [k0_pay3]

theorem pay4_at (x : Vec Ideal S1x256x1024 .f32) (g : Vec Ideal S1x1024 .f32) (p q : Vec Ideal S1x1x1024 .f32) (w : Vec Ideal S1024x768 .bf16)
    (i : Fin 256) (j : Fin 384) :
    k0_pay4 x g p q w (ix2 i j) = k0_pay3 x g p q w (ix2 i (⟨j.val, by omega⟩ : Fin 768)) := by
  unfold k0_pay4; generalize k0_pay3 x g p q w = V
  pointwise []

theorem pay8_at (x : Vec Ideal S1x256x1024 .f32) (g : Vec Ideal S1x1024 .f32) (p q : Vec Ideal S1x1x1024 .f32) (w : Vec Ideal S1024x768 .bf16)
    (n : Vec Ideal S1x384 .f32) (u : Vec Ideal S384x2048 .bf16) (i : Fin 256) (j : Fin 2048) :
    k0_pay8 (k0_pay4 x g p q w) n (k0_pay5 x g p q w) u (ix2 i j)
      = ∑ k : Fin 384, normW (Ideal.ofBits FTy.f32 0x43C00000#32) (fun k => k0_pay3 x g p q w (ix2 i (⟨k.val, by omega⟩ : Fin 768))) (fun k => n (ix2 0 k)) k * u (ix2 k j) := by
  unfold k0_pay5 normW
  simp only [← pay4_at]
  generalize k0_pay4 x g p q w = V
  pointwise [k0_pay8]

theorem pay6_at (V : FVec Ideal S256x768 .f32) (n : Vec Ideal S1x256 .f32) (i : Fin 256) (k : Fin 256) :
    k0_pay6 V n (ix2 i k)
      = normW (Ideal.ofBits FTy.f32 0x43800000#32) (fun k => V (ix2 i (⟨384 + k.val, by omega⟩ : Fin 768))) (fun k => n (ix2 0 k)) k := by
  unfold normW
  pointwise [k0_pay6]

theorem pay7_at (V : FVec Ideal S256x768 .f32) (i : Fin 256) (j : Fin 128) :
    k0_pay7 V (ix2 i j) = V (ix2 i (⟨640 + j.val, by omega⟩ : Fin 768)) := by
  pointwise [k0_pay7]

theorem pay9_at (V : FVec Ideal S256x768 .f32) (n : Vec Ideal S1x256 .f32) (u : Vec Ideal S256x2048 .bf16) (i : Fin 256) (j : Fin 2048) :
    k0_pay9 V n u (ix2 i j)
      = ∑ k : Fin 256, normW (Ideal.ofBits FTy.f32 0x43800000#32) (fun k => V (ix2 i (⟨384 + k.val, by omega⟩ : Fin 768))) (fun k => n (ix2 0 k)) k * u (ix2 k j) := by
  simp only [← pay6_at]
  unfold k0_pay9
  generalize k0_pay6 V n = W
  pointwise []

theorem pay10_at (V : FVec Ideal S256x768 .f32) (n : Vec Ideal S1x256 .f32) (u : Vec Ideal S256x1024 .bf16) (i : Fin 256) (j : Fin 1024) :
    k0_pay10 V n u (ix2 i j)
      = ∑ k : Fin 256, normW (Ideal.ofBits FTy.f32 0x43800000#32) (fun k => V (ix2 i (⟨384 + k.val, by omega⟩ : Fin 768))) (fun k => n (ix2 0 k)) k * u (ix2 k j) := by
  simp only [← pay6_at]
  unfold k0_pay10
  generalize k0_pay6 V n = W
  pointwise []

theorem pay11_at (p : Vec Ideal S1x256x1 .i32) (i : Fin 256) (j : Fin 128) :
    k0_pay11 p (ix2 i j) = FloatOps.sitofp (F := Ideal) .f32 (p (ix3 0 i 0)) := by
  pointwise [k0_pay11]

theorem pay12_at (f : Vec Ideal S1x128 .f32) (i : Fin 256) (j : Fin 128) : k0_pay12 f (ix2 i j) = f (ix2 0 j) := by
  pointwise [k0_pay12]

theorem pay14_at (P Q : FVec Ideal S256x128 .f32) (i : Fin 256) (j : Fin 128) :
    k0_pay14 P Q (ix2 i j) = Ideal.cos (P (ix2 i j) * Q (ix2 i j)) := by
  pointwise [k0_pay14, k0_pay13]

theorem lo : ∀ j : Fin 128, IntOp.andi (IntOp.cmpi CmpIPredicate.sge (BitVec.ofNat 32 j.val) 64#32) (IntOp.cmpi CmpIPredicate.slt (BitVec.ofNat 32 j.val) 80#32)
    = BitVec.ofBool (decide (64 ≤ j.val ∧ j.val < 80)) := by decide

theorem hi : ∀ j : Fin 128, IntOp.andi (IntOp.cmpi CmpIPredicate.sge (BitVec.ofNat 32 j.val) 80#32) (IntOp.cmpi CmpIPredicate.slt (BitVec.ofNat 32 j.val) 96#32)
    = BitVec.ofBool (decide (80 ≤ j.val ∧ j.val < 96)) := by decide

theorem sel_on {α : Type} (p : Prop) {_ : Decidable p} (a b : α) : Scalar.select (BitVec.ofBool (decide p)) a b = if p then a else b := by
  by_cases h : p <;> simp [h, Scalar.select]

theorem pay16_at (P Q : FVec Ideal S256x128 .f32) (i : Fin 256) (j : Fin 128) :
    k0_pay16 P Q (ix2 i j) = if 64 ≤ j.val ∧ j.val < 80 then 0 - Ideal.sin (P (ix2 i j) * Q (ix2 i j)) else 0 := by
  rw [← sel_on, ← lo]
  pointwise [k0_pay16, k0_pay15, k0_pay13]

theorem pay17_at (P Q : FVec Ideal S256x128 .f32) (i : Fin 256) (j : Fin 128) :
    k0_pay17 P Q (ix2 i j) = if 80 ≤ j.val ∧ j.val < 96 then Ideal.sin (P (ix2 i j) * Q (ix2 i j)) else 0 := by
  rw [← sel_on, ← hi]
  pointwise [k0_pay17, k0_pay15, k0_pay13]

theorem pay18_at (v : Vec Ideal S1x128 .f32) (j : Fin 128) : k0_pay18 v (ix2 0 j) = v (ix2 0 j) := by
  pointwise [k0_pay18]

theorem pay19_at (v : Vec Ideal S1x128 .f32) (j : Fin 128) : k0_pay19 v (ix2 0 j) = v (ix2 0 j) := by
  pointwise [k0_pay19]

end Cert.MlaPreIdeal.Own

end

end
-- ==== Proof.MlaTurn.lean ====
/- One head of the latent-attention input kernel, lane by lane: the mean over 128 lanes with the last 32 zero is the mean
over 96, and the two shifted products are the rotation of a pair. -/
module

public import proofs.«01_k».proof.Proof.MlaMath
public import proofs.«01_k».proof.Proof.MlaAt

@[expose] public section

set_option maxRecDepth 16384

noncomputable section

open Idealize.ShloMosaic Idealize.ShloMosaic.TcCoe Idealize.SL.Sem
open Idealize.ShloMosaic.Pipeline (Dat)

namespace Cert.MlaPreIdeal.Own

open Cert.MlaPreIdeal Cert.MlaPreIdeal.Gen Cert.Own

theorem width_at : Ideal.ofBits FTy.f32 0x42C00000#32 = ((96 : ℝ) : EReal) := by
  simp [Ideal.ofBits, Ideal.ieee]
  rw [← EReal.coe_mul]
  norm_num

/-- What the body holds of one row of a head: the rotation's three tables, the gain, and the row itself, whose first 96
    lanes are the numbers `Y` and whose others are zero. -/
structure Lanes (c a b : FVec Ideal S256x128 .f32) (g : FVec Ideal S1x128 .f32) (X : FVec Ideal S256x128 .f32) (i : Fin 256)
    (cs sn : Fin 16 → EReal) (Y G : Fin 96 → EReal) : Prop where
  cLow : ∀ l : Fin 64, c (ix2 i (⟨l.val, by omega⟩ : Fin 128)) = 1
  cMid : ∀ k : Fin 16, c (ix2 i (⟨64 + k.val, by omega⟩ : Fin 128)) = cs k
  cHigh : ∀ k : Fin 16, c (ix2 i (⟨64 + (16 + k.val), by omega⟩ : Fin 128)) = cs k
  aOn : ∀ k : Fin 16, a (ix2 i (⟨64 + k.val, by omega⟩ : Fin 128)) = 0 - sn k
  aOff : ∀ j : Fin 128, ¬ (64 ≤ j.val ∧ j.val < 80) → a (ix2 i j) = 0
  bOn : ∀ k : Fin 16, b (ix2 i (⟨64 + (16 + k.val), by omega⟩ : Fin 128)) = sn k
  bOff : ∀ j : Fin 128, ¬ (80 ≤ j.val ∧ j.val < 96) → b (ix2 i j) = 0
  xOn : ∀ l : Fin 96, X (ix2 i (⟨l.val, by omega⟩ : Fin 128)) = Y l
  xOff : ∀ l : Fin 32, X (ix2 i (⟨96 + l.val, by omega⟩ : Fin 128)) = 0
  gOn : ∀ l : Fin 96, g (ix2 0 (⟨l.val, by omega⟩ : Fin 128)) = G l
  gOff : ∀ l : Fin 32, g (ix2 0 (⟨96 + l.val, by omega⟩ : Fin 128)) = 0

variable {c a b : FVec Ideal S256x128 .f32} {g : FVec Ideal S1x128 .f32} {X : FVec Ideal S256x128 .f32} {i : Fin 256}
  {cs sn : Fin 16 → EReal} {Y G : Fin 96 → EReal}

theorem Lanes.sum (L : Lanes c a b g X i cs sn Y G) :
    ∑ k : Fin 128, X (ix2 i k) * X (ix2 i k) = ∑ l : Fin 96, Y l * Y l := by
  refine (Fin.sum_univ_add (a := 96) (b := 32) fun k : Fin (96 + 32) => X (ix2 i (k : Fin 128)) * X (ix2 i (k : Fin 128))).trans ?_
  have h0 : ∀ l : Fin 32, X (ix2 i (Fin.natAdd 96 l : Fin 128)) = 0 := L.xOff
  have h1 : ∀ l : Fin 96, X (ix2 i (Fin.castAdd 32 l : Fin 128)) = Y l := L.xOn
  simp only [h0, h1, mul_zero, Finset.sum_const_zero, add_zero]

theorem Lanes.norm_on (L : Lanes c a b g X i cs sn Y G) (l : Fin 96) :
    normV g X (ix2 i (⟨l.val, by omega⟩ : Fin 128)) = normW (Ideal.ofBits FTy.f32 0x42C00000#32) Y G l := by
  refine (norm_at g X i _).trans ?_
  unfold normW
  rw [L.sum, L.xOn, L.gOn, width_at, Ideal.div_coe (by norm_num)]

theorem Lanes.norm_off (L : Lanes c a b g X i cs sn Y G) (l : Fin 32) :
    normV g X (ix2 i (⟨96 + l.val, by omega⟩ : Fin 128)) = 0 := by
  refine (norm_at g X i _).trans ?_
  rw [L.gOff, mul_zero]

theorem Lanes.low (L : Lanes c a b g X i cs sn Y G) (l : Fin 64) :
    headV c a b g X (ix4 0 0 i (⟨l.val, by omega⟩ : Fin 128)) = normW (Ideal.ofBits FTy.f32 0x42C00000#32) Y G (⟨l.val, by omega⟩ : Fin 96) := by
  refine (head_at c a b g X i _).trans ((turn_at c a b _ i _).trans ?_)
  rw [L.cLow, L.aOff _ (by dsimp only; omega), L.bOff _ (by dsimp only; omega), mul_one, mul_zero, mul_zero, add_zero, add_zero]
  exact L.norm_on (⟨l.val, by omega⟩ : Fin 96)

theorem Lanes.mid (L : Lanes c a b g X i cs sn Y G) (k : Fin 16) :
    headV c a b g X (ix4 0 0 i (⟨64 + k.val, by omega⟩ : Fin 128))
      = normW (Ideal.ofBits FTy.f32 0x42C00000#32) Y G (⟨64 + k.val, by omega⟩ : Fin 96) * cs k
        - normW (Ideal.ofBits FTy.f32 0x42C00000#32) Y G (⟨64 + (16 + k.val), by omega⟩ : Fin 96) * sn k := by
  refine (head_at c a b g X i _).trans ((turn_at c a b _ i _).trans ?_)
  rw [L.cMid, L.aOn, L.bOff _ (by dsimp only; omega), mul_zero, add_zero, zero_sub, mul_neg, ← sub_eq_add_neg]
  rw [← L.norm_on, ← L.norm_on]
  exact congrArg (fun z => normV g X (ix2 i (⟨64 + k.val, by omega⟩ : Fin 128)) * cs k - normV g X (ix2 i z) * sn k) (Fin.ext (by dsimp only; omega))

theorem Lanes.high (L : Lanes c a b g X i cs sn Y G) (k : Fin 16) :
    headV c a b g X (ix4 0 0 i (⟨64 + (16 + k.val), by omega⟩ : Fin 128))
      = normW (Ideal.ofBits FTy.f32 0x42C00000#32) Y G (⟨64 + k.val, by omega⟩ : Fin 96) * sn k
        + normW (Ideal.ofBits FTy.f32 0x42C00000#32) Y G (⟨64 + (16 + k.val), by omega⟩ : Fin 96) * cs k := by
  refine (head_at c a b g X i _).trans ((turn_at c a b _ i _).trans ?_)
  rw [L.cHigh, L.bOn, L.aOff _ (by dsimp only; omega), mul_zero, add_zero, add_comm]
  rw [← L.norm_on, ← L.norm_on]
  exact congrArg (fun z => normV g X (ix2 i z) * sn k + normV g X (ix2 i (⟨64 + (16 + k.val), by omega⟩ : Fin 128)) * cs k) (Fin.ext (by dsimp only; omega))

theorem Lanes.off (L : Lanes c a b g X i cs sn Y G) (l : Fin 32) :
    headV c a b g X (ix4 0 0 i (⟨96 + l.val, by omega⟩ : Fin 128)) = 0 := by
  refine (head_at c a b g X i _).trans ((turn_at c a b _ i _).trans ?_)
  rw [L.norm_off, L.aOff _ (by dsimp only; omega), L.bOff _ (by dsimp only; omega), zero_mul, mul_zero, mul_zero, add_zero, add_zero]

/-! ## The score's scale, folded into the gain -/

theorem scale_nonneg : 0 ≤ Ideal.ofBits FTy.f32 0x3DD105EC#32 := by
  simp [Ideal.ofBits, Ideal.ieee]
  positivity

theorem scale_ne_top : Ideal.ofBits FTy.f32 0x3DD105EC#32 ≠ ⊤ := by
  simp [Ideal.ofBits, Ideal.ieee]
  rw [← EReal.coe_mul]
  exact EReal.coe_ne_top _

theorem normW_scaled (w s : EReal) (f g : Fin 96 → EReal) (l : Fin 96) : normW w f (fun k => g k * s) l = normW w f g l * s :=
  (mul_assoc _ _ _).symm

theorem scaled_sub (s : EReal) (h0 : 0 ≤ s) (ht : s ≠ ⊤) (x y p q : EReal) : x * s * p - y * s * q = (x * p - y * q) * s := by
  rw [sub_eq_add_neg, sub_eq_add_neg, EReal.right_distrib_of_nonneg_of_ne_top h0 ht, neg_mul, mul_right_comm x s p, mul_right_comm y s q]

theorem scaled_add (s : EReal) (h0 : 0 ≤ s) (ht : s ≠ ⊤) (x y p q : EReal) : x * s * p + y * s * q = (x * p + y * q) * s := by
  rw [EReal.right_distrib_of_nonneg_of_ne_top h0 ht, mul_right_comm x s p, mul_right_comm y s q]

end Cert.MlaPreIdeal.Own

end

end
-- ==== Proof.MlaHost.lean ====
/- The operands the host packs for the latent kernel. -/
module

public import proofs.«01_k».proof.Proof.Gen.MlaPreIdeal.Frame
public import Idealize.ShloMosaic.Lib.Pipeline.ValueKit
public import Idealize.ShloMosaic.Lib.StableHlo.RunRead
public import Idealize.ShloMosaic.Lib.Routing.OpsOne
public import Idealize.ShloMosaic.Lib.Routing.OpsSet

@[expose] public section

set_option maxRecDepth 16384

noncomputable section

open Idealize.ShloMosaic Idealize.ShloMosaic.TcCoe Idealize.SL.Sem
open Idealize.ShloMosaic.Pipeline (Dat)

open Idealize.ShloMosaic.Routing

namespace Cert.MlaPreIdeal.Own

open Cert.MlaPreIdeal Cert.MlaPreIdeal.Gen

/-- The sixteen frequencies. -/
def freqs : FVec Ideal S16 .f32 :=
  Host.powf (broadcastInDim S16 ![] bcast_S_S16 (constant (F := Ideal) S_ .f32 0x461C4000#32))
    (Host.divf (Host.negf (sitofp (F := Ideal) .f32 (iotaInDim S16 32 0))) (broadcastInDim S16 ![] bcast_S_S16 (constant (F := Ideal) S_ .f32 0x41800000#32)))

/-- The pair of words of a start index. -/
def pairOf (p : BitVec 32) : IVec S2 32 :=
  concatenate S2 0 [⟨S1, broadcastInDim S1 ![] bcast_S_S1 (constantI S_ 32 0#32)⟩, ⟨S1, broadcastInDim S1 ![] bcast_S_S1 (constantI S_ 32 p)⟩] concatenates_S1_S1_S2_d0

def freqV1 : FVec Ideal S1x128 .f32 :=
  Host.scatter scatter_S1x128_S2_S16_0_0_01_0 (fun _ b => b) (broadcastInDim S1x128 ![] bcast_S_S1x128 (constant (F := Ideal) S_ .f32 0x00000000#32)) (pairOf 64#32) freqs

def freqV : FVec Ideal S1x128 .f32 :=
  Host.scatter scatter_S1x128_S2_S16_0_0_01_0 (fun _ b => b) freqV1 (pairOf 80#32) freqs

def peV (w : FVec Ideal S1024x672 .f32) : FVec Ideal S1024x128 .f32 :=
  Host.scatter scatter_S1024x128_S1_S1024x32_01_n_1_0 (fun _ b => b) (broadcastInDim S1024x128 ![] bcast_S_S1024x128 (constant (F := Ideal) S_ .f32 0x00000000#32))
    (broadcastInDim S1 ![] bcast_S_S1 (constantI S_ 32 64#32)) (extractStridedSlice S1024x32 ![0, 640] w slices_S1024x672_S1024x32_0_640)

def winV (w : FVec Ideal S1024x672 .f32) : FVec Ideal S1024x768 .bf16 :=
  truncf (F := Ideal) .bf16 (concatenate S1024x768 1 [⟨S1024x640, extractStridedSlice S1024x640 ![0, 0] w slices_S1024x672_S1024x640_0_0⟩, ⟨S1024x128, peV w⟩] concatenates_S1024x640_S1024x128_S1024x768_d1) bitsLt_bf16_f32

variable (m : (ℓ : Loc nD τ sig) → Buf (Elt Ideal) ℓ)

theorem V_freq (c : Dev nD) : V m c main_v14 = freqV := by
  show StableHlo.after (List.flatten [hostOps0, hostOps0_1, hostOps0_2, hostOps0_3, hostOps0_4, hostOps0_5, hostOps0_6, hostOps0_7, hostOps0_8]) _ (Proc.devRef .tc _) = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem V_win (c : Dev nD) : V m c main_v21 = winV (m ((c : Thread nD τ).loc main_arg4)) := by
  show StableHlo.after (List.flatten [hostOps0, hostOps0_1, hostOps0_2, hostOps0_3, hostOps0_4, hostOps0_5, hostOps0_6, hostOps0_7, hostOps0_8]) _ (Proc.devRef .tc _) = _
  simp only [hostOps0, hostOps0_1, hostOps0_2, hostOps0_3, hostOps0_4, hostOps0_5, hostOps0_6, hostOps0_7, hostOps0_8, List.flatten_cons, List.flatten_nil, List.append_nil, List.cons_append, List.nil_append]
  after_results
  unfold winV peV
  rfl

theorem V_pos (c : Dev nD) : V m c main_v42 = shapeCast S16x2048x1 (m ((c : Thread nD τ).loc main_arg3)) shapeCasts_S16x2048_S16x2048x1 := by
  show StableHlo.after (List.flatten [hostOps0, hostOps0_1, hostOps0_2, hostOps0_3, hostOps0_4, hostOps0_5, hostOps0_6, hostOps0_7, hostOps0_8]) _ (Proc.devRef .tc _) = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

def wqV (w : FVec Ideal S384x1536 .f32) : FVec Ideal S384x2048 .bf16 :=
  truncf (F := Ideal) .bf16 (shapeCast S384x2048 (pad S384x16x128 ![0, 0, 0] ![0, 0, 32] ![0, 0, 0] (shapeCast S384x16x96 w shapeCasts_S384x1536_S384x16x96)
    (sitofp (F := Ideal) .f32 (constantI S_ 32 0#32)) pads_S384x16x96_S384x16x128_000_000_0320 h_S_) shapeCasts_S384x16x128_S384x2048) bitsLt_bf16_f32

def kvV (w : FVec Ideal S256x2048 .f32) : FVec Ideal S256x16x128 .f32 := shapeCast S256x16x128 w shapeCasts_S256x2048_S256x16x128

def wkV (w : FVec Ideal S256x2048 .f32) : FVec Ideal S256x2048 .bf16 :=
  truncf (F := Ideal) .bf16 (shapeCast S256x2048 (pad S256x16x128 ![0, 0, 0] ![0, 0, 64] ![0, 0, 0] (shapeCast S256x16x64 (shapeCast S256x1024
    (extractStridedSlice S256x16x64 ![0, 0, 0] (kvV w) slices_S256x16x128_S256x16x64_0_0_0) shapeCasts_S256x16x64_S256x1024) shapeCasts_S256x1024_S256x16x64)
    (sitofp (F := Ideal) .f32 (constantI S_ 32 0#32)) pads_S256x16x64_S256x16x128_000_000_0640 h_S_) shapeCasts_S256x16x128_S256x2048) bitsLt_bf16_f32

def wvV (w : FVec Ideal S256x2048 .f32) : FVec Ideal S256x1024 .bf16 :=
  truncf (F := Ideal) .bf16 (shapeCast S256x1024 (extractStridedSlice S256x16x64 ![0, 0, 64] (kvV w) slices_S256x16x128_S256x16x64_0_0_64) shapeCasts_S256x16x64_S256x1024) bitsLt_bf16_f32

def gainV (g : FVec Ideal S96 .f32) : FVec Ideal S1x128 .f32 :=
  shapeCast S1x128 (pad S128 ![0] ![32] ![0] g (sitofp (F := Ideal) .f32 (constantI S_ 32 0#32)) pads_S96_S128_0320 h_S_) shapeCasts_S128_S1x128

def scaledV (g : FVec Ideal S96 .f32) : FVec Ideal S96 .f32 :=
  mulf g (broadcastInDim S96 ![] bcast_S_S96 (constant (F := Ideal) S_ .f32 0x3DD105EC#32))

theorem V_wq (c : Dev nD) : V m c main_v25 = wqV (m ((c : Thread nD τ).loc main_arg7)) := by
  show StableHlo.after (List.flatten [hostOps0, hostOps0_1, hostOps0_2, hostOps0_3, hostOps0_4, hostOps0_5, hostOps0_6, hostOps0_7, hostOps0_8]) _ (Proc.devRef .tc _) = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem V_wk (c : Dev nD) : V m c main_v32 = wkV (m ((c : Thread nD τ).loc main_arg8)) := by
  show StableHlo.after (List.flatten [hostOps0, hostOps0_1, hostOps0_2, hostOps0_3, hostOps0_4, hostOps0_5, hostOps0_6, hostOps0_7, hostOps0_8]) _ (Proc.devRef .tc _) = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem V_wv (c : Dev nD) : V m c main_v35 = wvV (m ((c : Thread nD τ).loc main_arg8)) := by
  show StableHlo.after (List.flatten [hostOps0, hostOps0_1, hostOps0_2, hostOps0_3, hostOps0_4, hostOps0_5, hostOps0_6, hostOps0_7, hostOps0_8]) _ (Proc.devRef .tc _) = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem V_qg (c : Dev nD) : V m c main_v39 = gainV (scaledV (m ((c : Thread nD τ).loc main_arg9))) := by
  show StableHlo.after (List.flatten [hostOps0, hostOps0_1, hostOps0_2, hostOps0_3, hostOps0_4, hostOps0_5, hostOps0_6, hostOps0_7, hostOps0_8]) _ (Proc.devRef .tc _) = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

theorem V_kg (c : Dev nD) : V m c main_v41 = gainV (m ((c : Thread nD τ).loc main_arg10)) := by
  show StableHlo.after (List.flatten [hostOps0, hostOps0_1, hostOps0_2, hostOps0_3, hostOps0_4, hostOps0_5, hostOps0_6, hostOps0_7, hostOps0_8]) _ (Proc.devRef .tc _) = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

/-! ## The packed operands at an index -/

theorem zero_word : FloatOps.sitofp (F := Ideal) .f32 (0#32) = 0 := by
  simp [FloatOps.sitofp]

theorem wv_at (w : FVec Ideal S256x2048 .f32) (k : Fin 256) (j : Fin 1024) :
    wvV w (ix2 k j) = w (ix2 k (⟨j.val / 64 * 128 + (64 + j.val % 64), by omega⟩ : Fin 2048)) := by
  pointwise [wvV, kvV]

theorem wq_lo (w : FVec Ideal S384x1536 .f32) (k : Fin 384) (h : Fin 16) (l : Fin 96) :
    wqV w (ix2 k (⟨h.val * 128 + l.val, by omega⟩ : Fin 2048)) = w (ix2 k (⟨h.val * 96 + l.val, by omega⟩ : Fin 1536)) := by
  pointwise [wqV]
  rw [dif_pos (by omega)]
  exact congrArg (fun z => w (ix2 k z)) (Fin.ext (by dsimp only; omega))

theorem wq_hi (w : FVec Ideal S384x1536 .f32) (k : Fin 384) (h : Fin 16) (l : Fin 32) :
    wqV w (ix2 k (⟨h.val * 128 + (96 + l.val), by omega⟩ : Fin 2048)) = 0 := by
  pointwise [wqV]
  rw [dif_neg (by omega)]
  exact zero_word

theorem wk_lo (w : FVec Ideal S256x2048 .f32) (k : Fin 256) (h : Fin 16) (l : Fin 64) :
    wkV w (ix2 k (⟨h.val * 128 + l.val, by omega⟩ : Fin 2048)) = w (ix2 k (⟨h.val * 128 + l.val, by omega⟩ : Fin 2048)) := by
  pointwise [wkV, kvV]
  rw [dif_pos (by omega)]
  exact congrArg (fun z => w (ix2 k z)) (Fin.ext (by dsimp only; omega))

theorem wk_hi (w : FVec Ideal S256x2048 .f32) (k : Fin 256) (h : Fin 16) (l : Fin 64) :
    wkV w (ix2 k (⟨h.val * 128 + (64 + l.val), by omega⟩ : Fin 2048)) = 0 := by
  pointwise [wkV, kvV]
  rw [dif_neg (by omega)]
  exact zero_word

theorem gain_lo (g : FVec Ideal S96 .f32) (l : Fin 96) : gainV g (ix2 0 (⟨l.val, by omega⟩ : Fin 128)) = g (ix1 l) := by
  pointwise [gainV]

theorem gain_hi (g : FVec Ideal S96 .f32) (l : Fin 32) : gainV g (ix2 0 (⟨96 + l.val, by omega⟩ : Fin 128)) = 0 := by
  pointwise [gainV]
  exact zero_word

theorem scaled_at (g : FVec Ideal S96 .f32) (l : Fin 96) : scaledV g (ix1 l) = g (ix1 l) * Ideal.ofBits FTy.f32 0x3DD105EC#32 := by
  pointwise [scaledV]

theorem cast_pos (p : IVec S16x2048 32) (b : Fin 16) (r : Fin 2048) : shapeCast S16x2048x1 p shapeCasts_S16x2048_S16x2048x1 (ix3 b r 0) = p (ix2 b r) := by
  pointwise []

/-! ## The two updates in place -/

theorem pair_0 (p : BitVec 32) : pairOf p (ix1 (0 : Fin 2)) = 0#32 := by
  pointwise [pairOf]

theorem pair_1 (p : BitVec 32) : pairOf p (ix1 (1 : Fin 2)) = p := by
  pointwise [pairOf]

theorem row_lands (p : BitVec 32) (k : Fin 16) (j : Fin 128) :
    scatter_S1x128_S2_S16_0_0_01_0.resultIdx? (ix1 k) (pairOf p) = some (ix2 (0 : Fin 1) j) ↔ p.toInt + (k.val : Int) = j.val := by
  have w0 : scatter_S1x128_S2_S16_0_0_01_0.window (ix1 k) 0 = 0 := rfl
  have w1 : scatter_S1x128_S2_S16_0_0_01_0.window (ix1 k) 1 = k.val := rfl
  have s0 : scatter_S1x128_S2_S16_0_0_01_0.start (ix1 k) (pairOf p) 0 = 0 :=
    (start_pair scatter_S1x128_S2_S16_0_0_01_0 rfl rfl (pairOf p) (ix1 k) 0).trans ((congrArg BitVec.toInt (pair_0 p)).trans (by decide))
  have s1 : scatter_S1x128_S2_S16_0_0_01_0.start (ix1 k) (pairOf p) 1 = p.toInt :=
    (start_pair scatter_S1x128_S2_S16_0_0_01_0 rfl rfl (pairOf p) (ix1 k) 1).trans (congrArg BitVec.toInt (pair_1 p))
  refine (resultIdx?_ix2 _ _ _ _ _).trans ?_
  rw [w0, w1, s0, s1]
  simp

theorem row_hit (x : FVec Ideal S1x128 .f32) (p : BitVec 32) (u : FVec Ideal S16 .f32) (k : Fin 16) (j : Fin 128) (h : p.toInt + (k.val : Int) = j.val) :
    Host.scatter scatter_S1x128_S2_S16_0_0_01_0 (fun _ b => b) x (pairOf p) u (ix2 (0 : Fin 1) j) = u (ix1 k) := by
  refine scatter_set_hit _ _ _ _ _ _ (fun l hl => ?_) (ix1 k) ((row_lands p k j).2 h)
  obtain ⟨l, rfl⟩ : ∃ a : Fin 16, l = ix1 a := ⟨l 0, eq_ix1 l⟩
  have := (row_lands p l j).1 hl
  exact congrArg (fun z => u (ix1 z)) (Fin.ext (by omega))

theorem row_miss (x : FVec Ideal S1x128 .f32) (p : BitVec 32) (u : FVec Ideal S16 .f32) (j : Fin 128) (h : ∀ k : Fin 16, p.toInt + (k.val : Int) ≠ j.val) :
    Host.scatter scatter_S1x128_S2_S16_0_0_01_0 (fun _ b => b) x (pairOf p) u (ix2 (0 : Fin 1) j) = x (ix2 (0 : Fin 1) j) := by
  refine scatter_set_miss _ _ _ _ _ fun l hl => ?_
  obtain ⟨l, rfl⟩ : ∃ a : Fin 16, l = ix1 a := ⟨l 0, eq_ix1 l⟩
  exact h l ((row_lands p l j).1 hl)

theorem int64 : (64#32).toInt = 64 := by decide
theorem int80 : (80#32).toInt = 80 := by decide

theorem freq_lo (k : Fin 16) : freqV (ix2 (0 : Fin 1) (⟨64 + k.val, by omega⟩ : Fin 128)) = freqs (ix1 k) := by
  refine (row_miss _ _ _ _ fun l => by rw [int80]; push_cast; omega).trans (row_hit _ _ _ k _ ?_)
  rw [int64]; push_cast; omega

theorem freq_hi (k : Fin 16) : freqV (ix2 (0 : Fin 1) (⟨80 + k.val, by omega⟩ : Fin 128)) = freqs (ix1 k) := by
  refine row_hit _ _ _ k _ ?_
  rw [int80]; push_cast; omega

theorem freq_no (j : Fin 128) (h : j.val < 64) : freqV (ix2 (0 : Fin 1) j) = 0 := by
  refine (row_miss _ _ _ _ fun l => by rw [int80]; omega).trans ((row_miss _ _ _ _ fun l => by rw [int64]; omega).trans ?_)
  pointwise []

theorem col_lands (k : Fin 1024) (l : Fin 32) (i : Fin 1024) (j : Fin 128) :
    scatter_S1024x128_S1_S1024x32_01_n_1_0.resultIdx? (ix2 k l) (broadcastInDim S1 ![] bcast_S_S1 (constantI S_ 32 64#32)) = some (ix2 i j)
      ↔ k = i ∧ 64 + l.val = j.val := by
  have w0 : scatter_S1024x128_S1_S1024x32_01_n_1_0.window (ix2 k l) 0 = k.val := rfl
  have w1 : scatter_S1024x128_S1_S1024x32_01_n_1_0.window (ix2 k l) 1 = l.val := rfl
  have s0 : scatter_S1024x128_S1_S1024x32_01_n_1_0.start (ix2 k l) (broadcastInDim S1 ![] bcast_S_S1 (constantI S_ 32 64#32)) 0 = 0 := rfl
  have s1 : scatter_S1024x128_S1_S1024x32_01_n_1_0.start (ix2 k l) (broadcastInDim S1 ![] bcast_S_S1 (constantI S_ 32 64#32)) 1 = (64#32).toInt := rfl
  refine (resultIdx?_ix2 _ _ _ _ _).trans ?_
  rw [w0, w1, s0, s1, int64, Fin.ext_iff]
  omega

theorem pe_hit (w : FVec Ideal S1024x672 .f32) (k : Fin 1024) (l : Fin 32) :
    peV w (ix2 k (⟨64 + l.val, by omega⟩ : Fin 128)) = w (ix2 k (⟨640 + l.val, by omega⟩ : Fin 672)) := by
  refine (scatter_set_hit _ _ _ _ _ (w (ix2 k (⟨640 + l.val, by omega⟩ : Fin 672))) (fun q hq => ?_) (ix2 k l) ((col_lands k l k _).2 ⟨rfl, rfl⟩))
  obtain ⟨a, b, rfl⟩ : ∃ (a : Fin 1024) (b : Fin 32), q = ix2 a b := ⟨q 0, q 1, eq_ix2 q⟩
  obtain ⟨rfl, h⟩ := (col_lands a b k _).1 hq
  obtain rfl : b = l := Fin.ext (by dsimp only at h; omega)
  pointwise []

theorem pe_miss (w : FVec Ideal S1024x672 .f32) (k : Fin 1024) (j : Fin 128) (h : j.val < 64 ∨ 96 ≤ j.val) : peV w (ix2 k j) = 0 := by
  refine (scatter_set_miss _ _ _ _ _ fun q hq => ?_).trans ?_
  · obtain ⟨a, b, rfl⟩ : ∃ (a : Fin 1024) (b : Fin 32), q = ix2 a b := ⟨q 0, q 1, eq_ix2 q⟩
    obtain ⟨_, h'⟩ := (col_lands a b k _).1 hq
    omega
  · pointwise []

theorem win_lat (w : FVec Ideal S1024x672 .f32) (k : Fin 1024) (j : Fin 640) :
    winV w (ix2 k (⟨j.val, by omega⟩ : Fin 768)) = w (ix2 k (⟨j.val, by omega⟩ : Fin 672)) := by
  unfold winV; generalize peV w = V
  pointwise []

theorem win_pe (w : FVec Ideal S1024x672 .f32) (k : Fin 1024) (j : Fin 128) :
    winV w (ix2 k (⟨640 + j.val, by omega⟩ : Fin 768)) = peV w (ix2 k j) := by
  unfold winV; generalize peV w = V
  pointwise []

end Cert.MlaPreIdeal.Own

end

end
-- ==== Proof.MlaBlocks.lean ====
/- Where the blocks of the latent-attention input kernel lie, and what its body reads of them. -/
module

public import proofs.«01_k».proof.Proof.MlaMath
public import proofs.«01_k».proof.Proof.MlaHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlaPreIdeal.Own

open Cert.MlaPreIdeal Cert.MlaPreIdeal.Gen Cert.Own

variable (m : (ℓ : Loc nD τ sig) → Buf (Elt Ideal) ℓ)

theorem idx : ∀ t : Fin cfg0.N, (grid0.coords t 0).val < 16 ∧ (grid0.coords t 1).val < 8
    ∧ win0_0.index t = ![(grid0.coords t 0).val, (grid0.coords t 1).val, 0]
    ∧ win0_1.index t = ![(grid0.coords t 0).val, 0, 0]
    ∧ win0_2.index t = ![0, 0]
    ∧ win0_3.index t = ![(grid0.coords t 0).val, (grid0.coords t 1).val, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![(grid0.coords t 0).val, 0, (grid0.coords t 1).val, 0]
    ∧ win0_14.index t = ![(grid0.coords t 0).val, 0, (grid0.coords t 1).val, 0]
    ∧ win0_15.index t = ![(grid0.coords t 0).val, 0, (grid0.coords t 1).val, 0] :=
  (by decide +kernel : ∀ t : Fin grid0.N, _)

/-- The grid point's batch and block of tokens. -/
def tb (t : Fin cfg0.N) : Fin 16 := ⟨(grid0.coords t 0).val, (idx t).1⟩
def tj (t : Fin cfg0.N) : Fin 8 := ⟨(grid0.coords t 1).val, (idx t).2.1⟩

/-- The token of the batch that row `i` of the point's block is. -/
def tok (t : Fin cfg0.N) (i : Fin 256) : Fin 2048 := ⟨(tj t).val * 256 + i.val, by omega⟩

theorem rd_x (c : Dev nD) (t : Fin cfg0.N) (i : Fin 256) (j : Fin 1024) :
    View.ld (iblk m c 0 t) r0_0 (ix3 0 i j) = m ((c : Thread nD τ).loc main_arg0) (ix3 (tb t) (tok t i) j) := by
  refine (View.ld_unit_apply_of (iblk m c 0 t) _ _ _ _ (ix3 0 i j) (fun a => by fin_cases a <;> simp)).trans ?_
  refine Eq.trans ?_ (congrFun (V_main_arg0 m c) (ix3 (tb t) (tok t i) j))
  blk_ext [iblk, idx t, tb, tj, tok]

theorem rd_scale (c : Dev nD) (t : Fin cfg0.N) (j : Fin 1024) :
    View.ld (iblk m c 1 t) r0_2 (ix3 0 0 j) = m ((c : Thread nD τ).loc main_arg1) (ix3 (tb t) (1 : Fin 6) j) := by
  refine (View.ld_unit_apply_of (iblk m c 1 t) _ _ _ _ (ix3 0 1 j) (fun a => by fin_cases a <;> simp)).trans ?_
  refine Eq.trans ?_ (congrFun (V_main_arg1 m c) (ix3 (tb t) (1 : Fin 6) j))
  blk_ext [iblk, idx t, tb]

theorem rd_shift (c : Dev nD) (t : Fin cfg0.N) (j : Fin 1024) :
    View.ld (iblk m c 1 t) r0_3 (ix3 0 0 j) = m ((c : Thread nD τ).loc main_arg1) (ix3 (tb t) (0 : Fin 6) j) := by
  refine (View.ld_unit_apply_of (iblk m c 1 t) _ _ _ _ (ix3 0 0 j) (fun a => by fin_cases a <;> simp)).trans ?_
  refine Eq.trans ?_ (congrFun (V_main_arg1 m c) (ix3 (tb t) (0 : Fin 6) j))
  blk_ext [iblk, idx t, tb]

theorem rd_g (c : Dev nD) (t : Fin cfg0.N) (j : Fin 1024) :
    View.ld (iblk m c 2 t) r0_1 (ix2 0 j) = m ((c : Thread nD τ).loc main_arg2) (ix2 0 j) := by
  refine (View.ld_unit_apply_of (iblk m c 2 t) _ _ _ _ (ix2 0 j) (fun a => by fin_cases a <;> simp)).trans ?_
  refine Eq.trans ?_ (congrFun (V_main_arg2 m c) (ix2 0 j))
  blk_ext [iblk, idx t]

theorem rd_pos (c : Dev nD) (t : Fin cfg0.N) (i : Fin 256) :
    View.ld (iblk m c 3 t) r0_10 (ix3 0 i 0) = m ((c : Thread nD τ).loc main_arg3) (ix2 (tb t) (tok t i)) := by
  refine (View.ld_unit_apply_of (iblk m c 3 t) _ _ _ _ (ix3 0 i 0) (fun a => by fin_cases a <;> simp)).trans ?_
  refine Eq.trans ?_ ((congrFun (V_pos m c) (ix3 (tb t) (tok t i) 0)).trans (cast_pos _ (tb t) (tok t i)))
  blk_ext [iblk, idx t, tb, tj, tok]

theorem rd_freq (c : Dev nD) (t : Fin cfg0.N) (j : Fin 128) :
    View.ld (iblk m c 4 t) r0_11 (ix2 0 j) = freqV (ix2 0 j) := by
  refine (View.ld_unit_apply_of (iblk m c 4 t) _ _ _ _ (ix2 0 j) (fun a => by fin_cases a <;> simp)).trans ?_
  refine Eq.trans ?_ (congrFun (V_freq m c) (ix2 0 j))
  blk_ext [iblk, idx t]

theorem rd_win (c : Dev nD) (t : Fin cfg0.N) (k : Fin 1024) (j : Fin 768) :
    View.ld (iblk m c 5 t) r0_4 (ix2 k j) = winV (m ((c : Thread nD τ).loc main_arg4)) (ix2 k j) := by
  refine (View.ld_unit_apply_of (iblk m c 5 t) _ _ _ _ (ix2 k j) (fun a => by fin_cases a <;> simp)).trans ?_
  refine Eq.trans ?_ (congrFun (V_win m c) (ix2 k j))
  blk_ext [iblk, idx t]

theorem rd_qa (c : Dev nD) (t : Fin cfg0.N) (j : Fin 384) :
    View.ld (iblk m c 6 t) r0_5 (ix2 0 j) = m ((c : Thread nD τ).loc main_arg5) (ix2 0 j) := by
  refine (View.ld_unit_apply_of (iblk m c 6 t) _ _ _ _ (ix2 0 j) (fun a => by fin_cases a <;> simp)).trans ?_
  refine Eq.trans ?_ (congrFun (V_main_arg5 m c) (ix2 0 j))
  blk_ext [iblk, idx t]

theorem rd_kva (c : Dev nD) (t : Fin cfg0.N) (j : Fin 256) :
    View.ld (iblk m c 7 t) r0_6 (ix2 0 j) = m ((c : Thread nD τ).loc main_arg6) (ix2 0 j) := by
  refine (View.ld_unit_apply_of (iblk m c 7 t) _ _ _ _ (ix2 0 j) (fun a => by fin_cases a <;> simp)).trans ?_
  refine Eq.trans ?_ (congrFun (V_main_arg6 m c) (ix2 0 j))
  blk_ext [iblk, idx t]

theorem rd_wq (c : Dev nD) (t : Fin cfg0.N) (k : Fin 384) (j : Fin 2048) :
    View.ld (iblk m c 8 t) r0_7 (ix2 k j) = wqV (m ((c : Thread nD τ).loc main_arg7)) (ix2 k j) := by
  refine (View.ld_unit_apply_of (iblk m c 8 t) _ _ _ _ (ix2 k j) (fun a => by fin_cases a <;> simp)).trans ?_
  refine Eq.trans ?_ (congrFun (V_wq m c) (ix2 k j))
  blk_ext [iblk, idx t]

theorem rd_wk (c : Dev nD) (t : Fin cfg0.N) (k : Fin 256) (j : Fin 2048) :
    View.ld (iblk m c 9 t) r0_8 (ix2 k j) = wkV (m ((c : Thread nD τ).loc main_arg8)) (ix2 k j) := by
  refine (View.ld_unit_apply_of (iblk m c 9 t) _ _ _ _ (ix2 k j) (fun a => by fin_cases a <;> simp)).trans ?_
  refine Eq.trans ?_ (congrFun (V_wk m c) (ix2 k j))
  blk_ext [iblk, idx t]

theorem rd_wv (c : Dev nD) (t : Fin cfg0.N) (k : Fin 256) (j : Fin 1024) :
    View.ld (iblk m c 10 t) r0_9 (ix2 k j) = wvV (m ((c : Thread nD τ).loc main_arg8)) (ix2 k j) := by
  refine (View.ld_unit_apply_of (iblk m c 10 t) _ _ _ _ (ix2 k j) (fun a => by fin_cases a <;> simp)).trans ?_
  refine Eq.trans ?_ (congrFun (V_wv m c) (ix2 k j))
  blk_ext [iblk, idx t]

theorem rd_qg (c : Dev nD) (t : Fin cfg0.N) (j : Fin 128) :
    View.ld (iblk m c 11 t) r0_11 (ix2 0 j) = gainV (scaledV (m ((c : Thread nD τ).loc main_arg9))) (ix2 0 j) := by
  refine (View.ld_unit_apply_of (iblk m c 11 t) _ _ _ _ (ix2 0 j) (fun a => by fin_cases a <;> simp)).trans ?_
  refine Eq.trans ?_ (congrFun (V_qg m c) (ix2 0 j))
  blk_ext [iblk, idx t]

theorem rd_kg (c : Dev nD) (t : Fin cfg0.N) (j : Fin 128) :
    View.ld (iblk m c 12 t) r0_11 (ix2 0 j) = gainV (m ((c : Thread nD τ).loc main_arg10)) (ix2 0 j) := by
  refine (View.ld_unit_apply_of (iblk m c 12 t) _ _ _ _ (ix2 0 j) (fun a => by fin_cases a <;> simp)).trans ?_
  refine Eq.trans ?_ (congrFun (V_kg m c) (ix2 0 j))
  blk_ext [iblk, idx t]

theorem emb13 (t : Fin cfg0.N) (h : Fin 16) (i : Fin 256) (j : Fin 128) :
    ((View.whole main_v43_0).slice (win0_13.rect t)).emb (ix4 0 h i j) = ix4 (tb t) h (tok t i) j := by
  blk_ext [idx t, tb, tj, tok]

theorem emb14 (t : Fin cfg0.N) (h : Fin 16) (i : Fin 256) (j : Fin 128) :
    ((View.whole main_v43_1).slice (win0_14.rect t)).emb (ix4 0 h i j) = ix4 (tb t) h (tok t i) j := by
  blk_ext [idx t, tb, tj, tok]

theorem emb15 (t : Fin cfg0.N) (h : Fin 8) (i : Fin 256) (j : Fin 128) :
    ((View.whole main_v43_2).slice (win0_15.rect t)).emb (ix4 0 h i j) = ix4 (tb t) h (tok t i) j := by
  blk_ext [idx t, tb, tj, tok]

end Cert.MlaPreIdeal.Own

end

end
-- ==== Proof.MlaRefAt.lean ====
/- The latent-attention input reference, stage by stage, at an index. -/
module

public import proofs.«01_k».proof.Proof.MlaMath
public import proofs.«01_k».proof.Proof.Gen.MlaPreRefIdeal.Read
public import Idealize.ShloMosaic.Lib.Pipeline.ValueKit

@[expose] public section

set_option maxRecDepth 16384

noncomputable section

open Idealize.ShloMosaic Idealize.ShloMosaic.TcCoe

namespace Cert.MlaPreRefIdeal.Own

open Cert.MlaPreRefIdeal Cert.MlaPreRefIdeal.Gen Cert.MlaPreRefIdeal.Read Cert.Own

variable (x0 : FVec Ideal S16x2048x1024 .f32) (x1 : FVec Ideal S16x6x1024 .f32) (x2 : FVec Ideal S1x1024 .f32) (x3 : IVec S16x2048 32)
  (x4 : FVec Ideal S1024x672 .f32) (x5 : FVec Ideal S1x384 .f32) (x6 : FVec Ideal S1x256 .f32) (x7 : FVec Ideal S384x1536 .f32)
  (x8 : FVec Ideal S256x2048 .f32) (x9 x10 : FVec Ideal S96 .f32)

theorem v33_at (b : Fin 16) (r : Fin 2048) (j : Fin 1024) :
    val_main_v33 (F := Ideal) x0 x2 (ix3 b r j) = normed (fun k => x0 (ix3 b r k)) (fun k => x2 (ix2 0 k)) j := by
  unfold normed
  pointwise [val_main_v33, val_main_v32, val_main_v31, val_main_v30, val_main_v29, val_main_v28, val_main_v27, val_main_v26, val_main_v25,
    val_main_v24, val_main_v23, val_main_v22, val_main_v21, val_main_v16, val_main_cst_1, val_main_cst_2, val_main_cst_3]

theorem v41_at (b : Fin 16) (r : Fin 2048) (j : Fin 1024) :
    val_main_v41 (F := Ideal) x0 x1 x2 (ix3 b r j)
      = normed (fun k => x0 (ix3 b r k)) (fun k => x2 (ix2 0 k)) j * (1 + x1 (ix3 b 1 j)) + x1 (ix3 b 0 j) := by
  rw [← v33_at]
  unfold val_main_v41 val_main_v38
  generalize val_main_v33 (F := Ideal) x0 x2 = V
  pointwise [val_main_v40, val_main_v39, val_main_v37, val_main_v36, val_main_v35, val_main_v34, val_main_v20, val_main_v19, val_main_v18,
    val_main_v17, val_main_cst_4]

theorem v42_at (b : Fin 16) (r : Fin 2048) (j : Fin 672) :
    val_main_v42 (F := Ideal) x0 x1 x2 x4 (ix3 b r j)
      = ∑ k, (normed (fun k => x0 (ix3 b r k)) (fun k => x2 (ix2 0 k)) k * (1 + x1 (ix3 b 1 k)) + x1 (ix3 b 0 k)) * x4 (ix2 k j) := by
  refine Eq.trans ?_ (Finset.sum_congr rfl fun k _ => congrArg (· * _) (v41_at x0 x1 x2 b r k))
  unfold val_main_v42
  generalize val_main_v41 (F := Ideal) x0 x1 x2 = V
  pointwise []

theorem v59_at (b : Fin 16) (r : Fin 2048) (j : Fin 384) :
    val_main_v59 (F := Ideal) x0 x1 x2 x4 x5 (ix3 b r j)
      = normW (Ideal.ofBits FTy.f32 0x43C00000#32) (fun k : Fin 384 => val_main_v42 (F := Ideal) x0 x1 x2 x4 (ix3 b r (⟨k.val, by omega⟩ : Fin 672)))
          (fun k => x5 (ix2 0 k)) j := by
  unfold normW val_main_v59 val_main_v56 val_main_v55 val_main_v54 val_main_v53 val_main_v51 val_main_v49 val_main_v48 val_main_v47 val_main_v43
  generalize val_main_v42 (F := Ideal) x0 x1 x2 x4 = V
  pointwise [val_main_v58, val_main_v57, val_main_v46, val_main_v50, val_main_v52, val_main_cst_5, val_main_cst_6, val_main_cst_7]

theorem v75_at (b : Fin 16) (r : Fin 2048) (j : Fin 256) :
    val_main_v75 (F := Ideal) x0 x1 x2 x4 x6 (ix3 b r j)
      = normW (Ideal.ofBits FTy.f32 0x43800000#32) (fun k : Fin 256 => val_main_v42 (F := Ideal) x0 x1 x2 x4 (ix3 b r (⟨384 + k.val, by omega⟩ : Fin 672)))
          (fun k => x6 (ix2 0 k)) j := by
  unfold normW val_main_v75 val_main_v72 val_main_v71 val_main_v70 val_main_v69 val_main_v67 val_main_v65 val_main_v64 val_main_v63 val_main_v44
  generalize val_main_v42 (F := Ideal) x0 x1 x2 x4 = V
  pointwise [val_main_v74, val_main_v73, val_main_v62, val_main_v66, val_main_v68, val_main_cst_8, val_main_cst_9, val_main_cst_10]

theorem v61_at (b : Fin 16) (r : Fin 2048) (h : Fin 16) (l : Fin 96) :
    val_main_v61 (F := Ideal) x0 x1 x2 x4 x5 x7 (ix4 b r h l)
      = ∑ k : Fin 384, val_main_v59 (F := Ideal) x0 x1 x2 x4 x5 (ix3 b r k) * x7 (ix2 k (⟨h.val * 96 + l.val, by omega⟩ : Fin 1536)) := by
  unfold val_main_v61 val_main_v60
  generalize val_main_v59 (F := Ideal) x0 x1 x2 x4 x5 = V
  pointwise []

theorem v77_at (b : Fin 16) (r : Fin 2048) (h : Fin 16) (l : Fin 128) :
    val_main_v77 (F := Ideal) x0 x1 x2 x4 x6 x8 (ix4 b r h l)
      = ∑ k : Fin 256, val_main_v75 (F := Ideal) x0 x1 x2 x4 x6 (ix3 b r k) * x8 (ix2 k (⟨h.val * 128 + l.val, by omega⟩ : Fin 2048)) := by
  unfold val_main_v77 val_main_v76
  generalize val_main_v75 (F := Ideal) x0 x1 x2 x4 x6 = V
  pointwise []

theorem v82_lo (b : Fin 16) (r : Fin 2048) (h : Fin 16) (l : Fin 64) :
    val_main_v82 (F := Ideal) x0 x1 x2 x4 x6 x8 (ix4 b r h (⟨l.val, by omega⟩ : Fin 96))
      = val_main_v77 (F := Ideal) x0 x1 x2 x4 x6 x8 (ix4 b r h (⟨l.val, by omega⟩ : Fin 128)) := by
  unfold val_main_v82 val_main_v78
  generalize val_main_v77 (F := Ideal) x0 x1 x2 x4 x6 x8 = V
  generalize val_main_v81 (F := Ideal) x0 x1 x2 x4 = U
  pointwise []

theorem v82_hi (b : Fin 16) (r : Fin 2048) (h : Fin 16) (l : Fin 32) :
    val_main_v82 (F := Ideal) x0 x1 x2 x4 x6 x8 (ix4 b r h (⟨64 + l.val, by omega⟩ : Fin 96))
      = val_main_v42 (F := Ideal) x0 x1 x2 x4 (ix3 b r (⟨640 + l.val, by omega⟩ : Fin 672)) := by
  unfold val_main_v82 val_main_v81 val_main_v80 val_main_v45
  generalize val_main_v78 (F := Ideal) x0 x1 x2 x4 x6 x8 = V
  generalize val_main_v42 (F := Ideal) x0 x1 x2 x4 = U
  pointwise []

theorem v95_at (b : Fin 16) (r : Fin 2048) (h : Fin 16) (l : Fin 96) :
    val_main_v95 (F := Ideal) x0 x1 x2 x4 x5 x7 x9 (ix4 b r h l)
      = normW (Ideal.ofBits FTy.f32 0x42C00000#32) (fun k => val_main_v61 (F := Ideal) x0 x1 x2 x4 x5 x7 (ix4 b r h k)) (fun k => x9 (ix1 k)) l := by
  unfold normW val_main_v95 val_main_v92 val_main_v91 val_main_v90 val_main_v89 val_main_v87 val_main_v85 val_main_v84 val_main_v83
  generalize val_main_v61 (F := Ideal) x0 x1 x2 x4 x5 x7 = V
  pointwise [val_main_v94, val_main_v93, val_main_v86, val_main_v88, val_main_cst_11, val_main_cst_12, val_main_cst_13]

theorem v108_at (b : Fin 16) (r : Fin 2048) (h : Fin 16) (l : Fin 96) :
    val_main_v108 (F := Ideal) x0 x1 x2 x4 x6 x8 x10 (ix4 b r h l)
      = normW (Ideal.ofBits FTy.f32 0x42C00000#32) (fun k => val_main_v82 (F := Ideal) x0 x1 x2 x4 x6 x8 (ix4 b r h k)) (fun k => x10 (ix1 k)) l := by
  unfold normW val_main_v108 val_main_v105 val_main_v104 val_main_v103 val_main_v102 val_main_v100 val_main_v98 val_main_v97 val_main_v96
  generalize val_main_v82 (F := Ideal) x0 x1 x2 x4 x6 x8 = V
  pointwise [val_main_v107, val_main_v106, val_main_v99, val_main_v101, val_main_cst_14, val_main_cst_15, val_main_cst_16]

/-- The angle of a token's rotation at one of its sixteen frequencies. -/
def angle (b : Fin 16) (r : Fin 2048) (k : Fin 16) : EReal :=
  FloatOps.sitofp (F := Ideal) .f32 (x3 (ix2 b r)) * val_main_v5 (F := Ideal) (ix1 k)

theorem cos_at (b : Fin 16) (r : Fin 2048) (k : Fin 16) : val_main_v13 (F := Ideal) x3 (ix4 b r 0 k) = Ideal.cos (angle x3 b r k) := by
  unfold angle val_main_v13 val_main_v12 val_main_v11 val_main_v10 val_main_v8
  generalize val_main_v5 (F := Ideal) = V
  pointwise [val_main_v9, val_main_v7, val_main_v6]

theorem sin_at (b : Fin 16) (r : Fin 2048) (k : Fin 16) : val_main_v15 (F := Ideal) x3 (ix4 b r 0 k) = Ideal.sin (angle x3 b r k) := by
  unfold angle val_main_v15 val_main_v14 val_main_v11 val_main_v10 val_main_v8
  generalize val_main_v5 (F := Ideal) = V
  pointwise [val_main_v9, val_main_v7, val_main_v6]

theorem v124_lo (b : Fin 16) (r : Fin 2048) (h : Fin 16) (l : Fin 64) :
    val_main_v124 (F := Ideal) x0 x1 x2 x3 x4 x5 x7 x9 (ix4 b r h (⟨l.val, by omega⟩ : Fin 96))
      = val_main_v95 (F := Ideal) x0 x1 x2 x4 x5 x7 x9 (ix4 b r h (⟨l.val, by omega⟩ : Fin 96)) := by
  unfold val_main_v124 val_main_v109
  generalize val_main_v123 (F := Ideal) x0 x1 x2 x3 x4 x5 x7 x9 = U
  generalize val_main_v95 (F := Ideal) x0 x1 x2 x4 x5 x7 x9 = V
  pointwise []

theorem v123_mid (b : Fin 16) (r : Fin 2048) (h : Fin 16) (k : Fin 16) :
    val_main_v123 (F := Ideal) x0 x1 x2 x3 x4 x5 x7 x9 (ix4 b r h (⟨k.val, by omega⟩ : Fin 32))
      = val_main_v95 (F := Ideal) x0 x1 x2 x4 x5 x7 x9 (ix4 b r h (⟨64 + k.val, by omega⟩ : Fin 96)) * Ideal.cos (angle x3 b r k)
        - val_main_v95 (F := Ideal) x0 x1 x2 x4 x5 x7 x9 (ix4 b r h (⟨64 + (16 + k.val), by omega⟩ : Fin 96)) * Ideal.sin (angle x3 b r k) := by
  rw [← cos_at, ← sin_at]
  unfold val_main_v123 val_main_v117 val_main_v116 val_main_v114 val_main_v112 val_main_v111 val_main_v110 val_main_v113 val_main_v115
  generalize val_main_v122 (F := Ideal) x0 x1 x2 x3 x4 x5 x7 x9 = U
  generalize val_main_v13 (F := Ideal) x3 = P
  generalize val_main_v15 (F := Ideal) x3 = Q
  generalize val_main_v95 (F := Ideal) x0 x1 x2 x4 x5 x7 x9 = V
  pointwise []

theorem v123_hi (b : Fin 16) (r : Fin 2048) (h : Fin 16) (k : Fin 16) :
    val_main_v123 (F := Ideal) x0 x1 x2 x3 x4 x5 x7 x9 (ix4 b r h (⟨16 + k.val, by omega⟩ : Fin 32))
      = val_main_v95 (F := Ideal) x0 x1 x2 x4 x5 x7 x9 (ix4 b r h (⟨64 + k.val, by omega⟩ : Fin 96)) * Ideal.sin (angle x3 b r k)
        + val_main_v95 (F := Ideal) x0 x1 x2 x4 x5 x7 x9 (ix4 b r h (⟨64 + (16 + k.val), by omega⟩ : Fin 96)) * Ideal.cos (angle x3 b r k) := by
  rw [← cos_at, ← sin_at]
  unfold val_main_v123 val_main_v122 val_main_v121 val_main_v119 val_main_v112 val_main_v111 val_main_v110 val_main_v120 val_main_v118
  generalize val_main_v117 (F := Ideal) x0 x1 x2 x3 x4 x5 x7 x9 = U
  generalize val_main_v13 (F := Ideal) x3 = P
  generalize val_main_v15 (F := Ideal) x3 = Q
  generalize val_main_v95 (F := Ideal) x0 x1 x2 x4 x5 x7 x9 = V
  pointwise []

theorem v124_rot (b : Fin 16) (r : Fin 2048) (h : Fin 16) (l : Fin 32) :
    val_main_v124 (F := Ideal) x0 x1 x2 x3 x4 x5 x7 x9 (ix4 b r h (⟨64 + l.val, by omega⟩ : Fin 96)) = val_main_v123 (F := Ideal) x0 x1 x2 x3 x4 x5 x7 x9 (ix4 b r h l) := by
  unfold val_main_v124
  generalize val_main_v123 (F := Ideal) x0 x1 x2 x3 x4 x5 x7 x9 = U
  generalize val_main_v109 (F := Ideal) x0 x1 x2 x4 x5 x7 x9 = V
  pointwise []

theorem v124_mid (b : Fin 16) (r : Fin 2048) (h : Fin 16) (k : Fin 16) :
    val_main_v124 (F := Ideal) x0 x1 x2 x3 x4 x5 x7 x9 (ix4 b r h (⟨64 + k.val, by omega⟩ : Fin 96))
      = val_main_v95 (F := Ideal) x0 x1 x2 x4 x5 x7 x9 (ix4 b r h (⟨64 + k.val, by omega⟩ : Fin 96)) * Ideal.cos (angle x3 b r k)
        - val_main_v95 (F := Ideal) x0 x1 x2 x4 x5 x7 x9 (ix4 b r h (⟨64 + (16 + k.val), by omega⟩ : Fin 96)) * Ideal.sin (angle x3 b r k) :=
  (v124_rot _ _ _ _ _ _ _ _ b r h (⟨k.val, by omega⟩ : Fin 32)).trans (v123_mid _ _ _ _ _ _ _ _ b r h k)

theorem v124_hi (b : Fin 16) (r : Fin 2048) (h : Fin 16) (k : Fin 16) :
    val_main_v124 (F := Ideal) x0 x1 x2 x3 x4 x5 x7 x9 (ix4 b r h (⟨64 + (16 + k.val), by omega⟩ : Fin 96))
      = val_main_v95 (F := Ideal) x0 x1 x2 x4 x5 x7 x9 (ix4 b r h (⟨64 + k.val, by omega⟩ : Fin 96)) * Ideal.sin (angle x3 b r k)
        + val_main_v95 (F := Ideal) x0 x1 x2 x4 x5 x7 x9 (ix4 b r h (⟨64 + (16 + k.val), by omega⟩ : Fin 96)) * Ideal.cos (angle x3 b r k) := by
  exact (v124_rot _ _ _ _ _ _ _ _ b r h (⟨16 + k.val, by omega⟩ : Fin 32)).trans (v123_hi _ _ _ _ _ _ _ _ b r h k)

theorem v142_lo (b : Fin 16) (r : Fin 2048) (h : Fin 16) (l : Fin 64) :
    val_main_v142 (F := Ideal) x0 x1 x2 x3 x4 x6 x8 x10 (ix4 b r h (⟨l.val, by omega⟩ : Fin 96))
      = val_main_v108 (F := Ideal) x0 x1 x2 x4 x6 x8 x10 (ix4 b r h (⟨l.val, by omega⟩ : Fin 96)) := by
  unfold val_main_v142 val_main_v127
  generalize val_main_v141 (F := Ideal) x0 x1 x2 x3 x4 x6 x8 x10 = U
  generalize val_main_v108 (F := Ideal) x0 x1 x2 x4 x6 x8 x10 = V
  pointwise []

theorem v141_mid (b : Fin 16) (r : Fin 2048) (h : Fin 16) (k : Fin 16) :
    val_main_v141 (F := Ideal) x0 x1 x2 x3 x4 x6 x8 x10 (ix4 b r h (⟨k.val, by omega⟩ : Fin 32))
      = val_main_v108 (F := Ideal) x0 x1 x2 x4 x6 x8 x10 (ix4 b r h (⟨64 + k.val, by omega⟩ : Fin 96)) * Ideal.cos (angle x3 b r k)
        - val_main_v108 (F := Ideal) x0 x1 x2 x4 x6 x8 x10 (ix4 b r h (⟨64 + (16 + k.val), by omega⟩ : Fin 96)) * Ideal.sin (angle x3 b r k) := by
  rw [← cos_at, ← sin_at]
  unfold val_main_v141 val_main_v135 val_main_v134 val_main_v132 val_main_v130 val_main_v129 val_main_v128 val_main_v131 val_main_v133
  generalize val_main_v140 (F := Ideal) x0 x1 x2 x3 x4 x6 x8 x10 = U
  generalize val_main_v13 (F := Ideal) x3 = P
  generalize val_main_v15 (F := Ideal) x3 = Q
  generalize val_main_v108 (F := Ideal) x0 x1 x2 x4 x6 x8 x10 = V
  pointwise []

theorem v141_hi (b : Fin 16) (r : Fin 2048) (h : Fin 16) (k : Fin 16) :
    val_main_v141 (F := Ideal) x0 x1 x2 x3 x4 x6 x8 x10 (ix4 b r h (⟨16 + k.val, by omega⟩ : Fin 32))
      = val_main_v108 (F := Ideal) x0 x1 x2 x4 x6 x8 x10 (ix4 b r h (⟨64 + k.val, by omega⟩ : Fin 96)) * Ideal.sin (angle x3 b r k)
        + val_main_v108 (F := Ideal) x0 x1 x2 x4 x6 x8 x10 (ix4 b r h (⟨64 + (16 + k.val), by omega⟩ : Fin 96)) * Ideal.cos (angle x3 b r k) := by
  rw [← cos_at, ← sin_at]
  unfold val_main_v141 val_main_v140 val_main_v139 val_main_v137 val_main_v130 val_main_v129 val_main_v128 val_main_v138 val_main_v136
  generalize val_main_v135 (F := Ideal) x0 x1 x2 x3 x4 x6 x8 x10 = U
  generalize val_main_v13 (F := Ideal) x3 = P
  generalize val_main_v15 (F := Ideal) x3 = Q
  generalize val_main_v108 (F := Ideal) x0 x1 x2 x4 x6 x8 x10 = V
  pointwise []

theorem v142_rot (b : Fin 16) (r : Fin 2048) (h : Fin 16) (l : Fin 32) :
    val_main_v142 (F := Ideal) x0 x1 x2 x3 x4 x6 x8 x10 (ix4 b r h (⟨64 + l.val, by omega⟩ : Fin 96)) = val_main_v141 (F := Ideal) x0 x1 x2 x3 x4 x6 x8 x10 (ix4 b r h l) := by
  unfold val_main_v142
  generalize val_main_v141 (F := Ideal) x0 x1 x2 x3 x4 x6 x8 x10 = U
  generalize val_main_v127 (F := Ideal) x0 x1 x2 x4 x6 x8 x10 = V
  pointwise []

theorem v142_mid (b : Fin 16) (r : Fin 2048) (h : Fin 16) (k : Fin 16) :
    val_main_v142 (F := Ideal) x0 x1 x2 x3 x4 x6 x8 x10 (ix4 b r h (⟨64 + k.val, by omega⟩ : Fin 96))
      = val_main_v108 (F := Ideal) x0 x1 x2 x4 x6 x8 x10 (ix4 b r h (⟨64 + k.val, by omega⟩ : Fin 96)) * Ideal.cos (angle x3 b r k)
        - val_main_v108 (F := Ideal) x0 x1 x2 x4 x6 x8 x10 (ix4 b r h (⟨64 + (16 + k.val), by omega⟩ : Fin 96)) * Ideal.sin (angle x3 b r k) :=
  (v142_rot _ _ _ _ _ _ _ _ b r h (⟨k.val, by omega⟩ : Fin 32)).trans (v141_mid _ _ _ _ _ _ _ _ b r h k)

theorem v142_hi (b : Fin 16) (r : Fin 2048) (h : Fin 16) (k : Fin 16) :
    val_main_v142 (F := Ideal) x0 x1 x2 x3 x4 x6 x8 x10 (ix4 b r h (⟨64 + (16 + k.val), by omega⟩ : Fin 96))
      = val_main_v108 (F := Ideal) x0 x1 x2 x4 x6 x8 x10 (ix4 b r h (⟨64 + k.val, by omega⟩ : Fin 96)) * Ideal.sin (angle x3 b r k)
        + val_main_v108 (F := Ideal) x0 x1 x2 x4 x6 x8 x10 (ix4 b r h (⟨64 + (16 + k.val), by omega⟩ : Fin 96)) * Ideal.cos (angle x3 b r k) := by
  exact (v142_rot _ _ _ _ _ _ _ _ b r h (⟨16 + k.val, by omega⟩ : Fin 32)).trans (v141_hi _ _ _ _ _ _ _ _ b r h k)

theorem pad_zero : FloatOps.sitofp (F := Ideal) .f32 (0#32) = 0 := by
  simp [FloatOps.sitofp]

theorem v147_lo (b : Fin 16) (h : Fin 16) (r : Fin 2048) (l : Fin 96) :
    val_main_v147 (F := Ideal) x0 x1 x2 x3 x4 x5 x7 x9 (ix4 b h r (⟨l.val, by omega⟩ : Fin 128))
      = val_main_v124 (F := Ideal) x0 x1 x2 x3 x4 x5 x7 x9 (ix4 b r h l) * Ideal.ofBits FTy.f32 0x3DD105EC#32 := by
  unfold val_main_v147 val_main_v146 val_main_v145 val_main_v126
  generalize val_main_v124 (F := Ideal) x0 x1 x2 x3 x4 x5 x7 x9 = V
  pointwise [val_main_v125, val_main_cst_17]

theorem v147_hi (b : Fin 16) (h : Fin 16) (r : Fin 2048) (l : Fin 32) :
    val_main_v147 (F := Ideal) x0 x1 x2 x3 x4 x5 x7 x9 (ix4 b h r (⟨96 + l.val, by omega⟩ : Fin 128)) = 0 := by
  unfold val_main_v147 val_main_v146 val_main_v145
  generalize val_main_v126 (F := Ideal) x0 x1 x2 x3 x4 x5 x7 x9 = V
  pointwise [val_main_call0_v0, val_main_c]
  exact pad_zero

theorem v150_lo (b : Fin 16) (h : Fin 16) (r : Fin 2048) (l : Fin 96) :
    val_main_v150 (F := Ideal) x0 x1 x2 x3 x4 x6 x8 x10 (ix4 b h r (⟨l.val, by omega⟩ : Fin 128))
      = val_main_v142 (F := Ideal) x0 x1 x2 x3 x4 x6 x8 x10 (ix4 b r h l) := by
  unfold val_main_v150 val_main_v149 val_main_v148
  generalize val_main_v142 (F := Ideal) x0 x1 x2 x3 x4 x6 x8 x10 = V
  pointwise []

theorem v150_hi (b : Fin 16) (h : Fin 16) (r : Fin 2048) (l : Fin 32) :
    val_main_v150 (F := Ideal) x0 x1 x2 x3 x4 x6 x8 x10 (ix4 b h r (⟨96 + l.val, by omega⟩ : Fin 128)) = 0 := by
  unfold val_main_v150 val_main_v149 val_main_v148
  generalize val_main_v142 (F := Ideal) x0 x1 x2 x3 x4 x6 x8 x10 = V
  pointwise [val_main_call1_v0, val_main_c_18]
  exact pad_zero

theorem v151_at (b : Fin 16) (h : Fin 8) (r : Fin 2048) (j : Fin 128) :
    val_main_v151 (F := Ideal) x0 x1 x2 x4 x6 x8 (ix4 b h r j)
      = val_main_v77 (F := Ideal) x0 x1 x2 x4 x6 x8 (ix4 b r (⟨h.val * 2 + j.val / 64, by omega⟩ : Fin 16) (⟨64 + j.val % 64, by omega⟩ : Fin 128)) := by
  unfold val_main_v151 val_main_v144 val_main_v143 val_main_v79
  generalize val_main_v77 (F := Ideal) x0 x1 x2 x4 x6 x8 = V
  pointwise []

end Cert.MlaPreRefIdeal.Own

end

end
-- ==== Proof.MlaFinal.lean ====
/- The latent-attention input kernel's three result arrays are the reference's. -/
module

public import proofs.«01_k».proof.Proof.MlaHead
public import proofs.«01_k».proof.Proof.MlaTurn
public import proofs.«01_k».proof.Proof.MlaBlocks
public import proofs.«01_k».proof.Proof.MlaRefAt
public import proofs.«01_k».proof.Proof.Gen.MlaPreIdeal.Value

@[expose] public section

set_option maxRecDepth 16384

noncomputable section

open Idealize.ShloMosaic Idealize.ShloMosaic.TcCoe Idealize.SL.Sem
open Idealize.ShloMosaic.Pipeline (Dat)

namespace Cert.MlaPreIdeal.Own

open Cert.MlaPreIdeal Cert.MlaPreIdeal.Gen Cert.Own

variable (m : (ℓ : Loc nD τ sig) → Buf (Elt Ideal) ℓ)

/-- The reference's latents, of the kernel's arguments. -/
abbrev refL (c : Dev nD) := Cert.MlaPreRefIdeal.Read.val_main_v42 (F := Ideal) (m ((c : Thread nD τ).loc main_arg0)) (m ((c : Thread nD τ).loc main_arg1)) (m ((c : Thread nD τ).loc main_arg2)) (m ((c : Thread nD τ).loc main_arg4))

/-- The reference's queries before their norms, of the kernel's arguments. -/
abbrev refQ (c : Dev nD) := Cert.MlaPreRefIdeal.Read.val_main_v61 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg7))

/-- The reference's keys and values before their norms, of the kernel's arguments. -/
abbrev refKV (c : Dev nD) := Cert.MlaPreRefIdeal.Read.val_main_v77 (F := Ideal) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg8))

/-- The reference's keys before their norms, of the kernel's arguments. -/
abbrev refK (c : Dev nD) := Cert.MlaPreRefIdeal.Read.val_main_v82 (F := Ideal) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg8))

/-- The reference's queries, of the kernel's arguments. -/
abbrev out1 (c : Dev nD) := Cert.MlaPreRefIdeal.Read.val_main_v147 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg9))

/-- The reference's keys, of the kernel's arguments. -/
abbrev out2 (c : Dev nD) := Cert.MlaPreRefIdeal.Read.val_main_v150 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg8)) (m ((c : Thread nD τ).loc main_arg10))

/-- The reference's values, of the kernel's arguments. -/
abbrev out3 (c : Dev nD) := Cert.MlaPreRefIdeal.Read.val_main_v151 (F := Ideal) (m ((c : Thread nD τ).loc main_arg0)) (m ((c : Thread nD τ).loc main_arg1)) (m ((c : Thread nD τ).loc main_arg2)) (m ((c : Thread nD τ).loc main_arg4)) (m ((c : Thread nD τ).loc main_arg6)) (m ((c : Thread nD τ).loc main_arg8))

/-- The gain of the queries' norm. -/
abbrev gainQ (c : Dev nD) : FVec Ideal S96 .f32 := (m ((c : Thread nD τ).loc main_arg9))

theorem freqs_ref : freqs = Cert.MlaPreRefIdeal.Read.val_main_v5 (F := Ideal) := rfl

/-- The angle of a row of the point's block at a frequency. -/
abbrev ang (c : Dev nD) (t : Fin cfg0.N) (i : Fin 256) (k : Fin 16) : EReal := Cert.MlaPreRefIdeal.Own.angle (m ((c : Thread nD τ).loc main_arg3)) (tb t) (tok t i) k

/-! ## The projections of the block -/

theorem lat_at (c : Dev nD) (t : Fin cfg0.N) (i : Fin 256) (j : Fin 640) :
    k0_pay3 (View.ld (iblk m c 0 t) r0_0) (View.ld (iblk m c 2 t) r0_1) (View.ld (iblk m c 1 t) r0_2) (View.ld (iblk m c 1 t) r0_3) (View.ld (iblk m c 5 t) r0_4) (ix2 i (⟨j.val, by omega⟩ : Fin 768))
      = refL m c (ix3 (tb t) (tok t i) (⟨j.val, by omega⟩ : Fin 672)) := by
  refine (pay3_at _ _ _ _ _ i _).trans ?_
  refine Eq.trans ?_ (Cert.MlaPreRefIdeal.Own.v42_at _ _ _ _ _ _ _).symm
  refine Finset.sum_congr rfl fun k _ => ?_
  rw [rd_scale, rd_shift, rd_win, win_lat]
  refine congrArg (fun z => (z * _ + _) * _) ?_
  exact congrArg₂ (fun f g => normed f g k) (funext fun x => rd_x m c t i x) (funext fun x => rd_g m c t x)

theorem rot_on (c : Dev nD) (t : Fin cfg0.N) (i : Fin 256) (l : Fin 32) :
    k0_pay95 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i (⟨64 + l.val, by omega⟩ : Fin 128))
      = refL m c (ix3 (tb t) (tok t i) (⟨640 + l.val, by omega⟩ : Fin 672)) := by
  unfold k0_pay95 k0_pay94
  refine (pay7_at _ i _).trans ((pay3_at _ _ _ _ _ i _).trans ?_)
  refine Eq.trans ?_ (Cert.MlaPreRefIdeal.Own.v42_at _ _ _ _ _ _ _).symm
  refine Finset.sum_congr rfl fun k _ => ?_
  rw [rd_scale, rd_shift, rd_win]
  refine congrArg₂ (fun y z => (y * _ + _) * z) ?_ ?_
  · exact congrArg₂ (fun f g => normed f g k) (funext fun x => rd_x m c t i x) (funext fun x => rd_g m c t x)
  · exact (win_pe _ k (⟨64 + l.val, by omega⟩ : Fin 128)).trans (pe_hit _ k l)

theorem rot_off (c : Dev nD) (t : Fin cfg0.N) (i : Fin 256) (j : Fin 128) (h : j.val < 64 ∨ 96 ≤ j.val) : k0_pay95 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i j) = 0 := by
  unfold k0_pay95 k0_pay94
  refine (pay7_at _ i _).trans ((pay3_at _ _ _ _ _ i _).trans ?_)
  refine Finset.sum_eq_zero fun k _ => ?_
  rw [rd_win, win_pe, pe_miss _ _ _ h, mul_zero]

theorem q_on (c : Dev nD) (t : Fin cfg0.N) (i : Fin 256) (h : Fin 16) (l : Fin 96) :
    k0_pay96 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i (⟨h.val * 128 + l.val, by omega⟩ : Fin 2048)) = refQ m c (ix4 (tb t) (tok t i) h l) := by
  unfold k0_pay96
  refine (pay8_at _ _ _ _ _ _ _ i _).trans ?_
  refine Eq.trans ?_ (Cert.MlaPreRefIdeal.Own.v61_at _ _ _ _ _ _ _ _ _ _).symm
  refine Finset.sum_congr rfl fun k _ => ?_
  rw [rd_wq, wq_lo]
  refine congrArg (· * _) ?_
  refine Eq.trans ?_ (Cert.MlaPreRefIdeal.Own.v59_at _ _ _ _ _ _ _ _).symm
  exact congrArg₂ (fun f g => normW _ f g k) (funext fun x => lat_at m c t i (⟨x.val, by omega⟩ : Fin 640)) (funext fun x => rd_qa m c t x)

theorem q_off (c : Dev nD) (t : Fin cfg0.N) (i : Fin 256) (h : Fin 16) (l : Fin 32) :
    k0_pay96 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i (⟨h.val * 128 + (96 + l.val), by omega⟩ : Fin 2048)) = 0 := by
  unfold k0_pay96
  refine (pay8_at _ _ _ _ _ _ _ i _).trans ?_
  refine Finset.sum_eq_zero fun k _ => ?_
  rw [rd_wq, wq_hi, mul_zero]

/-- The normed latent the keys and values are projected from. -/
theorem kv_lat (c : Dev nD) (t : Fin cfg0.N) (i : Fin 256) (k : Fin 256) :
    normW (Ideal.ofBits FTy.f32 0x43800000#32) (fun k : Fin 256 => k0_pay94 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i (⟨384 + k.val, by omega⟩ : Fin 768)))
        (fun k => View.ld (iblk m c 7 t) r0_6 (ix2 0 k)) k
      = Cert.MlaPreRefIdeal.Read.val_main_v75 (F := Ideal) (m ((c : Thread nD τ).loc main_arg0)) (m ((c : Thread nD τ).loc main_arg1)) (m ((c : Thread nD τ).loc main_arg2)) (m ((c : Thread nD τ).loc main_arg4)) (m ((c : Thread nD τ).loc main_arg6)) (ix3 (tb t) (tok t i) k) := by
  refine Eq.trans ?_ (Cert.MlaPreRefIdeal.Own.v75_at _ _ _ _ _ _ _ _).symm
  exact congrArg₂ (fun f g => normW _ f g k) (funext fun x => lat_at m c t i (⟨384 + x.val, by omega⟩ : Fin 640)) (funext fun x => rd_kva m c t x)

theorem k_on (c : Dev nD) (t : Fin cfg0.N) (i : Fin 256) (h : Fin 16) (l : Fin 64) :
    k0_pay97 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i (⟨h.val * 128 + l.val, by omega⟩ : Fin 2048)) = refKV m c (ix4 (tb t) (tok t i) h (⟨l.val, by omega⟩ : Fin 128)) := by
  unfold k0_pay97
  refine (pay9_at _ _ _ i _).trans ?_
  refine Eq.trans ?_ (Cert.MlaPreRefIdeal.Own.v77_at _ _ _ _ _ _ _ _ _ _).symm
  refine Finset.sum_congr rfl fun k _ => ?_
  rw [rd_wk, wk_lo]
  exact congrArg (· * _) (kv_lat m c t i k)

theorem k_off (c : Dev nD) (t : Fin cfg0.N) (i : Fin 256) (h : Fin 16) (l : Fin 64) :
    k0_pay97 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i (⟨h.val * 128 + (64 + l.val), by omega⟩ : Fin 2048)) = 0 := by
  unfold k0_pay97
  refine (pay9_at _ _ _ i _).trans ?_
  refine Finset.sum_eq_zero fun k _ => ?_
  rw [rd_wk, wk_hi, mul_zero]

theorem v_at (c : Dev nD) (t : Fin cfg0.N) (i : Fin 256) (h : Fin 8) (j : Fin 128) :
    k0_pay98 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i (⟨h.val * 128 + j.val, by omega⟩ : Fin 1024)) = out3 m c (ix4 (tb t) h (tok t i) j) := by
  unfold k0_pay98
  refine (pay10_at _ _ _ i _).trans ?_
  refine Eq.trans ?_ ((Cert.MlaPreRefIdeal.Own.v151_at _ _ _ _ _ _ _ _ _ _).trans (Cert.MlaPreRefIdeal.Own.v77_at _ _ _ _ _ _ _ _ _ _)).symm
  refine Finset.sum_congr rfl fun k _ => ?_
  rw [rd_wv, wv_at]
  refine congrArg₂ (· * ·) (kv_lat m c t i k) (congrArg (fun z => (m ((c : Thread nD τ).loc main_arg8)) (ix2 k z)) (Fin.ext ?_))
  dsimp only
  omega

/-! ## The rotation's tables -/

theorem cos_zero : Ideal.cos (0 : EReal) = 1 :=
  (show Ideal.cos ((0 : ℝ) : EReal) = ((Real.cos 0 : ℝ) : EReal) from rfl).trans (by simp)

theorem ang_mid (c : Dev nD) (t : Fin cfg0.N) (i : Fin 256) (k : Fin 16) :
    k0_pay99 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i (⟨64 + k.val, by omega⟩ : Fin 128)) * k0_pay100 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i (⟨64 + k.val, by omega⟩ : Fin 128)) = ang m c t i k := by
  unfold k0_pay99 k0_pay100
  rw [pay11_at, pay12_at, rd_pos, rd_freq, freq_lo, freqs_ref]
  rfl

theorem ang_high (c : Dev nD) (t : Fin cfg0.N) (i : Fin 256) (k : Fin 16) :
    k0_pay99 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i (⟨64 + (16 + k.val), by omega⟩ : Fin 128)) * k0_pay100 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i (⟨64 + (16 + k.val), by omega⟩ : Fin 128)) = ang m c t i k := by
  unfold k0_pay99 k0_pay100
  rw [pay11_at, pay12_at, rd_pos, rd_freq]
  refine congrArg (_ * ·) ?_
  refine Eq.trans ?_ ((freq_hi k).trans (congrFun freqs_ref _))
  exact congrArg (fun z => freqV (ix2 (0 : Fin 1) z)) (Fin.ext (by dsimp only; omega))

theorem cos_low (c : Dev nD) (t : Fin cfg0.N) (i : Fin 256) (l : Fin 64) :
    k0_pay101 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i (⟨l.val, by omega⟩ : Fin 128)) = 1 := by
  unfold k0_pay101
  refine (pay14_at _ _ i _).trans ?_
  unfold k0_pay100
  rw [pay12_at, rd_freq, freq_no _ (by dsimp only; omega), mul_zero]
  exact cos_zero

theorem cos_mid (c : Dev nD) (t : Fin cfg0.N) (i : Fin 256) (k : Fin 16) :
    k0_pay101 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i (⟨64 + k.val, by omega⟩ : Fin 128)) = Ideal.cos (ang m c t i k) := by
  unfold k0_pay101
  exact (pay14_at _ _ i _).trans (congrArg Ideal.cos (ang_mid m c t i k))

theorem cos_high (c : Dev nD) (t : Fin cfg0.N) (i : Fin 256) (k : Fin 16) :
    k0_pay101 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i (⟨64 + (16 + k.val), by omega⟩ : Fin 128)) = Ideal.cos (ang m c t i k) := by
  unfold k0_pay101
  exact (pay14_at _ _ i _).trans (congrArg Ideal.cos (ang_high m c t i k))

theorem sin_mid (c : Dev nD) (t : Fin cfg0.N) (i : Fin 256) (k : Fin 16) :
    k0_pay102 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i (⟨64 + k.val, by omega⟩ : Fin 128)) = 0 - Ideal.sin (ang m c t i k) := by
  unfold k0_pay102
  refine (pay16_at _ _ i _).trans ?_
  rw [if_pos (by dsimp only; omega), ang_mid]

theorem sin_mid_off (c : Dev nD) (t : Fin cfg0.N) (i : Fin 256) (j : Fin 128) (h : ¬ (64 ≤ j.val ∧ j.val < 80)) :
    k0_pay102 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i j) = 0 := by
  unfold k0_pay102
  exact (pay16_at _ _ i _).trans (if_neg h)

theorem sin_high (c : Dev nD) (t : Fin cfg0.N) (i : Fin 256) (k : Fin 16) :
    k0_pay103 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i (⟨64 + (16 + k.val), by omega⟩ : Fin 128)) = Ideal.sin (ang m c t i k) := by
  unfold k0_pay103
  refine (pay17_at _ _ i _).trans ?_
  rw [if_pos (by dsimp only; omega), ang_high]

theorem sin_high_off (c : Dev nD) (t : Fin cfg0.N) (i : Fin 256) (j : Fin 128) (h : ¬ (80 ≤ j.val ∧ j.val < 96)) :
    k0_pay103 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i j) = 0 := by
  unfold k0_pay103
  exact (pay17_at _ _ i _).trans (if_neg h)

/-! ## A head's row, lane by lane -/

theorem lanes_q (c : Dev nD) (t : Fin cfg0.N) (i : Fin 256) (h : Fin 16) :
    Lanes (k0_pay101 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay102 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay103 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay104 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (colsV (k0_pay96 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) h) i
      (fun k => Ideal.cos (ang m c t i k)) (fun k => Ideal.sin (ang m c t i k)) (fun l => refQ m c (ix4 (tb t) (tok t i) h l))
      (fun l => gainQ m c (ix1 l) * Ideal.ofBits FTy.f32 0x3DD105EC#32) where
  cLow := cos_low m c t i
  cMid := cos_mid m c t i
  cHigh := cos_high m c t i
  aOn := sin_mid m c t i
  aOff := sin_mid_off m c t i
  bOn := sin_high m c t i
  bOff := sin_high_off m c t i
  xOn := q_on m c t i h
  xOff := q_off m c t i h
  gOn l := by
    unfold k0_pay104
    exact (pay18_at _ _).trans ((rd_qg m c t _).trans ((gain_lo _ l).trans (scaled_at _ l)))
  gOff l := by
    unfold k0_pay104
    exact (pay18_at _ _).trans ((rd_qg m c t _).trans (gain_hi _ l))

theorem sum_on (c : Dev nD) (t : Fin cfg0.N) (i : Fin 256) (h : Fin 16) (l : Fin 96) :
    addf (colsV (k0_pay97 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) h) (k0_pay95 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2 i (⟨l.val, by omega⟩ : Fin 128)) = refK m c (ix4 (tb t) (tok t i) h l) := by
  by_cases hl : l.val < 64
  · refine (congrArg₂ (· + ·) (k_on m c t i h ⟨l.val, hl⟩) (rot_off m c t i _ (Or.inl hl))).trans ((add_zero _).trans ?_)
    exact (Cert.MlaPreRefIdeal.Own.v82_lo _ _ _ _ _ _ _ _ _ ⟨l.val, hl⟩).symm
  · obtain ⟨z, rfl⟩ : ∃ z : Fin 32, l = ⟨64 + z.val, Nat.add_lt_add_left z.isLt 64⟩ := ⟨⟨l.val - 64, by omega⟩, Fin.ext (by dsimp only; omega)⟩
    refine (congrArg₂ (· + ·) (k_off m c t i h ⟨z.val, by omega⟩) (rot_on m c t i z)).trans ((zero_add _).trans ?_)
    exact (Cert.MlaPreRefIdeal.Own.v82_hi _ _ _ _ _ _ _ _ _ z).symm

theorem sum_off (c : Dev nD) (t : Fin cfg0.N) (i : Fin 256) (h : Fin 16) (l : Fin 32) :
    addf (colsV (k0_pay97 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) h) (k0_pay95 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2 i (⟨96 + l.val, by omega⟩ : Fin 128)) = 0 := by
  refine (congrArg₂ (· + ·) (Eq.trans ?_ (k_off m c t i h ⟨32 + l.val, by omega⟩)) (rot_off m c t i _ (Or.inr (Nat.le_add_right _ _)))).trans (add_zero _)
  exact congrArg (fun z => k0_pay97 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i z)) (Fin.ext (by show h.val * 128 + (96 + l.val) = h.val * 128 + (64 + (32 + l.val)); omega))

theorem lanes_k (c : Dev nD) (t : Fin cfg0.N) (i : Fin 256) (h : Fin 16) :
    Lanes (k0_pay101 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay102 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay103 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay105 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (addf (colsV (k0_pay97 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) h) (k0_pay95 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t))) i
      (fun k => Ideal.cos (ang m c t i k)) (fun k => Ideal.sin (ang m c t i k)) (fun l => refK m c (ix4 (tb t) (tok t i) h l))
      (fun l => (m ((c : Thread nD τ).loc main_arg10)) (ix1 l)) where
  cLow := cos_low m c t i
  cMid := cos_mid m c t i
  cHigh := cos_high m c t i
  aOn := sin_mid m c t i
  aOff := sin_mid_off m c t i
  bOn := sin_high m c t i
  bOff := sin_high_off m c t i
  xOn := sum_on m c t i h
  xOff := sum_off m c t i h
  gOn l := by
    unfold k0_pay105
    exact (pay19_at _ _).trans ((rd_kg m c t _).trans (gain_lo _ l))
  gOff l := by
    unfold k0_pay105
    exact (pay19_at _ _).trans ((rd_kg m c t _).trans (gain_hi _ l))

theorem lane_cases {P : Fin 128 → Prop} (h0 : ∀ l : Fin 64, P ⟨l.val, by omega⟩) (h1 : ∀ k : Fin 16, P ⟨64 + k.val, by omega⟩)
    (h2 : ∀ k : Fin 16, P ⟨64 + (16 + k.val), by omega⟩) (h3 : ∀ l : Fin 32, P ⟨96 + l.val, by omega⟩) (j : Fin 128) : P j := by
  by_cases a : j.val < 64
  · exact h0 ⟨j.val, a⟩
  by_cases b : j.val < 80
  · obtain ⟨k, rfl⟩ : ∃ k : Fin 16, j = ⟨64 + k.val, Nat.lt_of_lt_of_le (Nat.add_lt_add_left k.isLt 64) (by decide)⟩ := ⟨⟨j.val - 64, by omega⟩, Fin.ext (by dsimp only; omega)⟩
    exact h1 k
  by_cases d : j.val < 96
  · obtain ⟨k, rfl⟩ : ∃ k : Fin 16, j = ⟨64 + (16 + k.val), Nat.lt_of_lt_of_le (Nat.add_lt_add_left (Nat.add_lt_add_left k.isLt 16) 64) (by decide)⟩ := ⟨⟨j.val - 80, by omega⟩, Fin.ext (by dsimp only; omega)⟩
    exact h2 k
  · obtain ⟨l, rfl⟩ : ∃ l : Fin 32, j = ⟨96 + l.val, Nat.add_lt_add_left l.isLt 96⟩ := ⟨⟨j.val - 96, by omega⟩, Fin.ext (by dsimp only; omega)⟩
    exact h3 l

theorem head_q (c : Dev nD) (t : Fin cfg0.N) (i : Fin 256) (h : Fin 16) (j : Fin 128) :
    headV (k0_pay101 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay102 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay103 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay104 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (colsV (k0_pay96 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) h) (ix4 0 0 i j)
      = out1 m c (ix4 (tb t) h (tok t i) j) := by
  have L := lanes_q m c t i h
  revert j
  refine lane_cases (fun l => ?_) (fun k => ?_) (fun k => ?_) fun l => ?_
  · refine L.low l |>.trans ?_
    refine Eq.trans ?_ (Cert.MlaPreRefIdeal.Own.v147_lo _ _ _ _ _ _ _ _ _ _ _ (⟨l.val, by omega⟩ : Fin 96)).symm
    rw [normW_scaled, Cert.MlaPreRefIdeal.Own.v124_lo, Cert.MlaPreRefIdeal.Own.v95_at]
  · refine L.mid k |>.trans ?_
    refine Eq.trans ?_ (Cert.MlaPreRefIdeal.Own.v147_lo _ _ _ _ _ _ _ _ _ _ _ (⟨64 + k.val, by omega⟩ : Fin 96)).symm
    rw [normW_scaled, normW_scaled, scaled_sub _ scale_nonneg scale_ne_top, Cert.MlaPreRefIdeal.Own.v124_mid, Cert.MlaPreRefIdeal.Own.v95_at, Cert.MlaPreRefIdeal.Own.v95_at]
  · refine L.high k |>.trans ?_
    refine Eq.trans ?_ (Cert.MlaPreRefIdeal.Own.v147_lo _ _ _ _ _ _ _ _ _ _ _ (⟨64 + (16 + k.val), by omega⟩ : Fin 96)).symm
    rw [normW_scaled, normW_scaled, scaled_add _ scale_nonneg scale_ne_top, Cert.MlaPreRefIdeal.Own.v124_hi, Cert.MlaPreRefIdeal.Own.v95_at, Cert.MlaPreRefIdeal.Own.v95_at]
  · exact (L.off l).trans (Cert.MlaPreRefIdeal.Own.v147_hi _ _ _ _ _ _ _ _ _ _ _ l).symm

theorem head_k (c : Dev nD) (t : Fin cfg0.N) (i : Fin 256) (h : Fin 16) (j : Fin 128) :
    headV (k0_pay101 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay102 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay103 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay105 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (addf (colsV (k0_pay97 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) h) (k0_pay95 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t))) (ix4 0 0 i j)
      = out2 m c (ix4 (tb t) h (tok t i) j) := by
  have L := lanes_k m c t i h
  revert j
  refine lane_cases (fun l => ?_) (fun k => ?_) (fun k => ?_) fun l => ?_
  · refine L.low l |>.trans ?_
    refine Eq.trans ?_ (Cert.MlaPreRefIdeal.Own.v150_lo _ _ _ _ _ _ _ _ _ _ _ (⟨l.val, by omega⟩ : Fin 96)).symm
    rw [Cert.MlaPreRefIdeal.Own.v142_lo, Cert.MlaPreRefIdeal.Own.v108_at]
  · refine L.mid k |>.trans ?_
    refine Eq.trans ?_ (Cert.MlaPreRefIdeal.Own.v150_lo _ _ _ _ _ _ _ _ _ _ _ (⟨64 + k.val, by omega⟩ : Fin 96)).symm
    rw [Cert.MlaPreRefIdeal.Own.v142_mid, Cert.MlaPreRefIdeal.Own.v108_at, Cert.MlaPreRefIdeal.Own.v108_at]
  · refine L.high k |>.trans ?_
    refine Eq.trans ?_ (Cert.MlaPreRefIdeal.Own.v150_lo _ _ _ _ _ _ _ _ _ _ _ (⟨64 + (16 + k.val), by omega⟩ : Fin 96)).symm
    rw [Cert.MlaPreRefIdeal.Own.v142_hi, Cert.MlaPreRefIdeal.Own.v108_at, Cert.MlaPreRefIdeal.Own.v108_at]
  · exact (L.off l).trans (Cert.MlaPreRefIdeal.Own.v150_hi _ _ _ _ _ _ _ _ _ _ _ l).symm

/-! ## The three arrays -/

theorem point13 (c : Dev nD) (t : Fin cfg0.N) (y : S1x16x256x128.Idx) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = out1 m c (((View.whole main_v43_0).slice (win0_13.rect t)).emb y) := by
  obtain ⟨z, h, i, j, rfl⟩ : ∃ (z : Fin 1) (h : Fin 16) (i : Fin 256) (j : Fin 128), y = ix4 z h i j := ⟨y 0, y 1, y 2, y 3, by funext a; fin_cases a <;> rfl⟩
  obtain rfl : z = 0 := Subsingleton.elim _ _
  rw [emb13]
  exact (out_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).trans (head_q m c t i h j)

theorem final13 (c : Dev nD) : (dats m 0 c).arrAt 13 (cfgs 0).N = out1 m c := by
  refine (dats m 0 c).arrAt_eq_of_covers 13 _ (by decide +kernel) fun t _ y => ?_
  blk_simp
  rw [after0_13]
  exact point13 m c t y

theorem point14 (c : Dev nD) (t : Fin cfg0.N) (y : S1x16x256x128.Idx) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = out2 m c (((View.whole main_v43_1).slice (win0_14.rect t)).emb y) := by
  obtain ⟨z, h, i, j, rfl⟩ : ∃ (z : Fin 1) (h : Fin 16) (i : Fin 256) (j : Fin 128), y = ix4 z h i j := ⟨y 0, y 1, y 2, y 3, by funext a; fin_cases a <;> rfl⟩
  obtain rfl : z = 0 := Subsingleton.elim _ _
  rw [emb14]
  exact (out_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).trans (head_k m c t i h j)

theorem final14 (c : Dev nD) : (dats m 0 c).arrAt 14 (cfgs 0).N = out2 m c := by
  refine (dats m 0 c).arrAt_eq_of_covers 14 _ (by decide +kernel) fun t _ y => ?_
  blk_simp
  rw [after0_14]
  exact point14 m c t y

theorem point15 (c : Dev nD) (t : Fin cfg0.N) (y : S1x8x256x128.Idx) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = out3 m c (((View.whole main_v43_2).slice (win0_15.rect t)).emb y) := by
  obtain ⟨z, h, i, j, rfl⟩ : ∃ (z : Fin 1) (h : Fin 8) (i : Fin 256) (j : Fin 128), y = ix4 z h i j := ⟨y 0, y 1, y 2, y 3, by funext a; fin_cases a <;> rfl⟩
  obtain rfl : z = 0 := Subsingleton.elim _ _
  rw [emb15]
  refine Eq.trans ?_ (v_at m c t i h j)
  unfold out0_15 k0_pay98 k0_pay94
  refine (Cert.MlaPreIdeal.Value.canon15_eq _ _ _ _ _ _ _ _).trans ?_
  refine congrArg (k0_pay10 _ _ _) (funext fun a => ?_)
  fin_cases a <;> rfl

theorem final15 (c : Dev nD) : (dats m 0 c).arrAt 15 (cfgs 0).N = out3 m c := by
  refine (dats m 0 c).arrAt_eq_of_covers 15 _ (by decide +kernel) fun t _ y => ?_
  blk_simp
  rw [after0_15]
  exact point15 m c t y

end Cert.MlaPreIdeal.Own

end

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.Pre_finite_scores
public import proofs.«01_k».proof.Proof.AttnFinal
public import proofs.«01_k».proof.Proof.Gen.Moe
public import proofs.«01_k».proof.Proof.Gen.Moe.Skeleton
public import proofs.«01_k».proof.Proof.Gen.Moe.Launch
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeRefIdeal
public import proofs.«01_k».proof.Proof.Gen.MoeRefIdeal.Run
public import proofs.«01_k».proof.Proof.Gen.MoeRefIdeal.Read
public import proofs.«01_k».proof.Proof.Gen.Pre_experts_named
public import proofs.«01_k».proof.Proof.MoeClaim
public import proofs.«01_k».proof.Proof.Gen.RnnPre
public import proofs.«01_k».proof.Proof.Gen.RnnPre.Skeleton
public import proofs.«01_k».proof.Proof.Gen.RnnPre.Launch
public import proofs.«01_k».proof.Proof.Gen.RnnPre.Points
public import proofs.«01_k».proof.Proof.Gen.RnnPre.Frame
public import proofs.«01_k».proof.Proof.Gen.RnnPreIdeal
public import proofs.«01_k».proof.Proof.Gen.RnnPreIdeal.Skeleton
public import proofs.«01_k».proof.Proof.Gen.RnnPreIdeal.Launch
public import proofs.«01_k».proof.Proof.Gen.RnnPreIdeal.Points
public import proofs.«01_k».proof.Proof.Gen.RnnPreIdeal.Frame
public import proofs.«01_k».proof.Proof.Gen.RnnPreIdeal.Value
public import proofs.«01_k».proof.Proof.Gen.RnnPreRefIdeal
public import proofs.«01_k».proof.Proof.Gen.RnnPreRefIdeal.Run
public import proofs.«01_k».proof.Proof.Gen.RnnPreRefIdeal.Read
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalIdeal.Value
public import proofs.«01_k».proof.Proof.Gen.FinalRefIdeal
public import proofs.«01_k».proof.Proof.Gen.FinalRefIdeal.Run
public import proofs.«01_k».proof.Proof.Gen.FinalRefIdeal.Read
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.RnnPreFinal
public import proofs.«01_k».proof.Proof.FinalFinal
public import proofs.«01_k».proof.Proof.AdaFinal
public import Idealize.ShloMosaic.Adequacy
public import Idealize.ShloMosaic.Init
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostIdeal.Value
public import proofs.«01_k».proof.Proof.Gen.PostRefIdeal
public import proofs.«01_k».proof.Proof.Gen.PostRefIdeal.Run
public import proofs.«01_k».proof.Proof.Gen.PostRefIdeal.Read
public import proofs.«01_k».proof.Proof.Gen.Pre_bias_above
public import proofs.«01_k».proof.Proof.PostFinal
public import proofs.«01_k».proof.Proof.Gen.MlaPre
public import proofs.«01_k».proof.Proof.Gen.MlaPre.Skeleton
public import proofs.«01_k».proof.Proof.Gen.MlaPre.Launch
public import proofs.«01_k».proof.Proof.Gen.MlaPre.Points
public import proofs.«01_k».proof.Proof.Gen.MlaPre.Frame
public import proofs.«01_k».proof.Proof.Gen.MlaPreIdeal
public import proofs.«01_k».proof.Proof.Gen.MlaPreIdeal.Skeleton
public import proofs.«01_k».proof.Proof.Gen.MlaPreIdeal.Launch
public import proofs.«01_k».proof.Proof.Gen.MlaPreIdeal.Points
public import proofs.«01_k».proof.Proof.Gen.MlaPreIdeal.Frame
public import proofs.«01_k».proof.Proof.Gen.MlaPreIdeal.Value
public import proofs.«01_k».proof.Proof.Gen.MlaPreRefIdeal
public import proofs.«01_k».proof.Proof.Gen.MlaPreRefIdeal.Run
public import proofs.«01_k».proof.Proof.Gen.MlaPreRefIdeal.Read
public import proofs.«01_k».proof.Proof.MlaFinal

@[expose] public section

noncomputable section

namespace Cert.Proof

open Idealize.ShloMosaic Idealize.SL.Sem Cert.Attn

/-- The attention call's result is the reference's. -/
theorem attn : Cert.algebraic_AttnIdeal_AttnRefIdeal_pre_finite_scores := by
  intro m g m' g' hpre hagree
  have hq := fun c => Cert.AttnIdeal.Own.pre_q _ _ _ (hpre c).1
  have hk := fun c => Cert.AttnIdeal.Own.pre_k _ _ _ (hpre c).2
  refine ⟨fun c => Cert.AttnRefIdeal.Read.val_main_v21 (F := Ideal)
      (m ((c.tc : Thread Cert.AttnIdeal.nD Cert.AttnIdeal.τ).loc Cert.AttnIdeal.main_arg0))
      (m ((c.tc : Thread Cert.AttnIdeal.nD Cert.AttnIdeal.τ).loc Cert.AttnIdeal.main_arg1))
      (m ((c.tc : Thread Cert.AttnIdeal.nD Cert.AttnIdeal.τ).loc Cert.AttnIdeal.main_arg2)), ?_, ?_⟩
  · refine (θ_run _ _ _).mono (fun r h c => ?_) (Cert.AttnIdeal.Value.run_blocks m g)
    obtain ⟨h0, h1, h2, h3⟩ := h c
    exact ⟨h0.trans (Cert.AttnIdeal.Own.final m c (hq c) (hk c)), h1, h2, h3⟩
  · refine (θ_run _ _ _).mono (fun r h c => ?_) (Cert.AttnRefIdeal.Value.run m' g')
    obtain ⟨h0, h1, h2, h3⟩ := h c
    refine ⟨?_, h1, h2, h3⟩
    rw [h0, (hagree c).1, (hagree c).2.1, (hagree c).2.2]
    exact Cert.AttnRefIdeal.Read.val_main_v21_eq _ _ _

/-- The attention reference leaves its arguments and every counter as they were. -/
theorem attn_ref : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The branch-input call's three results are the reference's. -/
theorem rnn_pre : Cert.algebraic_RnnPreIdeal_RnnPreRefIdeal := by
  intro m g m' g' hpre hagree
  refine ⟨fun c => Cert.RnnPreRefIdeal.Read.val_main_v8 (F := Ideal) (m ((c.tc : Thread Cert.RnnPreIdeal.nD Cert.RnnPreIdeal.τ).loc Cert.RnnPreIdeal.main_arg0)) (m ((c.tc : Thread Cert.RnnPreIdeal.nD Cert.RnnPreIdeal.τ).loc Cert.RnnPreIdeal.main_arg1)) (m ((c.tc : Thread Cert.RnnPreIdeal.nD Cert.RnnPreIdeal.τ).loc Cert.RnnPreIdeal.main_arg2)) (m ((c.tc : Thread Cert.RnnPreIdeal.nD Cert.RnnPreIdeal.τ).loc Cert.RnnPreIdeal.main_arg3)),
    fun c => Cert.RnnPreRefIdeal.Read.val_main_v52 (F := Ideal) (m ((c.tc : Thread Cert.RnnPreIdeal.nD Cert.RnnPreIdeal.τ).loc Cert.RnnPreIdeal.main_arg0)) (m ((c.tc : Thread Cert.RnnPreIdeal.nD Cert.RnnPreIdeal.τ).loc Cert.RnnPreIdeal.main_arg1)) (m ((c.tc : Thread Cert.RnnPreIdeal.nD Cert.RnnPreIdeal.τ).loc Cert.RnnPreIdeal.main_arg2)) (m ((c.tc : Thread Cert.RnnPreIdeal.nD Cert.RnnPreIdeal.τ).loc Cert.RnnPreIdeal.main_arg3)) (m ((c.tc : Thread Cert.RnnPreIdeal.nD Cert.RnnPreIdeal.τ).loc Cert.RnnPreIdeal.main_arg4)) (m ((c.tc : Thread Cert.RnnPreIdeal.nD Cert.RnnPreIdeal.τ).loc Cert.RnnPreIdeal.main_arg5)) (m ((c.tc : Thread Cert.RnnPreIdeal.nD Cert.RnnPreIdeal.τ).loc Cert.RnnPreIdeal.main_arg6)),
    fun c => Cert.RnnPreRefIdeal.Read.val_main_v53 (F := Ideal) (m ((c.tc : Thread Cert.RnnPreIdeal.nD Cert.RnnPreIdeal.τ).loc Cert.RnnPreIdeal.main_arg0)) (m ((c.tc : Thread Cert.RnnPreIdeal.nD Cert.RnnPreIdeal.τ).loc Cert.RnnPreIdeal.main_arg1)) (m ((c.tc : Thread Cert.RnnPreIdeal.nD Cert.RnnPreIdeal.τ).loc Cert.RnnPreIdeal.main_arg2)) (m ((c.tc : Thread Cert.RnnPreIdeal.nD Cert.RnnPreIdeal.τ).loc Cert.RnnPreIdeal.main_arg3)) (m ((c.tc : Thread Cert.RnnPreIdeal.nD Cert.RnnPreIdeal.τ).loc Cert.RnnPreIdeal.main_arg4)) (m ((c.tc : Thread Cert.RnnPreIdeal.nD Cert.RnnPreIdeal.τ).loc Cert.RnnPreIdeal.main_arg5)) (m ((c.tc : Thread Cert.RnnPreIdeal.nD Cert.RnnPreIdeal.τ).loc Cert.RnnPreIdeal.main_arg6)), ?_, ?_⟩
  · refine (θ_run _ _ _).mono (fun r h c => ?_) (Cert.RnnPreIdeal.Value.run_blocks m g)
    obtain ⟨h0, h1, h2, h3, h4, h5, h6, h7, h8, h9⟩ := h c
    exact ⟨h0.trans (Cert.RnnPreIdeal.Own.final7 m c), h1.trans (Cert.RnnPreIdeal.Own.final8 m c), h2.trans (Cert.RnnPreIdeal.Own.final9 m c), h3, h4, h5, h6, h7, h8, h9⟩
  · refine (θ_run _ _ _).mono (fun r h c => ?_) (Cert.RnnPreRefIdeal.Value.run m' g')
    obtain ⟨h0, h1, h2, h3, h4, h5, h6, h7, h8, h9⟩ := h c
    obtain ⟨e0, e1, e2, e3, e4, e5, e6⟩ := hagree c
    refine ⟨?_, ?_, ?_, h3, h4, h5, h6, h7, h8, h9⟩
    · beta_reduce
      rw [h0, ← e0, ← e1, ← e2, ← e3]
      exact Cert.RnnPreRefIdeal.Read.val_main_v8_eq _ _ _ _
    · beta_reduce
      rw [h1, ← e0, ← e1, ← e2, ← e3, ← e4, ← e5, ← e6]
      exact Cert.RnnPreRefIdeal.Read.val_main_v52_eq m' c
    · beta_reduce
      rw [h2, ← e0, ← e1, ← e2, ← e3, ← e4, ← e5, ← e6]
      exact Cert.RnnPreRefIdeal.Read.val_main_v53_eq _ _ _ _ _ _ _

theorem rnn_pre_ref : Cert.quiescent_RnnPreRefIdeal := fun m ρ _ =>
  (θ_run Cert.RnnPreRefIdeal.defs _ _).mono (fun r h => ⟨fun c => (h c).2.2.2, sem_eq_zero_of_no_sems (by decide) r.2⟩)
    (Cert.RnnPreRefIdeal.Value.run (F := Ideal) m ρ)

/-- The last residual sum is the reference's. -/
theorem fin : Cert.algebraic_FinalIdeal_FinalRefIdeal := by
  intro m g m' g' hpre hagree
  refine ⟨fun c => Cert.FinalRefIdeal.Read.val_main_v8 (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (m ((c.tc : Thread Cert.FinalIdeal.nD Cert.FinalIdeal.τ).loc Cert.FinalIdeal.main_arg2)) (m ((c.tc : Thread Cert.FinalIdeal.nD Cert.FinalIdeal.τ).loc Cert.FinalIdeal.main_arg3)), ?_, ?_⟩
  · refine (θ_run _ _ _).mono (fun r h c => ?_) (Cert.FinalIdeal.Value.run_blocks m g)
    obtain ⟨h0, h1, h2, h3, h4⟩ := h c
    exact ⟨h0.trans (Cert.FinalIdeal.Own.final m c), h1, h2, h3, h4⟩
  · refine (θ_run _ _ _).mono (fun r h c => ?_) (Cert.FinalRefIdeal.Value.run m' g')
    obtain ⟨h0, h1, h2, h3, h4⟩ := h c
    obtain ⟨e0, e1, e2, e3⟩ := hagree c
    refine ⟨?_, h1, h2, h3, h4⟩
    · beta_reduce
      rw [h0, ← e0, ← e1, ← e2, ← e3]
      exact Cert.FinalRefIdeal.Read.val_main_v8_eq _ _ _ _

theorem fin_ref : Cert.quiescent_FinalRefIdeal := fun m ρ _ =>
  (θ_run Cert.FinalRefIdeal.defs _ _).mono (fun r h => ⟨fun c => (h c).2, sem_eq_zero_of_no_sems (by decide) r.2⟩)
    (Cert.FinalRefIdeal.Value.run (F := Ideal) m ρ)

/-- The modulation call's result is the reference's. -/
theorem ada : Cert.algebraic_AdaIdeal_AdaRefIdeal := by
  intro m g m' g' hpre hagree
  refine ⟨fun c => Cert.AdaRefIdeal.Read.val_main_v5 (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2)), ?_, ?_⟩
  · refine (θ_run _ _ _).mono (fun r h c => ?_) (Cert.AdaIdeal.Value.run_blocks m g)
    obtain ⟨h0, h1, h2, h3⟩ := h c
    exact ⟨h0.trans (Cert.AdaIdeal.Own.final m c), h1, h2, h3⟩
  · refine (θ_run _ _ _).mono (fun r h c => ?_) (Cert.AdaRefIdeal.Value.run m' g')
    obtain ⟨h0, h1, h2, h3⟩ := h c
    obtain ⟨e0, e1, e2⟩ := hagree c
    refine ⟨?_, h1, h2, h3⟩
    · beta_reduce
      rw [h0, ← e0, ← e1, ← e2]
      exact Cert.AdaRefIdeal.Read.val_main_v5_eq _ _ _

theorem ada_ref : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

/-- The experts-input call's four results are the reference's. -/
theorem post : Cert.algebraic_PostIdeal_PostRefIdeal_pre_bias_above := by
  intro m g m' g' hpre hagree
  have hrb : ∀ c, Cert.PostIdeal.Own.Above m c := fun c => Cert.PostRefIdeal.Own.pre_rb _ _ _ _ _ _ _ (hpre c)
  refine ⟨fun c => Cert.PostRefIdeal.Read.val_main_v8 (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)),
    fun c => Cert.PostRefIdeal.Read.val_main_v68 (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)),
    fun c => Cert.PostRefIdeal.Read.val_main_v70 (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)),
    fun c => Cert.PostRefIdeal.Read.val_main_v72 (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)), ?_, ?_⟩
  · refine (θ_run _ _ _).mono (fun r h c => ?_) (Cert.PostIdeal.Value.run_blocks m g)
    obtain ⟨h0, h1, h2, h3, h4, h5, h6, h7, h8, h9, h10⟩ := h c
    exact ⟨h0.trans (Cert.PostIdeal.Own.final7 m c), h1.trans (Cert.PostIdeal.Own.final8 m c), h2.trans (Cert.PostIdeal.Own.final9 m c (hrb c)), h3.trans (Cert.PostIdeal.Own.final10 m c (hrb c)), h4, h5, h6, h7, h8, h9, h10⟩
  · refine (θ_run _ _ _).mono (fun r h c => ?_) (Cert.PostRefIdeal.Value.run m' g')
    obtain ⟨h0, h1, h2, h3, h4, h5, h6, h7, h8, h9, h10⟩ := h c
    obtain ⟨e0, e1, e2, e3, e4, e5, e6⟩ := hagree c
    refine ⟨?_, ?_, ?_, ?_, h4, h5, h6, h7, h8, h9, h10⟩
    · beta_reduce
      rw [h0, ← e0, ← e1, ← e2, ← e3]
      exact Cert.PostRefIdeal.Read.val_main_v8_eq _
    · beta_reduce
      rw [h1, ← e0, ← e1, ← e2, ← e3, ← e4]
      exact Cert.PostRefIdeal.Read.val_main_v68_eq _
    · beta_reduce
      rw [h2, ← e0, ← e1, ← e2, ← e3, ← e4, ← e5, ← e6]
      exact Cert.PostRefIdeal.Read.val_main_v70_eq _
    · beta_reduce
      rw [h3, ← e0, ← e1, ← e2, ← e3, ← e4, ← e5, ← e6]
      exact Cert.PostRefIdeal.Read.val_main_v72_eq _

theorem post_ref : Cert.quiescent_PostRefIdeal := fun m ρ _ =>
  (θ_run Cert.PostRefIdeal.defs _ _).mono (fun r h => ⟨fun c => (h c).2.2.2.2, sem_eq_zero_of_no_sems (by decide) r.2⟩)
    (Cert.PostRefIdeal.Value.run (F := Ideal) m ρ)

/-- The latent-attention input call's three results are the reference's. -/
theorem mla_pre : Cert.algebraic_MlaPreIdeal_MlaPreRefIdeal := by
  intro m g m' g' hpre hagree
  refine ⟨fun c => Cert.MlaPreRefIdeal.Read.val_main_v147 (F := Ideal) (m ((c.tc : Thread Cert.MlaPreIdeal.nD Cert.MlaPreIdeal.τ).loc Cert.MlaPreIdeal.main_arg0)) (m ((c.tc : Thread Cert.MlaPreIdeal.nD Cert.MlaPreIdeal.τ).loc Cert.MlaPreIdeal.main_arg1)) (m ((c.tc : Thread Cert.MlaPreIdeal.nD Cert.MlaPreIdeal.τ).loc Cert.MlaPreIdeal.main_arg2)) (m ((c.tc : Thread Cert.MlaPreIdeal.nD Cert.MlaPreIdeal.τ).loc Cert.MlaPreIdeal.main_arg3)) (m ((c.tc : Thread Cert.MlaPreIdeal.nD Cert.MlaPreIdeal.τ).loc Cert.MlaPreIdeal.main_arg4)) (m ((c.tc : Thread Cert.MlaPreIdeal.nD Cert.MlaPreIdeal.τ).loc Cert.MlaPreIdeal.main_arg5)) (m ((c.tc : Thread Cert.MlaPreIdeal.nD Cert.MlaPreIdeal.τ).loc Cert.MlaPreIdeal.main_arg7)) (m ((c.tc : Thread Cert.MlaPreIdeal.nD Cert.MlaPreIdeal.τ).loc Cert.MlaPreIdeal.main_arg9)),
    fun c => Cert.MlaPreRefIdeal.Read.val_main_v150 (F := Ideal) (m ((c.tc : Thread Cert.MlaPreIdeal.nD Cert.MlaPreIdeal.τ).loc Cert.MlaPreIdeal.main_arg0)) (m ((c.tc : Thread Cert.MlaPreIdeal.nD Cert.MlaPreIdeal.τ).loc Cert.MlaPreIdeal.main_arg1)) (m ((c.tc : Thread Cert.MlaPreIdeal.nD Cert.MlaPreIdeal.τ).loc Cert.MlaPreIdeal.main_arg2)) (m ((c.tc : Thread Cert.MlaPreIdeal.nD Cert.MlaPreIdeal.τ).loc Cert.MlaPreIdeal.main_arg3)) (m ((c.tc : Thread Cert.MlaPreIdeal.nD Cert.MlaPreIdeal.τ).loc Cert.MlaPreIdeal.main_arg4)) (m ((c.tc : Thread Cert.MlaPreIdeal.nD Cert.MlaPreIdeal.τ).loc Cert.MlaPreIdeal.main_arg6)) (m ((c.tc : Thread Cert.MlaPreIdeal.nD Cert.MlaPreIdeal.τ).loc Cert.MlaPreIdeal.main_arg8)) (m ((c.tc : Thread Cert.MlaPreIdeal.nD Cert.MlaPreIdeal.τ).loc Cert.MlaPreIdeal.main_arg10)),
    fun c => Cert.MlaPreRefIdeal.Read.val_main_v151 (F := Ideal) (m ((c.tc : Thread Cert.MlaPreIdeal.nD Cert.MlaPreIdeal.τ).loc Cert.MlaPreIdeal.main_arg0)) (m ((c.tc : Thread Cert.MlaPreIdeal.nD Cert.MlaPreIdeal.τ).loc Cert.MlaPreIdeal.main_arg1)) (m ((c.tc : Thread Cert.MlaPreIdeal.nD Cert.MlaPreIdeal.τ).loc Cert.MlaPreIdeal.main_arg2)) (m ((c.tc : Thread Cert.MlaPreIdeal.nD Cert.MlaPreIdeal.τ).loc Cert.MlaPreIdeal.main_arg4)) (m ((c.tc : Thread Cert.MlaPreIdeal.nD Cert.MlaPreIdeal.τ).loc Cert.MlaPreIdeal.main_arg6)) (m ((c.tc : Thread Cert.MlaPreIdeal.nD Cert.MlaPreIdeal.τ).loc Cert.MlaPreIdeal.main_arg8)), ?_, ?_⟩
  · refine (θ_run _ _ _).mono (fun r h c => ?_) (Cert.MlaPreIdeal.Value.run_blocks m g)
    obtain ⟨h0, h1, h2, h3, h4, h5, h6, h7, h8, h9, h10, h11, h12, h13⟩ := h c
    exact ⟨h0.trans (Cert.MlaPreIdeal.Own.final13 m c), h1.trans (Cert.MlaPreIdeal.Own.final14 m c), h2.trans (Cert.MlaPreIdeal.Own.final15 m c), h3, h4, h5, h6, h7, h8, h9, h10, h11, h12, h13⟩
  · refine (θ_run _ _ _).mono (fun r h c => ?_) (Cert.MlaPreRefIdeal.Value.run m' g')
    obtain ⟨h0, h1, h2, h3, h4, h5, h6, h7, h8, h9, h10, h11, h12, h13⟩ := h c
    obtain ⟨e0, e1, e2, e3, e4, e5, e6, e7, e8, e9, e10⟩ := hagree c
    refine ⟨?_, ?_, ?_, h3, h4, h5, h6, h7, h8, h9, h10, h11, h12, h13⟩
    · beta_reduce
      rw [h0, ← e0, ← e1, ← e2, ← e3, ← e4, ← e5, ← e7, ← e9]
      exact Cert.MlaPreRefIdeal.Read.val_main_v147_eq _
    · beta_reduce
      rw [h1, ← e0, ← e1, ← e2, ← e3, ← e4, ← e6, ← e8, ← e10]
      exact Cert.MlaPreRefIdeal.Read.val_main_v150_eq _
    · beta_reduce
      rw [h2, ← e0, ← e1, ← e2, ← e4, ← e6, ← e8]
      exact Cert.MlaPreRefIdeal.Read.val_main_v151_eq _

theorem mla_pre_ref : Cert.quiescent_MlaPreRefIdeal := fun m ρ _ =>
  (θ_run Cert.MlaPreRefIdeal.defs _ _).mono (fun r h => ⟨fun c => (h c).2.2.2, sem_eq_zero_of_no_sems (by decide) r.2⟩)
    (Cert.MlaPreRefIdeal.Value.run (F := Ideal) m ρ)

theorem claim : Cert.Claim := ⟨Cert.Attn.Gen.facts, Cert.AttnIdeal.Gen.facts, Cert.AttnRefIdeal.Gen.facts,
  Cert.Moe.Gen.facts, Cert.MoeIdeal.Gen.facts, Cert.MoeRefIdeal.Gen.facts,
  Cert.RnnPre.Gen.facts, Cert.RnnPreIdeal.Gen.facts, Cert.RnnPreRefIdeal.Gen.facts, Cert.Final.Gen.facts, Cert.FinalIdeal.Gen.facts, Cert.FinalRefIdeal.Gen.facts, Cert.Ada.Gen.facts, Cert.AdaIdeal.Gen.facts, Cert.AdaRefIdeal.Gen.facts,
  Cert.Post.Gen.facts, Cert.PostIdeal.Gen.facts, Cert.PostRefIdeal.Gen.facts,
  Cert.MlaPre.Gen.facts, Cert.MlaPreIdeal.Gen.facts, Cert.MlaPreRefIdeal.Gen.facts,
  Cert.Pre_finite_scores.Gen.facts, Cert.Pre_experts_named.Gen.facts, Cert.Pre_bias_above.Gen.facts,
  fun m ρ _ => Cert.Attn.Gen.frame m ρ,
  fun m ρ _ => Cert.AttnIdeal.Gen.frame m ρ,
  fun m ρ _ => Cert.AttnIdeal.Gen.frame m ρ,
  attn_ref,
  fun m ρ _ => attn_ref m ρ trivial,
  moe,
  moe_ideal,
  moe_ref,
  fun m ρ _ => moe_ref m ρ trivial,
  fun m ρ _ => Cert.RnnPre.Gen.frame m ρ,
  fun m ρ _ => Cert.RnnPreIdeal.Gen.frame m ρ,
  rnn_pre_ref,
  fun m ρ _ => Cert.Final.Gen.frame m ρ,
  fun m ρ _ => Cert.FinalIdeal.Gen.frame m ρ,
  fin_ref,
  fun m ρ _ => Cert.Ada.Gen.frame m ρ,
  fun m ρ _ => Cert.AdaIdeal.Gen.frame m ρ,
  ada_ref,
  fun m ρ _ => Cert.Post.Gen.frame m ρ,
  fun m ρ _ => Cert.PostIdeal.Gen.frame m ρ,
  fun m ρ _ => Cert.PostIdeal.Gen.frame m ρ,
  post_ref,
  fun m ρ _ => post_ref m ρ trivial,
  fun m ρ _ => Cert.MlaPre.Gen.frame m ρ,
  fun m ρ _ => Cert.MlaPreIdeal.Gen.frame m ρ,
  mla_pre_ref,
  trivial,
  attn,
  trivial,
  moe_value,
  trivial,
  rnn_pre,
  trivial,
  fin,
  trivial,
  ada,
  trivial,
  post,
  IdealRules.named_const.statement Cert.MlaPreIdeal.κ "inv_qk" .f32 0x3C2AAAAB#32 ((1 / 96 : ℝ) : EReal) rfl,
  mla_pre⟩

end Cert.Proof

end
